-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v196)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v196) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S128x8192 : Shape := ⟨2, ![128, 8192]⟩
abbrev S_ : Shape := ⟨0, ![]⟩

class Facts : Prop where
  bcast_S_S128x8192 : S_.BroadcastsInDim S128x8192 (![] : Fin 0 → Fin S128x8192.rank)
  reducesTo_S128x8192_S_d0_1 : S128x8192.ReducesTo [0, 1] S_
  h_S_ : 0 < S_.numel

variable [Facts]

def fn {F : FTy → Type} [FloatOps F] (main_arg0 : FVec F S128x8192 .f32) : IVec S_ 1 :=
  let main_cst : FVec F S_ .f32 := constant S_ .f32 0x00000000#32
  let main_v0 : FVec F S128x8192 .f32 := broadcastInDim S128x8192 ![] bcast_S_S128x8192 main_cst
  let main_v1 : IVec S128x8192 1 := cmpf .oge main_arg0 main_v0
  let main_c : IVec S_ 1 := constantI S_ 1 1#1
  let main_v2 : IVec S_ 1 := (fun x v => Host.reduce IntOp.andi x v reducesTo_S128x8192_S_d0_1 h_S_) main_v1 main_c
  main_v2
-- ==== Kernel.lean ====
abbrev S128x8192 : Shape := ⟨2, ![128, 8192]⟩
abbrev S32x16 : Shape := ⟨2, ![32, 16]⟩
abbrev S1048576 : Shape := ⟨1, ![1048576]⟩
abbrev S_ : Shape := ⟨0, ![]⟩
abbrev S4x8192 : Shape := ⟨2, ![4, 8192]⟩
abbrev S16 : Shape := ⟨1, ![16]⟩
abbrev S1x16 : Shape := ⟨2, ![1, 16]⟩
abbrev S1x8192 : Shape := ⟨2, ![1, 8192]⟩
abbrev S8192 : Shape := ⟨1, ![8192]⟩
abbrev S32x4 : Shape := ⟨2, ![32, 4]⟩
abbrev S128x1x1x1 : Shape := ⟨4, ![128, 1, 1, 1]⟩

abbrev nBuf : Table → Nat
  | .hbm => 265
  | .local .scVector .vmem => 6
  | _ => 0

abbrev hbmTy0_0 (i : Nat) : BufTy := match i % 128 with
  | 0 => ⟨S128x8192, .f32⟩
  | 1 => ⟨S32x16, .f32⟩
  | 2 => ⟨S1048576, .i32⟩
  | 3 => ⟨S_, .i32⟩
  | 4 => ⟨S1048576, .i32⟩
  | 5 => ⟨S_, .i32⟩
  | 6 => ⟨S1048576, .i32⟩
  | 7 => ⟨S1048576, .i32⟩
  | 8 => ⟨S_, .i32⟩
  | 9 => ⟨S1048576, .i32⟩
  | 10 => ⟨S1048576, .i32⟩
  | 11 => ⟨S1048576, .i32⟩
  | 12 => ⟨S_, .i32⟩
  | 13 => ⟨S1048576, .i32⟩
  | 14 => ⟨S1048576, .i32⟩
  | 15 => ⟨S_, .i32⟩
  | 16 => ⟨S1048576, .i32⟩
  | 17 => ⟨S1048576, .i32⟩
  | 18 => ⟨S1048576, .i32⟩
  | 19 => ⟨S1048576, .i32⟩
  | 20 => ⟨S1048576, .i32⟩
  | 21 => ⟨S_, .i32⟩
  | 22 => ⟨S1048576, .i32⟩
  | 23 => ⟨S1048576, .i32⟩
  | 24 => ⟨S_, .i32⟩
  | 25 => ⟨S1048576, .i32⟩
  | 26 => ⟨S1048576, .i32⟩
  | 27 => ⟨S1048576, .i32⟩
  | 28 => ⟨S1048576, .i32⟩
  | 29 => ⟨S1048576, .i32⟩
  | 30 => ⟨S_, .i32⟩
  | 31 => ⟨S1048576, .i32⟩
  | 32 => ⟨S1048576, .i32⟩
  | 33 => ⟨S_, .i32⟩
  | 34 => ⟨S1048576, .i32⟩
  | 35 => ⟨S1048576, .i32⟩
  | 36 => ⟨S1048576, .i32⟩
  | 37 => ⟨S1048576, .i32⟩
  | 38 => ⟨S1048576, .i32⟩
  | 39 => ⟨S_, .i32⟩
  | 40 => ⟨S1048576, .i32⟩
  | 41 => ⟨S1048576, .i32⟩
  | 42 => ⟨S_, .i32⟩
  | 43 => ⟨S1048576, .i32⟩
  | 44 => ⟨S1048576, .i32⟩
  | 45 => ⟨S1048576, .i32⟩
  | 46 => ⟨S1048576, .i32⟩
  | 47 => ⟨S_, .i32⟩
  | 48 => ⟨S1048576, .i32⟩
  | 49 => ⟨S1048576, .i32⟩
  | 50 => ⟨S_, .i32⟩
  | 51 => ⟨S1048576, .i32⟩
  | 52 => ⟨S1048576, .i32⟩
  | 53 => ⟨S_, .i32⟩
  | 54 => ⟨S1048576, .i32⟩
  | 55 => ⟨S1048576, .i32⟩
  | 56 => ⟨S1048576, .i32⟩
  | 57 => ⟨S_, .i32⟩
  | 58 => ⟨S1048576, .i32⟩
  | 59 => ⟨S1048576, .i32⟩
  | 60 => ⟨S_, .i32⟩
  | 61 => ⟨S1048576, .i32⟩
  | 62 => ⟨S1048576, .i32⟩
  | 63 => ⟨S1048576, .i32⟩
  | 64 => ⟨S1048576, .i32⟩
  | 65 => ⟨S1048576, .i32⟩
  | 66 => ⟨S_, .i32⟩
  | 67 => ⟨S1048576, .i32⟩
  | 68 => ⟨S1048576, .i32⟩
  | 69 => ⟨S_, .i32⟩
  | 70 => ⟨S1048576, .i32⟩
  | 71 => ⟨S1048576, .i32⟩
  | 72 => ⟨S1048576, .i32⟩
  | 73 => ⟨S1048576, .i32⟩
  | 74 => ⟨S1048576, .i32⟩
  | 75 => ⟨S_, .i32⟩
  | 76 => ⟨S1048576, .i32⟩
  | 77 => ⟨S1048576, .i32⟩
  | 78 => ⟨S_, .i32⟩
  | 79 => ⟨S1048576, .i32⟩
  | 80 => ⟨S1048576, .i32⟩
  | 81 => ⟨S1048576, .i32⟩
  | 82 => ⟨S1048576, .i32⟩
  | 83 => ⟨S1048576, .i32⟩
  | 84 => ⟨S_, .i32⟩
  | 85 => ⟨S1048576, .i32⟩
  | 86 => ⟨S1048576, .i32⟩
  | 87 => ⟨S_, .i32⟩
  | 88 => ⟨S1048576, .i32⟩
  | 89 => ⟨S1048576, .i32⟩
  | 90 => ⟨S1048576, .i32⟩
  | 91 => ⟨S1048576, .i32⟩
  | 92 => ⟨S_, .i32⟩
  | 93 => ⟨S1048576, .i32⟩
  | 94 => ⟨S1048576, .i32⟩
  | 95 => ⟨S_, .i32⟩
  | 96 => ⟨S1048576, .i32⟩
  | 97 => ⟨S1048576, .i32⟩
  | 98 => ⟨S_, .i32⟩
  | 99 => ⟨S1048576, .i32⟩
  | 100 => ⟨S1048576, .i32⟩
  | 101 => ⟨S1048576, .i32⟩
  | 102 => ⟨S_, .i32⟩
  | 103 => ⟨S1048576, .i32⟩
  | 104 => ⟨S1048576, .i32⟩
  | 105 => ⟨S_, .i32⟩
  | 106 => ⟨S1048576, .i32⟩
  | 107 => ⟨S1048576, .i32⟩
  | 108 => ⟨S1048576, .i32⟩
  | 109 => ⟨S1048576, .i32⟩
  | 110 => ⟨S1048576, .i32⟩
  | 111 => ⟨S_, .i32⟩
  | 112 => ⟨S1048576, .i32⟩
  | 113 => ⟨S1048576, .i32⟩
  | 114 => ⟨S_, .i32⟩
  | 115 => ⟨S1048576, .i32⟩
  | 116 => ⟨S1048576, .i32⟩
  | 117 => ⟨S1048576, .i32⟩
  | 118 => ⟨S1048576, .i32⟩
  | 119 => ⟨S1048576, .i32⟩
  | 120 => ⟨S_, .i32⟩
  | 121 => ⟨S1048576, .i32⟩
  | 122 => ⟨S1048576, .i32⟩
  | 123 => ⟨S_, .i32⟩
  | 124 => ⟨S1048576, .i32⟩
  | 125 => ⟨S1048576, .i32⟩
  | 126 => ⟨S1048576, .i32⟩
  | 127 => ⟨S1048576, .i32⟩
  | _ => ⟨S128x8192, .f32⟩

abbrev hbmTy0_1 (i : Nat) : BufTy := match i % 128 with
  | 0 => ⟨S1048576, .i32⟩
  | 1 => ⟨S_, .i32⟩
  | 2 => ⟨S1048576, .i32⟩
  | 3 => ⟨S1048576, .i32⟩
  | 4 => ⟨S_, .i32⟩
  | 5 => ⟨S1048576, .i32⟩
  | 6 => ⟨S1048576, .i32⟩
  | 7 => ⟨S1048576, .i32⟩
  | 8 => ⟨S1048576, .i32⟩
  | 9 => ⟨S_, .i32⟩
  | 10 => ⟨S1048576, .i32⟩
  | 11 => ⟨S1048576, .i32⟩
  | 12 => ⟨S_, .i32⟩
  | 13 => ⟨S1048576, .i32⟩
  | 14 => ⟨S1048576, .i32⟩
  | 15 => ⟨S_, .i32⟩
  | 16 => ⟨S1048576, .i32⟩
  | 17 => ⟨S1048576, .i32⟩
  | 18 => ⟨S1048576, .i32⟩
  | 19 => ⟨S_, .i32⟩
  | 20 => ⟨S1048576, .i32⟩
  | 21 => ⟨S1048576, .i32⟩
  | 22 => ⟨S_, .i32⟩
  | 23 => ⟨S1048576, .i32⟩
  | 24 => ⟨S1048576, .i32⟩
  | 25 => ⟨S1048576, .i32⟩
  | 26 => ⟨S1048576, .i32⟩
  | 27 => ⟨S1048576, .i32⟩
  | 28 => ⟨S_, .i32⟩
  | 29 => ⟨S1048576, .i32⟩
  | 30 => ⟨S1048576, .i32⟩
  | 31 => ⟨S_, .i32⟩
  | 32 => ⟨S1048576, .i32⟩
  | 33 => ⟨S1048576, .i32⟩
  | 34 => ⟨S1048576, .i32⟩
  | 35 => ⟨S1048576, .i32⟩
  | 36 => ⟨S1048576, .i32⟩
  | 37 => ⟨S_, .i32⟩
  | 38 => ⟨S1048576, .i32⟩
  | 39 => ⟨S1048576, .i32⟩
  | 40 => ⟨S_, .i32⟩
  | 41 => ⟨S1048576, .i32⟩
  | 42 => ⟨S1048576, .i32⟩
  | 43 => ⟨S1048576, .i32⟩
  | 44 => ⟨S1048576, .i32⟩
  | 45 => ⟨S1048576, .i32⟩
  | 46 => ⟨S_, .i32⟩
  | 47 => ⟨S1048576, .i32⟩
  | 48 => ⟨S1048576, .i32⟩
  | 49 => ⟨S_, .i32⟩
  | 50 => ⟨S1048576, .i32⟩
  | 51 => ⟨S1048576, .i32⟩
  | 52 => ⟨S1048576, .i32⟩
  | 53 => ⟨S1048576, .i32⟩
  | 54 => ⟨S_, .i32⟩
  | 55 => ⟨S1048576, .i32⟩
  | 56 => ⟨S1048576, .i32⟩
  | 57 => ⟨S_, .i32⟩
  | 58 => ⟨S1048576, .i32⟩
  | 59 => ⟨S1048576, .i32⟩
  | 60 => ⟨S_, .i32⟩
  | 61 => ⟨S1048576, .i32⟩
  | 62 => ⟨S1048576, .i32⟩
  | 63 => ⟨S1048576, .i32⟩
  | 64 => ⟨S_, .i32⟩
  | 65 => ⟨S1048576, .i32⟩
  | 66 => ⟨S1048576, .i32⟩
  | 67 => ⟨S_, .i32⟩
  | 68 => ⟨S1048576, .i32⟩
  | 69 => ⟨S1048576, .i32⟩
  | 70 => ⟨S1048576, .i32⟩
  | 71 => ⟨S1048576, .i32⟩
  | 72 => ⟨S1048576, .i32⟩
  | 73 => ⟨S_, .i32⟩
  | 74 => ⟨S1048576, .i32⟩
  | 75 => ⟨S1048576, .i32⟩
  | 76 => ⟨S_, .i32⟩
  | 77 => ⟨S1048576, .i32⟩
  | 78 => ⟨S1048576, .i32⟩
  | 79 => ⟨S1048576, .i32⟩
  | 80 => ⟨S1048576, .i32⟩
  | 81 => ⟨S1048576, .i32⟩
  | 82 => ⟨S_, .i32⟩
  | 83 => ⟨S1048576, .i32⟩
  | 84 => ⟨S1048576, .i32⟩
  | 85 => ⟨S_, .i32⟩
  | 86 => ⟨S1048576, .i32⟩
  | 87 => ⟨S1048576, .i32⟩
  | 88 => ⟨S1048576, .i32⟩
  | 89 => ⟨S1048576, .i32⟩
  | 90 => ⟨S1048576, .i32⟩
  | 91 => ⟨S_, .i32⟩
  | 92 => ⟨S1048576, .i32⟩
  | 93 => ⟨S1048576, .i32⟩
  | 94 => ⟨S_, .i32⟩
  | 95 => ⟨S1048576, .i32⟩
  | 96 => ⟨S1048576, .i32⟩
  | 97 => ⟨S1048576, .i32⟩
  | 98 => ⟨S1048576, .i32⟩
  | 99 => ⟨S_, .i32⟩
  | 100 => ⟨S1048576, .i32⟩
  | 101 => ⟨S1048576, .i32⟩
  | 102 => ⟨S_, .i32⟩
  | 103 => ⟨S1048576, .i32⟩
  | 104 => ⟨S1048576, .i32⟩
  | 105 => ⟨S_, .i32⟩
  | 106 => ⟨S1048576, .i32⟩
  | 107 => ⟨S1048576, .i32⟩
  | 108 => ⟨S1048576, .i32⟩
  | 109 => ⟨S_, .i32⟩
  | 110 => ⟨S1048576, .i32⟩
  | 111 => ⟨S1048576, .i32⟩
  | 112 => ⟨S_, .i32⟩
  | 113 => ⟨S1048576, .i32⟩
  | 114 => ⟨S1048576, .i32⟩
  | 115 => ⟨S1048576, .f32⟩
  | 116 => ⟨S_, .f32⟩
  | 117 => ⟨S1048576, .f32⟩
  | 118 => ⟨S1048576, .f32⟩
  | 119 => ⟨S_, .f32⟩
  | 120 => ⟨S_, .f32⟩
  | 121 => ⟨S_, .f32⟩
  | 122 => ⟨S1048576, .f32⟩
  | 123 => ⟨S1048576, .f32⟩
  | 124 => ⟨S_, .f32⟩
  | 125 => ⟨S1048576, .f32⟩
  | 126 => ⟨S1048576, .f32⟩
  | 127 => ⟨S_, .f32⟩
  | _ => ⟨S128x8192, .f32⟩

abbrev hbmTy0_2 (i : Nat) : BufTy := match i % 128 with
  | 0 => ⟨S1048576, .f32⟩
  | 1 => ⟨S1048576, .f32⟩
  | 2 => ⟨S1048576, .f32⟩
  | 3 => ⟨S_, .f32⟩
  | 4 => ⟨S1048576, .f32⟩
  | 5 => ⟨S1048576, .f32⟩
  | 6 => ⟨S32x16, .f32⟩
  | 7 => ⟨S32x4, .f32⟩
  | 8 => ⟨S128x1x1x1, .f32⟩
  | _ => ⟨S128x8192, .f32⟩

abbrev hbmTy (i : Nat) : BufTy := match i / 128 with
  | 0 => hbmTy0_0 i
  | 1 => hbmTy0_1 i
  | 2 => hbmTy0_2 i
  | _ => ⟨S128x8192, .f32⟩

abbrev bufTy : (tb : Table) → Fin (nBuf tb) → BufTy
  | .hbm, ⟨i, _⟩ => hbmTy i
  | .local .scVector .vmem, ⟨0, _⟩ => ⟨S4x8192, .f32⟩
  | .local .scVector .vmem, ⟨1, _⟩ => ⟨S4x8192, .f32⟩
  | .local .scVector .vmem, ⟨2, _⟩ => ⟨S16, .f32⟩
  | .local .scVector .vmem, ⟨3, _⟩ => ⟨S16, .f32⟩
  | .local .scVector .vmem, ⟨4, _⟩ => ⟨S16, .f32⟩
  | .local .scVector .vmem, ⟨5, _⟩ => ⟨S16, .i32⟩
  | _, _ => ⟨S128x8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_4 : Ref sig .tc := ⟨.hbm, 21, rfl⟩
abbrev main_v14 : Ref sig .tc := ⟨.hbm, 22, rfl⟩
abbrev main_v15 : Ref sig .tc := ⟨.hbm, 23, rfl⟩
abbrev main_c_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_v21 : Ref sig .tc := ⟨.hbm, 31, rfl⟩
abbrev main_v22 : Ref sig .tc := ⟨.hbm, 32, rfl⟩
abbrev main_c_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_8 : Ref sig .tc := ⟨.hbm, 39, rfl⟩
abbrev main_v28 : Ref sig .tc := ⟨.hbm, 40, rfl⟩
abbrev main_v29 : Ref sig .tc := ⟨.hbm, 41, rfl⟩
abbrev main_c_9 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_10 : Ref sig .tc := ⟨.hbm, 47, rfl⟩
abbrev main_v34 : Ref sig .tc := ⟨.hbm, 48, rfl⟩
abbrev main_v35 : Ref sig .tc := ⟨.hbm, 49, rfl⟩
abbrev main_c_11 : Ref sig .tc := ⟨.hbm, 50, rfl⟩
abbrev main_v36 : Ref sig .tc := ⟨.hbm, 51, rfl⟩
abbrev main_v37 : Ref sig .tc := ⟨.hbm, 52, rfl⟩
abbrev main_c_12 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_13 : Ref sig .tc := ⟨.hbm, 57, rfl⟩
abbrev main_v41 : Ref sig .tc := ⟨.hbm, 58, rfl⟩
abbrev main_v42 : Ref sig .tc := ⟨.hbm, 59, rfl⟩
abbrev main_c_14 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_15 : Ref sig .tc := ⟨.hbm, 66, rfl⟩
abbrev main_v48 : Ref sig .tc := ⟨.hbm, 67, rfl⟩
abbrev main_v49 : Ref sig .tc := ⟨.hbm, 68, rfl⟩
abbrev main_c_16 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_17 : Ref sig .tc := ⟨.hbm, 75, rfl⟩
abbrev main_v55 : Ref sig .tc := ⟨.hbm, 76, rfl⟩
abbrev main_v56 : Ref sig .tc := ⟨.hbm, 77, rfl⟩
abbrev main_c_18 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_19 : Ref sig .tc := ⟨.hbm, 84, rfl⟩
abbrev main_v62 : Ref sig .tc := ⟨.hbm, 85, rfl⟩
abbrev main_v63 : Ref sig .tc := ⟨.hbm, 86, rfl⟩
abbrev main_c_20 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_21 : Ref sig .tc := ⟨.hbm, 92, rfl⟩
abbrev main_v68 : Ref sig .tc := ⟨.hbm, 93, rfl⟩
abbrev main_v69 : Ref sig .tc := ⟨.hbm, 94, rfl⟩
abbrev main_c_22 : Ref sig .tc := ⟨.hbm, 95, rfl⟩
abbrev main_v70 : Ref sig .tc := ⟨.hbm, 96, rfl⟩
abbrev main_v71 : Ref sig .tc := ⟨.hbm, 97, rfl⟩
abbrev main_c_23 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_24 : Ref sig .tc := ⟨.hbm, 102, rfl⟩
abbrev main_v75 : Ref sig .tc := ⟨.hbm, 103, rfl⟩
abbrev main_v76 : Ref sig .tc := ⟨.hbm, 104, rfl⟩
abbrev main_c_25 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_26 : Ref sig .tc := ⟨.hbm, 111, rfl⟩
abbrev main_v82 : Ref sig .tc := ⟨.hbm, 112, rfl⟩
abbrev main_v83 : Ref sig .tc := ⟨.hbm, 113, rfl⟩
abbrev main_c_27 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_c_28 : Ref sig .tc := ⟨.hbm, 120, rfl⟩
abbrev main_v89 : Ref sig .tc := ⟨.hbm, 121, rfl⟩
abbrev main_v90 : Ref sig .tc := ⟨.hbm, 122, rfl⟩
abbrev main_c_29 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_30 : Ref sig .tc := ⟨.hbm, 129, rfl⟩
abbrev main_v96 : Ref sig .tc := ⟨.hbm, 130, rfl⟩
abbrev main_v97 : Ref sig .tc := ⟨.hbm, 131, rfl⟩
abbrev main_c_31 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_32 : Ref sig .tc := ⟨.hbm, 137, rfl⟩
abbrev main_v102 : Ref sig .tc := ⟨.hbm, 138, rfl⟩
abbrev main_v103 : Ref sig .tc := ⟨.hbm, 139, rfl⟩
abbrev main_c_33 : Ref sig .tc := ⟨.hbm, 140, rfl⟩
abbrev main_v104 : Ref sig .tc := ⟨.hbm, 141, rfl⟩
abbrev main_v105 : Ref sig .tc := ⟨.hbm, 142, rfl⟩
abbrev main_c_34 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_35 : Ref sig .tc := ⟨.hbm, 147, rfl⟩
abbrev main_v109 : Ref sig .tc := ⟨.hbm, 148, rfl⟩
abbrev main_v110 : Ref sig .tc := ⟨.hbm, 149, rfl⟩
abbrev main_c_36 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_c_37 : Ref sig .tc := ⟨.hbm, 156, rfl⟩
abbrev main_v116 : Ref sig .tc := ⟨.hbm, 157, rfl⟩
abbrev main_v117 : Ref sig .tc := ⟨.hbm, 158, rfl⟩
abbrev main_c_38 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_c_39 : Ref sig .tc := ⟨.hbm, 165, rfl⟩
abbrev main_v123 : Ref sig .tc := ⟨.hbm, 166, rfl⟩
abbrev main_v124 : Ref sig .tc := ⟨.hbm, 167, rfl⟩
abbrev main_c_40 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_c_41 : Ref sig .tc := ⟨.hbm, 174, rfl⟩
abbrev main_v130 : Ref sig .tc := ⟨.hbm, 175, rfl⟩
abbrev main_v131 : Ref sig .tc := ⟨.hbm, 176, rfl⟩
abbrev main_c_42 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_c_43 : Ref sig .tc := ⟨.hbm, 182, rfl⟩
abbrev main_v136 : Ref sig .tc := ⟨.hbm, 183, rfl⟩
abbrev main_v137 : Ref sig .tc := ⟨.hbm, 184, rfl⟩
abbrev main_c_44 : Ref sig .tc := ⟨.hbm, 185, rfl⟩
abbrev main_v138 : Ref sig .tc := ⟨.hbm, 186, rfl⟩
abbrev main_v139 : Ref sig .tc := ⟨.hbm, 187, rfl⟩
abbrev main_c_45 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_c_46 : Ref sig .tc := ⟨.hbm, 192, rfl⟩
abbrev main_v143 : Ref sig .tc := ⟨.hbm, 193, rfl⟩
abbrev main_v144 : Ref sig .tc := ⟨.hbm, 194, rfl⟩
abbrev main_c_47 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_c_48 : Ref sig .tc := ⟨.hbm, 201, rfl⟩
abbrev main_v150 : Ref sig .tc := ⟨.hbm, 202, rfl⟩
abbrev main_v151 : Ref sig .tc := ⟨.hbm, 203, rfl⟩
abbrev main_c_49 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_c_50 : Ref sig .tc := ⟨.hbm, 210, rfl⟩
abbrev main_v157 : Ref sig .tc := ⟨.hbm, 211, rfl⟩
abbrev main_v158 : Ref sig .tc := ⟨.hbm, 212, rfl⟩
abbrev main_c_51 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_c_52 : Ref sig .tc := ⟨.hbm, 219, rfl⟩
abbrev main_v164 : Ref sig .tc := ⟨.hbm, 220, rfl⟩
abbrev main_v165 : Ref sig .tc := ⟨.hbm, 221, rfl⟩
abbrev main_c_53 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_c_54 : Ref sig .tc := ⟨.hbm, 227, rfl⟩
abbrev main_v170 : Ref sig .tc := ⟨.hbm, 228, rfl⟩
abbrev main_v171 : Ref sig .tc := ⟨.hbm, 229, rfl⟩
abbrev main_c_55 : Ref sig .tc := ⟨.hbm, 230, rfl⟩
abbrev main_v172 : Ref sig .tc := ⟨.hbm, 231, rfl⟩
abbrev main_v173 : Ref sig .tc := ⟨.hbm, 232, rfl⟩
abbrev main_c_56 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_c_57 : Ref sig .tc := ⟨.hbm, 237, rfl⟩
abbrev main_v177 : Ref sig .tc := ⟨.hbm, 238, rfl⟩
abbrev main_v178 : Ref sig .tc := ⟨.hbm, 239, rfl⟩
abbrev main_c_58 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_cst_59 : Ref sig .tc := ⟨.hbm, 244, rfl⟩
abbrev main_v182 : Ref sig .tc := ⟨.hbm, 245, rfl⟩
abbrev main_v183 : Ref sig .tc := ⟨.hbm, 246, rfl⟩
abbrev main_cst_60 : Ref sig .tc := ⟨.hbm, 247, rfl⟩
abbrev main_cst_61 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_cst_62 : Ref sig .tc := ⟨.hbm, 252, rfl⟩
abbrev main_v187 : Ref sig .tc := ⟨.hbm, 253, rfl⟩
abbrev main_v188 : Ref sig .tc := ⟨.hbm, 254, rfl⟩
abbrev main_cst_63 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_cst_64 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_arg0_scv : Ref sig .scVector := ⟨.hbm, 0, rfl⟩
abbrev main_v193_scv : Ref sig .scVector := ⟨.hbm, 261, rfl⟩
abbrev main_cst_scv : Ref sig .scVector := ⟨.hbm, 1, rfl⟩
abbrev main_v194_scv : Ref sig .scVector := ⟨.hbm, 262, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  ![v1.toNat, 0]
def k0_off2 (i : grid0.Coords) (c0_i32_1 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v7 : BitVec 32 := Scalar.addi v2 c0_i32_1
  let c0_i32_4 : BitVec 32 := 0#32
  ![v7.toNat, 0]
def k0_off3 (i : grid0.Coords) (c0_i32_23 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v43 : BitVec 32 := Scalar.addi v2 c0_i32_23
  let c8192_i32 : BitVec 32 := 8192#32
  let v44 : BitVec 32 := Scalar.muli v43 c8192_i32
  ![v44.toNat]
@[reducible] def k0_t1_loop : Scf.Loop 32 :=
  let c0_i32_58 : BitVec 32 := 0#32
  let c128_i32 : BitVec 32 := 128#32
  let v99 : BitVec 32 := Scalar.addi c0_i32_58 c128_i32
  let c1_i32_59 : BitVec 32 := 1#32
  ⟨c0_i32_58, v99, c1_i32_59⟩
def k0_off4 (k0_t1 : Fin k0_t1_loop.trips) (c0_i32_181 : BitVec 32) : Fin 2 → Nat :=
  let c0_i32_183 : BitVec 32 := 0#32
  let v571 : Index := Scalar.indexCast c0_i32_183
  let c0_i32_58 : BitVec 32 := 0#32
  let c1_i32_59 : BitVec 32 := 1#32
  let arg17 : BitVec 32 := Scf.iv c0_i32_58 c1_i32_59 k0_t1
  let c4_i32_180 : BitVec 32 := 4#32
  let v568 : BitVec 32 := Scalar.muli arg17 c4_i32_180
  let v569 : BitVec 32 := Scalar.addi v568 c0_i32_181
  let c16_i32_182 : BitVec 32 := 16#32
  let v570 : BitVec 32 := Scalar.muli v569 c16_i32_182
  let v572 : Index := Scalar.indexCast v570
  ![0, v572.toNat]

def k0_chk1 (v126 : IVec S16 32) : Prop :=
  (∀ a x, ((![v126] : Fin 1 → IVec S16 32) a x).toNat < S16.size a) ∧
  (∀ a x, ((![v126] : Fin 1 → IVec S16 32) a x).toNat < S16.size a)
theorem k0_idx1_inb : ∀ (v126 : IVec S16 32) (k0_hw1 : k0_chk1 v126), ∀ a x, ((![v126] : Fin 1 → IVec S16 32) a x).toNat < S16.size a := fun v126 k0_hw1 => k0_hw1.1
theorem k0_idx2_inb : ∀ (v126 : IVec S16 32) (k0_hw1 : k0_chk1 v126), ∀ a x, ((![v126] : Fin 1 → IVec S16 32) a x).toNat < S16.size a := fun v126 k0_hw1 => k0_hw1.2

def k0_chk2 (v143 : IVec S16 32) : Prop :=
  (∀ a x, ((![v143] : Fin 1 → IVec S16 32) a x).toNat < S16.size a) ∧
  (∀ a x, ((![v143] : Fin 1 → IVec S16 32) a x).toNat < S16.size a)
theorem k0_idx3_inb : ∀ (v143 : IVec S16 32) (k0_hw2 : k0_chk2 v143), ∀ a x, ((![v143] : Fin 1 → IVec S16 32) a x).toNat < S16.size a := fun v143 k0_hw2 => k0_hw2.1
theorem k0_idx4_inb : ∀ (v143 : IVec S16 32) (k0_hw2 : k0_chk2 v143), ∀ a x, ((![v143] : Fin 1 → IVec S16 32) a x).toNat < S16.size a := fun v143 k0_hw2 => k0_hw2.2

def k0_chk3 (v160 : IVec S16 32) : Prop :=
  (∀ a x, ((![v160] : Fin 1 → IVec S16 32) a x).toNat < S16.size a) ∧
  (∀ a x, ((![v160] : Fin 1 → IVec S16 32) a x).toNat < S16.size a)
theorem k0_idx5_inb : ∀ (v160 : IVec S16 32) (k0_hw3 : k0_chk3 v160), ∀ a x, ((![v160] : Fin 1 → IVec S16 32) a x).toNat < S16.size a := fun v160 k0_hw3 => k0_hw3.1
theorem k0_idx6_inb : ∀ (v160 : IVec S16 32) (k0_hw3 : k0_chk3 v160), ∀ a x, ((![v160] : Fin 1 → IVec S16 32) a x).toNat < S16.size a := fun v160 k0_hw3 => k0_hw3.2

def k0_chk4 (v177 : IVec S16 32) : Prop :=
  (∀ a x, ((![v177] : Fin 1 → IVec S16 32) a x).toNat < S16.size a) ∧
  (∀ a x, ((![v177] : Fin 1 → IVec S16 32) a x).toNat < S16.size a)
theorem k0_idx7_inb : ∀ (v177 : IVec S16 32) (k0_hw4 : k0_chk4 v177), ∀ a x, ((![v177] : Fin 1 → IVec S16 32) a x).toNat < S16.size a := fun v177 k0_hw4 => k0_hw4.1
theorem k0_idx8_inb : ∀ (v177 : IVec S16 32) (k0_hw4 : k0_chk4 v177), ∀ a x, ((![v177] : Fin 1 → IVec S16 32) a x).toNat < S16.size a := fun v177 k0_hw4 => k0_hw4.2
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c1_i32 : BitVec 32 := 1#32
  let v16 : BitVec 32 := Scalar.addi v2 c1_i32
  let c0_i32_74 : BitVec 32 := 0#32
  ![v16.toNat, 0]
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c1_i32_27 : BitVec 32 := 1#32
  let v51 : BitVec 32 := Scalar.addi v2 c1_i32_27
  let c8192_i32_28 : BitVec 32 := 8192#32
  let v52 : BitVec 32 := Scalar.muli v51 c8192_i32_28
  ![v52.toNat]
@[reducible] def k0_t2_loop : Scf.Loop 32 :=
  let c0_i32_88 : BitVec 32 := 0#32
  let c128_i32_89 : BitVec 32 := 128#32
  let v218 : BitVec 32 := Scalar.addi c0_i32_88 c128_i32_89
  let c1_i32_90 : BitVec 32 := 1#32
  ⟨c0_i32_88, v218, c1_i32_90⟩
def k0_off7 (k0_t2 : Fin k0_t2_loop.trips) (c0_i32_181 : BitVec 32) : Fin 2 → Nat :=
  let c1_i32_183 : BitVec 32 := 1#32
  let v571 : Index := Scalar.indexCast c1_i32_183
  let c0_i32_88 : BitVec 32 := 0#32
  let c1_i32_90 : BitVec 32 := 1#32
  let arg17 : BitVec 32 := Scf.iv c0_i32_88 c1_i32_90 k0_t2
  let c4_i32_180 : BitVec 32 := 4#32
  let v568 : BitVec 32 := Scalar.muli arg17 c4_i32_180
  let v569 : BitVec 32 := Scalar.addi v568 c0_i32_181
  let c16_i32_182 : BitVec 32 := 16#32
  let v570 : BitVec 32 := Scalar.muli v569 c16_i32_182
  let v572 : Index := Scalar.indexCast v570
  ![1, v572.toNat]

def k0_chk5 (v245 : IVec S16 32) : Prop :=
  (∀ a x, ((![v245] : Fin 1 → IVec S16 32) a x).toNat < S16.size a) ∧
  (∀ a x, ((![v245] : Fin 1 → IVec S16 32) a x).toNat < S16.size a)
theorem k0_idx9_inb : ∀ (v245 : IVec S16 32) (k0_hw5 : k0_chk5 v245), ∀ a x, ((![v245] : Fin 1 → IVec S16 32) a x).toNat < S16.size a := fun v245 k0_hw5 => k0_hw5.1
theorem k0_idx10_inb : ∀ (v245 : IVec S16 32) (k0_hw5 : k0_chk5 v245), ∀ a x, ((![v245] : Fin 1 → IVec S16 32) a x).toNat < S16.size a := fun v245 k0_hw5 => k0_hw5.2

def k0_chk6 (v262 : IVec S16 32) : Prop :=
  (∀ a x, ((![v262] : Fin 1 → IVec S16 32) a x).toNat < S16.size a) ∧
  (∀ a x, ((![v262] : Fin 1 → IVec S16 32) a x).toNat < S16.size a)
theorem k0_idx11_inb : ∀ (v262 : IVec S16 32) (k0_hw6 : k0_chk6 v262), ∀ a x, ((![v262] : Fin 1 → IVec S16 32) a x).toNat < S16.size a := fun v262 k0_hw6 => k0_hw6.1
theorem k0_idx12_inb : ∀ (v262 : IVec S16 32) (k0_hw6 : k0_chk6 v262), ∀ a x, ((![v262] : Fin 1 → IVec S16 32) a x).toNat < S16.size a := fun v262 k0_hw6 => k0_hw6.2

def k0_chk7 (v279 : IVec S16 32) : Prop :=
  (∀ a x, ((![v279] : Fin 1 → IVec S16 32) a x).toNat < S16.size a) ∧
  (∀ a x, ((![v279] : Fin 1 → IVec S16 32) a x).toNat < S16.size a)
theorem k0_idx13_inb : ∀ (v279 : IVec S16 32) (k0_hw7 : k0_chk7 v279), ∀ a x, ((![v279] : Fin 1 → IVec S16 32) a x).toNat < S16.size a := fun v279 k0_hw7 => k0_hw7.1
theorem k0_idx14_inb : ∀ (v279 : IVec S16 32) (k0_hw7 : k0_chk7 v279), ∀ a x, ((![v279] : Fin 1 → IVec S16 32) a x).toNat < S16.size a := fun v279 k0_hw7 => k0_hw7.2

def k0_chk8 (v296 : IVec S16 32) : Prop :=
  (∀ a x, ((![v296] : Fin 1 → IVec S16 32) a x).toNat < S16.size a) ∧
  (∀ a x, ((![v296] : Fin 1 → IVec S16 32) a x).toNat < S16.size a)
theorem k0_idx15_inb : ∀ (v296 : IVec S16 32) (k0_hw8 : k0_chk8 v296), ∀ a x, ((![v296] : Fin 1 → IVec S16 32) a x).toNat < S16.size a := fun v296 k0_hw8 => k0_hw8.1
theorem k0_idx16_inb : ∀ (v296 : IVec S16 32) (k0_hw8 : k0_chk8 v296), ∀ a x, ((![v296] : Fin 1 → IVec S16 32) a x).toNat < S16.size a := fun v296 k0_hw8 => k0_hw8.2
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_12 : BitVec 32 := 2#32
  let v25 : BitVec 32 := Scalar.addi v2 c2_i32_12
  let c0_i32_108 : BitVec 32 := 0#32
  ![v25.toNat, 0]
def k0_off9 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_32 : BitVec 32 := 2#32
  let v59 : BitVec 32 := Scalar.addi v2 c2_i32_32
  let c8192_i32_33 : BitVec 32 := 8192#32
  let v60 : BitVec 32 := Scalar.muli v59 c8192_i32_33
  ![v60.toNat]
@[reducible] def k0_t3_loop : Scf.Loop 32 :=
  let c0_i32_122 : BitVec 32 := 0#32
  let c128_i32_123 : BitVec 32 := 128#32
  let v337 : BitVec 32 := Scalar.addi c0_i32_122 c128_i32_123
  let c1_i32_124 : BitVec 32 := 1#32
  ⟨c0_i32_122, v337, c1_i32_124⟩
def k0_off10 (k0_t3 : Fin k0_t3_loop.trips) (c0_i32_181 : BitVec 32) : Fin 2 → Nat :=
  let c2_i32_183 : BitVec 32 := 2#32
  let v571 : Index := Scalar.indexCast c2_i32_183
  let c0_i32_122 : BitVec 32 := 0#32
  let c1_i32_124 : BitVec 32 := 1#32
  let arg17 : BitVec 32 := Scf.iv c0_i32_122 c1_i32_124 k0_t3
  let c4_i32_180 : BitVec 32 := 4#32
  let v568 : BitVec 32 := Scalar.muli arg17 c4_i32_180
  let v569 : BitVec 32 := Scalar.addi v568 c0_i32_181
  let c16_i32_182 : BitVec 32 := 16#32
  let v570 : BitVec 32 := Scalar.muli v569 c16_i32_182
  let v572 : Index := Scalar.indexCast v570
  ![2, v572.toNat]

def k0_chk9 (v364 : IVec S16 32) : Prop :=
  (∀ a x, ((![v364] : Fin 1 → IVec S16 32) a x).toNat < S16.size a) ∧
  (∀ a x, ((![v364] : Fin 1 → IVec S16 32) a x).toNat < S16.size a)
theorem k0_idx17_inb : ∀ (v364 : IVec S16 32) (k0_hw9 : k0_chk9 v364), ∀ a x, ((![v364] : Fin 1 → IVec S16 32) a x).toNat < S16.size a := fun v364 k0_hw9 => k0_hw9.1
theorem k0_idx18_inb : ∀ (v364 : IVec S16 32) (k0_hw9 : k0_chk9 v364), ∀ a x, ((![v364] : Fin 1 → IVec S16 32) a x).toNat < S16.size a := fun v364 k0_hw9 => k0_hw9.2

def k0_chk10 (v381 : IVec S16 32) : Prop :=
  (∀ a x, ((![v381] : Fin 1 → IVec S16 32) a x).toNat < S16.size a) ∧
  (∀ a x, ((![v381] : Fin 1 → IVec S16 32) a x).toNat < S16.size a)
theorem k0_idx19_inb : ∀ (v381 : IVec S16 32) (k0_hw10 : k0_chk10 v381), ∀ a x, ((![v381] : Fin 1 → IVec S16 32) a x).toNat < S16.size a := fun v381 k0_hw10 => k0_hw10.1
theorem k0_idx20_inb : ∀ (v381 : IVec S16 32) (k0_hw10 : k0_chk10 v381), ∀ a x, ((![v381] : Fin 1 → IVec S16 32) a x).toNat < S16.size a := fun v381 k0_hw10 => k0_hw10.2

def k0_chk11 (v398 : IVec S16 32) : Prop :=
  (∀ a x, ((![v398] : Fin 1 → IVec S16 32) a x).toNat < S16.size a) ∧
  (∀ a x, ((![v398] : Fin 1 → IVec S16 32) a x).toNat < S16.size a)
theorem k0_idx21_inb : ∀ (v398 : IVec S16 32) (k0_hw11 : k0_chk11 v398), ∀ a x, ((![v398] : Fin 1 → IVec S16 32) a x).toNat < S16.size a := fun v398 k0_hw11 => k0_hw11.1
theorem k0_idx22_inb : ∀ (v398 : IVec S16 32) (k0_hw11 : k0_chk11 v398), ∀ a x, ((![v398] : Fin 1 → IVec S16 32) a x).toNat < S16.size a := fun v398 k0_hw11 => k0_hw11.2

def k0_chk12 (v415 : IVec S16 32) : Prop :=
  (∀ a x, ((![v415] : Fin 1 → IVec S16 32) a x).toNat < S16.size a) ∧
  (∀ a x, ((![v415] : Fin 1 → IVec S16 32) a x).toNat < S16.size a)
theorem k0_idx23_inb : ∀ (v415 : IVec S16 32) (k0_hw12 : k0_chk12 v415), ∀ a x, ((![v415] : Fin 1 → IVec S16 32) a x).toNat < S16.size a := fun v415 k0_hw12 => k0_hw12.1
theorem k0_idx24_inb : ∀ (v415 : IVec S16 32) (k0_hw12 : k0_chk12 v415), ∀ a x, ((![v415] : Fin 1 → IVec S16 32) a x).toNat < S16.size a := fun v415 k0_hw12 => k0_hw12.2
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c3_i32 : BitVec 32 := 3#32
  let v34 : BitVec 32 := Scalar.addi v2 c3_i32
  let c0_i32_142 : BitVec 32 := 0#32
  ![v34.toNat, 0]
def k0_off12 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c3_i32_37 : BitVec 32 := 3#32
  let v67 : BitVec 32 := Scalar.addi v2 c3_i32_37
  let c8192_i32_38 : BitVec 32 := 8192#32
  let v68 : BitVec 32 := Scalar.muli v67 c8192_i32_38
  ![v68.toNat]
@[reducible] def k0_t4_loop : Scf.Loop 32 :=
  let c0_i32_156 : BitVec 32 := 0#32
  let c128_i32_157 : BitVec 32 := 128#32
  let v456 : BitVec 32 := Scalar.addi c0_i32_156 c128_i32_157
  let c1_i32_158 : BitVec 32 := 1#32
  ⟨c0_i32_156, v456, c1_i32_158⟩
def k0_off13 (k0_t4 : Fin k0_t4_loop.trips) (c0_i32_181 : BitVec 32) : Fin 2 → Nat :=
  let c3_i32_183 : BitVec 32 := 3#32
  let v571 : Index := Scalar.indexCast c3_i32_183
  let c0_i32_156 : BitVec 32 := 0#32
  let c1_i32_158 : BitVec 32 := 1#32
  let arg17 : BitVec 32 := Scf.iv c0_i32_156 c1_i32_158 k0_t4
  let c4_i32_180 : BitVec 32 := 4#32
  let v568 : BitVec 32 := Scalar.muli arg17 c4_i32_180
  let v569 : BitVec 32 := Scalar.addi v568 c0_i32_181
  let c16_i32_182 : BitVec 32 := 16#32
  let v570 : BitVec 32 := Scalar.muli v569 c16_i32_182
  let v572 : Index := Scalar.indexCast v570
  ![3, v572.toNat]

def k0_chk13 (v483 : IVec S16 32) : Prop :=
  (∀ a x, ((![v483] : Fin 1 → IVec S16 32) a x).toNat < S16.size a) ∧
  (∀ a x, ((![v483] : Fin 1 → IVec S16 32) a x).toNat < S16.size a)
theorem k0_idx25_inb : ∀ (v483 : IVec S16 32) (k0_hw13 : k0_chk13 v483), ∀ a x, ((![v483] : Fin 1 → IVec S16 32) a x).toNat < S16.size a := fun v483 k0_hw13 => k0_hw13.1
theorem k0_idx26_inb : ∀ (v483 : IVec S16 32) (k0_hw13 : k0_chk13 v483), ∀ a x, ((![v483] : Fin 1 → IVec S16 32) a x).toNat < S16.size a := fun v483 k0_hw13 => k0_hw13.2

def k0_chk14 (v500 : IVec S16 32) : Prop :=
  (∀ a x, ((![v500] : Fin 1 → IVec S16 32) a x).toNat < S16.size a) ∧
  (∀ a x, ((![v500] : Fin 1 → IVec S16 32) a x).toNat < S16.size a)
theorem k0_idx27_inb : ∀ (v500 : IVec S16 32) (k0_hw14 : k0_chk14 v500), ∀ a x, ((![v500] : Fin 1 → IVec S16 32) a x).toNat < S16.size a := fun v500 k0_hw14 => k0_hw14.1
theorem k0_idx28_inb : ∀ (v500 : IVec S16 32) (k0_hw14 : k0_chk14 v500), ∀ a x, ((![v500] : Fin 1 → IVec S16 32) a x).toNat < S16.size a := fun v500 k0_hw14 => k0_hw14.2

def k0_chk15 (v517 : IVec S16 32) : Prop :=
  (∀ a x, ((![v517] : Fin 1 → IVec S16 32) a x).toNat < S16.size a) ∧
  (∀ a x, ((![v517] : Fin 1 → IVec S16 32) a x).toNat < S16.size a)
theorem k0_idx29_inb : ∀ (v517 : IVec S16 32) (k0_hw15 : k0_chk15 v517), ∀ a x, ((![v517] : Fin 1 → IVec S16 32) a x).toNat < S16.size a := fun v517 k0_hw15 => k0_hw15.1
theorem k0_idx30_inb : ∀ (v517 : IVec S16 32) (k0_hw15 : k0_chk15 v517), ∀ a x, ((![v517] : Fin 1 → IVec S16 32) a x).toNat < S16.size a := fun v517 k0_hw15 => k0_hw15.2

def k0_chk16 (v534 : IVec S16 32) : Prop :=
  (∀ a x, ((![v534] : Fin 1 → IVec S16 32) a x).toNat < S16.size a) ∧
  (∀ a x, ((![v534] : Fin 1 → IVec S16 32) a x).toNat < S16.size a)
theorem k0_idx31_inb : ∀ (v534 : IVec S16 32) (k0_hw16 : k0_chk16 v534), ∀ a x, ((![v534] : Fin 1 → IVec S16 32) a x).toNat < S16.size a := fun v534 k0_hw16 => k0_hw16.1
theorem k0_idx32_inb : ∀ (v534 : IVec S16 32) (k0_hw16 : k0_chk16 v534), ∀ a x, ((![v534] : Fin 1 → IVec S16 32) a x).toNat < S16.size a := fun v534 k0_hw16 => k0_hw16.2
def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_174 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x8192 : Shape := ⟨2, ![128, 8192]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1 : Shape := ⟨2, ![1, 1]⟩
abbrev S128 : Shape := ⟨1, ![128]⟩
abbrev S128x1x1x1 : Shape := ⟨4, ![128, 1, 1, 1]⟩

abbrev nBuf : Space → Nat
  | .hbm => 798
  | .vmem => 0
  | .smem => 0
  | _ => 0

abbrev hbmTy0_0 (i : Nat) : BufTy := match i % 128 with
  | 0 => ⟨S128x8192, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S2, .i64⟩
  | 16 => ⟨S_, .i64⟩
  | 17 => ⟨S2, .i64⟩
  | 18 => ⟨S2, .i64⟩
  | 19 => ⟨S_, .i64⟩
  | 20 => ⟨S2, .i64⟩
  | 21 => ⟨S2, .i64⟩
  | 22 => ⟨S2, .i32⟩
  | 23 => ⟨S2, .i32⟩
  | 24 => ⟨S_, .i32⟩
  | 25 => ⟨S_, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S128x8192, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2x1, .i32⟩
  | 119 => ⟨S2x1, .i32⟩
  | 120 => ⟨S2x2, .i32⟩
  | 121 => ⟨S1x2, .i32⟩
  | 122 => ⟨S2, .i32⟩
  | 123 => ⟨S1x2, .i32⟩
  | 124 => ⟨S2, .i32⟩
  | 125 => ⟨S_, .f32⟩
  | 126 => ⟨S128x8192, .f32⟩
  | 127 => ⟨S128x8192, .f32⟩
  | _ => ⟨S128x8192, .f32⟩

abbrev hbmTy0_2 (i : Nat) : BufTy := match i % 128 with
  | 0 => ⟨S128x8192, .f32⟩
  | 1 => ⟨S_, .f32⟩
  | 2 => ⟨S_, .f32⟩
  | 3 => ⟨S_, .f32⟩
  | 4 => ⟨S1x1, .f32⟩
  | 5 => ⟨S1x1, .f32⟩
  | 6 => ⟨S1, .i32⟩
  | 7 => ⟨S_, .i32⟩
  | 8 => ⟨S1, .i32⟩
  | 9 => ⟨S_, .i32⟩
  | 10 => ⟨S128x8192, .i64⟩
  | 11 => ⟨S128x8192, .i64⟩
  | 12 => ⟨S_, .i64⟩
  | 13 => ⟨S128x8192, .i64⟩
  | 14 => ⟨S128x8192, .i64⟩
  | 15 => ⟨S_, .i64⟩
  | 16 => ⟨S128x8192, .i64⟩
  | 17 => ⟨S128x8192, .i64⟩
  | 18 => ⟨S128x8192, .i64⟩
  | 19 => ⟨S_, .i64⟩
  | 20 => ⟨S128x8192, .i64⟩
  | 21 => ⟨S128x8192, .i64⟩
  | 22 => ⟨S128x8192, .i32⟩
  | 23 => ⟨S128x8192, .i32⟩
  | 24 => ⟨S_, .i32⟩
  | 25 => ⟨S_, .i32⟩
  | 26 => ⟨S_, .i32⟩
  | 27 => ⟨S128x8192, .i32⟩
  | 28 => ⟨S128x8192, .i32⟩
  | 29 => ⟨S128x8192, .i32⟩
  | 30 => ⟨S128x8192, .i32⟩
  | 31 => ⟨S128x8192, .i32⟩
  | 32 => ⟨S_, .i32⟩
  | 33 => ⟨S128x8192, .i32⟩
  | 34 => ⟨S128x8192, .i32⟩
  | 35 => ⟨S_, .i32⟩
  | 36 => ⟨S128x8192, .i32⟩
  | 37 => ⟨S128x8192, .i32⟩
  | 38 => ⟨S128x8192, .i32⟩
  | 39 => ⟨S128x8192, .i32⟩
  | 40 => ⟨S128x8192, .i32⟩
  | 41 => ⟨S_, .i32⟩
  | 42 => ⟨S128x8192, .i32⟩
  | 43 => ⟨S128x8192, .i32⟩
  | 44 => ⟨S_, .i32⟩
  | 45 => ⟨S128x8192, .i32⟩
  | 46 => ⟨S128x8192, .i32⟩
  | 47 => ⟨S128x8192, .i32⟩
  | 48 => ⟨S128x8192, .i32⟩
  | 49 => ⟨S128x8192, .i32⟩
  | 50 => ⟨S_, .i32⟩
  | 51 => ⟨S128x8192, .i32⟩
  | 52 => ⟨S128x8192, .i32⟩
  | 53 => ⟨S_, .i32⟩
  | 54 => ⟨S128x8192, .i32⟩
  | 55 => ⟨S128x8192, .i32⟩
  | 56 => ⟨S128x8192, .i32⟩
  | 57 => ⟨S128x8192, .i32⟩
  | 58 => ⟨S128x8192, .i32⟩
  | 59 => ⟨S_, .i32⟩
  | 60 => ⟨S128x8192, .i32⟩
  | 61 => ⟨S128x8192, .i32⟩
  | 62 => ⟨S_, .i32⟩
  | 63 => ⟨S128x8192, .i32⟩
  | 64 => ⟨S128x8192, .i32⟩
  | 65 => ⟨S128x8192, .i32⟩
  | 66 => ⟨S128x8192, .i32⟩
  | 67 => ⟨S128x8192, .i32⟩
  | 68 => ⟨S128x8192, .i32⟩
  | 69 => ⟨S128x8192, .i32⟩
  | 70 => ⟨S128x8192, .i32⟩
  | 71 => ⟨S_, .i32⟩
  | 72 => ⟨S128x8192, .i32⟩
  | 73 => ⟨S128x8192, .i32⟩
  | 74 => ⟨S128x8192, .i32⟩
  | 75 => ⟨S_, .i32⟩
  | 76 => ⟨S128x8192, .i32⟩
  | 77 => ⟨S128x8192, .i32⟩
  | 78 => ⟨S_, .i32⟩
  | 79 => ⟨S128x8192, .i32⟩
  | 80 => ⟨S128x8192, .i32⟩
  | 81 => ⟨S128x8192, .i32⟩
  | 82 => ⟨S128x8192, .i32⟩
  | 83 => ⟨S128x8192, .i32⟩
  | 84 => ⟨S_, .i32⟩
  | 85 => ⟨S128x8192, .i32⟩
  | 86 => ⟨S128x8192, .i32⟩
  | 87 => ⟨S_, .i32⟩
  | 88 => ⟨S128x8192, .i32⟩
  | 89 => ⟨S128x8192, .i32⟩
  | 90 => ⟨S128x8192, .i32⟩
  | 91 => ⟨S128x8192, .i32⟩
  | 92 => ⟨S128x8192, .i32⟩
  | 93 => ⟨S_, .i32⟩
  | 94 => ⟨S128x8192, .i32⟩
  | 95 => ⟨S128x8192, .i32⟩
  | 96 => ⟨S_, .i32⟩
  | 97 => ⟨S128x8192, .i32⟩
  | 98 => ⟨S128x8192, .i32⟩
  | 99 => ⟨S128x8192, .i32⟩
  | 100 => ⟨S128x8192, .i32⟩
  | 101 => ⟨S128x8192, .i32⟩
  | 102 => ⟨S_, .i32⟩
  | 103 => ⟨S128x8192, .i32⟩
  | 104 => ⟨S128x8192, .i32⟩
  | 105 => ⟨S_, .i32⟩
  | 106 => ⟨S128x8192, .i32⟩
  | 107 => ⟨S128x8192, .i32⟩
  | 108 => ⟨S128x8192, .i32⟩
  | 109 => ⟨S128x8192, .i32⟩
  | 110 => ⟨S128x8192, .i32⟩
  | 111 => ⟨S128x8192, .i32⟩
  | 112 => ⟨S128x8192, .i32⟩
  | 113 => ⟨S128x8192, .i32⟩
  | 114 => ⟨S_, .i32⟩
  | 115 => ⟨S128x8192, .i32⟩
  | 116 => ⟨S128x8192, .i32⟩
  | 117 => ⟨S128x8192, .i32⟩
  | 118 => ⟨S_, .i32⟩
  | 119 => ⟨S128x8192, .i32⟩
  | 120 => ⟨S128x8192, .i32⟩
  | 121 => ⟨S_, .i32⟩
  | 122 => ⟨S128x8192, .i32⟩
  | 123 => ⟨S128x8192, .i32⟩
  | 124 => ⟨S128x8192, .i32⟩
  | 125 => ⟨S128x8192, .i32⟩
  | 126 => ⟨S128x8192, .i32⟩
  | 127 => ⟨S_, .i32⟩
  | _ => ⟨S128x8192, .f32⟩

abbrev hbmTy0_3 (i : Nat) : BufTy := match i % 128 with
  | 0 => ⟨S128x8192, .i32⟩
  | 1 => ⟨S128x8192, .i32⟩
  | 2 => ⟨S_, .i32⟩
  | 3 => ⟨S128x8192, .i32⟩
  | 4 => ⟨S128x8192, .i32⟩
  | 5 => ⟨S128x8192, .i32⟩
  | 6 => ⟨S128x8192, .i32⟩
  | 7 => ⟨S128x8192, .i32⟩
  | 8 => ⟨S_, .i32⟩
  | 9 => ⟨S128x8192, .i32⟩
  | 10 => ⟨S128x8192, .i32⟩
  | 11 => ⟨S_, .i32⟩
  | 12 => ⟨S128x8192, .i32⟩
  | 13 => ⟨S128x8192, .i32⟩
  | 14 => ⟨S128x8192, .i32⟩
  | 15 => ⟨S128x8192, .i32⟩
  | 16 => ⟨S128x8192, .i32⟩
  | 17 => ⟨S_, .i32⟩
  | 18 => ⟨S128x8192, .i32⟩
  | 19 => ⟨S128x8192, .i32⟩
  | 20 => ⟨S_, .i32⟩
  | 21 => ⟨S128x8192, .i32⟩
  | 22 => ⟨S128x8192, .i32⟩
  | 23 => ⟨S128x8192, .i32⟩
  | 24 => ⟨S128x8192, .i32⟩
  | 25 => ⟨S128x8192, .i32⟩
  | 26 => ⟨S128x8192, .i32⟩
  | 27 => ⟨S128x8192, .i32⟩
  | 28 => ⟨S128x8192, .i32⟩
  | 29 => ⟨S_, .i32⟩
  | 30 => ⟨S128x8192, .i32⟩
  | 31 => ⟨S128x8192, .i32⟩
  | 32 => ⟨S128x8192, .i32⟩
  | 33 => ⟨S_, .i32⟩
  | 34 => ⟨S128x8192, .i32⟩
  | 35 => ⟨S128x8192, .i32⟩
  | 36 => ⟨S_, .i32⟩
  | 37 => ⟨S128x8192, .i32⟩
  | 38 => ⟨S128x8192, .i32⟩
  | 39 => ⟨S128x8192, .i32⟩
  | 40 => ⟨S128x8192, .i32⟩
  | 41 => ⟨S128x8192, .i32⟩
  | 42 => ⟨S_, .i32⟩
  | 43 => ⟨S128x8192, .i32⟩
  | 44 => ⟨S128x8192, .i32⟩
  | 45 => ⟨S_, .i32⟩
  | 46 => ⟨S128x8192, .i32⟩
  | 47 => ⟨S128x8192, .i32⟩
  | 48 => ⟨S128x8192, .i32⟩
  | 49 => ⟨S128x8192, .i32⟩
  | 50 => ⟨S128x8192, .i32⟩
  | 51 => ⟨S_, .i32⟩
  | 52 => ⟨S128x8192, .i32⟩
  | 53 => ⟨S128x8192, .i32⟩
  | 54 => ⟨S_, .i32⟩
  | 55 => ⟨S128x8192, .i32⟩
  | 56 => ⟨S128x8192, .i32⟩
  | 57 => ⟨S128x8192, .i32⟩
  | 58 => ⟨S128x8192, .i32⟩
  | 59 => ⟨S128x8192, .i32⟩
  | 60 => ⟨S_, .i32⟩
  | 61 => ⟨S128x8192, .i32⟩
  | 62 => ⟨S128x8192, .i32⟩
  | 63 => ⟨S_, .i32⟩
  | 64 => ⟨S128x8192, .i32⟩
  | 65 => ⟨S128x8192, .i32⟩
  | 66 => ⟨S128x8192, .i32⟩
  | 67 => ⟨S128x8192, .i32⟩
  | 68 => ⟨S128x8192, .i32⟩
  | 69 => ⟨S128x8192, .i32⟩
  | 70 => ⟨S128x8192, .i32⟩
  | 71 => ⟨S128x8192, .i32⟩
  | 72 => ⟨S_, .i32⟩
  | 73 => ⟨S128x8192, .i32⟩
  | 74 => ⟨S128x8192, .i32⟩
  | 75 => ⟨S128x8192, .i32⟩
  | 76 => ⟨S_, .i32⟩
  | 77 => ⟨S128x8192, .i32⟩
  | 78 => ⟨S128x8192, .i32⟩
  | 79 => ⟨S_, .i32⟩
  | 80 => ⟨S128x8192, .i32⟩
  | 81 => ⟨S128x8192, .i32⟩
  | 82 => ⟨S128x8192, .i32⟩
  | 83 => ⟨S128x8192, .i32⟩
  | 84 => ⟨S128x8192, .i32⟩
  | 85 => ⟨S_, .i32⟩
  | 86 => ⟨S128x8192, .i32⟩
  | 87 => ⟨S128x8192, .i32⟩
  | 88 => ⟨S_, .i32⟩
  | 89 => ⟨S128x8192, .i32⟩
  | 90 => ⟨S128x8192, .i32⟩
  | 91 => ⟨S128x8192, .i32⟩
  | 92 => ⟨S128x8192, .i32⟩
  | 93 => ⟨S128x8192, .i32⟩
  | 94 => ⟨S_, .i32⟩
  | 95 => ⟨S128x8192, .i32⟩
  | 96 => ⟨S128x8192, .i32⟩
  | 97 => ⟨S_, .i32⟩
  | 98 => ⟨S128x8192, .i32⟩
  | 99 => ⟨S128x8192, .i32⟩
  | 100 => ⟨S128x8192, .i32⟩
  | 101 => ⟨S128x8192, .i32⟩
  | 102 => ⟨S128x8192, .i32⟩
  | 103 => ⟨S_, .i32⟩
  | 104 => ⟨S128x8192, .i32⟩
  | 105 => ⟨S128x8192, .i32⟩
  | 106 => ⟨S_, .i32⟩
  | 107 => ⟨S128x8192, .i32⟩
  | 108 => ⟨S128x8192, .i32⟩
  | 109 => ⟨S128x8192, .i32⟩
  | 110 => ⟨S128x8192, .i32⟩
  | 111 => ⟨S128x8192, .i32⟩
  | 112 => ⟨S128x8192, .i32⟩
  | 113 => ⟨S128x8192, .i32⟩
  | 114 => ⟨S128x8192, .i32⟩
  | 115 => ⟨S_, .i32⟩
  | 116 => ⟨S128x8192, .i32⟩
  | 117 => ⟨S128x8192, .i32⟩
  | 118 => ⟨S128x8192, .i32⟩
  | 119 => ⟨S_, .i32⟩
  | 120 => ⟨S128x8192, .i32⟩
  | 121 => ⟨S128x8192, .i32⟩
  | 122 => ⟨S_, .i32⟩
  | 123 => ⟨S128x8192, .i32⟩
  | 124 => ⟨S128x8192, .i32⟩
  | 125 => ⟨S128x8192, .f32⟩
  | 126 => ⟨S_, .f32⟩
  | 127 => ⟨S128x8192, .f32⟩
  | _ => ⟨S128x8192, .f32⟩

abbrev hbmTy0_4 (i : Nat) : BufTy := match i % 128 with
  | 0 => ⟨S128x8192, .f32⟩
  | 1 => ⟨S1x1, .f32⟩
  | 2 => ⟨S128x8192, .f32⟩
  | 3 => ⟨S128x8192, .f32⟩
  | 4 => ⟨S128x8192, .f32⟩
  | 5 => ⟨S128x8192, .f32⟩
  | 6 => ⟨S128x8192, .f32⟩
  | 7 => ⟨S128x8192, .f32⟩
  | 8 => ⟨S128x8192, .f32⟩
  | 9 => ⟨S128x8192, .f32⟩
  | 10 => ⟨S128x8192, .f32⟩
  | 11 => ⟨S128x8192, .f32⟩
  | 12 => ⟨S128x8192, .f32⟩
  | 13 => ⟨S128x8192, .i32⟩
  | 14 => ⟨S_, .f32⟩
  | 15 => ⟨S_, .i32⟩
  | 16 => ⟨S128, .f32⟩
  | 17 => ⟨S128, .i32⟩
  | 18 => ⟨S_, .f32⟩
  | 19 => ⟨S_, .f32⟩
  | 20 => ⟨S_, .f32⟩
  | 21 => ⟨S_, .f32⟩
  | 22 => ⟨S1, .f32⟩
  | 23 => ⟨S1, .f32⟩
  | 24 => ⟨S1, .i32⟩
  | 25 => ⟨S_, .i32⟩
  | 26 => ⟨S1, .i32⟩
  | 27 => ⟨S_, .i32⟩
  | 28 => ⟨S128, .i64⟩
  | 29 => ⟨S_, .i64⟩
  | 30 => ⟨S128, .i64⟩
  | 31 => ⟨S128, .i64⟩
  | 32 => ⟨S_, .i64⟩
  | 33 => ⟨S128, .i64⟩
  | 34 => ⟨S128, .i64⟩
  | 35 => ⟨S128, .i32⟩
  | 36 => ⟨S128, .i32⟩
  | 37 => ⟨S_, .i32⟩
  | 38 => ⟨S_, .i32⟩
  | 39 => ⟨S_, .i32⟩
  | 40 => ⟨S128, .i32⟩
  | 41 => ⟨S128, .i32⟩
  | 42 => ⟨S128, .i32⟩
  | 43 => ⟨S128, .i32⟩
  | 44 => ⟨S128, .i32⟩
  | 45 => ⟨S_, .i32⟩
  | 46 => ⟨S128, .i32⟩
  | 47 => ⟨S128, .i32⟩
  | 48 => ⟨S_, .i32⟩
  | 49 => ⟨S128, .i32⟩
  | 50 => ⟨S128, .i32⟩
  | 51 => ⟨S128, .i32⟩
  | 52 => ⟨S128, .i32⟩
  | 53 => ⟨S128, .i32⟩
  | 54 => ⟨S_, .i32⟩
  | 55 => ⟨S128, .i32⟩
  | 56 => ⟨S128, .i32⟩
  | 57 => ⟨S_, .i32⟩
  | 58 => ⟨S128, .i32⟩
  | 59 => ⟨S128, .i32⟩
  | 60 => ⟨S128, .i32⟩
  | 61 => ⟨S128, .i32⟩
  | 62 => ⟨S128, .i32⟩
  | 63 => ⟨S_, .i32⟩
  | 64 => ⟨S128, .i32⟩
  | 65 => ⟨S128, .i32⟩
  | 66 => ⟨S_, .i32⟩
  | 67 => ⟨S128, .i32⟩
  | 68 => ⟨S128, .i32⟩
  | 69 => ⟨S128, .i32⟩
  | 70 => ⟨S128, .i32⟩
  | 71 => ⟨S128, .i32⟩
  | 72 => ⟨S_, .i32⟩
  | 73 => ⟨S128, .i32⟩
  | 74 => ⟨S128, .i32⟩
  | 75 => ⟨S_, .i32⟩
  | 76 => ⟨S128, .i32⟩
  | 77 => ⟨S128, .i32⟩
  | 78 => ⟨S128, .i32⟩
  | 79 => ⟨S128, .i32⟩
  | 80 => ⟨S128, .i32⟩
  | 81 => ⟨S128, .i32⟩
  | 82 => ⟨S128, .i32⟩
  | 83 => ⟨S128, .i32⟩
  | 84 => ⟨S_, .i32⟩
  | 85 => ⟨S128, .i32⟩
  | 86 => ⟨S128, .i32⟩
  | 87 => ⟨S128, .i32⟩
  | 88 => ⟨S_, .i32⟩
  | 89 => ⟨S128, .i32⟩
  | 90 => ⟨S128, .i32⟩
  | 91 => ⟨S_, .i32⟩
  | 92 => ⟨S128, .i32⟩
  | 93 => ⟨S128, .i32⟩
  | 94 => ⟨S128, .i32⟩
  | 95 => ⟨S128, .i32⟩
  | 96 => ⟨S128, .i32⟩
  | 97 => ⟨S_, .i32⟩
  | 98 => ⟨S128, .i32⟩
  | 99 => ⟨S128, .i32⟩
  | 100 => ⟨S_, .i32⟩
  | 101 => ⟨S128, .i32⟩
  | 102 => ⟨S128, .i32⟩
  | 103 => ⟨S128, .i32⟩
  | 104 => ⟨S128, .i32⟩
  | 105 => ⟨S128, .i32⟩
  | 106 => ⟨S_, .i32⟩
  | 107 => ⟨S128, .i32⟩
  | 108 => ⟨S128, .i32⟩
  | 109 => ⟨S_, .i32⟩
  | 110 => ⟨S128, .i32⟩
  | 111 => ⟨S128, .i32⟩
  | 112 => ⟨S128, .i32⟩
  | 113 => ⟨S128, .i32⟩
  | 114 => ⟨S128, .i32⟩
  | 115 => ⟨S_, .i32⟩
  | 116 => ⟨S128, .i32⟩
  | 117 => ⟨S128, .i32⟩
  | 118 => ⟨S_, .i32⟩
  | 119 => ⟨S128, .i32⟩
  | 120 => ⟨S128, .i32⟩
  | 121 => ⟨S128, .i32⟩
  | 122 => ⟨S128, .i32⟩
  | 123 => ⟨S128, .i32⟩
  | 124 => ⟨S128, .i32⟩
  | 125 => ⟨S128, .i32⟩
  | 126 => ⟨S128, .i32⟩
  | 127 => ⟨S_, .i32⟩
  | _ => ⟨S128x8192, .f32⟩

abbrev hbmTy0_5 (i : Nat) : BufTy := match i % 128 with
  | 0 => ⟨S128, .i32⟩
  | 1 => ⟨S128, .i32⟩
  | 2 => ⟨S128, .i32⟩
  | 3 => ⟨S_, .i32⟩
  | 4 => ⟨S128, .i32⟩
  | 5 => ⟨S128, .i32⟩
  | 6 => ⟨S_, .i32⟩
  | 7 => ⟨S128, .i32⟩
  | 8 => ⟨S128, .i32⟩
  | 9 => ⟨S128, .i32⟩
  | 10 => ⟨S128, .i32⟩
  | 11 => ⟨S128, .i32⟩
  | 12 => ⟨S_, .i32⟩
  | 13 => ⟨S128, .i32⟩
  | 14 => ⟨S128, .i32⟩
  | 15 => ⟨S_, .i32⟩
  | 16 => ⟨S128, .i32⟩
  | 17 => ⟨S128, .i32⟩
  | 18 => ⟨S128, .i32⟩
  | 19 => ⟨S128, .i32⟩
  | 20 => ⟨S128, .i32⟩
  | 21 => ⟨S_, .i32⟩
  | 22 => ⟨S128, .i32⟩
  | 23 => ⟨S128, .i32⟩
  | 24 => ⟨S_, .i32⟩
  | 25 => ⟨S128, .i32⟩
  | 26 => ⟨S128, .i32⟩
  | 27 => ⟨S128, .i32⟩
  | 28 => ⟨S128, .i32⟩
  | 29 => ⟨S128, .i32⟩
  | 30 => ⟨S_, .i32⟩
  | 31 => ⟨S128, .i32⟩
  | 32 => ⟨S128, .i32⟩
  | 33 => ⟨S_, .i32⟩
  | 34 => ⟨S128, .i32⟩
  | 35 => ⟨S128, .i32⟩
  | 36 => ⟨S128, .i32⟩
  | 37 => ⟨S128, .i32⟩
  | 38 => ⟨S128, .i32⟩
  | 39 => ⟨S128, .i32⟩
  | 40 => ⟨S128, .i32⟩
  | 41 => ⟨S128, .i32⟩
  | 42 => ⟨S_, .i32⟩
  | 43 => ⟨S128, .i32⟩
  | 44 => ⟨S128, .i32⟩
  | 45 => ⟨S128, .i32⟩
  | 46 => ⟨S_, .i32⟩
  | 47 => ⟨S128, .i32⟩
  | 48 => ⟨S128, .i32⟩
  | 49 => ⟨S_, .i32⟩
  | 50 => ⟨S128, .i32⟩
  | 51 => ⟨S128, .i32⟩
  | 52 => ⟨S128, .i32⟩
  | 53 => ⟨S128, .i32⟩
  | 54 => ⟨S128, .i32⟩
  | 55 => ⟨S_, .i32⟩
  | 56 => ⟨S128, .i32⟩
  | 57 => ⟨S128, .i32⟩
  | 58 => ⟨S_, .i32⟩
  | 59 => ⟨S128, .i32⟩
  | 60 => ⟨S128, .i32⟩
  | 61 => ⟨S128, .i32⟩
  | 62 => ⟨S128, .i32⟩
  | 63 => ⟨S128, .i32⟩
  | 64 => ⟨S_, .i32⟩
  | 65 => ⟨S128, .i32⟩
  | 66 => ⟨S128, .i32⟩
  | 67 => ⟨S_, .i32⟩
  | 68 => ⟨S128, .i32⟩
  | 69 => ⟨S128, .i32⟩
  | 70 => ⟨S128, .i32⟩
  | 71 => ⟨S128, .i32⟩
  | 72 => ⟨S128, .i32⟩
  | 73 => ⟨S_, .i32⟩
  | 74 => ⟨S128, .i32⟩
  | 75 => ⟨S128, .i32⟩
  | 76 => ⟨S_, .i32⟩
  | 77 => ⟨S128, .i32⟩
  | 78 => ⟨S128, .i32⟩
  | 79 => ⟨S128, .i32⟩
  | 80 => ⟨S128, .i32⟩
  | 81 => ⟨S128, .i32⟩
  | 82 => ⟨S128, .i32⟩
  | 83 => ⟨S128, .i32⟩
  | 84 => ⟨S128, .i32⟩
  | 85 => ⟨S_, .i32⟩
  | 86 => ⟨S128, .i32⟩
  | 87 => ⟨S128, .i32⟩
  | 88 => ⟨S128, .i32⟩
  | 89 => ⟨S_, .i32⟩
  | 90 => ⟨S128, .i32⟩
  | 91 => ⟨S128, .i32⟩
  | 92 => ⟨S_, .i32⟩
  | 93 => ⟨S128, .i32⟩
  | 94 => ⟨S128, .i32⟩
  | 95 => ⟨S128, .i32⟩
  | 96 => ⟨S128, .i32⟩
  | 97 => ⟨S128, .i32⟩
  | 98 => ⟨S_, .i32⟩
  | 99 => ⟨S128, .i32⟩
  | 100 => ⟨S128, .i32⟩
  | 101 => ⟨S_, .i32⟩
  | 102 => ⟨S128, .i32⟩
  | 103 => ⟨S128, .i32⟩
  | 104 => ⟨S128, .i32⟩
  | 105 => ⟨S128, .i32⟩
  | 106 => ⟨S128, .i32⟩
  | 107 => ⟨S_, .i32⟩
  | 108 => ⟨S128, .i32⟩
  | 109 => ⟨S128, .i32⟩
  | 110 => ⟨S_, .i32⟩
  | 111 => ⟨S128, .i32⟩
  | 112 => ⟨S128, .i32⟩
  | 113 => ⟨S128, .i32⟩
  | 114 => ⟨S128, .i32⟩
  | 115 => ⟨S128, .i32⟩
  | 116 => ⟨S_, .i32⟩
  | 117 => ⟨S128, .i32⟩
  | 118 => ⟨S128, .i32⟩
  | 119 => ⟨S_, .i32⟩
  | 120 => ⟨S128, .i32⟩
  | 121 => ⟨S128, .i32⟩
  | 122 => ⟨S128, .i32⟩
  | 123 => ⟨S128, .i32⟩
  | 124 => ⟨S128, .i32⟩
  | 125 => ⟨S128, .i32⟩
  | 126 => ⟨S128, .i32⟩
  | 127 => ⟨S128, .i32⟩
  | _ => ⟨S128x8192, .f32⟩

abbrev hbmTy0_6 (i : Nat) : BufTy := match i % 128 with
  | 0 => ⟨S_, .i32⟩
  | 1 => ⟨S128, .i32⟩
  | 2 => ⟨S128, .i32⟩
  | 3 => ⟨S128, .i32⟩
  | 4 => ⟨S_, .i32⟩
  | 5 => ⟨S128, .i32⟩
  | 6 => ⟨S128, .i32⟩
  | 7 => ⟨S_, .i32⟩
  | 8 => ⟨S128, .i32⟩
  | 9 => ⟨S128, .i32⟩
  | 10 => ⟨S128, .f32⟩
  | 11 => ⟨S_, .f32⟩
  | 12 => ⟨S128, .f32⟩
  | 13 => ⟨S128, .f32⟩
  | 14 => ⟨S1, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S_, .f32⟩
  | 23 => ⟨S128, .f32⟩
  | 24 => ⟨S128, .f32⟩
  | 25 => ⟨S128, .f32⟩
  | 26 => ⟨S_, .f32⟩
  | 27 => ⟨S128, .f32⟩
  | 28 => ⟨S128, .f32⟩
  | 29 => ⟨S128x1x1x1, .f32⟩
  | _ => ⟨S128x8192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S128x8192, .f32⟩

abbrev bufTy : (tb : Table) → Fin (tcTables nBuf tb) → BufTy
  | .hbm, ⟨i, _⟩ => hbmTy i
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_cst : Ref sig .tc := ⟨.hbm, 253, rfl⟩
abbrev main_v12 : Ref sig .tc := ⟨.hbm, 254, rfl⟩
abbrev main_v13 : Ref sig .tc := ⟨.hbm, 255, rfl⟩
abbrev main_v14 : Ref sig .tc := ⟨.hbm, 256, rfl⟩
abbrev main_call1_cst : Ref sig .tc := ⟨.hbm, 257, rfl⟩
abbrev main_call1_cst_0 : Ref sig .tc := ⟨.hbm, 258, rfl⟩
abbrev main_call1_call0_v0 : Ref sig .tc := ⟨.hbm, 259, rfl⟩
abbrev main_call1_call0_v1 : Ref sig .tc := ⟨.hbm, 260, rfl⟩
abbrev main_call1_call0_v2 : Ref sig .tc := ⟨.hbm, 261, rfl⟩
abbrev main_call1_call0_v3 : Ref sig .tc := ⟨.hbm, 262, rfl⟩
abbrev main_call1_call0_v4 : Ref sig .tc := ⟨.hbm, 263, rfl⟩
abbrev main_call1_call0_v5 : Ref sig .tc := ⟨.hbm, 264, rfl⟩
abbrev main_call1_call0_v6 : Ref sig .tc := ⟨.hbm, 265, rfl⟩
abbrev main_call1_call0_v7 : Ref sig .tc := ⟨.hbm, 266, rfl⟩
abbrev main_call1_call0_v8 : Ref sig .tc := ⟨.hbm, 267, rfl⟩
abbrev main_call1_call0_c : Ref sig .tc := ⟨.hbm, 268, rfl⟩
abbrev main_call1_call0_v9 : Ref sig .tc := ⟨.hbm, 269, rfl⟩
abbrev main_call1_call0_v10 : Ref sig .tc := ⟨.hbm, 270, rfl⟩
abbrev main_call1_call0_c_0 : Ref sig .tc := ⟨.hbm, 271, rfl⟩
abbrev main_call1_call0_v11 : Ref sig .tc := ⟨.hbm, 272, rfl⟩
abbrev main_call1_call0_v12 : Ref sig .tc := ⟨.hbm, 273, rfl⟩
abbrev main_call1_call0_v13 : Ref sig .tc := ⟨.hbm, 274, rfl⟩
abbrev main_call1_call0_c_1 : Ref sig .tc := ⟨.hbm, 275, rfl⟩
abbrev main_call1_call0_v14 : Ref sig .tc := ⟨.hbm, 276, rfl⟩
abbrev main_call1_call0_v15 : Ref sig .tc := ⟨.hbm, 277, rfl⟩
abbrev main_call1_call0_v16 : Ref sig .tc := ⟨.hbm, 278, rfl⟩
abbrev main_call1_call0_v17 : Ref sig .tc := ⟨.hbm, 279, rfl⟩
abbrev main_call1_call0_call0_v0 : Ref sig .tc := ⟨.hbm, 280, rfl⟩
abbrev main_call1_call0_call0_c : Ref sig .tc := ⟨.hbm, 281, rfl⟩
abbrev main_call1_call0_call0_v1 : Ref sig .tc := ⟨.hbm, 282, rfl⟩
abbrev main_call1_call0_call0_v2 : Ref sig .tc := ⟨.hbm, 283, rfl⟩
abbrev main_call1_call0_call0_v3 : Ref sig .tc := ⟨.hbm, 284, rfl⟩
abbrev main_call1_call0_call0_v4 : Ref sig .tc := ⟨.hbm, 285, rfl⟩
abbrev main_call1_call0_call0_v5 : Ref sig .tc := ⟨.hbm, 286, rfl⟩
abbrev main_call1_call0_call0_v6 : Ref sig .tc := ⟨.hbm, 287, rfl⟩
abbrev main_call1_call0_call0_c_0 : Ref sig .tc := ⟨.hbm, 288, rfl⟩
abbrev main_call1_call0_call0_v7 : Ref sig .tc := ⟨.hbm, 289, rfl⟩
abbrev main_call1_call0_call0_v8 : Ref sig .tc := ⟨.hbm, 290, rfl⟩
abbrev main_call1_call0_call0_c_1 : Ref sig .tc := ⟨.hbm, 291, rfl⟩
abbrev main_call1_call0_call0_v9 : Ref sig .tc := ⟨.hbm, 292, rfl⟩
abbrev main_call1_call0_call0_v10 : Ref sig .tc := ⟨.hbm, 293, rfl⟩
abbrev main_call1_call0_call0_v11 : Ref sig .tc := ⟨.hbm, 294, rfl⟩
abbrev main_call1_call0_call0_v12 : Ref sig .tc := ⟨.hbm, 295, rfl⟩
abbrev main_call1_call0_call0_v13 : Ref sig .tc := ⟨.hbm, 296, rfl⟩
abbrev main_call1_call0_call0_c_2 : Ref sig .tc := ⟨.hbm, 297, rfl⟩
abbrev main_call1_call0_call0_v14 : Ref sig .tc := ⟨.hbm, 298, rfl⟩
abbrev main_call1_call0_call0_v15 : Ref sig .tc := ⟨.hbm, 299, rfl⟩
abbrev main_call1_call0_call0_c_3 : Ref sig .tc := ⟨.hbm, 300, rfl⟩
abbrev main_call1_call0_call0_v16 : Ref sig .tc := ⟨.hbm, 301, rfl⟩
abbrev main_call1_call0_call0_v17 : Ref sig .tc := ⟨.hbm, 302, rfl⟩
abbrev main_call1_call0_call0_v18 : Ref sig .tc := ⟨.hbm, 303, rfl⟩
abbrev main_call1_call0_call0_v19 : Ref sig .tc := ⟨.hbm, 304, rfl⟩
abbrev main_call1_call0_call0_v20 : Ref sig .tc := ⟨.hbm, 305, rfl⟩
abbrev main_call1_call0_call0_c_4 : Ref sig .tc := ⟨.hbm, 306, rfl⟩
abbrev main_call1_call0_call0_v21 : Ref sig .tc := ⟨.hbm, 307, rfl⟩
abbrev main_call1_call0_call0_v22 : Ref sig .tc := ⟨.hbm, 308, rfl⟩
abbrev main_call1_call0_call0_c_5 : Ref sig .tc := ⟨.hbm, 309, rfl⟩
abbrev main_call1_call0_call0_v23 : Ref sig .tc := ⟨.hbm, 310, rfl⟩
abbrev main_call1_call0_call0_v24 : Ref sig .tc := ⟨.hbm, 311, rfl⟩
abbrev main_call1_call0_call0_v25 : Ref sig .tc := ⟨.hbm, 312, rfl⟩
abbrev main_call1_call0_call0_v26 : Ref sig .tc := ⟨.hbm, 313, rfl⟩
abbrev main_call1_call0_call0_v27 : Ref sig .tc := ⟨.hbm, 314, rfl⟩
abbrev main_call1_call0_call0_c_6 : Ref sig .tc := ⟨.hbm, 315, rfl⟩
abbrev main_call1_call0_call0_v28 : Ref sig .tc := ⟨.hbm, 316, rfl⟩
abbrev main_call1_call0_call0_v29 : Ref sig .tc := ⟨.hbm, 317, rfl⟩
abbrev main_call1_call0_call0_c_7 : Ref sig .tc := ⟨.hbm, 318, rfl⟩
abbrev main_call1_call0_call0_v30 : Ref sig .tc := ⟨.hbm, 319, rfl⟩
abbrev main_call1_call0_call0_v31 : Ref sig .tc := ⟨.hbm, 320, rfl⟩
abbrev main_call1_call0_call0_v32 : Ref sig .tc := ⟨.hbm, 321, rfl⟩
abbrev main_call1_call0_call0_v33 : Ref sig .tc := ⟨.hbm, 322, rfl⟩
abbrev main_call1_call0_call0_v34 : Ref sig .tc := ⟨.hbm, 323, rfl⟩
abbrev main_call1_call0_call0_v35 : Ref sig .tc := ⟨.hbm, 324, rfl⟩
abbrev main_call1_call0_call0_v36 : Ref sig .tc := ⟨.hbm, 325, rfl⟩
abbrev main_call1_call0_call0_v37 : Ref sig .tc := ⟨.hbm, 326, rfl⟩
abbrev main_call1_call0_call0_c_8 : Ref sig .tc := ⟨.hbm, 327, rfl⟩
abbrev main_call1_call0_call0_v38 : Ref sig .tc := ⟨.hbm, 328, rfl⟩
abbrev main_call1_call0_call0_v39 : Ref sig .tc := ⟨.hbm, 329, rfl⟩
abbrev main_call1_call0_call0_v40 : Ref sig .tc := ⟨.hbm, 330, rfl⟩
abbrev main_call1_call0_call0_c_9 : Ref sig .tc := ⟨.hbm, 331, rfl⟩
abbrev main_call1_call0_call0_v41 : Ref sig .tc := ⟨.hbm, 332, rfl⟩
abbrev main_call1_call0_call0_v42 : Ref sig .tc := ⟨.hbm, 333, rfl⟩
abbrev main_call1_call0_call0_c_10 : Ref sig .tc := ⟨.hbm, 334, rfl⟩
abbrev main_call1_call0_call0_v43 : Ref sig .tc := ⟨.hbm, 335, rfl⟩
abbrev main_call1_call0_call0_v44 : Ref sig .tc := ⟨.hbm, 336, rfl⟩
abbrev main_call1_call0_call0_v45 : Ref sig .tc := ⟨.hbm, 337, rfl⟩
abbrev main_call1_call0_call0_v46 : Ref sig .tc := ⟨.hbm, 338, rfl⟩
abbrev main_call1_call0_call0_v47 : Ref sig .tc := ⟨.hbm, 339, rfl⟩
abbrev main_call1_call0_call0_c_11 : Ref sig .tc := ⟨.hbm, 340, rfl⟩
abbrev main_call1_call0_call0_v48 : Ref sig .tc := ⟨.hbm, 341, rfl⟩
abbrev main_call1_call0_call0_v49 : Ref sig .tc := ⟨.hbm, 342, rfl⟩
abbrev main_call1_call0_call0_c_12 : Ref sig .tc := ⟨.hbm, 343, rfl⟩
abbrev main_call1_call0_call0_v50 : Ref sig .tc := ⟨.hbm, 344, rfl⟩
abbrev main_call1_call0_call0_v51 : Ref sig .tc := ⟨.hbm, 345, rfl⟩
abbrev main_call1_call0_call0_v52 : Ref sig .tc := ⟨.hbm, 346, rfl⟩
abbrev main_call1_call0_call0_v53 : Ref sig .tc := ⟨.hbm, 347, rfl⟩
abbrev main_call1_call0_call0_v54 : Ref sig .tc := ⟨.hbm, 348, rfl⟩
abbrev main_call1_call0_call0_c_13 : Ref sig .tc := ⟨.hbm, 349, rfl⟩
abbrev main_call1_call0_call0_v55 : Ref sig .tc := ⟨.hbm, 350, rfl⟩
abbrev main_call1_call0_call0_v56 : Ref sig .tc := ⟨.hbm, 351, rfl⟩
abbrev main_call1_call0_call0_c_14 : Ref sig .tc := ⟨.hbm, 352, rfl⟩
abbrev main_call1_call0_call0_v57 : Ref sig .tc := ⟨.hbm, 353, rfl⟩
abbrev main_call1_call0_call0_v58 : Ref sig .tc := ⟨.hbm, 354, rfl⟩
abbrev main_call1_call0_call0_v59 : Ref sig .tc := ⟨.hbm, 355, rfl⟩
abbrev main_call1_call0_call0_v60 : Ref sig .tc := ⟨.hbm, 356, rfl⟩
abbrev main_call1_call0_call0_v61 : Ref sig .tc := ⟨.hbm, 357, rfl⟩
abbrev main_call1_call0_call0_c_15 : Ref sig .tc := ⟨.hbm, 358, rfl⟩
abbrev main_call1_call0_call0_v62 : Ref sig .tc := ⟨.hbm, 359, rfl⟩
abbrev main_call1_call0_call0_v63 : Ref sig .tc := ⟨.hbm, 360, rfl⟩
abbrev main_call1_call0_call0_c_16 : Ref sig .tc := ⟨.hbm, 361, rfl⟩
abbrev main_call1_call0_call0_v64 : Ref sig .tc := ⟨.hbm, 362, rfl⟩
abbrev main_call1_call0_call0_v65 : Ref sig .tc := ⟨.hbm, 363, rfl⟩
abbrev main_call1_call0_call0_v66 : Ref sig .tc := ⟨.hbm, 364, rfl⟩
abbrev main_call1_call0_call0_v67 : Ref sig .tc := ⟨.hbm, 365, rfl⟩
abbrev main_call1_call0_call0_v68 : Ref sig .tc := ⟨.hbm, 366, rfl⟩
abbrev main_call1_call0_call0_v69 : Ref sig .tc := ⟨.hbm, 367, rfl⟩
abbrev main_call1_call0_call0_v70 : Ref sig .tc := ⟨.hbm, 368, rfl⟩
abbrev main_call1_call0_call0_v71 : Ref sig .tc := ⟨.hbm, 369, rfl⟩
abbrev main_call1_call0_call0_c_17 : Ref sig .tc := ⟨.hbm, 370, rfl⟩
abbrev main_call1_call0_call0_v72 : Ref sig .tc := ⟨.hbm, 371, rfl⟩
abbrev main_call1_call0_call0_v73 : Ref sig .tc := ⟨.hbm, 372, rfl⟩
abbrev main_call1_call0_call0_v74 : Ref sig .tc := ⟨.hbm, 373, rfl⟩
abbrev main_call1_call0_call0_c_18 : Ref sig .tc := ⟨.hbm, 374, rfl⟩
abbrev main_call1_call0_call0_v75 : Ref sig .tc := ⟨.hbm, 375, rfl⟩
abbrev main_call1_call0_call0_v76 : Ref sig .tc := ⟨.hbm, 376, rfl⟩
abbrev main_call1_call0_call0_c_19 : Ref sig .tc := ⟨.hbm, 377, rfl⟩
abbrev main_call1_call0_call0_v77 : Ref sig .tc := ⟨.hbm, 378, rfl⟩
abbrev main_call1_call0_call0_v78 : Ref sig .tc := ⟨.hbm, 379, rfl⟩
abbrev main_call1_call0_call0_v79 : Ref sig .tc := ⟨.hbm, 380, rfl⟩
abbrev main_call1_call0_call0_v80 : Ref sig .tc := ⟨.hbm, 381, rfl⟩
abbrev main_call1_call0_call0_v81 : Ref sig .tc := ⟨.hbm, 382, rfl⟩
abbrev main_call1_call0_call0_c_20 : Ref sig .tc := ⟨.hbm, 383, rfl⟩
abbrev main_call1_call0_call0_v82 : Ref sig .tc := ⟨.hbm, 384, rfl⟩
abbrev main_call1_call0_call0_v83 : Ref sig .tc := ⟨.hbm, 385, rfl⟩
abbrev main_call1_call0_call0_c_21 : Ref sig .tc := ⟨.hbm, 386, rfl⟩
abbrev main_call1_call0_call0_v84 : Ref sig .tc := ⟨.hbm, 387, rfl⟩
abbrev main_call1_call0_call0_v85 : Ref sig .tc := ⟨.hbm, 388, rfl⟩
abbrev main_call1_call0_call0_v86 : Ref sig .tc := ⟨.hbm, 389, rfl⟩
abbrev main_call1_call0_call0_v87 : Ref sig .tc := ⟨.hbm, 390, rfl⟩
abbrev main_call1_call0_call0_v88 : Ref sig .tc := ⟨.hbm, 391, rfl⟩
abbrev main_call1_call0_call0_c_22 : Ref sig .tc := ⟨.hbm, 392, rfl⟩
abbrev main_call1_call0_call0_v89 : Ref sig .tc := ⟨.hbm, 393, rfl⟩
abbrev main_call1_call0_call0_v90 : Ref sig .tc := ⟨.hbm, 394, rfl⟩
abbrev main_call1_call0_call0_c_23 : Ref sig .tc := ⟨.hbm, 395, rfl⟩
abbrev main_call1_call0_call0_v91 : Ref sig .tc := ⟨.hbm, 396, rfl⟩
abbrev main_call1_call0_call0_v92 : Ref sig .tc := ⟨.hbm, 397, rfl⟩
abbrev main_call1_call0_call0_v93 : Ref sig .tc := ⟨.hbm, 398, rfl⟩
abbrev main_call1_call0_call0_v94 : Ref sig .tc := ⟨.hbm, 399, rfl⟩
abbrev main_call1_call0_call0_v95 : Ref sig .tc := ⟨.hbm, 400, rfl⟩
abbrev main_call1_call0_call0_c_24 : Ref sig .tc := ⟨.hbm, 401, rfl⟩
abbrev main_call1_call0_call0_v96 : Ref sig .tc := ⟨.hbm, 402, rfl⟩
abbrev main_call1_call0_call0_v97 : Ref sig .tc := ⟨.hbm, 403, rfl⟩
abbrev main_call1_call0_call0_c_25 : Ref sig .tc := ⟨.hbm, 404, rfl⟩
abbrev main_call1_call0_call0_v98 : Ref sig .tc := ⟨.hbm, 405, rfl⟩
abbrev main_call1_call0_call0_v99 : Ref sig .tc := ⟨.hbm, 406, rfl⟩
abbrev main_call1_call0_call0_v100 : Ref sig .tc := ⟨.hbm, 407, rfl⟩
abbrev main_call1_call0_call0_v101 : Ref sig .tc := ⟨.hbm, 408, rfl⟩
abbrev main_call1_call0_call0_v102 : Ref sig .tc := ⟨.hbm, 409, rfl⟩
abbrev main_call1_call0_call0_v103 : Ref sig .tc := ⟨.hbm, 410, rfl⟩
abbrev main_call1_call0_call0_v104 : Ref sig .tc := ⟨.hbm, 411, rfl⟩
abbrev main_call1_call0_call0_v105 : Ref sig .tc := ⟨.hbm, 412, rfl⟩
abbrev main_call1_call0_call0_c_26 : Ref sig .tc := ⟨.hbm, 413, rfl⟩
abbrev main_call1_call0_call0_v106 : Ref sig .tc := ⟨.hbm, 414, rfl⟩
abbrev main_call1_call0_call0_v107 : Ref sig .tc := ⟨.hbm, 415, rfl⟩
abbrev main_call1_call0_call0_v108 : Ref sig .tc := ⟨.hbm, 416, rfl⟩
abbrev main_call1_call0_call0_c_27 : Ref sig .tc := ⟨.hbm, 417, rfl⟩
abbrev main_call1_call0_call0_v109 : Ref sig .tc := ⟨.hbm, 418, rfl⟩
abbrev main_call1_call0_call0_v110 : Ref sig .tc := ⟨.hbm, 419, rfl⟩
abbrev main_call1_call0_call0_c_28 : Ref sig .tc := ⟨.hbm, 420, rfl⟩
abbrev main_call1_call0_call0_v111 : Ref sig .tc := ⟨.hbm, 421, rfl⟩
abbrev main_call1_call0_call0_v112 : Ref sig .tc := ⟨.hbm, 422, rfl⟩
abbrev main_call1_call0_call0_v113 : Ref sig .tc := ⟨.hbm, 423, rfl⟩
abbrev main_call1_call0_call0_v114 : Ref sig .tc := ⟨.hbm, 424, rfl⟩
abbrev main_call1_call0_call0_v115 : Ref sig .tc := ⟨.hbm, 425, rfl⟩
abbrev main_call1_call0_call0_c_29 : Ref sig .tc := ⟨.hbm, 426, rfl⟩
abbrev main_call1_call0_call0_v116 : Ref sig .tc := ⟨.hbm, 427, rfl⟩
abbrev main_call1_call0_call0_v117 : Ref sig .tc := ⟨.hbm, 428, rfl⟩
abbrev main_call1_call0_call0_c_30 : Ref sig .tc := ⟨.hbm, 429, rfl⟩
abbrev main_call1_call0_call0_v118 : Ref sig .tc := ⟨.hbm, 430, rfl⟩
abbrev main_call1_call0_call0_v119 : Ref sig .tc := ⟨.hbm, 431, rfl⟩
abbrev main_call1_call0_call0_v120 : Ref sig .tc := ⟨.hbm, 432, rfl⟩
abbrev main_call1_call0_call0_v121 : Ref sig .tc := ⟨.hbm, 433, rfl⟩
abbrev main_call1_call0_call0_v122 : Ref sig .tc := ⟨.hbm, 434, rfl⟩
abbrev main_call1_call0_call0_c_31 : Ref sig .tc := ⟨.hbm, 435, rfl⟩
abbrev main_call1_call0_call0_v123 : Ref sig .tc := ⟨.hbm, 436, rfl⟩
abbrev main_call1_call0_call0_v124 : Ref sig .tc := ⟨.hbm, 437, rfl⟩
abbrev main_call1_call0_call0_c_32 : Ref sig .tc := ⟨.hbm, 438, rfl⟩
abbrev main_call1_call0_call0_v125 : Ref sig .tc := ⟨.hbm, 439, rfl⟩
abbrev main_call1_call0_call0_v126 : Ref sig .tc := ⟨.hbm, 440, rfl⟩
abbrev main_call1_call0_call0_v127 : Ref sig .tc := ⟨.hbm, 441, rfl⟩
abbrev main_call1_call0_call0_v128 : Ref sig .tc := ⟨.hbm, 442, rfl⟩
abbrev main_call1_call0_call0_v129 : Ref sig .tc := ⟨.hbm, 443, rfl⟩
abbrev main_call1_call0_call0_c_33 : Ref sig .tc := ⟨.hbm, 444, rfl⟩
abbrev main_call1_call0_call0_v130 : Ref sig .tc := ⟨.hbm, 445, rfl⟩
abbrev main_call1_call0_call0_v131 : Ref sig .tc := ⟨.hbm, 446, rfl⟩
abbrev main_call1_call0_call0_c_34 : Ref sig .tc := ⟨.hbm, 447, rfl⟩
abbrev main_call1_call0_call0_v132 : Ref sig .tc := ⟨.hbm, 448, rfl⟩
abbrev main_call1_call0_call0_v133 : Ref sig .tc := ⟨.hbm, 449, rfl⟩
abbrev main_call1_call0_call0_v134 : Ref sig .tc := ⟨.hbm, 450, rfl⟩
abbrev main_call1_call0_call0_v135 : Ref sig .tc := ⟨.hbm, 451, rfl⟩
abbrev main_call1_call0_call0_v136 : Ref sig .tc := ⟨.hbm, 452, rfl⟩
abbrev main_call1_call0_call0_v137 : Ref sig .tc := ⟨.hbm, 453, rfl⟩
abbrev main_call1_call0_call0_v138 : Ref sig .tc := ⟨.hbm, 454, rfl⟩
abbrev main_call1_call0_call0_v139 : Ref sig .tc := ⟨.hbm, 455, rfl⟩
abbrev main_call1_call0_call0_c_35 : Ref sig .tc := ⟨.hbm, 456, rfl⟩
abbrev main_call1_call0_call0_v140 : Ref sig .tc := ⟨.hbm, 457, rfl⟩
abbrev main_call1_call0_call0_v141 : Ref sig .tc := ⟨.hbm, 458, rfl⟩
abbrev main_call1_call0_call0_v142 : Ref sig .tc := ⟨.hbm, 459, rfl⟩
abbrev main_call1_call0_call0_c_36 : Ref sig .tc := ⟨.hbm, 460, rfl⟩
abbrev main_call1_call0_call0_v143 : Ref sig .tc := ⟨.hbm, 461, rfl⟩
abbrev main_call1_call0_call0_v144 : Ref sig .tc := ⟨.hbm, 462, rfl⟩
abbrev main_call1_call0_call0_c_37 : Ref sig .tc := ⟨.hbm, 463, rfl⟩
abbrev main_call1_call0_call0_v145 : Ref sig .tc := ⟨.hbm, 464, rfl⟩
abbrev main_call1_call0_call0_v146 : Ref sig .tc := ⟨.hbm, 465, rfl⟩
abbrev main_call1_call0_call0_v147 : Ref sig .tc := ⟨.hbm, 466, rfl⟩
abbrev main_call1_call0_call0_v148 : Ref sig .tc := ⟨.hbm, 467, rfl⟩
abbrev main_call1_call0_call0_v149 : Ref sig .tc := ⟨.hbm, 468, rfl⟩
abbrev main_call1_call0_call0_c_38 : Ref sig .tc := ⟨.hbm, 469, rfl⟩
abbrev main_call1_call0_call0_v150 : Ref sig .tc := ⟨.hbm, 470, rfl⟩
abbrev main_call1_call0_call0_v151 : Ref sig .tc := ⟨.hbm, 471, rfl⟩
abbrev main_call1_call0_call0_c_39 : Ref sig .tc := ⟨.hbm, 472, rfl⟩
abbrev main_call1_call0_call0_v152 : Ref sig .tc := ⟨.hbm, 473, rfl⟩
abbrev main_call1_call0_call0_v153 : Ref sig .tc := ⟨.hbm, 474, rfl⟩
abbrev main_call1_call0_call0_v154 : Ref sig .tc := ⟨.hbm, 475, rfl⟩
abbrev main_call1_call0_call0_v155 : Ref sig .tc := ⟨.hbm, 476, rfl⟩
abbrev main_call1_call0_call0_v156 : Ref sig .tc := ⟨.hbm, 477, rfl⟩
abbrev main_call1_call0_call0_c_40 : Ref sig .tc := ⟨.hbm, 478, rfl⟩
abbrev main_call1_call0_call0_v157 : Ref sig .tc := ⟨.hbm, 479, rfl⟩
abbrev main_call1_call0_call0_v158 : Ref sig .tc := ⟨.hbm, 480, rfl⟩
abbrev main_call1_call0_call0_c_41 : Ref sig .tc := ⟨.hbm, 481, rfl⟩
abbrev main_call1_call0_call0_v159 : Ref sig .tc := ⟨.hbm, 482, rfl⟩
abbrev main_call1_call0_call0_v160 : Ref sig .tc := ⟨.hbm, 483, rfl⟩
abbrev main_call1_call0_call0_v161 : Ref sig .tc := ⟨.hbm, 484, rfl⟩
abbrev main_call1_call0_call0_v162 : Ref sig .tc := ⟨.hbm, 485, rfl⟩
abbrev main_call1_call0_call0_v163 : Ref sig .tc := ⟨.hbm, 486, rfl⟩
abbrev main_call1_call0_call0_c_42 : Ref sig .tc := ⟨.hbm, 487, rfl⟩
abbrev main_call1_call0_call0_v164 : Ref sig .tc := ⟨.hbm, 488, rfl⟩
abbrev main_call1_call0_call0_v165 : Ref sig .tc := ⟨.hbm, 489, rfl⟩
abbrev main_call1_call0_call0_c_43 : Ref sig .tc := ⟨.hbm, 490, rfl⟩
abbrev main_call1_call0_call0_v166 : Ref sig .tc := ⟨.hbm, 491, rfl⟩
abbrev main_call1_call0_call0_v167 : Ref sig .tc := ⟨.hbm, 492, rfl⟩
abbrev main_call1_call0_call0_v168 : Ref sig .tc := ⟨.hbm, 493, rfl⟩
abbrev main_call1_call0_call0_v169 : Ref sig .tc := ⟨.hbm, 494, rfl⟩
abbrev main_call1_call0_call0_v170 : Ref sig .tc := ⟨.hbm, 495, rfl⟩
abbrev main_call1_call0_v18_0 : Ref sig .tc := ⟨.hbm, 496, rfl⟩
abbrev main_call1_call0_call0_v172 : Ref sig .tc := ⟨.hbm, 497, rfl⟩
abbrev main_call1_call0_call0_v173 : Ref sig .tc := ⟨.hbm, 498, rfl⟩
abbrev main_call1_call0_call0_c_44 : Ref sig .tc := ⟨.hbm, 499, rfl⟩
abbrev main_call1_call0_call0_v174 : Ref sig .tc := ⟨.hbm, 500, rfl⟩
abbrev main_call1_call0_v18_1 : Ref sig .tc := ⟨.hbm, 501, rfl⟩
abbrev main_call1_call0_v19 : Ref sig .tc := ⟨.hbm, 502, rfl⟩
abbrev main_call1_call0_c_2 : Ref sig .tc := ⟨.hbm, 503, rfl⟩
abbrev main_call1_call0_v20 : Ref sig .tc := ⟨.hbm, 504, rfl⟩
abbrev main_call1_call0_v21 : Ref sig .tc := ⟨.hbm, 505, rfl⟩
abbrev main_call1_call0_c_3 : Ref sig .tc := ⟨.hbm, 506, rfl⟩
abbrev main_call1_call0_v22 : Ref sig .tc := ⟨.hbm, 507, rfl⟩
abbrev main_call1_call0_v23 : Ref sig .tc := ⟨.hbm, 508, rfl⟩
abbrev main_call1_call0_v24 : Ref sig .tc := ⟨.hbm, 509, rfl⟩
abbrev main_call1_call0_cst : Ref sig .tc := ⟨.hbm, 510, rfl⟩
abbrev main_call1_call0_v25 : Ref sig .tc := ⟨.hbm, 511, rfl⟩
abbrev main_call1_call0_v26 : Ref sig .tc := ⟨.hbm, 512, rfl⟩
abbrev main_call1_call0_v27 : Ref sig .tc := ⟨.hbm, 513, rfl⟩
abbrev main_call1_call0_v28 : Ref sig .tc := ⟨.hbm, 514, rfl⟩
abbrev main_call1_call0_v29 : Ref sig .tc := ⟨.hbm, 515, rfl⟩
abbrev main_call1_call0_v30 : Ref sig .tc := ⟨.hbm, 516, rfl⟩
abbrev main_call1_call0_v31 : Ref sig .tc := ⟨.hbm, 517, rfl⟩
abbrev main_call1_call0_v32 : Ref sig .tc := ⟨.hbm, 518, rfl⟩
abbrev main_call1_v0 : Ref sig .tc := ⟨.hbm, 519, rfl⟩
abbrev main_call1_v1 : Ref sig .tc := ⟨.hbm, 520, rfl⟩
abbrev main_call1_v2 : Ref sig .tc := ⟨.hbm, 521, rfl⟩
abbrev main_call1_v3 : Ref sig .tc := ⟨.hbm, 522, rfl⟩
abbrev main_v15 : Ref sig .tc := ⟨.hbm, 523, rfl⟩
abbrev main_v16 : Ref sig .tc := ⟨.hbm, 524, rfl⟩
abbrev main_call2_v0 : Ref sig .tc := ⟨.hbm, 525, rfl⟩
abbrev main_call2_cst : Ref sig .tc := ⟨.hbm, 526, rfl⟩
abbrev main_call2_c : Ref sig .tc := ⟨.hbm, 527, rfl⟩
abbrev main_call2_v1_0 : Ref sig .tc := ⟨.hbm, 528, rfl⟩
abbrev main_v17 : Ref sig .tc := ⟨.hbm, 529, rfl⟩
abbrev main_cst_2 : Ref sig .tc := ⟨.hbm, 530, rfl⟩
abbrev main_cst_3 : Ref sig .tc := ⟨.hbm, 531, rfl⟩
abbrev main_call3_v0 : Ref sig .tc := ⟨.hbm, 532, rfl⟩
abbrev main_call3_v1 : Ref sig .tc := ⟨.hbm, 533, rfl⟩
abbrev main_call3_v2 : Ref sig .tc := ⟨.hbm, 534, rfl⟩
abbrev main_call3_v3 : Ref sig .tc := ⟨.hbm, 535, rfl⟩
abbrev main_call3_v4 : Ref sig .tc := ⟨.hbm, 536, rfl⟩
abbrev main_call3_v5 : Ref sig .tc := ⟨.hbm, 537, rfl⟩
abbrev main_call3_v6 : Ref sig .tc := ⟨.hbm, 538, rfl⟩
abbrev main_call3_v7 : Ref sig .tc := ⟨.hbm, 539, rfl⟩
abbrev main_call3_v8 : Ref sig .tc := ⟨.hbm, 540, rfl⟩
abbrev main_call3_c : Ref sig .tc := ⟨.hbm, 541, rfl⟩
abbrev main_call3_v9 : Ref sig .tc := ⟨.hbm, 542, rfl⟩
abbrev main_call3_v10 : Ref sig .tc := ⟨.hbm, 543, rfl⟩
abbrev main_call3_c_0 : Ref sig .tc := ⟨.hbm, 544, rfl⟩
abbrev main_call3_v11 : Ref sig .tc := ⟨.hbm, 545, rfl⟩
abbrev main_call3_v12 : Ref sig .tc := ⟨.hbm, 546, rfl⟩
abbrev main_call3_v13 : Ref sig .tc := ⟨.hbm, 547, rfl⟩
abbrev main_call3_v14 : Ref sig .tc := ⟨.hbm, 548, rfl⟩
abbrev main_call3_call0_v0 : Ref sig .tc := ⟨.hbm, 549, rfl⟩
abbrev main_call3_call0_c : Ref sig .tc := ⟨.hbm, 550, rfl⟩
abbrev main_call3_call0_v1 : Ref sig .tc := ⟨.hbm, 551, rfl⟩
abbrev main_call3_call0_v2 : Ref sig .tc := ⟨.hbm, 552, rfl⟩
abbrev main_call3_call0_v3 : Ref sig .tc := ⟨.hbm, 553, rfl⟩
abbrev main_call3_call0_v4 : Ref sig .tc := ⟨.hbm, 554, rfl⟩
abbrev main_call3_call0_v5 : Ref sig .tc := ⟨.hbm, 555, rfl⟩
abbrev main_call3_call0_v6 : Ref sig .tc := ⟨.hbm, 556, rfl⟩
abbrev main_call3_call0_c_0 : Ref sig .tc := ⟨.hbm, 557, rfl⟩
abbrev main_call3_call0_v7 : Ref sig .tc := ⟨.hbm, 558, rfl⟩
abbrev main_call3_call0_v8 : Ref sig .tc := ⟨.hbm, 559, rfl⟩
abbrev main_call3_call0_c_1 : Ref sig .tc := ⟨.hbm, 560, rfl⟩
abbrev main_call3_call0_v9 : Ref sig .tc := ⟨.hbm, 561, rfl⟩
abbrev main_call3_call0_v10 : Ref sig .tc := ⟨.hbm, 562, rfl⟩
abbrev main_call3_call0_v11 : Ref sig .tc := ⟨.hbm, 563, rfl⟩
abbrev main_call3_call0_v12 : Ref sig .tc := ⟨.hbm, 564, rfl⟩
abbrev main_call3_call0_v13 : Ref sig .tc := ⟨.hbm, 565, rfl⟩
abbrev main_call3_call0_c_2 : Ref sig .tc := ⟨.hbm, 566, rfl⟩
abbrev main_call3_call0_v14 : Ref sig .tc := ⟨.hbm, 567, rfl⟩
abbrev main_call3_call0_v15 : Ref sig .tc := ⟨.hbm, 568, rfl⟩
abbrev main_call3_call0_c_3 : Ref sig .tc := ⟨.hbm, 569, rfl⟩
abbrev main_call3_call0_v16 : Ref sig .tc := ⟨.hbm, 570, rfl⟩
abbrev main_call3_call0_v17 : Ref sig .tc := ⟨.hbm, 571, rfl⟩
abbrev main_call3_call0_v18 : Ref sig .tc := ⟨.hbm, 572, rfl⟩
abbrev main_call3_call0_v19 : Ref sig .tc := ⟨.hbm, 573, rfl⟩
abbrev main_call3_call0_v20 : Ref sig .tc := ⟨.hbm, 574, rfl⟩
abbrev main_call3_call0_c_4 : Ref sig .tc := ⟨.hbm, 575, rfl⟩
abbrev main_call3_call0_v21 : Ref sig .tc := ⟨.hbm, 576, rfl⟩
abbrev main_call3_call0_v22 : Ref sig .tc := ⟨.hbm, 577, rfl⟩
abbrev main_call3_call0_c_5 : Ref sig .tc := ⟨.hbm, 578, rfl⟩
abbrev main_call3_call0_v23 : Ref sig .tc := ⟨.hbm, 579, rfl⟩
abbrev main_call3_call0_v24 : Ref sig .tc := ⟨.hbm, 580, rfl⟩
abbrev main_call3_call0_v25 : Ref sig .tc := ⟨.hbm, 581, rfl⟩
abbrev main_call3_call0_v26 : Ref sig .tc := ⟨.hbm, 582, rfl⟩
abbrev main_call3_call0_v27 : Ref sig .tc := ⟨.hbm, 583, rfl⟩
abbrev main_call3_call0_c_6 : Ref sig .tc := ⟨.hbm, 584, rfl⟩
abbrev main_call3_call0_v28 : Ref sig .tc := ⟨.hbm, 585, rfl⟩
abbrev main_call3_call0_v29 : Ref sig .tc := ⟨.hbm, 586, rfl⟩
abbrev main_call3_call0_c_7 : Ref sig .tc := ⟨.hbm, 587, rfl⟩
abbrev main_call3_call0_v30 : Ref sig .tc := ⟨.hbm, 588, rfl⟩
abbrev main_call3_call0_v31 : Ref sig .tc := ⟨.hbm, 589, rfl⟩
abbrev main_call3_call0_v32 : Ref sig .tc := ⟨.hbm, 590, rfl⟩
abbrev main_call3_call0_v33 : Ref sig .tc := ⟨.hbm, 591, rfl⟩
abbrev main_call3_call0_v34 : Ref sig .tc := ⟨.hbm, 592, rfl⟩
abbrev main_call3_call0_v35 : Ref sig .tc := ⟨.hbm, 593, rfl⟩
abbrev main_call3_call0_v36 : Ref sig .tc := ⟨.hbm, 594, rfl⟩
abbrev main_call3_call0_v37 : Ref sig .tc := ⟨.hbm, 595, rfl⟩
abbrev main_call3_call0_c_8 : Ref sig .tc := ⟨.hbm, 596, rfl⟩
abbrev main_call3_call0_v38 : Ref sig .tc := ⟨.hbm, 597, rfl⟩
abbrev main_call3_call0_v39 : Ref sig .tc := ⟨.hbm, 598, rfl⟩
abbrev main_call3_call0_v40 : Ref sig .tc := ⟨.hbm, 599, rfl⟩
abbrev main_call3_call0_c_9 : Ref sig .tc := ⟨.hbm, 600, rfl⟩
abbrev main_call3_call0_v41 : Ref sig .tc := ⟨.hbm, 601, rfl⟩
abbrev main_call3_call0_v42 : Ref sig .tc := ⟨.hbm, 602, rfl⟩
abbrev main_call3_call0_c_10 : Ref sig .tc := ⟨.hbm, 603, rfl⟩
abbrev main_call3_call0_v43 : Ref sig .tc := ⟨.hbm, 604, rfl⟩
abbrev main_call3_call0_v44 : Ref sig .tc := ⟨.hbm, 605, rfl⟩
abbrev main_call3_call0_v45 : Ref sig .tc := ⟨.hbm, 606, rfl⟩
abbrev main_call3_call0_v46 : Ref sig .tc := ⟨.hbm, 607, rfl⟩
abbrev main_call3_call0_v47 : Ref sig .tc := ⟨.hbm, 608, rfl⟩
abbrev main_call3_call0_c_11 : Ref sig .tc := ⟨.hbm, 609, rfl⟩
abbrev main_call3_call0_v48 : Ref sig .tc := ⟨.hbm, 610, rfl⟩
abbrev main_call3_call0_v49 : Ref sig .tc := ⟨.hbm, 611, rfl⟩
abbrev main_call3_call0_c_12 : Ref sig .tc := ⟨.hbm, 612, rfl⟩
abbrev main_call3_call0_v50 : Ref sig .tc := ⟨.hbm, 613, rfl⟩
abbrev main_call3_call0_v51 : Ref sig .tc := ⟨.hbm, 614, rfl⟩
abbrev main_call3_call0_v52 : Ref sig .tc := ⟨.hbm, 615, rfl⟩
abbrev main_call3_call0_v53 : Ref sig .tc := ⟨.hbm, 616, rfl⟩
abbrev main_call3_call0_v54 : Ref sig .tc := ⟨.hbm, 617, rfl⟩
abbrev main_call3_call0_c_13 : Ref sig .tc := ⟨.hbm, 618, rfl⟩
abbrev main_call3_call0_v55 : Ref sig .tc := ⟨.hbm, 619, rfl⟩
abbrev main_call3_call0_v56 : Ref sig .tc := ⟨.hbm, 620, rfl⟩
abbrev main_call3_call0_c_14 : Ref sig .tc := ⟨.hbm, 621, rfl⟩
abbrev main_call3_call0_v57 : Ref sig .tc := ⟨.hbm, 622, rfl⟩
abbrev main_call3_call0_v58 : Ref sig .tc := ⟨.hbm, 623, rfl⟩
abbrev main_call3_call0_v59 : Ref sig .tc := ⟨.hbm, 624, rfl⟩
abbrev main_call3_call0_v60 : Ref sig .tc := ⟨.hbm, 625, rfl⟩
abbrev main_call3_call0_v61 : Ref sig .tc := ⟨.hbm, 626, rfl⟩
abbrev main_call3_call0_c_15 : Ref sig .tc := ⟨.hbm, 627, rfl⟩
abbrev main_call3_call0_v62 : Ref sig .tc := ⟨.hbm, 628, rfl⟩
abbrev main_call3_call0_v63 : Ref sig .tc := ⟨.hbm, 629, rfl⟩
abbrev main_call3_call0_c_16 : Ref sig .tc := ⟨.hbm, 630, rfl⟩
abbrev main_call3_call0_v64 : Ref sig .tc := ⟨.hbm, 631, rfl⟩
abbrev main_call3_call0_v65 : Ref sig .tc := ⟨.hbm, 632, rfl⟩
abbrev main_call3_call0_v66 : Ref sig .tc := ⟨.hbm, 633, rfl⟩
abbrev main_call3_call0_v67 : Ref sig .tc := ⟨.hbm, 634, rfl⟩
abbrev main_call3_call0_v68 : Ref sig .tc := ⟨.hbm, 635, rfl⟩
abbrev main_call3_call0_v69 : Ref sig .tc := ⟨.hbm, 636, rfl⟩
abbrev main_call3_call0_v70 : Ref sig .tc := ⟨.hbm, 637, rfl⟩
abbrev main_call3_call0_v71 : Ref sig .tc := ⟨.hbm, 638, rfl⟩
abbrev main_call3_call0_c_17 : Ref sig .tc := ⟨.hbm, 639, rfl⟩
abbrev main_call3_call0_v72 : Ref sig .tc := ⟨.hbm, 640, rfl⟩
abbrev main_call3_call0_v73 : Ref sig .tc := ⟨.hbm, 641, rfl⟩
abbrev main_call3_call0_v74 : Ref sig .tc := ⟨.hbm, 642, rfl⟩
abbrev main_call3_call0_c_18 : Ref sig .tc := ⟨.hbm, 643, rfl⟩
abbrev main_call3_call0_v75 : Ref sig .tc := ⟨.hbm, 644, rfl⟩
abbrev main_call3_call0_v76 : Ref sig .tc := ⟨.hbm, 645, rfl⟩
abbrev main_call3_call0_c_19 : Ref sig .tc := ⟨.hbm, 646, rfl⟩
abbrev main_call3_call0_v77 : Ref sig .tc := ⟨.hbm, 647, rfl⟩
abbrev main_call3_call0_v78 : Ref sig .tc := ⟨.hbm, 648, rfl⟩
abbrev main_call3_call0_v79 : Ref sig .tc := ⟨.hbm, 649, rfl⟩
abbrev main_call3_call0_v80 : Ref sig .tc := ⟨.hbm, 650, rfl⟩
abbrev main_call3_call0_v81 : Ref sig .tc := ⟨.hbm, 651, rfl⟩
abbrev main_call3_call0_c_20 : Ref sig .tc := ⟨.hbm, 652, rfl⟩
abbrev main_call3_call0_v82 : Ref sig .tc := ⟨.hbm, 653, rfl⟩
abbrev main_call3_call0_v83 : Ref sig .tc := ⟨.hbm, 654, rfl⟩
abbrev main_call3_call0_c_21 : Ref sig .tc := ⟨.hbm, 655, rfl⟩
abbrev main_call3_call0_v84 : Ref sig .tc := ⟨.hbm, 656, rfl⟩
abbrev main_call3_call0_v85 : Ref sig .tc := ⟨.hbm, 657, rfl⟩
abbrev main_call3_call0_v86 : Ref sig .tc := ⟨.hbm, 658, rfl⟩
abbrev main_call3_call0_v87 : Ref sig .tc := ⟨.hbm, 659, rfl⟩
abbrev main_call3_call0_v88 : Ref sig .tc := ⟨.hbm, 660, rfl⟩
abbrev main_call3_call0_c_22 : Ref sig .tc := ⟨.hbm, 661, rfl⟩
abbrev main_call3_call0_v89 : Ref sig .tc := ⟨.hbm, 662, rfl⟩
abbrev main_call3_call0_v90 : Ref sig .tc := ⟨.hbm, 663, rfl⟩
abbrev main_call3_call0_c_23 : Ref sig .tc := ⟨.hbm, 664, rfl⟩
abbrev main_call3_call0_v91 : Ref sig .tc := ⟨.hbm, 665, rfl⟩
abbrev main_call3_call0_v92 : Ref sig .tc := ⟨.hbm, 666, rfl⟩
abbrev main_call3_call0_v93 : Ref sig .tc := ⟨.hbm, 667, rfl⟩
abbrev main_call3_call0_v94 : Ref sig .tc := ⟨.hbm, 668, rfl⟩
abbrev main_call3_call0_v95 : Ref sig .tc := ⟨.hbm, 669, rfl⟩
abbrev main_call3_call0_c_24 : Ref sig .tc := ⟨.hbm, 670, rfl⟩
abbrev main_call3_call0_v96 : Ref sig .tc := ⟨.hbm, 671, rfl⟩
abbrev main_call3_call0_v97 : Ref sig .tc := ⟨.hbm, 672, rfl⟩
abbrev main_call3_call0_c_25 : Ref sig .tc := ⟨.hbm, 673, rfl⟩
abbrev main_call3_call0_v98 : Ref sig .tc := ⟨.hbm, 674, rfl⟩
abbrev main_call3_call0_v99 : Ref sig .tc := ⟨.hbm, 675, rfl⟩
abbrev main_call3_call0_v100 : Ref sig .tc := ⟨.hbm, 676, rfl⟩
abbrev main_call3_call0_v101 : Ref sig .tc := ⟨.hbm, 677, rfl⟩
abbrev main_call3_call0_v102 : Ref sig .tc := ⟨.hbm, 678, rfl⟩
abbrev main_call3_call0_v103 : Ref sig .tc := ⟨.hbm, 679, rfl⟩
abbrev main_call3_call0_v104 : Ref sig .tc := ⟨.hbm, 680, rfl⟩
abbrev main_call3_call0_v105 : Ref sig .tc := ⟨.hbm, 681, rfl⟩
abbrev main_call3_call0_c_26 : Ref sig .tc := ⟨.hbm, 682, rfl⟩
abbrev main_call3_call0_v106 : Ref sig .tc := ⟨.hbm, 683, rfl⟩
abbrev main_call3_call0_v107 : Ref sig .tc := ⟨.hbm, 684, rfl⟩
abbrev main_call3_call0_v108 : Ref sig .tc := ⟨.hbm, 685, rfl⟩
abbrev main_call3_call0_c_27 : Ref sig .tc := ⟨.hbm, 686, rfl⟩
abbrev main_call3_call0_v109 : Ref sig .tc := ⟨.hbm, 687, rfl⟩
abbrev main_call3_call0_v110 : Ref sig .tc := ⟨.hbm, 688, rfl⟩
abbrev main_call3_call0_c_28 : Ref sig .tc := ⟨.hbm, 689, rfl⟩
abbrev main_call3_call0_v111 : Ref sig .tc := ⟨.hbm, 690, rfl⟩
abbrev main_call3_call0_v112 : Ref sig .tc := ⟨.hbm, 691, rfl⟩
abbrev main_call3_call0_v113 : Ref sig .tc := ⟨.hbm, 692, rfl⟩
abbrev main_call3_call0_v114 : Ref sig .tc := ⟨.hbm, 693, rfl⟩
abbrev main_call3_call0_v115 : Ref sig .tc := ⟨.hbm, 694, rfl⟩
abbrev main_call3_call0_c_29 : Ref sig .tc := ⟨.hbm, 695, rfl⟩
abbrev main_call3_call0_v116 : Ref sig .tc := ⟨.hbm, 696, rfl⟩
abbrev main_call3_call0_v117 : Ref sig .tc := ⟨.hbm, 697, rfl⟩
abbrev main_call3_call0_c_30 : Ref sig .tc := ⟨.hbm, 698, rfl⟩
abbrev main_call3_call0_v118 : Ref sig .tc := ⟨.hbm, 699, rfl⟩
abbrev main_call3_call0_v119 : Ref sig .tc := ⟨.hbm, 700, rfl⟩
abbrev main_call3_call0_v120 : Ref sig .tc := ⟨.hbm, 701, rfl⟩
abbrev main_call3_call0_v121 : Ref sig .tc := ⟨.hbm, 702, rfl⟩
abbrev main_call3_call0_v122 : Ref sig .tc := ⟨.hbm, 703, rfl⟩
abbrev main_call3_call0_c_31 : Ref sig .tc := ⟨.hbm, 704, rfl⟩
abbrev main_call3_call0_v123 : Ref sig .tc := ⟨.hbm, 705, rfl⟩
abbrev main_call3_call0_v124 : Ref sig .tc := ⟨.hbm, 706, rfl⟩
abbrev main_call3_call0_c_32 : Ref sig .tc := ⟨.hbm, 707, rfl⟩
abbrev main_call3_call0_v125 : Ref sig .tc := ⟨.hbm, 708, rfl⟩
abbrev main_call3_call0_v126 : Ref sig .tc := ⟨.hbm, 709, rfl⟩
abbrev main_call3_call0_v127 : Ref sig .tc := ⟨.hbm, 710, rfl⟩
abbrev main_call3_call0_v128 : Ref sig .tc := ⟨.hbm, 711, rfl⟩
abbrev main_call3_call0_v129 : Ref sig .tc := ⟨.hbm, 712, rfl⟩
abbrev main_call3_call0_c_33 : Ref sig .tc := ⟨.hbm, 713, rfl⟩
abbrev main_call3_call0_v130 : Ref sig .tc := ⟨.hbm, 714, rfl⟩
abbrev main_call3_call0_v131 : Ref sig .tc := ⟨.hbm, 715, rfl⟩
abbrev main_call3_call0_c_34 : Ref sig .tc := ⟨.hbm, 716, rfl⟩
abbrev main_call3_call0_v132 : Ref sig .tc := ⟨.hbm, 717, rfl⟩
abbrev main_call3_call0_v133 : Ref sig .tc := ⟨.hbm, 718, rfl⟩
abbrev main_call3_call0_v134 : Ref sig .tc := ⟨.hbm, 719, rfl⟩
abbrev main_call3_call0_v135 : Ref sig .tc := ⟨.hbm, 720, rfl⟩
abbrev main_call3_call0_v136 : Ref sig .tc := ⟨.hbm, 721, rfl⟩
abbrev main_call3_call0_v137 : Ref sig .tc := ⟨.hbm, 722, rfl⟩
abbrev main_call3_call0_v138 : Ref sig .tc := ⟨.hbm, 723, rfl⟩
abbrev main_call3_call0_v139 : Ref sig .tc := ⟨.hbm, 724, rfl⟩
abbrev main_call3_call0_c_35 : Ref sig .tc := ⟨.hbm, 725, rfl⟩
abbrev main_call3_call0_v140 : Ref sig .tc := ⟨.hbm, 726, rfl⟩
abbrev main_call3_call0_v141 : Ref sig .tc := ⟨.hbm, 727, rfl⟩
abbrev main_call3_call0_v142 : Ref sig .tc := ⟨.hbm, 728, rfl⟩
abbrev main_call3_call0_c_36 : Ref sig .tc := ⟨.hbm, 729, rfl⟩
abbrev main_call3_call0_v143 : Ref sig .tc := ⟨.hbm, 730, rfl⟩
abbrev main_call3_call0_v144 : Ref sig .tc := ⟨.hbm, 731, rfl⟩
abbrev main_call3_call0_c_37 : Ref sig .tc := ⟨.hbm, 732, rfl⟩
abbrev main_call3_call0_v145 : Ref sig .tc := ⟨.hbm, 733, rfl⟩
abbrev main_call3_call0_v146 : Ref sig .tc := ⟨.hbm, 734, rfl⟩
abbrev main_call3_call0_v147 : Ref sig .tc := ⟨.hbm, 735, rfl⟩
abbrev main_call3_call0_v148 : Ref sig .tc := ⟨.hbm, 736, rfl⟩
abbrev main_call3_call0_v149 : Ref sig .tc := ⟨.hbm, 737, rfl⟩
abbrev main_call3_call0_c_38 : Ref sig .tc := ⟨.hbm, 738, rfl⟩
abbrev main_call3_call0_v150 : Ref sig .tc := ⟨.hbm, 739, rfl⟩
abbrev main_call3_call0_v151 : Ref sig .tc := ⟨.hbm, 740, rfl⟩
abbrev main_call3_call0_c_39 : Ref sig .tc := ⟨.hbm, 741, rfl⟩
abbrev main_call3_call0_v152 : Ref sig .tc := ⟨.hbm, 742, rfl⟩
abbrev main_call3_call0_v153 : Ref sig .tc := ⟨.hbm, 743, rfl⟩
abbrev main_call3_call0_v154 : Ref sig .tc := ⟨.hbm, 744, rfl⟩
abbrev main_call3_call0_v155 : Ref sig .tc := ⟨.hbm, 745, rfl⟩
abbrev main_call3_call0_v156 : Ref sig .tc := ⟨.hbm, 746, rfl⟩
abbrev main_call3_call0_c_40 : Ref sig .tc := ⟨.hbm, 747, rfl⟩
abbrev main_call3_call0_v157 : Ref sig .tc := ⟨.hbm, 748, rfl⟩
abbrev main_call3_call0_v158 : Ref sig .tc := ⟨.hbm, 749, rfl⟩
abbrev main_call3_call0_c_41 : Ref sig .tc := ⟨.hbm, 750, rfl⟩
abbrev main_call3_call0_v159 : Ref sig .tc := ⟨.hbm, 751, rfl⟩
abbrev main_call3_call0_v160 : Ref sig .tc := ⟨.hbm, 752, rfl⟩
abbrev main_call3_call0_v161 : Ref sig .tc := ⟨.hbm, 753, rfl⟩
abbrev main_call3_call0_v162 : Ref sig .tc := ⟨.hbm, 754, rfl⟩
abbrev main_call3_call0_v163 : Ref sig .tc := ⟨.hbm, 755, rfl⟩
abbrev main_call3_call0_c_42 : Ref sig .tc := ⟨.hbm, 756, rfl⟩
abbrev main_call3_call0_v164 : Ref sig .tc := ⟨.hbm, 757, rfl⟩
abbrev main_call3_call0_v165 : Ref sig .tc := ⟨.hbm, 758, rfl⟩
abbrev main_call3_call0_c_43 : Ref sig .tc := ⟨.hbm, 759, rfl⟩
abbrev main_call3_call0_v166 : Ref sig .tc := ⟨.hbm, 760, rfl⟩
abbrev main_call3_call0_v167 : Ref sig .tc := ⟨.hbm, 761, rfl⟩
abbrev main_call3_call0_v168 : Ref sig .tc := ⟨.hbm, 762, rfl⟩
abbrev main_call3_call0_v169 : Ref sig .tc := ⟨.hbm, 763, rfl⟩
abbrev main_call3_call0_v170 : Ref sig .tc := ⟨.hbm, 764, rfl⟩
abbrev main_call3_v15_0 : Ref sig .tc := ⟨.hbm, 765, rfl⟩
abbrev main_call3_call0_v172 : Ref sig .tc := ⟨.hbm, 766, rfl⟩
abbrev main_call3_call0_v173 : Ref sig .tc := ⟨.hbm, 767, rfl⟩
abbrev main_call3_call0_c_44 : Ref sig .tc := ⟨.hbm, 768, rfl⟩
abbrev main_call3_call0_v174 : Ref sig .tc := ⟨.hbm, 769, rfl⟩
abbrev main_call3_v15_1 : Ref sig .tc := ⟨.hbm, 770, rfl⟩
abbrev main_call3_v16 : Ref sig .tc := ⟨.hbm, 771, rfl⟩
abbrev main_call3_c_1 : Ref sig .tc := ⟨.hbm, 772, rfl⟩
abbrev main_call3_v17 : Ref sig .tc := ⟨.hbm, 773, rfl⟩
abbrev main_call3_v18 : Ref sig .tc := ⟨.hbm, 774, rfl⟩
abbrev main_call3_c_2 : Ref sig .tc := ⟨.hbm, 775, rfl⟩
abbrev main_call3_v19 : Ref sig .tc := ⟨.hbm, 776, rfl⟩
abbrev main_call3_v20 : Ref sig .tc := ⟨.hbm, 777, rfl⟩
abbrev main_call3_v21 : Ref sig .tc := ⟨.hbm, 778, rfl⟩
abbrev main_call3_cst : Ref sig .tc := ⟨.hbm, 779, rfl⟩
abbrev main_call3_v22 : Ref sig .tc := ⟨.hbm, 780, rfl⟩
abbrev main_call3_v23 : Ref sig .tc := ⟨.hbm, 781, rfl⟩
abbrev main_call3_v24 : Ref sig .tc := ⟨.hbm, 782, rfl⟩
abbrev main_call3_v25 : Ref sig .tc := ⟨.hbm, 783, rfl⟩
abbrev main_call3_v26 : Ref sig .tc := ⟨.hbm, 784, rfl⟩
abbrev main_call3_v27 : Ref sig .tc := ⟨.hbm, 785, rfl⟩
abbrev main_call3_v28 : Ref sig .tc := ⟨.hbm, 786, rfl⟩
abbrev main_call3_v29 : Ref sig .tc := ⟨.hbm, 787, rfl⟩
abbrev main_v18 : Ref sig .tc := ⟨.hbm, 788, rfl⟩
abbrev main_v19 : Ref sig .tc := ⟨.hbm, 789, rfl⟩
abbrev main_cst_4 : Ref sig .tc := ⟨.hbm, 790, rfl⟩
abbrev main_v20 : Ref sig .tc := ⟨.hbm, 791, rfl⟩
abbrev main_v21 : Ref sig .tc := ⟨.hbm, 792, rfl⟩
abbrev main_v22 : Ref sig .tc := ⟨.hbm, 793, rfl⟩
abbrev main_cst_5 : Ref sig .tc := ⟨.hbm, 794, rfl⟩
abbrev main_v23 : Ref sig .tc := ⟨.hbm, 795, rfl⟩
abbrev main_v24 : Ref sig .tc := ⟨.hbm, 796, rfl⟩
abbrev main_v25 : Ref sig .tc := ⟨.hbm, 797, rfl⟩

abbrev nD : Nat := 1
abbrev τ : Topo := Topo.v7x

variable {F : FTy → Type} [FloatOps F]
-- ==== Proof.Setup.lean ====
/-
  The kernel's program as the launch theorem sees it: the launch's configuration, the resource algebra, the arrays the
  vector subcores read and write, and the pieces of them that one task addresses, in the body's own spelling.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Sampler

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

abbrev 𝕄 (F : FTy → Type) : Type := MT nD τ sig (HIx 1) (Elt F) ℕ UU ℕ

abbrev EH : Emb UH (MT nD τ sig (HIx 1) (Elt F) ℕ UU ℕ) := embL

/-! ## The arrays -/

/-- The weights, the table of reciprocals, the table of the samples' offsets and the result, as locations of device `d`. -/
abbrev pLoc (d : Dev nD) : Loc nD τ sig := (SparseCore.T d).loc main_arg0
abbrev eLoc (d : Dev nD) : Loc nD τ sig := (SparseCore.T d).loc main_v193
abbrev uLoc (d : Dev nD) : Loc nD τ sig := (SparseCore.T d).loc main_cst
abbrev oLoc (d : Dev nD) : Loc nD τ sig := (SparseCore.T d).loc main_v194

/-- The kernel's memrefs as the body table passes them. -/
abbrev pV : Memref sig .scVector .hbm S128x8192 .f32 := Memref.whole main_arg0_scv
abbrev eV : Memref sig .scVector .hbm S1048576 .f32 := Memref.whole main_v193_scv
abbrev uV : Memref sig .scVector .hbm S32x16 .f32 := Memref.whole main_cst_scv
abbrev oV : Memref sig .scVector .hbm S32x16 .f32 := Memref.whole main_v194_scv
abbrev sP : Memref sig .scVector .vmem S4x8192 .f32 := Memref.whole cc0_scratch0
abbrev sE : Memref sig .scVector .vmem S4x8192 .f32 := Memref.whole cc0_scratch1
abbrev sU : Memref sig .scVector .vmem S16 .f32 := Memref.whole cc0_scratch2
abbrev sS : Memref sig .scVector .vmem S16 .f32 := Memref.whole cc0_scratch3
abbrev sX : Memref sig .scVector .vmem S16 .f32 := Memref.whole cc0_scratch4
abbrev sG : Memref sig .scVector .vmem S16 .i32 := Memref.whole cc0_scratch5

/-! ## The pieces one task addresses -/

section Pieces

variable (L : grid0.Coords)

/-- The SparseCore and the vector subcore of the coordinates. -/
abbrev cV : Fin τ.nSC := (L 0).castLE hcore0
abbrev jV : Fin τ.nSub := (L 1).castLE hsub0

/-- The task's four rows of the weights and the four segments of the reciprocals. -/
abbrev pK0 : Memref sig .scVector .hbm S8192 .f32 := (pV.slice (Rect.unit (s := S128x8192) (k0_off2 L 0#32) S1x8192.size (k0_off2_inb L 0)) (fun _ => rfl)).squeeze S8192 squeezes_S1x8192_S8192
abbrev pK1 : Memref sig .scVector .hbm S8192 .f32 := (pV.slice (Rect.unit (s := S128x8192) (k0_off2 L 1#32) S1x8192.size (k0_off2_inb L 1)) (fun _ => rfl)).squeeze S8192 squeezes_S1x8192_S8192
abbrev pK2 : Memref sig .scVector .hbm S8192 .f32 := (pV.slice (Rect.unit (s := S128x8192) (k0_off2 L 2#32) S1x8192.size (k0_off2_inb L 2)) (fun _ => rfl)).squeeze S8192 squeezes_S1x8192_S8192
abbrev pK3 : Memref sig .scVector .hbm S8192 .f32 := (pV.slice (Rect.unit (s := S128x8192) (k0_off2 L 3#32) S1x8192.size (k0_off2_inb L 3)) (fun _ => rfl)).squeeze S8192 squeezes_S1x8192_S8192
abbrev eK0 : Memref sig .scVector .hbm S8192 .f32 := eV.slice (Rect.unit (s := S1048576) (k0_off3 L 0#32) S8192.size (k0_off3_inb L 0)) (fun _ => rfl)
abbrev eK1 : Memref sig .scVector .hbm S8192 .f32 := eV.slice (Rect.unit (s := S1048576) (k0_off3 L 1#32) S8192.size (k0_off3_inb L 1)) (fun _ => rfl)
abbrev eK2 : Memref sig .scVector .hbm S8192 .f32 := eV.slice (Rect.unit (s := S1048576) (k0_off3 L 2#32) S8192.size (k0_off3_inb L 2)) (fun _ => rfl)
abbrev eK3 : Memref sig .scVector .hbm S8192 .f32 := eV.slice (Rect.unit (s := S1048576) (k0_off3 L 3#32) S8192.size (k0_off3_inb L 3)) (fun _ => rfl)
/-- The task's row of the offsets and its row of the result. -/
abbrev uK : Memref sig .scVector .hbm S16 .f32 := (uV.slice (Rect.unit (s := S32x16) (k0_off1 L) S1x16.size (k0_off1_inb L)) (fun _ => rfl)).squeeze S16 squeezes_S1x16_S16
abbrev oK : Memref sig .scVector .hbm S16 .f32 := (oV.slice (Rect.unit (s := S32x16) (k0_off14 L) S1x16.size (k0_off14_inb L)) (fun _ => rfl)).squeeze S16 squeezes_S1x16_S16

/-- The rows of the two buffers the weights and the reciprocals are copied into. -/
abbrev bP0 : Memref sig .scVector .vmem S8192 .f32 := (sP.slice (Rect.unit (s := S4x8192) ![0, 0] S1x8192.size inb_S4x8192_S1x8192_0_0) (fun _ => rfl)).squeeze S8192 squeezes_S1x8192_S8192
abbrev bP1 : Memref sig .scVector .vmem S8192 .f32 := (sP.slice (Rect.unit (s := S4x8192) ![1, 0] S1x8192.size inb_S4x8192_S1x8192_1_0) (fun _ => rfl)).squeeze S8192 squeezes_S1x8192_S8192
abbrev bP2 : Memref sig .scVector .vmem S8192 .f32 := (sP.slice (Rect.unit (s := S4x8192) ![2, 0] S1x8192.size inb_S4x8192_S1x8192_2_0) (fun _ => rfl)).squeeze S8192 squeezes_S1x8192_S8192
abbrev bP3 : Memref sig .scVector .vmem S8192 .f32 := (sP.slice (Rect.unit (s := S4x8192) ![3, 0] S1x8192.size inb_S4x8192_S1x8192_3_0) (fun _ => rfl)).squeeze S8192 squeezes_S1x8192_S8192
abbrev bE0 : Memref sig .scVector .vmem S8192 .f32 := (sE.slice (Rect.unit (s := S4x8192) ![0, 0] S1x8192.size inb_S4x8192_S1x8192_0_0) (fun _ => rfl)).squeeze S8192 squeezes_S1x8192_S8192
abbrev bE1 : Memref sig .scVector .vmem S8192 .f32 := (sE.slice (Rect.unit (s := S4x8192) ![1, 0] S1x8192.size inb_S4x8192_S1x8192_1_0) (fun _ => rfl)).squeeze S8192 squeezes_S1x8192_S8192
abbrev bE2 : Memref sig .scVector .vmem S8192 .f32 := (sE.slice (Rect.unit (s := S4x8192) ![2, 0] S1x8192.size inb_S4x8192_S1x8192_2_0) (fun _ => rfl)).squeeze S8192 squeezes_S1x8192_S8192
abbrev bE3 : Memref sig .scVector .vmem S8192 .f32 := (sE.slice (Rect.unit (s := S4x8192) ![3, 0] S1x8192.size inb_S4x8192_S1x8192_3_0) (fun _ => rfl)).squeeze S8192 squeezes_S1x8192_S8192

end Pieces

/-- The kernel's body at the body table's arguments. -/
abbrev bodyAt [FloatOps F] (L : grid0.Coords) : Prog (TpuEff nD τ sig (Elt F) Λ₀ (.scVector (cV L) (jV L))) PUnit :=
  cc0__sc_sampler_body L pV (Memref.isWhole_whole _) eV (Memref.isWhole_whole _) uV (Memref.isWhole_whole _) oV (Memref.isWhole_whole _)
    sP (Memref.isWhole_whole _) sE (Memref.isWhole_whole _) sU (Memref.isWhole_whole _) sS (Memref.isWhole_whole _)
    sX (Memref.isWhole_whole _) sG (Memref.isWhole_whole _) cc0_scratch6 cc0_scratch7 cc0_scratch8 cc0_scratch9 cc0_scratch10 cc0_scoped0

end Cert.Proof.Sampler

end
-- ==== Proof.Trips.lean ====
/-
  One trip of each of the four loops over a row, and the values the trips carry.
-/
module

public import proofs.«01_k».proof.Proof.Setup
public import Idealize.ShloMosaic.Lib.PointwiseCore

@[expose] public section

noncomputable section

namespace Cert.Proof.Sampler

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev own (d : Dev nD) (L : grid0.Coords) {sp : Space} {S : Shape} {e : EltTy} (M : Memref sig .scVector sp S e) (f : Buf (Elt F) (M.view.loc (V d (cV L) (jV L)))) : sProp (𝕄 F) :=
  M.view.loc (V d (cV L) (jV L)) ↦[M.view.set]{fullShare} f

abbrev whole (d : Dev nD) (L : grid0.Coords) {sp : Space} {S : Shape} {e : EltTy} (M : Memref sig .scVector sp S e) (f : Buf (Elt F) (M.view.loc (V d (cV L) (jV L)))) : sProp (𝕄 F) :=
  M.view.loc (V d (cV L) (jV L)) ↦{fullShare} f

theorem sub_rows {off : Fin 2 → ℕ} {inb : ∀ a, off a + S1x16.size a ≤ S4x8192.size a} {r : ℕ} {inb' : ∀ a, (![r, 0] : Fin 2 → ℕ) a + S1x8192.size a ≤ S4x8192.size a}
    (h : off 0 = r) : (Rect.unit (s := S4x8192) off S1x16.size inb).set ⊆ (Rect.unit (s := S4x8192) ![r, 0] S1x8192.size inb').set := by
  intro y hy
  rw [Rect.mem_set_unit] at hy ⊢
  intro a
  have h1 := hy a
  have h2 := (y a).isLt
  match a with
  | 0 => simp [h] at h1 ⊢; omega
  | 1 => simp at h1 h2 ⊢; omega

theorem subP {off : Fin 2 → ℕ} {inb : ∀ a, off a + S1x16.size a ≤ S4x8192.size a} {r : ℕ} {inb' : ∀ a, (![r, 0] : Fin 2 → ℕ) a + S1x8192.size a ≤ S4x8192.size a}
    (h : off 0 = r) : (sP.access (Rect.unit (s := S4x8192) off S1x16.size inb)).set
      ⊆ ((sP.slice (Rect.unit (s := S4x8192) ![r, 0] S1x8192.size inb') (fun _ => rfl)).squeeze S8192 squeezes_S1x8192_S8192).view.set := by
  have h1 : (sP.view.slice (Rect.unit (s := S4x8192) off S1x16.size inb)).set ⊆ (sP.view.slice (Rect.unit (s := S4x8192) ![r, 0] S1x8192.size inb')).set := by
    rw [View.set_slice, View.set_slice]
    exact Finset.map_subset_map.mpr (sub_rows h)
  exact h1.trans (subset_of_eq ((sP.view.slice (Rect.unit (s := S4x8192) ![r, 0] S1x8192.size inb')).set_reshape squeezes_S1x8192_S8192.numel_eq).symm)

theorem subE {off : Fin 2 → ℕ} {inb : ∀ a, off a + S1x16.size a ≤ S4x8192.size a} {r : ℕ} {inb' : ∀ a, (![r, 0] : Fin 2 → ℕ) a + S1x8192.size a ≤ S4x8192.size a}
    (h : off 0 = r) : (sE.access (Rect.unit (s := S4x8192) off S1x16.size inb)).set
      ⊆ ((sE.slice (Rect.unit (s := S4x8192) ![r, 0] S1x8192.size inb') (fun _ => rfl)).squeeze S8192 squeezes_S1x8192_S8192).view.set := by
  have h1 : (sE.view.slice (Rect.unit (s := S4x8192) off S1x16.size inb)).set ⊆ (sE.view.slice (Rect.unit (s := S4x8192) ![r, 0] S1x8192.size inb')).set := by
    rw [View.set_slice, View.set_slice]
    exact Finset.map_subset_map.mpr (sub_rows h)
  exact h1.trans (subset_of_eq ((sE.view.slice (Rect.unit (s := S4x8192) ![r, 0] S1x8192.size inb')).set_reshape squeezes_S1x8192_S8192.numel_eq).symm)

/-! ## The loop's values -/

def prodV (P E : FVec F S16 .f32) : FVec F S16 .f32 := mulf (addf P (broadcast S16 (Scalar.ofBits .f32 0x1E3CE508#32))) E
def stV (P E a : FVec F S16 .f32) : FVec F S16 .f32 := select (cmpf .ogt (prodV P E) a) (prodV P E) a
def stJ (P E a : FVec F S16 .f32) (w : BitVec 32) (j : IVec S16 32) : IVec S16 32 := select (cmpf .ogt (prodV P E) a) (broadcast S16 w) j
def rackV (pc ec : ℕ → FVec F S16 .f32) (r : ℕ) : ℕ → FVec F S16 .f32
  | 0 => broadcast S16 (Scalar.ofBits .f32 0xBF800000#32)
  | k + 1 => stV (pc (4 * k + r)) (ec (4 * k + r)) (rackV pc ec r k)
def rackJ (pc ec : ℕ → FVec F S16 .f32) (r : ℕ) : ℕ → IVec S16 32
  | 0 => broadcast S16 0#32
  | k + 1 => stJ (pc (4 * k + r)) (ec (4 * k + r)) (rackV pc ec r k) (BitVec.ofNat 32 (4 * k + r)) (rackJ pc ec r k)
abbrev Acc (F : FTy → Type) : Type := FVec F S16 .f32 × FVec F S16 .f32 × FVec F S16 .f32 × FVec F S16 .f32 × IVec S16 32 × IVec S16 32 × IVec S16 32 × IVec S16 32
def accAt (pc ec : ℕ → FVec F S16 .f32) (k : ℕ) : Acc F :=
  (rackV pc ec 0 k, rackV pc ec 1 k, rackV pc ec 2 k, rackV pc ec 3 k, rackJ pc ec 0 k, rackJ pc ec 1 k, rackJ pc ec 2 k, rackJ pc ec 3 k)

/-- Chunk `c` of row `r` of a buffer of four rows: sixteen elements. -/
def chunk (f : S4x8192.Idx → F .f32) (r : Fin 4) (c : ℕ) : FVec F S16 .f32 := fun l => f (ix2 r ⟨(16 * c + (l 0).val) % 8192, Nat.mod_lt _ (by decide)⟩)

omit [FloatOps F] in
theorem chunk_P {off : Fin 2 → ℕ} {inb : ∀ a, off a + S1x16.size a ≤ S4x8192.size a} (f : S4x8192.Idx → F .f32) (r : Fin 4) (c : ℕ) (h : off = ![r.val, 16 * c]) (hc : c < 512) :
    shapeCast S16 ((sP.view.slice (Rect.unit (s := S4x8192) off S1x16.size inb)).read (Elt F) f) shapeCasts_S1x16_S16 = chunk f r c := by
  subst h
  funext l
  idx_vars l
  pointwise
  show f _ = f _
  congr 1
  funext a
  match a with
  | 0 => apply Fin.ext; simp; rfl
  | 1 =>
    apply Fin.ext
    have : (16 * c + l0.val) % 8192 = 16 * c + l0.val := Nat.mod_eq_of_lt (by omega)
    show _ = (16 * c + l0.val) % 8192
    rw [this]
    exact (Rect.emb_apply (Rect.unit (s := S4x8192) ![r.val, 16 * c] ![1, 16] inb) (ix2 0 l0) 1).trans (by simp [Rect.unit])

omit [FloatOps F] in
theorem chunk_E {off : Fin 2 → ℕ} {inb : ∀ a, off a + S1x16.size a ≤ S4x8192.size a} (f : S4x8192.Idx → F .f32) (r : Fin 4) (c : ℕ) (h : off = ![r.val, 16 * c]) (hc : c < 512) :
    shapeCast S16 ((sE.view.slice (Rect.unit (s := S4x8192) off S1x16.size inb)).read (Elt F) f) shapeCasts_S1x16_S16 = chunk f r c := by
  subst h
  funext l
  idx_vars l
  pointwise
  show f _ = f _
  congr 1
  funext a
  match a with
  | 0 => apply Fin.ext; simp; rfl
  | 1 =>
    apply Fin.ext
    have : (16 * c + l0.val) % 8192 = 16 * c + l0.val := Nat.mod_eq_of_lt (by omega)
    show _ = (16 * c + l0.val) % 8192
    rw [this]
    exact (Rect.emb_apply (Rect.unit (s := S4x8192) ![r.val, 16 * c] ![1, 16] inb) (ix2 0 l0) 1).trans (by simp [Rect.unit])

theorem stJ_congr {P P' E E' a : FVec F S16 .f32} {w w' : BitVec 32} {j : IVec S16 32} (hP : P = P') (hE : E = E') (hw : w = w') : stJ P E a w j = stJ P' E' a w' j := by
  rw [hP, hE, hw]

theorem word_of (k : ℕ) (r : ℕ) : Scalar.addi (Scalar.muli (Scf.iv 0#32 1#32 k) 4#32) (BitVec.ofNat 32 r) = BitVec.ofNat 32 (4 * k + r) := by
  simp [Scalar.addi, Scalar.muli, IntOp.addi, IntOp.muli, Scf.iv, BitVec.ofNat_add, BitVec.ofNat_mul, mul_comm]

theorem off4_at (k : Fin k0_t1_loop.trips) (r : Fin 4) : k0_off4 k (BitVec.ofNat 32 r.val) = ![(0 : Fin 4).val, 16 * (4 * k.val + r.val)] := by
  rw [k0_off4_eq k r]
  funext a
  match a with
  | 0 => rfl
  | 1 => simp; omega
theorem lt_t1 (k : Fin k0_t1_loop.trips) (r : Fin 4) : 4 * k.val + r.val < 512 := by
  have h : k0_t1_loop.trips = 128 := by decide
  have := k.isLt
  omega
theorem off4_zero (k : Fin k0_t1_loop.trips) (r : Fin 4) : k0_off4 k (BitVec.ofNat 32 r.val) 0 = 0 := by
  have := k0_off4_eq k r
  rw [this]; rfl

/-- One trip of the loop over row 0. -/
theorem trip1 (d : Dev nD) (L : grid0.Coords)
   (fp : Buf (Elt F) (sP.view.loc (V d (cV L) (jV L)))) (fe : Buf (Elt F) (sE.view.loc (V d (cV L) (jV L)))) v75 v91 v92 v93 v94 v95 v96 v97 v98 (k : Fin k0_t1_loop.trips) :
    iprop(own d L bP0 fp ∗ own d L bE0 fe)
    ⊢ wp frame (wpE (defs₀ (F := F)) 𝒱₀ (V d (cV L) (jV L)) none) Set.univ (
     k0_t1_body L pV (Memref.isWhole_whole _) eV (Memref.isWhole_whole _) uV (Memref.isWhole_whole _) oV (Memref.isWhole_whole _)
    sP (Memref.isWhole_whole _) sE (Memref.isWhole_whole _) sU (Memref.isWhole_whole _) sS (Memref.isWhole_whole _)
    sX (Memref.isWhole_whole _) sG (Memref.isWhole_whole _) cc0_scratch6 cc0_scratch7 cc0_scratch8 cc0_scratch9 cc0_scratch10 cc0_scoped0
     v75 v91 v92 v93 v94 v95 v96 v97 v98 0#32 k (accAt (chunk fp 0) (chunk fe 0) k.val)) fun acc => iprop(⌜acc = accAt (chunk fp 0) (chunk fe 0) (k.val + 1)⌝ ∗ own d L bP0 fp ∗ own d L bE0 fe) := by
  iintro ⟨Hp, He⟩
  have p0 := subP (inb := k0_off4_inb k 0) (inb' := inb_S4x8192_S1x8192_0_0) (off4_zero k 0)
  have p1 := subP (inb := k0_off4_inb k 1) (inb' := inb_S4x8192_S1x8192_0_0) (off4_zero k 1)
  have p2 := subP (inb := k0_off4_inb k 2) (inb' := inb_S4x8192_S1x8192_0_0) (off4_zero k 2)
  have p3 := subP (inb := k0_off4_inb k 3) (inb' := inb_S4x8192_S1x8192_0_0) (off4_zero k 3)
  have e0 := subE (inb := k0_off4_inb k 0) (inb' := inb_S4x8192_S1x8192_0_0) (off4_zero k 0)
  have e1 := subE (inb := k0_off4_inb k 1) (inb' := inb_S4x8192_S1x8192_0_0) (off4_zero k 1)
  have e2 := subE (inb := k0_off4_inb k 2) (inb' := inb_S4x8192_S1x8192_0_0) (off4_zero k 2)
  have e3 := subE (inb := k0_off4_inb k 3) (inb' := inb_S4x8192_S1x8192_0_0) (off4_zero k 3)
  sl_unfold [k0_t1_body]
  sl_exec_parts

  sl_step
  isplitr
  · ipureintro
    refine Prod.ext ?_ (Prod.ext ?_ (Prod.ext ?_ (Prod.ext ?_ (Prod.ext ?_ (Prod.ext ?_ (Prod.ext ?_ ?_))))))
    · exact congrArg₂ (fun a b => stV a b (rackV (chunk fp 0) (chunk fe 0) 0 k.val)) (chunk_P (inb := k0_off4_inb k 0) fp 0 _ (off4_at k 0) (lt_t1 k 0)) (chunk_E (inb := k0_off4_inb k 0) fe 0 _ (off4_at k 0) (lt_t1 k 0))
    · exact congrArg₂ (fun a b => stV a b (rackV (chunk fp 0) (chunk fe 0) 1 k.val)) (chunk_P (inb := k0_off4_inb k 1) fp 0 _ (off4_at k 1) (lt_t1 k 1)) (chunk_E (inb := k0_off4_inb k 1) fe 0 _ (off4_at k 1) (lt_t1 k 1))
    · exact congrArg₂ (fun a b => stV a b (rackV (chunk fp 0) (chunk fe 0) 2 k.val)) (chunk_P (inb := k0_off4_inb k 2) fp 0 _ (off4_at k 2) (lt_t1 k 2)) (chunk_E (inb := k0_off4_inb k 2) fe 0 _ (off4_at k 2) (lt_t1 k 2))
    · exact congrArg₂ (fun a b => stV a b (rackV (chunk fp 0) (chunk fe 0) 3 k.val)) (chunk_P (inb := k0_off4_inb k 3) fp 0 _ (off4_at k 3) (lt_t1 k 3)) (chunk_E (inb := k0_off4_inb k 3) fe 0 _ (off4_at k 3) (lt_t1 k 3))
    · exact stJ_congr (chunk_P (inb := k0_off4_inb k 0) fp 0 _ (off4_at k 0) (lt_t1 k 0)) (chunk_E (inb := k0_off4_inb k 0) fe 0 _ (off4_at k 0) (lt_t1 k 0)) (word_of k.val 0)
    · exact stJ_congr (chunk_P (inb := k0_off4_inb k 1) fp 0 _ (off4_at k 1) (lt_t1 k 1)) (chunk_E (inb := k0_off4_inb k 1) fe 0 _ (off4_at k 1) (lt_t1 k 1)) (word_of k.val 1)
    · exact stJ_congr (chunk_P (inb := k0_off4_inb k 2) fp 0 _ (off4_at k 2) (lt_t1 k 2)) (chunk_E (inb := k0_off4_inb k 2) fe 0 _ (off4_at k 2) (lt_t1 k 2)) (word_of k.val 2)
    · exact stJ_congr (chunk_P (inb := k0_off4_inb k 3) fp 0 _ (off4_at k 3) (lt_t1 k 3)) (chunk_E (inb := k0_off4_inb k 3) fe 0 _ (off4_at k 3) (lt_t1 k 3)) (word_of k.val 3)
  isplitl [Hp]
  · iexact Hp
  iexact He

theorem off7_at (k : Fin k0_t2_loop.trips) (r : Fin 4) : k0_off7 k (BitVec.ofNat 32 r.val) = ![(1 : Fin 4).val, 16 * (4 * k.val + r.val)] := by
  rw [k0_off7_eq k r]
  funext a
  match a with
  | 0 => rfl
  | 1 => simp; omega
theorem lt_t2 (k : Fin k0_t2_loop.trips) (r : Fin 4) : 4 * k.val + r.val < 512 := by
  have h : k0_t2_loop.trips = 128 := by decide
  have := k.isLt
  omega
theorem off7_zero (k : Fin k0_t2_loop.trips) (r : Fin 4) : k0_off7 k (BitVec.ofNat 32 r.val) 0 = 1 := by
  have := k0_off7_eq k r
  rw [this]; rfl

/-- One trip of the loop over row 1. -/
theorem trip2 (d : Dev nD) (L : grid0.Coords)
   (fp : Buf (Elt F) (sP.view.loc (V d (cV L) (jV L)))) (fe : Buf (Elt F) (sE.view.loc (V d (cV L) (jV L)))) v75 v76 v192 (k : Fin k0_t2_loop.trips) :
    iprop(own d L bP1 fp ∗ own d L bE1 fe)
    ⊢ wp frame (wpE (defs₀ (F := F)) 𝒱₀ (V d (cV L) (jV L)) none) Set.univ (
     k0_t2_body L pV (Memref.isWhole_whole _) eV (Memref.isWhole_whole _) uV (Memref.isWhole_whole _) oV (Memref.isWhole_whole _)
    sP (Memref.isWhole_whole _) sE (Memref.isWhole_whole _) sU (Memref.isWhole_whole _) sS (Memref.isWhole_whole _)
    sX (Memref.isWhole_whole _) sG (Memref.isWhole_whole _) cc0_scratch6 cc0_scratch7 cc0_scratch8 cc0_scratch9 cc0_scratch10 cc0_scoped0
     v75 v76 v192 k (accAt (chunk fp 1) (chunk fe 1) k.val)) fun acc => iprop(⌜acc = accAt (chunk fp 1) (chunk fe 1) (k.val + 1)⌝ ∗ own d L bP1 fp ∗ own d L bE1 fe) := by
  iintro ⟨Hp, He⟩
  have p0 := subP (inb := k0_off7_inb k 0) (inb' := inb_S4x8192_S1x8192_1_0) (off7_zero k 0)
  have p1 := subP (inb := k0_off7_inb k 1) (inb' := inb_S4x8192_S1x8192_1_0) (off7_zero k 1)
  have p2 := subP (inb := k0_off7_inb k 2) (inb' := inb_S4x8192_S1x8192_1_0) (off7_zero k 2)
  have p3 := subP (inb := k0_off7_inb k 3) (inb' := inb_S4x8192_S1x8192_1_0) (off7_zero k 3)
  have e0 := subE (inb := k0_off7_inb k 0) (inb' := inb_S4x8192_S1x8192_1_0) (off7_zero k 0)
  have e1 := subE (inb := k0_off7_inb k 1) (inb' := inb_S4x8192_S1x8192_1_0) (off7_zero k 1)
  have e2 := subE (inb := k0_off7_inb k 2) (inb' := inb_S4x8192_S1x8192_1_0) (off7_zero k 2)
  have e3 := subE (inb := k0_off7_inb k 3) (inb' := inb_S4x8192_S1x8192_1_0) (off7_zero k 3)
  sl_unfold [k0_t2_body]
  sl_exec_parts

  sl_step
  isplitr
  · ipureintro
    refine Prod.ext ?_ (Prod.ext ?_ (Prod.ext ?_ (Prod.ext ?_ (Prod.ext ?_ (Prod.ext ?_ (Prod.ext ?_ ?_))))))
    · exact congrArg₂ (fun a b => stV a b (rackV (chunk fp 1) (chunk fe 1) 0 k.val)) (chunk_P (inb := k0_off7_inb k 0) fp 1 _ (off7_at k 0) (lt_t2 k 0)) (chunk_E (inb := k0_off7_inb k 0) fe 1 _ (off7_at k 0) (lt_t2 k 0))
    · exact congrArg₂ (fun a b => stV a b (rackV (chunk fp 1) (chunk fe 1) 1 k.val)) (chunk_P (inb := k0_off7_inb k 1) fp 1 _ (off7_at k 1) (lt_t2 k 1)) (chunk_E (inb := k0_off7_inb k 1) fe 1 _ (off7_at k 1) (lt_t2 k 1))
    · exact congrArg₂ (fun a b => stV a b (rackV (chunk fp 1) (chunk fe 1) 2 k.val)) (chunk_P (inb := k0_off7_inb k 2) fp 1 _ (off7_at k 2) (lt_t2 k 2)) (chunk_E (inb := k0_off7_inb k 2) fe 1 _ (off7_at k 2) (lt_t2 k 2))
    · exact congrArg₂ (fun a b => stV a b (rackV (chunk fp 1) (chunk fe 1) 3 k.val)) (chunk_P (inb := k0_off7_inb k 3) fp 1 _ (off7_at k 3) (lt_t2 k 3)) (chunk_E (inb := k0_off7_inb k 3) fe 1 _ (off7_at k 3) (lt_t2 k 3))
    · exact stJ_congr (chunk_P (inb := k0_off7_inb k 0) fp 1 _ (off7_at k 0) (lt_t2 k 0)) (chunk_E (inb := k0_off7_inb k 0) fe 1 _ (off7_at k 0) (lt_t2 k 0)) (word_of k.val 0)
    · exact stJ_congr (chunk_P (inb := k0_off7_inb k 1) fp 1 _ (off7_at k 1) (lt_t2 k 1)) (chunk_E (inb := k0_off7_inb k 1) fe 1 _ (off7_at k 1) (lt_t2 k 1)) (word_of k.val 1)
    · exact stJ_congr (chunk_P (inb := k0_off7_inb k 2) fp 1 _ (off7_at k 2) (lt_t2 k 2)) (chunk_E (inb := k0_off7_inb k 2) fe 1 _ (off7_at k 2) (lt_t2 k 2)) (word_of k.val 2)
    · exact stJ_congr (chunk_P (inb := k0_off7_inb k 3) fp 1 _ (off7_at k 3) (lt_t2 k 3)) (chunk_E (inb := k0_off7_inb k 3) fe 1 _ (off7_at k 3) (lt_t2 k 3)) (word_of k.val 3)
  isplitl [Hp]
  · iexact Hp
  iexact He

theorem off10_at (k : Fin k0_t3_loop.trips) (r : Fin 4) : k0_off10 k (BitVec.ofNat 32 r.val) = ![(2 : Fin 4).val, 16 * (4 * k.val + r.val)] := by
  rw [k0_off10_eq k r]
  funext a
  match a with
  | 0 => rfl
  | 1 => simp; omega
theorem lt_t3 (k : Fin k0_t3_loop.trips) (r : Fin 4) : 4 * k.val + r.val < 512 := by
  have h : k0_t3_loop.trips = 128 := by decide
  have := k.isLt
  omega
theorem off10_zero (k : Fin k0_t3_loop.trips) (r : Fin 4) : k0_off10 k (BitVec.ofNat 32 r.val) 0 = 2 := by
  have := k0_off10_eq k r
  rw [this]; rfl

/-- One trip of the loop over row 2. -/
theorem trip3 (d : Dev nD) (L : grid0.Coords)
   (fp : Buf (Elt F) (sP.view.loc (V d (cV L) (jV L)))) (fe : Buf (Elt F) (sE.view.loc (V d (cV L) (jV L))))  (k : Fin k0_t3_loop.trips) :
    iprop(own d L bP2 fp ∗ own d L bE2 fe)
    ⊢ wp frame (wpE (defs₀ (F := F)) 𝒱₀ (V d (cV L) (jV L)) none) Set.univ (
     k0_t3_body L pV (Memref.isWhole_whole _) eV (Memref.isWhole_whole _) uV (Memref.isWhole_whole _) oV (Memref.isWhole_whole _)
    sP (Memref.isWhole_whole _) sE (Memref.isWhole_whole _) sU (Memref.isWhole_whole _) sS (Memref.isWhole_whole _)
    sX (Memref.isWhole_whole _) sG (Memref.isWhole_whole _) cc0_scratch6 cc0_scratch7 cc0_scratch8 cc0_scratch9 cc0_scratch10 cc0_scoped0
      k (accAt (chunk fp 2) (chunk fe 2) k.val)) fun acc => iprop(⌜acc = accAt (chunk fp 2) (chunk fe 2) (k.val + 1)⌝ ∗ own d L bP2 fp ∗ own d L bE2 fe) := by
  iintro ⟨Hp, He⟩
  have p0 := subP (inb := k0_off10_inb k 0) (inb' := inb_S4x8192_S1x8192_2_0) (off10_zero k 0)
  have p1 := subP (inb := k0_off10_inb k 1) (inb' := inb_S4x8192_S1x8192_2_0) (off10_zero k 1)
  have p2 := subP (inb := k0_off10_inb k 2) (inb' := inb_S4x8192_S1x8192_2_0) (off10_zero k 2)
  have p3 := subP (inb := k0_off10_inb k 3) (inb' := inb_S4x8192_S1x8192_2_0) (off10_zero k 3)
  have e0 := subE (inb := k0_off10_inb k 0) (inb' := inb_S4x8192_S1x8192_2_0) (off10_zero k 0)
  have e1 := subE (inb := k0_off10_inb k 1) (inb' := inb_S4x8192_S1x8192_2_0) (off10_zero k 1)
  have e2 := subE (inb := k0_off10_inb k 2) (inb' := inb_S4x8192_S1x8192_2_0) (off10_zero k 2)
  have e3 := subE (inb := k0_off10_inb k 3) (inb' := inb_S4x8192_S1x8192_2_0) (off10_zero k 3)
  sl_unfold [k0_t3_body]
  sl_exec_parts

  sl_step
  isplitr
  · ipureintro
    refine Prod.ext ?_ (Prod.ext ?_ (Prod.ext ?_ (Prod.ext ?_ (Prod.ext ?_ (Prod.ext ?_ (Prod.ext ?_ ?_))))))
    · exact congrArg₂ (fun a b => stV a b (rackV (chunk fp 2) (chunk fe 2) 0 k.val)) (chunk_P (inb := k0_off10_inb k 0) fp 2 _ (off10_at k 0) (lt_t3 k 0)) (chunk_E (inb := k0_off10_inb k 0) fe 2 _ (off10_at k 0) (lt_t3 k 0))
    · exact congrArg₂ (fun a b => stV a b (rackV (chunk fp 2) (chunk fe 2) 1 k.val)) (chunk_P (inb := k0_off10_inb k 1) fp 2 _ (off10_at k 1) (lt_t3 k 1)) (chunk_E (inb := k0_off10_inb k 1) fe 2 _ (off10_at k 1) (lt_t3 k 1))
    · exact congrArg₂ (fun a b => stV a b (rackV (chunk fp 2) (chunk fe 2) 2 k.val)) (chunk_P (inb := k0_off10_inb k 2) fp 2 _ (off10_at k 2) (lt_t3 k 2)) (chunk_E (inb := k0_off10_inb k 2) fe 2 _ (off10_at k 2) (lt_t3 k 2))
    · exact congrArg₂ (fun a b => stV a b (rackV (chunk fp 2) (chunk fe 2) 3 k.val)) (chunk_P (inb := k0_off10_inb k 3) fp 2 _ (off10_at k 3) (lt_t3 k 3)) (chunk_E (inb := k0_off10_inb k 3) fe 2 _ (off10_at k 3) (lt_t3 k 3))
    · exact stJ_congr (chunk_P (inb := k0_off10_inb k 0) fp 2 _ (off10_at k 0) (lt_t3 k 0)) (chunk_E (inb := k0_off10_inb k 0) fe 2 _ (off10_at k 0) (lt_t3 k 0)) (word_of k.val 0)
    · exact stJ_congr (chunk_P (inb := k0_off10_inb k 1) fp 2 _ (off10_at k 1) (lt_t3 k 1)) (chunk_E (inb := k0_off10_inb k 1) fe 2 _ (off10_at k 1) (lt_t3 k 1)) (word_of k.val 1)
    · exact stJ_congr (chunk_P (inb := k0_off10_inb k 2) fp 2 _ (off10_at k 2) (lt_t3 k 2)) (chunk_E (inb := k0_off10_inb k 2) fe 2 _ (off10_at k 2) (lt_t3 k 2)) (word_of k.val 2)
    · exact stJ_congr (chunk_P (inb := k0_off10_inb k 3) fp 2 _ (off10_at k 3) (lt_t3 k 3)) (chunk_E (inb := k0_off10_inb k 3) fe 2 _ (off10_at k 3) (lt_t3 k 3)) (word_of k.val 3)
  isplitl [Hp]
  · iexact Hp
  iexact He

theorem off13_at (k : Fin k0_t4_loop.trips) (r : Fin 4) : k0_off13 k (BitVec.ofNat 32 r.val) = ![(3 : Fin 4).val, 16 * (4 * k.val + r.val)] := by
  rw [k0_off13_eq k r]
  funext a
  match a with
  | 0 => rfl
  | 1 => simp; omega
theorem lt_t4 (k : Fin k0_t4_loop.trips) (r : Fin 4) : 4 * k.val + r.val < 512 := by
  have h : k0_t4_loop.trips = 128 := by decide
  have := k.isLt
  omega
theorem off13_zero (k : Fin k0_t4_loop.trips) (r : Fin 4) : k0_off13 k (BitVec.ofNat 32 r.val) 0 = 3 := by
  have := k0_off13_eq k r
  rw [this]; rfl

/-- One trip of the loop over row 3. -/
theorem trip4 (d : Dev nD) (L : grid0.Coords)
   (fp : Buf (Elt F) (sP.view.loc (V d (cV L) (jV L)))) (fe : Buf (Elt F) (sE.view.loc (V d (cV L) (jV L)))) v75 (k : Fin k0_t4_loop.trips) :
    iprop(own d L bP3 fp ∗ own d L bE3 fe)
    ⊢ wp frame (wpE (defs₀ (F := F)) 𝒱₀ (V d (cV L) (jV L)) none) Set.univ (
     k0_t4_body L pV (Memref.isWhole_whole _) eV (Memref.isWhole_whole _) uV (Memref.isWhole_whole _) oV (Memref.isWhole_whole _)
    sP (Memref.isWhole_whole _) sE (Memref.isWhole_whole _) sU (Memref.isWhole_whole _) sS (Memref.isWhole_whole _)
    sX (Memref.isWhole_whole _) sG (Memref.isWhole_whole _) cc0_scratch6 cc0_scratch7 cc0_scratch8 cc0_scratch9 cc0_scratch10 cc0_scoped0
     v75 k (accAt (chunk fp 3) (chunk fe 3) k.val)) fun acc => iprop(⌜acc = accAt (chunk fp 3) (chunk fe 3) (k.val + 1)⌝ ∗ own d L bP3 fp ∗ own d L bE3 fe) := by
  iintro ⟨Hp, He⟩
  have p0 := subP (inb := k0_off13_inb k 0) (inb' := inb_S4x8192_S1x8192_3_0) (off13_zero k 0)
  have p1 := subP (inb := k0_off13_inb k 1) (inb' := inb_S4x8192_S1x8192_3_0) (off13_zero k 1)
  have p2 := subP (inb := k0_off13_inb k 2) (inb' := inb_S4x8192_S1x8192_3_0) (off13_zero k 2)
  have p3 := subP (inb := k0_off13_inb k 3) (inb' := inb_S4x8192_S1x8192_3_0) (off13_zero k 3)
  have e0 := subE (inb := k0_off13_inb k 0) (inb' := inb_S4x8192_S1x8192_3_0) (off13_zero k 0)
  have e1 := subE (inb := k0_off13_inb k 1) (inb' := inb_S4x8192_S1x8192_3_0) (off13_zero k 1)
  have e2 := subE (inb := k0_off13_inb k 2) (inb' := inb_S4x8192_S1x8192_3_0) (off13_zero k 2)
  have e3 := subE (inb := k0_off13_inb k 3) (inb' := inb_S4x8192_S1x8192_3_0) (off13_zero k 3)
  sl_unfold [k0_t4_body]
  sl_exec_parts

  sl_step
  isplitr
  · ipureintro
    refine Prod.ext ?_ (Prod.ext ?_ (Prod.ext ?_ (Prod.ext ?_ (Prod.ext ?_ (Prod.ext ?_ (Prod.ext ?_ ?_))))))
    · exact congrArg₂ (fun a b => stV a b (rackV (chunk fp 3) (chunk fe 3) 0 k.val)) (chunk_P (inb := k0_off13_inb k 0) fp 3 _ (off13_at k 0) (lt_t4 k 0)) (chunk_E (inb := k0_off13_inb k 0) fe 3 _ (off13_at k 0) (lt_t4 k 0))
    · exact congrArg₂ (fun a b => stV a b (rackV (chunk fp 3) (chunk fe 3) 1 k.val)) (chunk_P (inb := k0_off13_inb k 1) fp 3 _ (off13_at k 1) (lt_t4 k 1)) (chunk_E (inb := k0_off13_inb k 1) fe 3 _ (off13_at k 1) (lt_t4 k 1))
    · exact congrArg₂ (fun a b => stV a b (rackV (chunk fp 3) (chunk fe 3) 2 k.val)) (chunk_P (inb := k0_off13_inb k 2) fp 3 _ (off13_at k 2) (lt_t4 k 2)) (chunk_E (inb := k0_off13_inb k 2) fe 3 _ (off13_at k 2) (lt_t4 k 2))
    · exact congrArg₂ (fun a b => stV a b (rackV (chunk fp 3) (chunk fe 3) 3 k.val)) (chunk_P (inb := k0_off13_inb k 3) fp 3 _ (off13_at k 3) (lt_t4 k 3)) (chunk_E (inb := k0_off13_inb k 3) fe 3 _ (off13_at k 3) (lt_t4 k 3))
    · exact stJ_congr (chunk_P (inb := k0_off13_inb k 0) fp 3 _ (off13_at k 0) (lt_t4 k 0)) (chunk_E (inb := k0_off13_inb k 0) fe 3 _ (off13_at k 0) (lt_t4 k 0)) (word_of k.val 0)
    · exact stJ_congr (chunk_P (inb := k0_off13_inb k 1) fp 3 _ (off13_at k 1) (lt_t4 k 1)) (chunk_E (inb := k0_off13_inb k 1) fe 3 _ (off13_at k 1) (lt_t4 k 1)) (word_of k.val 1)
    · exact stJ_congr (chunk_P (inb := k0_off13_inb k 2) fp 3 _ (off13_at k 2) (lt_t4 k 2)) (chunk_E (inb := k0_off13_inb k 2) fe 3 _ (off13_at k 2) (lt_t4 k 2)) (word_of k.val 2)
    · exact stJ_congr (chunk_P (inb := k0_off13_inb k 3) fp 3 _ (off13_at k 3) (lt_t4 k 3)) (chunk_E (inb := k0_off13_inb k 3) fe 3 _ (off13_at k 3) (lt_t4 k 3)) (word_of k.val 3)
  isplitl [Hp]
  · iexact Hp
  iexact He

end Cert.Proof.Sampler

end
-- ==== Proof.Loops0.lean ====
/-
  The loops whole, from one trip each.
-/
module

public import proofs.«01_k».proof.Proof.Trips
public import Idealize.ShloMosaic.Lib.PointwiseCore
public import Idealize.ShloMosaic.Lib.VecWindow

@[expose] public section

noncomputable section

namespace Cert.Proof.Sampler

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The loop over row 0: the racks over all the row's chunks. -/
theorem loop1 (d : Dev nD) (L : grid0.Coords)
    (fp : Buf (Elt F) (sP.view.loc (V d (cV L) (jV L)))) (fe : Buf (Elt F) (sE.view.loc (V d (cV L) (jV L)))) v75 v91 v92 v93 v94 v95 v96 v97 v98
    (pc ec : ℕ → FVec F S16 .f32) {β : Type} (kk : Acc F → Prog (TpuEff nD τ sig (Elt F) Λ₀ (.scVector (cV L) (jV L))) β) (Q : β → sProp (𝕄 F)) :
    iprop(own d L bP0 fp ∗ own d L bE0 fe ∗ ⌜chunk fp 0 = pc ∧ chunk fe 0 = ec⌝)
    ⊢ iprop((∀ acc, iprop(⌜acc = accAt pc ec 128⌝ ∗ own d L bP0 fp ∗ own d L bE0 fe)
          -∗ wp frame (wpE (defs₀ (F := F)) 𝒱₀ (V d (cV L) (jV L)) none) Set.univ (kk acc) Q)
        -∗ wp frame (wpE (defs₀ (F := F)) 𝒱₀ (V d (cV L) (jV L)) none) Set.univ
          (Scf.Loop.for k0_t1_loop k0_t1_ok (accAt pc ec 0) (k0_t1_body L pV (Memref.isWhole_whole _) eV (Memref.isWhole_whole _) uV (Memref.isWhole_whole _) oV (Memref.isWhole_whole _)
        sP (Memref.isWhole_whole _) sE (Memref.isWhole_whole _) sU (Memref.isWhole_whole _) sS (Memref.isWhole_whole _)
        sX (Memref.isWhole_whole _) sG (Memref.isWhole_whole _) cc0_scratch6 cc0_scratch7 cc0_scratch8 cc0_scratch9 cc0_scratch10 cc0_scoped0 v75 v91 v92 v93 v94 v95 v96 v97 v98 0#32) >>= kk) Q) := by
  iintro ⟨Hp, He, %hpe⟩
  obtain ⟨rfl, rfl⟩ := hpe
  have hb : ∀ (k : Fin k0_t1_loop.trips) (acc : Acc F), iprop(⌜acc = accAt (chunk fp 0) (chunk fe 0) k.val⌝ ∗ own d L bP0 fp ∗ own d L bE0 fe)
      ⊢ wp frame (wpE (defs₀ (F := F)) 𝒱₀ (V d (cV L) (jV L)) none) Set.univ (k0_t1_body L pV (Memref.isWhole_whole _) eV (Memref.isWhole_whole _) uV (Memref.isWhole_whole _) oV (Memref.isWhole_whole _)
        sP (Memref.isWhole_whole _) sE (Memref.isWhole_whole _) sU (Memref.isWhole_whole _) sS (Memref.isWhole_whole _)
        sX (Memref.isWhole_whole _) sG (Memref.isWhole_whole _) cc0_scratch6 cc0_scratch7 cc0_scratch8 cc0_scratch9 cc0_scratch10 cc0_scoped0 v75 v91 v92 v93 v94 v95 v96 v97 v98 0#32 k acc)
        fun acc => iprop(⌜acc = accAt (chunk fp 0) (chunk fe 0) (k.val + 1)⌝ ∗ own d L bP0 fp ∗ own d L bE0 fe) := by
    intro k acc
    iintro ⟨%h, H⟩
    subst h
    iapply (trip1 d L fp fe v75 v91 v92 v93 v94 v95 v96 v97 v98 k)
    iexact H
  have hl := Scf.wp_for_bind frame (wpE (defs₀ (F := F)) 𝒱₀ (V d (cV L) (jV L)) none) Set.univ k0_t1_loop.lb k0_t1_loop.ub k0_t1_loop.st k0_t1_ok
    (accAt (chunk fp 0) (chunk fe 0) 0) (k0_t1_body L pV (Memref.isWhole_whole _) eV (Memref.isWhole_whole _) uV (Memref.isWhole_whole _) oV (Memref.isWhole_whole _)
        sP (Memref.isWhole_whole _) sE (Memref.isWhole_whole _) sU (Memref.isWhole_whole _) sS (Memref.isWhole_whole _)
        sX (Memref.isWhole_whole _) sG (Memref.isWhole_whole _) cc0_scratch6 cc0_scratch7 cc0_scratch8 cc0_scratch9 cc0_scratch10 cc0_scoped0 v75 v91 v92 v93 v94 v95 v96 v97 v98 0#32)
    (fun k acc => iprop(⌜acc = accAt (chunk fp 0) (chunk fe 0) k⌝ ∗ own d L bP0 fp ∗ own d L bE0 fe)) hb (kk := kk) (Q := Q)
  have h128 : Scf.trips k0_t1_loop.lb k0_t1_loop.ub k0_t1_loop.st = 128 := by decide
  rw [h128] at hl
  iapply hl
  isplitr
  · ipureintro; rfl
  isplitl [Hp] <;> iassumption

/-- The loop over row 1: the racks over all the row's chunks. -/
theorem loop2 (d : Dev nD) (L : grid0.Coords)
    (fp : Buf (Elt F) (sP.view.loc (V d (cV L) (jV L)))) (fe : Buf (Elt F) (sE.view.loc (V d (cV L) (jV L)))) v75 v76 v192
    (pc ec : ℕ → FVec F S16 .f32) {β : Type} (kk : Acc F → Prog (TpuEff nD τ sig (Elt F) Λ₀ (.scVector (cV L) (jV L))) β) (Q : β → sProp (𝕄 F)) :
    iprop(own d L bP1 fp ∗ own d L bE1 fe ∗ ⌜chunk fp 1 = pc ∧ chunk fe 1 = ec⌝)
    ⊢ iprop((∀ acc, iprop(⌜acc = accAt pc ec 128⌝ ∗ own d L bP1 fp ∗ own d L bE1 fe)
          -∗ wp frame (wpE (defs₀ (F := F)) 𝒱₀ (V d (cV L) (jV L)) none) Set.univ (kk acc) Q)
        -∗ wp frame (wpE (defs₀ (F := F)) 𝒱₀ (V d (cV L) (jV L)) none) Set.univ
          (Scf.Loop.for k0_t2_loop k0_t2_ok (accAt pc ec 0) (k0_t2_body L pV (Memref.isWhole_whole _) eV (Memref.isWhole_whole _) uV (Memref.isWhole_whole _) oV (Memref.isWhole_whole _)
        sP (Memref.isWhole_whole _) sE (Memref.isWhole_whole _) sU (Memref.isWhole_whole _) sS (Memref.isWhole_whole _)
        sX (Memref.isWhole_whole _) sG (Memref.isWhole_whole _) cc0_scratch6 cc0_scratch7 cc0_scratch8 cc0_scratch9 cc0_scratch10 cc0_scoped0 v75 v76 v192) >>= kk) Q) := by
  iintro ⟨Hp, He, %hpe⟩
  obtain ⟨rfl, rfl⟩ := hpe
  have hb : ∀ (k : Fin k0_t2_loop.trips) (acc : Acc F), iprop(⌜acc = accAt (chunk fp 1) (chunk fe 1) k.val⌝ ∗ own d L bP1 fp ∗ own d L bE1 fe)
      ⊢ wp frame (wpE (defs₀ (F := F)) 𝒱₀ (V d (cV L) (jV L)) none) Set.univ (k0_t2_body L pV (Memref.isWhole_whole _) eV (Memref.isWhole_whole _) uV (Memref.isWhole_whole _) oV (Memref.isWhole_whole _)
        sP (Memref.isWhole_whole _) sE (Memref.isWhole_whole _) sU (Memref.isWhole_whole _) sS (Memref.isWhole_whole _)
        sX (Memref.isWhole_whole _) sG (Memref.isWhole_whole _) cc0_scratch6 cc0_scratch7 cc0_scratch8 cc0_scratch9 cc0_scratch10 cc0_scoped0 v75 v76 v192 k acc)
        fun acc => iprop(⌜acc = accAt (chunk fp 1) (chunk fe 1) (k.val + 1)⌝ ∗ own d L bP1 fp ∗ own d L bE1 fe) := by
    intro k acc
    iintro ⟨%h, H⟩
    subst h
    iapply (trip2 d L fp fe v75 v76 v192 k)
    iexact H
  have hl := Scf.wp_for_bind frame (wpE (defs₀ (F := F)) 𝒱₀ (V d (cV L) (jV L)) none) Set.univ k0_t2_loop.lb k0_t2_loop.ub k0_t2_loop.st k0_t2_ok
    (accAt (chunk fp 1) (chunk fe 1) 0) (k0_t2_body L pV (Memref.isWhole_whole _) eV (Memref.isWhole_whole _) uV (Memref.isWhole_whole _) oV (Memref.isWhole_whole _)
        sP (Memref.isWhole_whole _) sE (Memref.isWhole_whole _) sU (Memref.isWhole_whole _) sS (Memref.isWhole_whole _)
        sX (Memref.isWhole_whole _) sG (Memref.isWhole_whole _) cc0_scratch6 cc0_scratch7 cc0_scratch8 cc0_scratch9 cc0_scratch10 cc0_scoped0 v75 v76 v192)
    (fun k acc => iprop(⌜acc = accAt (chunk fp 1) (chunk fe 1) k⌝ ∗ own d L bP1 fp ∗ own d L bE1 fe)) hb (kk := kk) (Q := Q)
  have h128 : Scf.trips k0_t2_loop.lb k0_t2_loop.ub k0_t2_loop.st = 128 := by decide
  rw [h128] at hl
  iapply hl
  isplitr
  · ipureintro; rfl
  isplitl [Hp] <;> iassumption

/-- The loop over row 2: the racks over all the row's chunks. -/
theorem loop3 (d : Dev nD) (L : grid0.Coords)
    (fp : Buf (Elt F) (sP.view.loc (V d (cV L) (jV L)))) (fe : Buf (Elt F) (sE.view.loc (V d (cV L) (jV L))))
    (pc ec : ℕ → FVec F S16 .f32) {β : Type} (kk : Acc F → Prog (TpuEff nD τ sig (Elt F) Λ₀ (.scVector (cV L) (jV L))) β) (Q : β → sProp (𝕄 F)) :
    iprop(own d L bP2 fp ∗ own d L bE2 fe ∗ ⌜chunk fp 2 = pc ∧ chunk fe 2 = ec⌝)
    ⊢ iprop((∀ acc, iprop(⌜acc = accAt pc ec 128⌝ ∗ own d L bP2 fp ∗ own d L bE2 fe)
          -∗ wp frame (wpE (defs₀ (F := F)) 𝒱₀ (V d (cV L) (jV L)) none) Set.univ (kk acc) Q)
        -∗ wp frame (wpE (defs₀ (F := F)) 𝒱₀ (V d (cV L) (jV L)) none) Set.univ
          (Scf.Loop.for k0_t3_loop k0_t3_ok (accAt pc ec 0) (k0_t3_body L pV (Memref.isWhole_whole _) eV (Memref.isWhole_whole _) uV (Memref.isWhole_whole _) oV (Memref.isWhole_whole _)
        sP (Memref.isWhole_whole _) sE (Memref.isWhole_whole _) sU (Memref.isWhole_whole _) sS (Memref.isWhole_whole _)
        sX (Memref.isWhole_whole _) sG (Memref.isWhole_whole _) cc0_scratch6 cc0_scratch7 cc0_scratch8 cc0_scratch9 cc0_scratch10 cc0_scoped0 ) >>= kk) Q) := by
  iintro ⟨Hp, He, %hpe⟩
  obtain ⟨rfl, rfl⟩ := hpe
  have hb : ∀ (k : Fin k0_t3_loop.trips) (acc : Acc F), iprop(⌜acc = accAt (chunk fp 2) (chunk fe 2) k.val⌝ ∗ own d L bP2 fp ∗ own d L bE2 fe)
      ⊢ wp frame (wpE (defs₀ (F := F)) 𝒱₀ (V d (cV L) (jV L)) none) Set.univ (k0_t3_body L pV (Memref.isWhole_whole _) eV (Memref.isWhole_whole _) uV (Memref.isWhole_whole _) oV (Memref.isWhole_whole _)
        sP (Memref.isWhole_whole _) sE (Memref.isWhole_whole _) sU (Memref.isWhole_whole _) sS (Memref.isWhole_whole _)
        sX (Memref.isWhole_whole _) sG (Memref.isWhole_whole _) cc0_scratch6 cc0_scratch7 cc0_scratch8 cc0_scratch9 cc0_scratch10 cc0_scoped0  k acc)
        fun acc => iprop(⌜acc = accAt (chunk fp 2) (chunk fe 2) (k.val + 1)⌝ ∗ own d L bP2 fp ∗ own d L bE2 fe) := by
    intro k acc
    iintro ⟨%h, H⟩
    subst h
    iapply (trip3 d L fp fe  k)
    iexact H
  have hl := Scf.wp_for_bind frame (wpE (defs₀ (F := F)) 𝒱₀ (V d (cV L) (jV L)) none) Set.univ k0_t3_loop.lb k0_t3_loop.ub k0_t3_loop.st k0_t3_ok
    (accAt (chunk fp 2) (chunk fe 2) 0) (k0_t3_body L pV (Memref.isWhole_whole _) eV (Memref.isWhole_whole _) uV (Memref.isWhole_whole _) oV (Memref.isWhole_whole _)
        sP (Memref.isWhole_whole _) sE (Memref.isWhole_whole _) sU (Memref.isWhole_whole _) sS (Memref.isWhole_whole _)
        sX (Memref.isWhole_whole _) sG (Memref.isWhole_whole _) cc0_scratch6 cc0_scratch7 cc0_scratch8 cc0_scratch9 cc0_scratch10 cc0_scoped0 )
    (fun k acc => iprop(⌜acc = accAt (chunk fp 2) (chunk fe 2) k⌝ ∗ own d L bP2 fp ∗ own d L bE2 fe)) hb (kk := kk) (Q := Q)
  have h128 : Scf.trips k0_t3_loop.lb k0_t3_loop.ub k0_t3_loop.st = 128 := by decide
  rw [h128] at hl
  iapply hl
  isplitr
  · ipureintro; rfl
  isplitl [Hp] <;> iassumption

/-- The loop over row 3: the racks over all the row's chunks. -/
theorem loop4 (d : Dev nD) (L : grid0.Coords)
    (fp : Buf (Elt F) (sP.view.loc (V d (cV L) (jV L)))) (fe : Buf (Elt F) (sE.view.loc (V d (cV L) (jV L)))) v75
    (pc ec : ℕ → FVec F S16 .f32) {β : Type} (kk : Acc F → Prog (TpuEff nD τ sig (Elt F) Λ₀ (.scVector (cV L) (jV L))) β) (Q : β → sProp (𝕄 F)) :
    iprop(own d L bP3 fp ∗ own d L bE3 fe ∗ ⌜chunk fp 3 = pc ∧ chunk fe 3 = ec⌝)
    ⊢ iprop((∀ acc, iprop(⌜acc = accAt pc ec 128⌝ ∗ own d L bP3 fp ∗ own d L bE3 fe)
          -∗ wp frame (wpE (defs₀ (F := F)) 𝒱₀ (V d (cV L) (jV L)) none) Set.univ (kk acc) Q)
        -∗ wp frame (wpE (defs₀ (F := F)) 𝒱₀ (V d (cV L) (jV L)) none) Set.univ
          (Scf.Loop.for k0_t4_loop k0_t4_ok (accAt pc ec 0) (k0_t4_body L pV (Memref.isWhole_whole _) eV (Memref.isWhole_whole _) uV (Memref.isWhole_whole _) oV (Memref.isWhole_whole _)
        sP (Memref.isWhole_whole _) sE (Memref.isWhole_whole _) sU (Memref.isWhole_whole _) sS (Memref.isWhole_whole _)
        sX (Memref.isWhole_whole _) sG (Memref.isWhole_whole _) cc0_scratch6 cc0_scratch7 cc0_scratch8 cc0_scratch9 cc0_scratch10 cc0_scoped0 v75) >>= kk) Q) := by
  iintro ⟨Hp, He, %hpe⟩
  obtain ⟨rfl, rfl⟩ := hpe
  have hb : ∀ (k : Fin k0_t4_loop.trips) (acc : Acc F), iprop(⌜acc = accAt (chunk fp 3) (chunk fe 3) k.val⌝ ∗ own d L bP3 fp ∗ own d L bE3 fe)
      ⊢ wp frame (wpE (defs₀ (F := F)) 𝒱₀ (V d (cV L) (jV L)) none) Set.univ (k0_t4_body L pV (Memref.isWhole_whole _) eV (Memref.isWhole_whole _) uV (Memref.isWhole_whole _) oV (Memref.isWhole_whole _)
        sP (Memref.isWhole_whole _) sE (Memref.isWhole_whole _) sU (Memref.isWhole_whole _) sS (Memref.isWhole_whole _)
        sX (Memref.isWhole_whole _) sG (Memref.isWhole_whole _) cc0_scratch6 cc0_scratch7 cc0_scratch8 cc0_scratch9 cc0_scratch10 cc0_scoped0 v75 k acc)
        fun acc => iprop(⌜acc = accAt (chunk fp 3) (chunk fe 3) (k.val + 1)⌝ ∗ own d L bP3 fp ∗ own d L bE3 fe) := by
    intro k acc
    iintro ⟨%h, H⟩
    subst h
    iapply (trip4 d L fp fe v75 k)
    iexact H
  have hl := Scf.wp_for_bind frame (wpE (defs₀ (F := F)) 𝒱₀ (V d (cV L) (jV L)) none) Set.univ k0_t4_loop.lb k0_t4_loop.ub k0_t4_loop.st k0_t4_ok
    (accAt (chunk fp 3) (chunk fe 3) 0) (k0_t4_body L pV (Memref.isWhole_whole _) eV (Memref.isWhole_whole _) uV (Memref.isWhole_whole _) oV (Memref.isWhole_whole _)
        sP (Memref.isWhole_whole _) sE (Memref.isWhole_whole _) sU (Memref.isWhole_whole _) sS (Memref.isWhole_whole _)
        sX (Memref.isWhole_whole _) sG (Memref.isWhole_whole _) cc0_scratch6 cc0_scratch7 cc0_scratch8 cc0_scratch9 cc0_scratch10 cc0_scoped0 v75)
    (fun k acc => iprop(⌜acc = accAt (chunk fp 3) (chunk fe 3) k⌝ ∗ own d L bP3 fp ∗ own d L bE3 fe)) hb (kk := kk) (Q := Q)
  have h128 : Scf.trips k0_t4_loop.lb k0_t4_loop.ub k0_t4_loop.st = 128 := by decide
  rw [h128] at hl
  iapply hl
  isplitr
  · ipureintro; rfl
  isplitl [Hp] <;> iassumption

/-- The chunks of a row of 8192 elements. -/
def rowChunk (x : Vec F S8192 .f32) (c : ℕ) : FVec F S16 .f32 := fun l => x (ix1 ⟨(16 * c + (l 0).val) % 8192, Nat.mod_lt _ (by decide)⟩)

omit [FloatOps F] in
theorem chunk_rowP0 (f : S4x8192.Idx → F .f32) : chunk f 0 = rowChunk (bP0.view.read (Elt F) f) := by
  funext c l
  show f _ = f _
  congr 1
  show _ = (Rect.unit (s := S4x8192) ![0, 0] S1x8192.size inb_S4x8192_S1x8192_0_0).emb (Shape.reshapeEquiv squeezes_S1x8192_S8192.numel_eq _)
  rw [show squeezes_S1x8192_S8192.numel_eq = squeezes_S1x8192_S8192.numel_eq from rfl, Shape.reshapeEquiv_cons_one]
  funext a
  apply Fin.ext
  rw [Rect.emb_apply]
  match a with
  | 0 => rfl
  | 1 => simp [Rect.unit]; rfl

omit [FloatOps F] in
theorem chunk_rowP1 (f : S4x8192.Idx → F .f32) : chunk f 1 = rowChunk (bP1.view.read (Elt F) f) := by
  funext c l
  show f _ = f _
  congr 1
  show _ = (Rect.unit (s := S4x8192) ![1, 0] S1x8192.size inb_S4x8192_S1x8192_1_0).emb (Shape.reshapeEquiv squeezes_S1x8192_S8192.numel_eq _)
  rw [show squeezes_S1x8192_S8192.numel_eq = squeezes_S1x8192_S8192.numel_eq from rfl, Shape.reshapeEquiv_cons_one]
  funext a
  apply Fin.ext
  rw [Rect.emb_apply]
  match a with
  | 0 => rfl
  | 1 => simp [Rect.unit]; rfl

omit [FloatOps F] in
theorem chunk_rowP2 (f : S4x8192.Idx → F .f32) : chunk f 2 = rowChunk (bP2.view.read (Elt F) f) := by
  funext c l
  show f _ = f _
  congr 1
  show _ = (Rect.unit (s := S4x8192) ![2, 0] S1x8192.size inb_S4x8192_S1x8192_2_0).emb (Shape.reshapeEquiv squeezes_S1x8192_S8192.numel_eq _)
  rw [show squeezes_S1x8192_S8192.numel_eq = squeezes_S1x8192_S8192.numel_eq from rfl, Shape.reshapeEquiv_cons_one]
  funext a
  apply Fin.ext
  rw [Rect.emb_apply]
  match a with
  | 0 => rfl
  | 1 => simp [Rect.unit]; rfl

omit [FloatOps F] in
theorem chunk_rowP3 (f : S4x8192.Idx → F .f32) : chunk f 3 = rowChunk (bP3.view.read (Elt F) f) := by
  funext c l
  show f _ = f _
  congr 1
  show _ = (Rect.unit (s := S4x8192) ![3, 0] S1x8192.size inb_S4x8192_S1x8192_3_0).emb (Shape.reshapeEquiv squeezes_S1x8192_S8192.numel_eq _)
  rw [show squeezes_S1x8192_S8192.numel_eq = squeezes_S1x8192_S8192.numel_eq from rfl, Shape.reshapeEquiv_cons_one]
  funext a
  apply Fin.ext
  rw [Rect.emb_apply]
  match a with
  | 0 => rfl
  | 1 => simp [Rect.unit]; rfl

omit [FloatOps F] in
theorem chunk_rowE0 (f : S4x8192.Idx → F .f32) : chunk f 0 = rowChunk (bE0.view.read (Elt F) f) := by
  funext c l
  show f _ = f _
  congr 1
  show _ = (Rect.unit (s := S4x8192) ![0, 0] S1x8192.size inb_S4x8192_S1x8192_0_0).emb (Shape.reshapeEquiv squeezes_S1x8192_S8192.numel_eq _)
  rw [show squeezes_S1x8192_S8192.numel_eq = squeezes_S1x8192_S8192.numel_eq from rfl, Shape.reshapeEquiv_cons_one]
  funext a
  apply Fin.ext
  rw [Rect.emb_apply]
  match a with
  | 0 => rfl
  | 1 => simp [Rect.unit]; rfl

omit [FloatOps F] in
theorem chunk_rowE1 (f : S4x8192.Idx → F .f32) : chunk f 1 = rowChunk (bE1.view.read (Elt F) f) := by
  funext c l
  show f _ = f _
  congr 1
  show _ = (Rect.unit (s := S4x8192) ![1, 0] S1x8192.size inb_S4x8192_S1x8192_1_0).emb (Shape.reshapeEquiv squeezes_S1x8192_S8192.numel_eq _)
  rw [show squeezes_S1x8192_S8192.numel_eq = squeezes_S1x8192_S8192.numel_eq from rfl, Shape.reshapeEquiv_cons_one]
  funext a
  apply Fin.ext
  rw [Rect.emb_apply]
  match a with
  | 0 => rfl
  | 1 => simp [Rect.unit]; rfl

omit [FloatOps F] in
theorem chunk_rowE2 (f : S4x8192.Idx → F .f32) : chunk f 2 = rowChunk (bE2.view.read (Elt F) f) := by
  funext c l
  show f _ = f _
  congr 1
  show _ = (Rect.unit (s := S4x8192) ![2, 0] S1x8192.size inb_S4x8192_S1x8192_2_0).emb (Shape.reshapeEquiv squeezes_S1x8192_S8192.numel_eq _)
  rw [show squeezes_S1x8192_S8192.numel_eq = squeezes_S1x8192_S8192.numel_eq from rfl, Shape.reshapeEquiv_cons_one]
  funext a
  apply Fin.ext
  rw [Rect.emb_apply]
  match a with
  | 0 => rfl
  | 1 => simp [Rect.unit]; rfl

omit [FloatOps F] in
theorem chunk_rowE3 (f : S4x8192.Idx → F .f32) : chunk f 3 = rowChunk (bE3.view.read (Elt F) f) := by
  funext c l
  show f _ = f _
  congr 1
  show _ = (Rect.unit (s := S4x8192) ![3, 0] S1x8192.size inb_S4x8192_S1x8192_3_0).emb (Shape.reshapeEquiv squeezes_S1x8192_S8192.numel_eq _)
  rw [show squeezes_S1x8192_S8192.numel_eq = squeezes_S1x8192_S8192.numel_eq from rfl, Shape.reshapeEquiv_cons_one]
  funext a
  apply Fin.ext
  rw [Rect.emb_apply]
  match a with
  | 0 => rfl
  | 1 => simp [Rect.unit]; rfl

/-- The sixteen lane numbers. -/
def lanes : IVec S16 32 := iota .scVector S16 32 [0] iota_S16_d0_w32_scVector

theorem lanes_at (l : S16.Idx) : lanes l = BitVec.ofNat 32 (l 0).val := by
  show BitVec.ofNat 32 (0 * 16 + (l 0).val) = _
  rw [Nat.zero_mul, Nat.zero_add]

theorem lanes_xor {m : BitVec 32} (h : ∀ l : Fin 16, (BitVec.ofNat 32 l.val ^^^ m).toNat < 16) :
    ∀ a x, ((![xori lanes (broadcast S16 m)] : Fin 1 → IVec S16 32) a x).toNat < S16.size a := by
  intro a x
  match a with
  | 0 =>
    have h0 := h (x 0)
    show (lanes x ^^^ m).toNat < 16
    rw [lanes_at]
    exact h0

theorem chk1_ok : k0_chk1 (xori lanes (broadcast S16 1#32)) := ⟨lanes_xor (by decide), lanes_xor (by decide)⟩
theorem chk2_ok : k0_chk2 (xori lanes (broadcast S16 2#32)) := ⟨lanes_xor (by decide), lanes_xor (by decide)⟩
theorem chk3_ok : k0_chk3 (xori lanes (broadcast S16 4#32)) := ⟨lanes_xor (by decide), lanes_xor (by decide)⟩
theorem chk4_ok : k0_chk4 (xori lanes (broadcast S16 8#32)) := ⟨lanes_xor (by decide), lanes_xor (by decide)⟩
theorem chk5_ok : k0_chk5 (xori lanes (broadcast S16 1#32)) := ⟨lanes_xor (by decide), lanes_xor (by decide)⟩
theorem chk6_ok : k0_chk6 (xori lanes (broadcast S16 2#32)) := ⟨lanes_xor (by decide), lanes_xor (by decide)⟩
theorem chk7_ok : k0_chk7 (xori lanes (broadcast S16 4#32)) := ⟨lanes_xor (by decide), lanes_xor (by decide)⟩
theorem chk8_ok : k0_chk8 (xori lanes (broadcast S16 8#32)) := ⟨lanes_xor (by decide), lanes_xor (by decide)⟩
theorem chk9_ok : k0_chk9 (xori lanes (broadcast S16 1#32)) := ⟨lanes_xor (by decide), lanes_xor (by decide)⟩
theorem chk10_ok : k0_chk10 (xori lanes (broadcast S16 2#32)) := ⟨lanes_xor (by decide), lanes_xor (by decide)⟩
theorem chk11_ok : k0_chk11 (xori lanes (broadcast S16 4#32)) := ⟨lanes_xor (by decide), lanes_xor (by decide)⟩
theorem chk12_ok : k0_chk12 (xori lanes (broadcast S16 8#32)) := ⟨lanes_xor (by decide), lanes_xor (by decide)⟩
theorem chk13_ok : k0_chk13 (xori lanes (broadcast S16 1#32)) := ⟨lanes_xor (by decide), lanes_xor (by decide)⟩
theorem chk14_ok : k0_chk14 (xori lanes (broadcast S16 2#32)) := ⟨lanes_xor (by decide), lanes_xor (by decide)⟩
theorem chk15_ok : k0_chk15 (xori lanes (broadcast S16 4#32)) := ⟨lanes_xor (by decide), lanes_xor (by decide)⟩
theorem chk16_ok : k0_chk16 (xori lanes (broadcast S16 8#32)) := ⟨lanes_xor (by decide), lanes_xor (by decide)⟩

/-- The lanes of a vector exchanged by an exclusive or with `m`. -/
def perm {e : EltTy} (m : BitVec 32) (x : Vec F S16 e) : Vec F S16 e := fun l => x (ix1 ⟨(BitVec.ofNat 32 (l 0).val ^^^ m).toNat % 16, Nat.mod_lt _ (by decide)⟩)

theorem writeX (x : Vec F S16 .f32) (f : S16.Idx → F .f32) :
    sX.view.writes (Elt F) f [⟨Rect.unit (s := S16) ![0] S16.size inb_S16_S16_0, x⟩] = x := by
  have h := View.read_writes_full sX.view (Val := Elt F) f (off := ![0]) inb_S16_S16_0 x []
  exact h
theorem gatherX {m : BitVec 32} (hm : ∀ l : Fin 16, (BitVec.ofNat 32 l.val ^^^ m).toNat < 16) (f : S16.Idx → F .f32)
    (h : ∀ a y, ((![xori lanes (broadcast S16 m)] : Fin 1 → IVec S16 32) a y).toNat < S16.size a) :
    loadIdx ((sX.access (.whole S16)).read (Elt F) f) ![xori lanes (broadcast S16 m)] h = perm (F := F) (e := .f32) m f := by
  have hr : (sX.access (.whole S16)).read (Elt F) f = f := by
    funext y
    show f ((Rect.whole S16).emb y) = f y
    rw [Rect.emb_whole_apply]
  rw [hr]
  funext l
  show f _ = f _
  congr 1
  funext a
  match a with
  | 0 =>
    refine Fin.ext ?_
    show (lanes l ^^^ m).toNat = _
    rw [lanes_at]
    exact (Nat.mod_eq_of_lt (hm (l 0))).symm
theorem writeG (x : Vec F S16 .i32) (f : S16.Idx → BitVec 32) :
    sG.view.writes (Elt F) f [⟨Rect.unit (s := S16) ![0] S16.size inb_S16_S16_0, x⟩] = x := by
  have h := View.read_writes_full sG.view (Val := Elt F) f (off := ![0]) inb_S16_S16_0 x []
  exact h
theorem gatherG {m : BitVec 32} (hm : ∀ l : Fin 16, (BitVec.ofNat 32 l.val ^^^ m).toNat < 16) (f : S16.Idx → BitVec 32)
    (h : ∀ a y, ((![xori lanes (broadcast S16 m)] : Fin 1 → IVec S16 32) a y).toNat < S16.size a) :
    loadIdx ((sG.access (.whole S16)).read (Elt F) f) ![xori lanes (broadcast S16 m)] h = perm (F := F) (e := .i32) m f := by
  have hr : (sG.access (.whole S16)).read (Elt F) f = f := by
    funext y
    show f ((Rect.whole S16).emb y) = f y
    rw [Rect.emb_whole_apply]
  rw [hr]
  funext l
  show f _ = f _
  congr 1
  funext a
  match a with
  | 0 =>
    refine Fin.ext ?_
    show (lanes l ^^^ m).toNat = _
    rw [lanes_at]
    exact (Nat.mod_eq_of_lt (hm (l 0))).symm

variable {β : Type}

/-- A gather from the values' buffer by exchanged lanes; what was stored there is named by the caller. -/
theorem wp_gatherX (d : Dev nD) (L : grid0.Coords) (m : BitVec 32) (hm : ∀ l : Fin 16, (BitVec.ofNat 32 l.val ^^^ m).toNat < 16) (f : S16.Idx → F .f32)
    (idx : IVec S16 32) (hi : idx = xori lanes (broadcast S16 m)) (h : ∀ a y, ((![idx] : Fin 1 → IVec S16 32) a y).toNat < S16.size a) (hl : sX.view.Loads)
    (kk : Vec F S16 .f32 → Prog (TpuEff nD τ sig (Elt F) Λ₀ (.scVector (cV L) (jV L))) β) (Q : β → sProp (𝕄 F)) :
    whole d L sX f
    ⊢ iprop((∀ y, iprop(⌜∀ x : Vec F S16 .f32, f = x → y = perm m x⌝ ∗ whole d L sX f) -∗ wp frame (wpE (defs₀ (F := F)) 𝒱₀ (V d (cV L) (jV L)) none) Set.univ (kk y) Q)
      -∗ wp frame (wpE (defs₀ (F := F)) 𝒱₀ (V d (cV L) (jV L)) none) Set.univ (SparseCore.vectorLoadIdx sX ![idx] h hl >>= kk) Q) := by
  subst hi
  iintro H HK
  ihave Hl := (SparseCore.wp_vectorLoadIdx 𝒱₀ (V d (cV L) (jV L)) none Set.univ (base := sX) (idxs := ![xori lanes (broadcast S16 m)]) (h := h) (hl := hl) (k := kk) (S := Finset.univ) (q := fullShare) (Finset.subset_univ _)) $$ H
  iapply Hl
  iintro H
  rw [gatherX hm f h]
  iapply HK
  isplitr
  · ipureintro
    intro x hx
    rw [hx]
  iexact H
/-- A gather from the indices' buffer by exchanged lanes; what was stored there is named by the caller. -/
theorem wp_gatherG (d : Dev nD) (L : grid0.Coords) (m : BitVec 32) (hm : ∀ l : Fin 16, (BitVec.ofNat 32 l.val ^^^ m).toNat < 16) (f : S16.Idx → BitVec 32)
    (idx : IVec S16 32) (hi : idx = xori lanes (broadcast S16 m)) (h : ∀ a y, ((![idx] : Fin 1 → IVec S16 32) a y).toNat < S16.size a) (hl : sG.view.Loads)
    (kk : Vec F S16 .i32 → Prog (TpuEff nD τ sig (Elt F) Λ₀ (.scVector (cV L) (jV L))) β) (Q : β → sProp (𝕄 F)) :
    whole d L sG f
    ⊢ iprop((∀ y, iprop(⌜∀ x : Vec F S16 .i32, f = x → y = perm m x⌝ ∗ whole d L sG f) -∗ wp frame (wpE (defs₀ (F := F)) 𝒱₀ (V d (cV L) (jV L)) none) Set.univ (kk y) Q)
      -∗ wp frame (wpE (defs₀ (F := F)) 𝒱₀ (V d (cV L) (jV L)) none) Set.univ (SparseCore.vectorLoadIdx sG ![idx] h hl >>= kk) Q) := by
  subst hi
  iintro H HK
  ihave Hl := (SparseCore.wp_vectorLoadIdx 𝒱₀ (V d (cV L) (jV L)) none Set.univ (base := sG) (idxs := ![xori lanes (broadcast S16 m)]) (h := h) (hl := hl) (k := kk) (S := Finset.univ) (q := fullShare) (Finset.subset_univ _)) $$ H
  iapply Hl
  iintro H
  rw [gatherG hm f h]
  iapply HK
  isplitr
  · ipureintro
    intro x hx
    rw [hx]
  iexact H

end Cert.Proof.Sampler

end
-- ==== Proof.Spec.lean ====
/-
  The value one task leaves, named by the row's merges, and that the body's own terms are that value.
-/
module

public import proofs.«01_k».proof.Proof.Loops0
public import Idealize.ShloMosaic.Lib.PointwiseCore

@[expose] public section

noncomputable section

namespace Cert.Proof.Sampler

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The value one task leaves -/

/-- Whether the other lane's (or rack's) value wins: greater, or equal at a lower index. -/
def tkM (ov v : FVec F S16 .f32) (oj j : IVec S16 32) : IVec S16 1 := ori (cmpf .ogt ov v) (andi (cmpf .oeq ov v) (cmpi .slt oj j))
def mV (ov v : FVec F S16 .f32) (oj j : IVec S16 32) : FVec F S16 .f32 := select (tkM ov v oj j) ov v
def mJ (ov v : FVec F S16 .f32) (oj j : IVec S16 32) : IVec S16 32 := select (tkM ov v oj j) oj j
/-- Another candidate merged into a state of values and indices. -/
def step (ov : FVec F S16 .f32) (oj : IVec S16 32) (s : FVec F S16 .f32 × IVec S16 32) : FVec F S16 .f32 × IVec S16 32 := (mV ov s.1 oj s.2, mJ ov s.1 oj s.2)
/-- The four racks merged: values and chunk numbers. -/
def rkV (a : Acc F) : FVec F S16 .f32 × IVec S16 32 :=
  step a.2.2.2.1 a.2.2.2.2.2.2.2 (step a.2.2.1 a.2.2.2.2.2.2.1 (step a.2.1 a.2.2.2.2.2.1 (a.1, a.2.2.2.2.1)))
/-- The racks' winners as values and columns. -/
def lane0 (a : Acc F) : FVec F S16 .f32 × IVec S16 32 := ((rkV a).1, addi (muli (rkV a).2 (broadcast S16 16#32)) lanes)
/-- One exchange of lanes at distance `m`. -/
def xchg (m : BitVec 32) (s : FVec F S16 .f32 × IVec S16 32) : FVec F S16 .f32 × IVec S16 32 :=
  step (perm (F := F) (e := .f32) m (shapeCast S16 s.1 shapeCasts_S16_S16)) (perm (F := F) (e := .i32) m (shapeCast S16 s.2 shapeCasts_S16_S16)) s
/-- The winning column of a row, in every lane. -/
def rowG (a : Acc F) : IVec S16 32 := (xchg 8#32 (xchg 4#32 (xchg 2#32 (xchg 1#32 (lane0 a))))).2
/-- Lane `k` of `y` replaced. -/
def setLane (k : BitVec 32) (g y : IVec S16 32) : IVec S16 32 := select (cmpi .eq lanes (broadcast S16 k)) g y
/-- The row of the result one task leaves, from its rows' columns and its row of offsets. -/
def outY (y : IVec S16 32) (u : FVec F S16 .f32) : FVec F S16 .f32 :=
  shapeCast S16 (subf (addf (mulf (sitofp .f32 y) (broadcast S16 (Scalar.ofBits .f32 0x39800000#32))) (shapeCast S16 u shapeCasts_S16_S16)) (broadcast S16 (Scalar.ofBits .f32 0x3F800000#32))) shapeCasts_S16_S16
def accOf (p e : Vec F S8192 .f32) : Acc F := accAt (rowChunk p) (rowChunk e) 128
def outV (L : grid0.Coords) (fp : S128x8192.Idx → F .f32) (fe : S1048576.Idx → F .f32) (fu : S32x16.Idx → F .f32) : FVec F S16 .f32 :=
  outY (setLane 3#32 (rowG (accOf ((pK3 L).view.read (Elt F) fp) ((eK3 L).view.read (Elt F) fe)))
      (setLane 2#32 (rowG (accOf ((pK2 L).view.read (Elt F) fp) ((eK2 L).view.read (Elt F) fe)))
        (setLane 1#32 (rowG (accOf ((pK1 L).view.read (Elt F) fp) ((eK1 L).view.read (Elt F) fe)))
          (setLane 0#32 (rowG (accOf ((pK0 L).view.read (Elt F) fp) ((eK0 L).view.read (Elt F) fe))) (broadcast S16 0#32)))))
    ((uK L).view.read (Elt F) fu)

theorem writeS (x : Vec F S16 .f32) (f : S16.Idx → F .f32) :
    ReadAs.same.apply (sS.view.read (Elt F) (sS.view.writes (Elt F) f [⟨Rect.unit (s := S16) ![0] S16.size inb_S16_S16_0, x⟩])) = x :=
  View.read_writes_full sS.view (Val := Elt F) f (off := ![0]) inb_S16_S16_0 x []

/-! ## The value named in the body's own terms -/

theorem row_of {s0 s1 s2 s3 : FVec F S16 .f32 × IVec S16 32} {x0 x1 x2 x3 : FVec F S16 .f32} {g0 g1 g2 g3 : IVec S16 32}
    (e1 : s1 = step x0 g0 s0) (e2 : s2 = step x1 g1 s1) (e3 : s3 = step x2 g2 s2)
    (h0 : x0 = perm (F := F) (e := .f32) 1#32 (shapeCast S16 s0.1 shapeCasts_S16_S16)) (k0 : g0 = perm (F := F) (e := .i32) 1#32 (shapeCast S16 s0.2 shapeCasts_S16_S16))
    (h1 : x1 = perm (F := F) (e := .f32) 2#32 (shapeCast S16 s1.1 shapeCasts_S16_S16)) (k1 : g1 = perm (F := F) (e := .i32) 2#32 (shapeCast S16 s1.2 shapeCasts_S16_S16))
    (h2 : x2 = perm (F := F) (e := .f32) 4#32 (shapeCast S16 s2.1 shapeCasts_S16_S16)) (k2 : g2 = perm (F := F) (e := .i32) 4#32 (shapeCast S16 s2.2 shapeCasts_S16_S16))
    (h3 : x3 = perm (F := F) (e := .f32) 8#32 (shapeCast S16 s3.1 shapeCasts_S16_S16)) (k3 : g3 = perm (F := F) (e := .i32) 8#32 (shapeCast S16 s3.2 shapeCasts_S16_S16)) :
    (step x3 g3 s3).2 = (xchg 8#32 (xchg 4#32 (xchg 2#32 (xchg 1#32 s0)))).2 := by
  have f1 : s1 = xchg 1#32 s0 := by rw [e1, h0, k0]; rfl
  have f2 : s2 = xchg 2#32 s1 := by rw [e2, h1, k1]; rfl
  have f3 : s3 = xchg 4#32 s2 := by rw [e3, h2, k2]; rfl
  rw [← f1, ← f2, ← f3, h3, k3]
  rfl

theorem row0_value (a0 a1 a2 a3 : FVec F S16 .f32) (a4 a5 a6 a7 : IVec S16 32) (x0 x1 x2 x3 : FVec F S16 .f32) (g0 g1 g2 g3 : IVec S16 32)
    (h0 : x0 = perm (F := F) (e := .f32) 1#32 (k0_pay64 a0 a1 a2 a3 a4 a5 a6 a7))
    (k0 : g0 = perm (F := F) (e := .i32) 1#32 (k0_pay65 lanes a0 a1 a2 a3 a4 a5 a6 a7))
    (h1 : x1 = perm (F := F) (e := .f32) 2#32 (k0_pay70 lanes a0 a1 a2 a3 a4 a5 a6 a7 x0 g0))
    (k1 : g1 = perm (F := F) (e := .i32) 2#32 (k0_pay71 (k0_pay68 lanes a0 a1 a2 a3 a4 a5 a6 a7 x0 g0)))
    (h2 : x2 = perm (F := F) (e := .f32) 4#32 (k0_pay76 (k0_pay67 lanes a0 a1 a2 a3 a4 a5 a6 a7 x0 g0) (k0_pay68 lanes a0 a1 a2 a3 a4 a5 a6 a7 x0 g0) x1 g1))
    (k2 : g2 = perm (F := F) (e := .i32) 4#32 (k0_pay77 (k0_pay67 lanes a0 a1 a2 a3 a4 a5 a6 a7 x0 g0) (k0_pay68 lanes a0 a1 a2 a3 a4 a5 a6 a7 x0 g0) x1 g1))
    (h3 : x3 = perm (F := F) (e := .f32) 8#32 (k0_pay82 (k0_pay67 lanes a0 a1 a2 a3 a4 a5 a6 a7 x0 g0) (k0_pay68 lanes a0 a1 a2 a3 a4 a5 a6 a7 x0 g0) x1 g1 x2 g2))
    (k3 : g3 = perm (F := F) (e := .i32) 8#32 (k0_pay83 (k0_pay67 lanes a0 a1 a2 a3 a4 a5 a6 a7 x0 g0) (k0_pay68 lanes a0 a1 a2 a3 a4 a5 a6 a7 x0 g0) x1 g1 x2 g2))
    : k0_pay85 lanes k0_pay37 (k0_pay84 (k0_pay67 lanes a0 a1 a2 a3 a4 a5 a6 a7 x0 g0) (k0_pay68 lanes a0 a1 a2 a3 a4 a5 a6 a7 x0 g0) x1 g1 x2 g2 x3 g3) = setLane 0#32 (rowG (a0, a1, a2, a3, a4, a5, a6, a7)) (broadcast S16 0#32) :=
  congrArg (fun g => setLane 0#32 g (broadcast S16 0#32)) (row_of (s0 := lane0 (a0, a1, a2, a3, a4, a5, a6, a7)) (s1 := ((k0_pay67 lanes a0 a1 a2 a3 a4 a5 a6 a7 x0 g0), (k0_pay68 lanes a0 a1 a2 a3 a4 a5 a6 a7 x0 g0))) (s2 := step x1 g1 ((k0_pay67 lanes a0 a1 a2 a3 a4 a5 a6 a7 x0 g0), (k0_pay68 lanes a0 a1 a2 a3 a4 a5 a6 a7 x0 g0))) (s3 := step x2 g2 (step x1 g1 ((k0_pay67 lanes a0 a1 a2 a3 a4 a5 a6 a7 x0 g0), (k0_pay68 lanes a0 a1 a2 a3 a4 a5 a6 a7 x0 g0)))) rfl rfl rfl h0 k0 h1 k1 h2 k2 h3 k3)

theorem row1_value (a0 a1 a2 a3 : FVec F S16 .f32) (a4 a5 a6 a7 : IVec S16 32) (x0 x1 x2 x3 : FVec F S16 .f32) (g0 g1 g2 g3 : IVec S16 32) (y : IVec S16 32)
    (h0 : x0 = perm (F := F) (e := .f32) 1#32 (k0_pay115 a2 a3 a6 a7 (k0_pay103 a0 a1 a4 a5) (k0_pay104 a0 a1 a4 a5) (k0_pay105 a0 a1 a2 a4 a5) (k0_pay106 a0 a1 a2 a4 a5) (k0_pay107 a0 a1 a4 a5 a6)))
    (k0 : g0 = perm (F := F) (e := .i32) 1#32 (k0_pay116 lanes a2 a3 a6 a7 (k0_pay103 a0 a1 a4 a5) (k0_pay104 a0 a1 a4 a5) (k0_pay105 a0 a1 a2 a4 a5) (k0_pay106 a0 a1 a2 a4 a5) (k0_pay107 a0 a1 a4 a5 a6)))
    (h1 : x1 = perm (F := F) (e := .f32) 2#32 (k0_pay121 lanes a2 a3 a6 a7 (k0_pay103 a0 a1 a4 a5) (k0_pay104 a0 a1 a4 a5) (k0_pay105 a0 a1 a2 a4 a5) (k0_pay106 a0 a1 a2 a4 a5) (k0_pay107 a0 a1 a4 a5 a6) x0 g0))
    (k1 : g1 = perm (F := F) (e := .i32) 2#32 (k0_pay122 lanes a2 a3 a6 a7 (k0_pay103 a0 a1 a4 a5) (k0_pay104 a0 a1 a4 a5) (k0_pay105 a0 a1 a2 a4 a5) (k0_pay106 a0 a1 a2 a4 a5) (k0_pay107 a0 a1 a4 a5 a6) x0 g0))
    (h2 : x2 = perm (F := F) (e := .f32) 4#32 (k0_pay127 (k0_pay124 lanes a2 a3 a6 a7 (k0_pay103 a0 a1 a4 a5) (k0_pay104 a0 a1 a4 a5) (k0_pay105 a0 a1 a2 a4 a5) (k0_pay106 a0 a1 a2 a4 a5) (k0_pay107 a0 a1 a4 a5 a6) x0 g0 x1 g1)))
    (k2 : g2 = perm (F := F) (e := .i32) 4#32 (k0_pay128 (k0_pay119 lanes a2 a3 a6 a7 (k0_pay103 a0 a1 a4 a5) (k0_pay104 a0 a1 a4 a5) (k0_pay105 a0 a1 a2 a4 a5) (k0_pay106 a0 a1 a2 a4 a5) (k0_pay107 a0 a1 a4 a5 a6) x0 g0) g1 (k0_pay123 lanes a2 a3 a6 a7 (k0_pay103 a0 a1 a4 a5) (k0_pay104 a0 a1 a4 a5) (k0_pay105 a0 a1 a2 a4 a5) (k0_pay106 a0 a1 a2 a4 a5) (k0_pay107 a0 a1 a4 a5 a6) x0 g0 x1 g1)))
    (h3 : x3 = perm (F := F) (e := .f32) 8#32 (k0_pay133 (k0_pay119 lanes a2 a3 a6 a7 (k0_pay103 a0 a1 a4 a5) (k0_pay104 a0 a1 a4 a5) (k0_pay105 a0 a1 a2 a4 a5) (k0_pay106 a0 a1 a2 a4 a5) (k0_pay107 a0 a1 a4 a5 a6) x0 g0) g1 (k0_pay123 lanes a2 a3 a6 a7 (k0_pay103 a0 a1 a4 a5) (k0_pay104 a0 a1 a4 a5) (k0_pay105 a0 a1 a2 a4 a5) (k0_pay106 a0 a1 a2 a4 a5) (k0_pay107 a0 a1 a4 a5 a6) x0 g0 x1 g1) (k0_pay124 lanes a2 a3 a6 a7 (k0_pay103 a0 a1 a4 a5) (k0_pay104 a0 a1 a4 a5) (k0_pay105 a0 a1 a2 a4 a5) (k0_pay106 a0 a1 a2 a4 a5) (k0_pay107 a0 a1 a4 a5 a6) x0 g0 x1 g1) x2 g2))
    (k3 : g3 = perm (F := F) (e := .i32) 8#32 (k0_pay134 (k0_pay119 lanes a2 a3 a6 a7 (k0_pay103 a0 a1 a4 a5) (k0_pay104 a0 a1 a4 a5) (k0_pay105 a0 a1 a2 a4 a5) (k0_pay106 a0 a1 a2 a4 a5) (k0_pay107 a0 a1 a4 a5 a6) x0 g0) g1 (k0_pay123 lanes a2 a3 a6 a7 (k0_pay103 a0 a1 a4 a5) (k0_pay104 a0 a1 a4 a5) (k0_pay105 a0 a1 a2 a4 a5) (k0_pay106 a0 a1 a2 a4 a5) (k0_pay107 a0 a1 a4 a5 a6) x0 g0 x1 g1) (k0_pay124 lanes a2 a3 a6 a7 (k0_pay103 a0 a1 a4 a5) (k0_pay104 a0 a1 a4 a5) (k0_pay105 a0 a1 a2 a4 a5) (k0_pay106 a0 a1 a2 a4 a5) (k0_pay107 a0 a1 a4 a5 a6) x0 g0 x1 g1) x2 g2))
    : k0_pay135 lanes y (k0_pay119 lanes a2 a3 a6 a7 (k0_pay103 a0 a1 a4 a5) (k0_pay104 a0 a1 a4 a5) (k0_pay105 a0 a1 a2 a4 a5) (k0_pay106 a0 a1 a2 a4 a5) (k0_pay107 a0 a1 a4 a5 a6) x0 g0) g1 (k0_pay123 lanes a2 a3 a6 a7 (k0_pay103 a0 a1 a4 a5) (k0_pay104 a0 a1 a4 a5) (k0_pay105 a0 a1 a2 a4 a5) (k0_pay106 a0 a1 a2 a4 a5) (k0_pay107 a0 a1 a4 a5 a6) x0 g0 x1 g1) (k0_pay124 lanes a2 a3 a6 a7 (k0_pay103 a0 a1 a4 a5) (k0_pay104 a0 a1 a4 a5) (k0_pay105 a0 a1 a2 a4 a5) (k0_pay106 a0 a1 a2 a4 a5) (k0_pay107 a0 a1 a4 a5 a6) x0 g0 x1 g1) x2 g2 x3 g3 = setLane 1#32 (rowG (a0, a1, a2, a3, a4, a5, a6, a7)) y :=
  congrArg (fun g => setLane 1#32 g y) (row_of (s0 := lane0 (a0, a1, a2, a3, a4, a5, a6, a7)) (s1 := step x0 g0 (lane0 (a0, a1, a2, a3, a4, a5, a6, a7))) (s2 := step x1 g1 (step x0 g0 (lane0 (a0, a1, a2, a3, a4, a5, a6, a7)))) (s3 := step x2 g2 (step x1 g1 (step x0 g0 (lane0 (a0, a1, a2, a3, a4, a5, a6, a7))))) rfl rfl rfl h0 k0 h1 k1 h2 k2 h3 k3)

theorem row2_value (a0 a1 a2 a3 : FVec F S16 .f32) (a4 a5 a6 a7 : IVec S16 32) (x0 x1 x2 x3 : FVec F S16 .f32) (g0 g1 g2 g3 : IVec S16 32) (y : IVec S16 32)
    (h0 : x0 = perm (F := F) (e := .f32) 1#32 (k0_pay164 (k0_pay159 a0 a1 a2 a3 a4 a5 a6 a7)))
    (k0 : g0 = perm (F := F) (e := .i32) 1#32 (k0_pay165 lanes (k0_pay160 a0 a1 a2 a3 a4 a5 a6 a7) k0_pay161))
    (h1 : x1 = perm (F := F) (e := .f32) 2#32 (k0_pay170 lanes (k0_pay159 a0 a1 a2 a3 a4 a5 a6 a7) (k0_pay160 a0 a1 a2 a3 a4 a5 a6 a7) k0_pay161 x0 g0))
    (k1 : g1 = perm (F := F) (e := .i32) 2#32 (k0_pay171 lanes (k0_pay159 a0 a1 a2 a3 a4 a5 a6 a7) (k0_pay160 a0 a1 a2 a3 a4 a5 a6 a7) k0_pay161 x0 g0))
    (h2 : x2 = perm (F := F) (e := .f32) 4#32 (k0_pay176 lanes (k0_pay159 a0 a1 a2 a3 a4 a5 a6 a7) (k0_pay160 a0 a1 a2 a3 a4 a5 a6 a7) k0_pay161 x0 g0 x1 g1))
    (k2 : g2 = perm (F := F) (e := .i32) 4#32 (k0_pay177 (k0_pay174 lanes (k0_pay159 a0 a1 a2 a3 a4 a5 a6 a7) (k0_pay160 a0 a1 a2 a3 a4 a5 a6 a7) k0_pay161 x0 g0 x1 g1)))
    (h3 : x3 = perm (F := F) (e := .f32) 8#32 (k0_pay182 (k0_pay173 lanes (k0_pay159 a0 a1 a2 a3 a4 a5 a6 a7) (k0_pay160 a0 a1 a2 a3 a4 a5 a6 a7) k0_pay161 x0 g0 x1 g1) (k0_pay174 lanes (k0_pay159 a0 a1 a2 a3 a4 a5 a6 a7) (k0_pay160 a0 a1 a2 a3 a4 a5 a6 a7) k0_pay161 x0 g0 x1 g1) x2 g2))
    (k3 : g3 = perm (F := F) (e := .i32) 8#32 (k0_pay183 (k0_pay173 lanes (k0_pay159 a0 a1 a2 a3 a4 a5 a6 a7) (k0_pay160 a0 a1 a2 a3 a4 a5 a6 a7) k0_pay161 x0 g0 x1 g1) (k0_pay174 lanes (k0_pay159 a0 a1 a2 a3 a4 a5 a6 a7) (k0_pay160 a0 a1 a2 a3 a4 a5 a6 a7) k0_pay161 x0 g0 x1 g1) x2 g2))
    : k0_pay184 lanes y (k0_pay173 lanes (k0_pay159 a0 a1 a2 a3 a4 a5 a6 a7) (k0_pay160 a0 a1 a2 a3 a4 a5 a6 a7) k0_pay161 x0 g0 x1 g1) (k0_pay174 lanes (k0_pay159 a0 a1 a2 a3 a4 a5 a6 a7) (k0_pay160 a0 a1 a2 a3 a4 a5 a6 a7) k0_pay161 x0 g0 x1 g1) x2 g2 x3 g3 = setLane 2#32 (rowG (a0, a1, a2, a3, a4, a5, a6, a7)) y :=
  congrArg (fun g => setLane 2#32 g y) (row_of (s0 := lane0 (a0, a1, a2, a3, a4, a5, a6, a7)) (s1 := step x0 g0 (lane0 (a0, a1, a2, a3, a4, a5, a6, a7))) (s2 := step x1 g1 (step x0 g0 (lane0 (a0, a1, a2, a3, a4, a5, a6, a7)))) (s3 := step x2 g2 (step x1 g1 (step x0 g0 (lane0 (a0, a1, a2, a3, a4, a5, a6, a7))))) rfl rfl rfl h0 k0 h1 k1 h2 k2 h3 k3)

theorem row3_value (a0 a1 a2 a3 : FVec F S16 .f32) (a4 a5 a6 a7 : IVec S16 32) (x0 x1 x2 x3 : FVec F S16 .f32) (g0 g1 g2 g3 : IVec S16 32) (y : IVec S16 32) (u : FVec F S16 .f32)
    (h0 : x0 = perm (F := F) (e := .f32) 1#32 (k0_pay211 a0 a1 a2 a3 a4 a5 a6 a7))
    (k0 : g0 = perm (F := F) (e := .i32) 1#32 (k0_pay212 (k0_pay209 lanes a0 a1 a2 a3 a4 a5 a6 a7)))
    (h1 : x1 = perm (F := F) (e := .f32) 2#32 (k0_pay217 (k0_pay208 a0 a1 a2 a3 a4 a5 a6 a7) (k0_pay209 lanes a0 a1 a2 a3 a4 a5 a6 a7) x0 g0))
    (k1 : g1 = perm (F := F) (e := .i32) 2#32 (k0_pay218 (k0_pay208 a0 a1 a2 a3 a4 a5 a6 a7) (k0_pay209 lanes a0 a1 a2 a3 a4 a5 a6 a7) x0 g0))
    (h2 : x2 = perm (F := F) (e := .f32) 4#32 (k0_pay223 (k0_pay208 a0 a1 a2 a3 a4 a5 a6 a7) (k0_pay209 lanes a0 a1 a2 a3 a4 a5 a6 a7) x0 g0 x1 g1))
    (k2 : g2 = perm (F := F) (e := .i32) 4#32 (k0_pay224 (k0_pay208 a0 a1 a2 a3 a4 a5 a6 a7) (k0_pay209 lanes a0 a1 a2 a3 a4 a5 a6 a7) x0 g0 x1 g1))
    (h3 : x3 = perm (F := F) (e := .f32) 8#32 (k0_pay229 (k0_pay226 (k0_pay208 a0 a1 a2 a3 a4 a5 a6 a7) (k0_pay209 lanes a0 a1 a2 a3 a4 a5 a6 a7) x0 g0 x1 g1 x2 g2)))
    (k3 : g3 = perm (F := F) (e := .i32) 8#32 (k0_pay230 (k0_pay227 (k0_pay208 a0 a1 a2 a3 a4 a5 a6 a7) (k0_pay209 lanes a0 a1 a2 a3 a4 a5 a6 a7) x0 g0 x1 g1 x2 g2)))
    : k0_pay231 lanes y (k0_pay226 (k0_pay208 a0 a1 a2 a3 a4 a5 a6 a7) (k0_pay209 lanes a0 a1 a2 a3 a4 a5 a6 a7) x0 g0 x1 g1 x2 g2) (k0_pay227 (k0_pay208 a0 a1 a2 a3 a4 a5 a6 a7) (k0_pay209 lanes a0 a1 a2 a3 a4 a5 a6 a7) x0 g0 x1 g1 x2 g2) x3 g3 u = outY (setLane 3#32 (rowG (a0, a1, a2, a3, a4, a5, a6, a7)) y) u :=
  congrArg (fun g => outY (setLane 3#32 g y) u) (row_of (s0 := lane0 (a0, a1, a2, a3, a4, a5, a6, a7)) (s1 := step x0 g0 (lane0 (a0, a1, a2, a3, a4, a5, a6, a7))) (s2 := step x1 g1 (step x0 g0 (lane0 (a0, a1, a2, a3, a4, a5, a6, a7)))) (s3 := step x2 g2 (step x1 g1 (step x0 g0 (lane0 (a0, a1, a2, a3, a4, a5, a6, a7))))) rfl rfl rfl h0 k0 h1 k1 h2 k2 h3 k3)

end Cert.Proof.Sampler

end
-- ==== Proof.Tile.lean ====
/-
  One task's body from its start to its end.
-/
module

public import proofs.«01_k».proof.Proof.Spec
public import Idealize.ShloMosaic.Lib.PointwiseCore

@[expose] public section

noncomputable section

namespace Cert.Proof.Sampler

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

theorem load_offsets (L : grid0.Coords) (fu : S32x16.Idx → F .f32) (gu : S16.Idx → F .f32) :
    sU.view.readAt (Elt F) (Rect.unit (s := S16) ![0] S16.size inb_S16_S16_0).toLoadRect (sU.view.write (Elt F) gu (ReadAs.same.apply ((uK L).view.read (Elt F) fu)) Finset.univ) = (uK L).view.read (Elt F) fu := by
  have hw : sU.view.write (Elt F) gu (ReadAs.same.apply ((uK L).view.read (Elt F) fu)) Finset.univ = (uK L).view.read (Elt F) fu :=
    View.write_whole_univ (Val := Elt F) cc0_scratch2 gu ((uK L).view.read (Elt F) fu)
  rw [hw]
  funext y
  show (uK L).view.read (Elt F) fu _ = (uK L).view.read (Elt F) fu _
  congr 1
  funext a
  match a with
  | 0 => exact Fin.ext ((Rect.emb_apply (Rect.unit (s := S16) ![0] S16.size inb_S16_S16_0) y 0).trans (by simp [Rect.unit]))

set_option maxHeartbeats 4000000 in
theorem tile_run (d : Dev nD) (L : grid0.Coords) (O W)
   (fp : Buf (Elt F) (pV.view.loc (V d (cV L) (jV L)))) (fe : Buf (Elt F) (eV.view.loc (V d (cV L) (jV L)))) (fu : Buf (Elt F) (uV.view.loc (V d (cV L) (jV L)))) (fo : Buf (Elt F) (oV.view.loc (V d (cV L) (jV L))))
   (gp : Buf (Elt F) (sP.view.loc (V d (cV L) (jV L)))) (ge : Buf (Elt F) (sE.view.loc (V d (cV L) (jV L)))) (gu : Buf (Elt F) (sU.view.loc (V d (cV L) (jV L)))) (gs : Buf (Elt F) (sS.view.loc (V d (cV L) (jV L))))
   (gx : Buf (Elt F) (sX.view.loc (V d (cV L) (jV L)))) (gg : Buf (Elt F) (sG.view.loc (V d (cV L) (jV L))))
   (_h0 : Transfers.BatchOf (V d (cV L) (jV L)) (SemLoc.dma (sig := sig) cc0_scratch7.sem) 2)
   (_h1 : Transfers.BatchOf (V d (cV L) (jV L)) (SemLoc.dma (sig := sig) cc0_scratch8.sem) 2)
   (_h2 : Transfers.BatchOf (V d (cV L) (jV L)) (SemLoc.dma (sig := sig) cc0_scratch9.sem) 2)
   (_h3 : Transfers.BatchOf (V d (cV L) (jV L)) (SemLoc.dma (sig := sig) cc0_scratch10.sem) 2) :
    iprop(Transfers.MayWaits (V d (cV L) (jV L)) (default : HIx 1) O
      ∗ own d L (pK0 L) fp ∗ own d L (pK1 L) fp ∗ own d L (pK2 L) fp ∗ own d L (pK3 L) fp
      ∗ own d L (eK0 L) fe ∗ own d L (eK1 L) fe ∗ own d L (eK2 L) fe ∗ own d L (eK3 L) fe
      ∗ own d L (uK L) fu ∗ own d L (oK L) fo
      ∗ own d L bP0 gp ∗ own d L bP1 gp ∗ own d L bP2 gp ∗ own d L bP3 gp
      ∗ own d L bE0 ge ∗ own d L bE1 ge ∗ own d L bE2 ge ∗ own d L bE3 ge
      ∗ whole d L sU gu ∗ whole d L sS gs ∗ whole d L sX gx ∗ whole d L sG gg
      ∗ semVal (V d (cV L) (jV L), .dma cc0_scratch6.sem) 0 ∗ semVal (V d (cV L) (jV L), .dma cc0_scratch7.sem) 0
      ∗ semVal (V d (cV L) (jV L), .dma cc0_scratch8.sem) 0 ∗ semVal (V d (cV L) (jV L), .dma cc0_scratch9.sem) 0
      ∗ semVal (V d (cV L) (jV L), .dma cc0_scratch10.sem) 0 ∗ semVal (V d (cV L) (jV L), .dma cc0_scoped0.sem) 0
      ∗ owes (V d (cV L) (jV L)) O W)
    ⊢ wp frame (wpE (defs₀ (F := F)) 𝒱₀ (V d (cV L) (jV L)) none) Set.univ (bodyAt L) fun _ => iprop(own d L (pK0 L) fp ∗ own d L (pK1 L) fp ∗ own d L (pK2 L) fp ∗ own d L (pK3 L) fp
        ∗ own d L (eK0 L) fe ∗ own d L (eK1 L) fe ∗ own d L (eK2 L) fe ∗ own d L (eK3 L) fe
        ∗ own d L (uK L) fu ∗ own d L (oK L) ((oK L).view.writes (Elt F) fo [⟨Rect.whole S16, outV L fp fe fu⟩])
        ∗ (∃ f, own d L bP0 f) ∗ (∃ f, own d L bP1 f) ∗ (∃ f, own d L bP2 f) ∗ (∃ f, own d L bP3 f)
        ∗ (∃ f, own d L bE0 f) ∗ (∃ f, own d L bE1 f) ∗ (∃ f, own d L bE2 f) ∗ (∃ f, own d L bE3 f)
        ∗ (∃ f, whole d L sU f) ∗ (∃ f, whole d L sS f) ∗ (∃ f, whole d L sX f) ∗ (∃ f, whole d L sG f)
        ∗ semVal (V d (cV L) (jV L), .dma cc0_scratch6.sem) 0 ∗ semVal (V d (cV L) (jV L), .dma cc0_scratch7.sem) 0
        ∗ semVal (V d (cV L) (jV L), .dma cc0_scratch8.sem) 0 ∗ semVal (V d (cV L) (jV L), .dma cc0_scratch9.sem) 0
        ∗ semVal (V d (cV L) (jV L), .dma cc0_scratch10.sem) 0 ∗ semVal (V d (cV L) (jV L), .dma cc0_scoped0.sem) 0
        ∗ ∃ W', ⌜∀ p ∈ W', p ∈ W ∨ p.2 = none ∨ p.2 = some (0 : Fin 1)⌝ ∗ owes (V d (cV L) (jV L)) O W') := by
  iintro ⟨Hmw, P0, P1, P2, P3, E0, E1, E2, E3, HU, HO, A0, A1, A2, A3, B0, B1, B2, B3, HsU, HsS, HsX, HsG, S6, S7, S8, S9, S10, Sc, Howes⟩
  sl_unfold [bodyAt, cc0__sc_sampler_body]
  sl_exec_parts
  ihave Hl := (loop1 d L _ _ _ _ _ _ _ _ _ _ _ (rowChunk ((pK0 L).view.read (Elt F) fp)) (rowChunk ((eK0 L).view.read (Elt F) fe)) _ _) $$ [A0 B0]
  · isplitl [A0]
    · iexact A0
    isplitl [B0]
    · iexact B0
    ipureintro
    constructor
    · rw [chunk_rowP0, View.read_writes_whole]; rfl
    · rw [chunk_rowE0, View.read_writes_whole]; rfl
  iapply Hl
  iintro %acc0 ⟨%hacc0, A0, B0⟩
  obtain ⟨a00, a01, a02, a03, a04, a05, a06, a07⟩ := acc0
  sl_exec_parts (disch := first | exact chk1_ok)
  ihave Hg := (wp_gatherX d L 1#32 (by decide) _ (k0_pay63 tile_run.sl.v75) rfl _ _ _ _) $$ HsX
  iapply Hg
  iintro %x00 ⟨%hx00, HsX⟩
  replace hx00 := hx00 _ (writeX _ _)
  ihave Hg := (wp_gatherG d L 1#32 (by decide) _ (k0_pay63 tile_run.sl.v75) rfl _ _ _ _) $$ HsG
  iapply Hg
  iintro %g00 ⟨%hg00, HsG⟩
  replace hg00 := hg00 _ (writeG _ _)
  sl_exec_parts (disch := first | exact chk2_ok)
  ihave Hg := (wp_gatherX d L 2#32 (by decide) _ (k0_pay69 tile_run.sl.v75) rfl _ _ _ _) $$ HsX
  iapply Hg
  iintro %x01 ⟨%hx01, HsX⟩
  replace hx01 := hx01 _ (writeX _ _)
  ihave Hg := (wp_gatherG d L 2#32 (by decide) _ (k0_pay69 tile_run.sl.v75) rfl _ _ _ _) $$ HsG
  iapply Hg
  iintro %g01 ⟨%hg01, HsG⟩
  replace hg01 := hg01 _ (writeG _ _)
  sl_exec_parts (disch := first | exact chk3_ok)
  ihave Hg := (wp_gatherX d L 4#32 (by decide) _ (k0_pay75 tile_run.sl.v75) rfl _ _ _ _) $$ HsX
  iapply Hg
  iintro %x02 ⟨%hx02, HsX⟩
  replace hx02 := hx02 _ (writeX _ _)
  ihave Hg := (wp_gatherG d L 4#32 (by decide) _ (k0_pay75 tile_run.sl.v75) rfl _ _ _ _) $$ HsG
  iapply Hg
  iintro %g02 ⟨%hg02, HsG⟩
  replace hg02 := hg02 _ (writeG _ _)
  sl_exec_parts (disch := first | exact chk4_ok)
  ihave Hg := (wp_gatherX d L 8#32 (by decide) _ (k0_pay81 tile_run.sl.v75) rfl _ _ _ _) $$ HsX
  iapply Hg
  iintro %x03 ⟨%hx03, HsX⟩
  replace hx03 := hx03 _ (writeX _ _)
  ihave Hg := (wp_gatherG d L 8#32 (by decide) _ (k0_pay81 tile_run.sl.v75) rfl _ _ _ _) $$ HsG
  iapply Hg
  iintro %g03 ⟨%hg03, HsG⟩
  replace hg03 := hg03 _ (writeG _ _)
  sl_exec_parts
  ihave Hl := (loop2 d L _ _ _ _ _ (rowChunk ((pK1 L).view.read (Elt F) fp)) (rowChunk ((eK1 L).view.read (Elt F) fe)) _ _) $$ [A1 B1]
  · isplitl [A1]
    · iexact A1
    isplitl [B1]
    · iexact B1
    ipureintro
    constructor
    · rw [chunk_rowP1, View.read_writes_whole]; rfl
    · rw [chunk_rowE1, View.read_writes_whole]; rfl
  iapply Hl
  iintro %acc1 ⟨%hacc1, A1, B1⟩
  obtain ⟨a10, a11, a12, a13, a14, a15, a16, a17⟩ := acc1
  sl_exec_parts (disch := first | exact chk5_ok)
  ihave Hg := (wp_gatherX d L 1#32 (by decide) _ (k0_pay114 tile_run.sl.v75) rfl _ _ _ _) $$ HsX
  iapply Hg
  iintro %x10 ⟨%hx10, HsX⟩
  replace hx10 := hx10 _ (writeX _ _)
  ihave Hg := (wp_gatherG d L 1#32 (by decide) _ (k0_pay114 tile_run.sl.v75) rfl _ _ _ _) $$ HsG
  iapply Hg
  iintro %g10 ⟨%hg10, HsG⟩
  replace hg10 := hg10 _ (writeG _ _)
  sl_exec_parts (disch := first | exact chk6_ok)
  ihave Hg := (wp_gatherX d L 2#32 (by decide) _ (k0_pay120 tile_run.sl.v75) rfl _ _ _ _) $$ HsX
  iapply Hg
  iintro %x11 ⟨%hx11, HsX⟩
  replace hx11 := hx11 _ (writeX _ _)
  ihave Hg := (wp_gatherG d L 2#32 (by decide) _ (k0_pay120 tile_run.sl.v75) rfl _ _ _ _) $$ HsG
  iapply Hg
  iintro %g11 ⟨%hg11, HsG⟩
  replace hg11 := hg11 _ (writeG _ _)
  sl_exec_parts (disch := first | exact chk7_ok)
  ihave Hg := (wp_gatherX d L 4#32 (by decide) _ (k0_pay126 tile_run.sl.v75) rfl _ _ _ _) $$ HsX
  iapply Hg
  iintro %x12 ⟨%hx12, HsX⟩
  replace hx12 := hx12 _ (writeX _ _)
  ihave Hg := (wp_gatherG d L 4#32 (by decide) _ (k0_pay126 tile_run.sl.v75) rfl _ _ _ _) $$ HsG
  iapply Hg
  iintro %g12 ⟨%hg12, HsG⟩
  replace hg12 := hg12 _ (writeG _ _)
  sl_exec_parts (disch := first | exact chk8_ok)
  ihave Hg := (wp_gatherX d L 8#32 (by decide) _ (k0_pay132 tile_run.sl.v75) rfl _ _ _ _) $$ HsX
  iapply Hg
  iintro %x13 ⟨%hx13, HsX⟩
  replace hx13 := hx13 _ (writeX _ _)
  ihave Hg := (wp_gatherG d L 8#32 (by decide) _ (k0_pay132 tile_run.sl.v75) rfl _ _ _ _) $$ HsG
  iapply Hg
  iintro %g13 ⟨%hg13, HsG⟩
  replace hg13 := hg13 _ (writeG _ _)
  sl_exec_parts
  ihave Hl := (loop3 d L _ _  (rowChunk ((pK2 L).view.read (Elt F) fp)) (rowChunk ((eK2 L).view.read (Elt F) fe)) _ _) $$ [A2 B2]
  · isplitl [A2]
    · iexact A2
    isplitl [B2]
    · iexact B2
    ipureintro
    constructor
    · rw [chunk_rowP2, View.read_writes_whole]; rfl
    · rw [chunk_rowE2, View.read_writes_whole]; rfl
  iapply Hl
  iintro %acc2 ⟨%hacc2, A2, B2⟩
  obtain ⟨a20, a21, a22, a23, a24, a25, a26, a27⟩ := acc2
  sl_exec_parts (disch := first | exact chk9_ok)
  ihave Hg := (wp_gatherX d L 1#32 (by decide) _ (k0_pay163 tile_run.sl.v75) rfl _ _ _ _) $$ HsX
  iapply Hg
  iintro %x20 ⟨%hx20, HsX⟩
  replace hx20 := hx20 _ (writeX _ _)
  ihave Hg := (wp_gatherG d L 1#32 (by decide) _ (k0_pay163 tile_run.sl.v75) rfl _ _ _ _) $$ HsG
  iapply Hg
  iintro %g20 ⟨%hg20, HsG⟩
  replace hg20 := hg20 _ (writeG _ _)
  sl_exec_parts (disch := first | exact chk10_ok)
  ihave Hg := (wp_gatherX d L 2#32 (by decide) _ (k0_pay169 tile_run.sl.v75) rfl _ _ _ _) $$ HsX
  iapply Hg
  iintro %x21 ⟨%hx21, HsX⟩
  replace hx21 := hx21 _ (writeX _ _)
  ihave Hg := (wp_gatherG d L 2#32 (by decide) _ (k0_pay169 tile_run.sl.v75) rfl _ _ _ _) $$ HsG
  iapply Hg
  iintro %g21 ⟨%hg21, HsG⟩
  replace hg21 := hg21 _ (writeG _ _)
  sl_exec_parts (disch := first | exact chk11_ok)
  ihave Hg := (wp_gatherX d L 4#32 (by decide) _ (k0_pay175 tile_run.sl.v75) rfl _ _ _ _) $$ HsX
  iapply Hg
  iintro %x22 ⟨%hx22, HsX⟩
  replace hx22 := hx22 _ (writeX _ _)
  ihave Hg := (wp_gatherG d L 4#32 (by decide) _ (k0_pay175 tile_run.sl.v75) rfl _ _ _ _) $$ HsG
  iapply Hg
  iintro %g22 ⟨%hg22, HsG⟩
  replace hg22 := hg22 _ (writeG _ _)
  sl_exec_parts (disch := first | exact chk12_ok)
  ihave Hg := (wp_gatherX d L 8#32 (by decide) _ (k0_pay181 tile_run.sl.v75) rfl _ _ _ _) $$ HsX
  iapply Hg
  iintro %x23 ⟨%hx23, HsX⟩
  replace hx23 := hx23 _ (writeX _ _)
  ihave Hg := (wp_gatherG d L 8#32 (by decide) _ (k0_pay181 tile_run.sl.v75) rfl _ _ _ _) $$ HsG
  iapply Hg
  iintro %g23 ⟨%hg23, HsG⟩
  replace hg23 := hg23 _ (writeG _ _)
  sl_exec_parts
  ihave Hl := (loop4 d L _ _ _ (rowChunk ((pK3 L).view.read (Elt F) fp)) (rowChunk ((eK3 L).view.read (Elt F) fe)) _ _) $$ [A3 B3]
  · isplitl [A3]
    · iexact A3
    isplitl [B3]
    · iexact B3
    ipureintro
    constructor
    · rw [chunk_rowP3, View.read_writes_whole]; rfl
    · rw [chunk_rowE3, View.read_writes_whole]; rfl
  iapply Hl
  iintro %acc3 ⟨%hacc3, A3, B3⟩
  obtain ⟨a30, a31, a32, a33, a34, a35, a36, a37⟩ := acc3
  sl_exec_parts (disch := first | exact chk13_ok)
  ihave Hg := (wp_gatherX d L 1#32 (by decide) _ (k0_pay210 tile_run.sl.v75) rfl _ _ _ _) $$ HsX
  iapply Hg
  iintro %x30 ⟨%hx30, HsX⟩
  replace hx30 := hx30 _ (writeX _ _)
  ihave Hg := (wp_gatherG d L 1#32 (by decide) _ (k0_pay210 tile_run.sl.v75) rfl _ _ _ _) $$ HsG
  iapply Hg
  iintro %g30 ⟨%hg30, HsG⟩
  replace hg30 := hg30 _ (writeG _ _)
  sl_exec_parts (disch := first | exact chk14_ok)
  ihave Hg := (wp_gatherX d L 2#32 (by decide) _ (k0_pay216 tile_run.sl.v75) rfl _ _ _ _) $$ HsX
  iapply Hg
  iintro %x31 ⟨%hx31, HsX⟩
  replace hx31 := hx31 _ (writeX _ _)
  ihave Hg := (wp_gatherG d L 2#32 (by decide) _ (k0_pay216 tile_run.sl.v75) rfl _ _ _ _) $$ HsG
  iapply Hg
  iintro %g31 ⟨%hg31, HsG⟩
  replace hg31 := hg31 _ (writeG _ _)
  sl_exec_parts (disch := first | exact chk15_ok)
  ihave Hg := (wp_gatherX d L 4#32 (by decide) _ (k0_pay222 tile_run.sl.v75) rfl _ _ _ _) $$ HsX
  iapply Hg
  iintro %x32 ⟨%hx32, HsX⟩
  replace hx32 := hx32 _ (writeX _ _)
  ihave Hg := (wp_gatherG d L 4#32 (by decide) _ (k0_pay222 tile_run.sl.v75) rfl _ _ _ _) $$ HsG
  iapply Hg
  iintro %g32 ⟨%hg32, HsG⟩
  replace hg32 := hg32 _ (writeG _ _)
  sl_exec_parts (disch := first | exact chk16_ok)
  ihave Hg := (wp_gatherX d L 8#32 (by decide) _ (xori tile_run.sl.v75 k0_pay228) rfl _ _ _ _) $$ HsX
  iapply Hg
  iintro %x33 ⟨%hx33, HsX⟩
  replace hx33 := hx33 _ (writeX _ _)
  ihave Hg := (wp_gatherG d L 8#32 (by decide) _ (xori tile_run.sl.v75 k0_pay228) rfl _ _ _ _) $$ HsG
  iapply Hg
  iintro %g33 ⟨%hg33, HsG⟩
  replace hg33 := hg33 _ (writeG _ _)
  sl_exec_parts
  sl_step
  ihave HO := (Entails.of_eq (congrArg (fun v => own d L (oK L) ((oK L).view.writes (Elt F) fo [⟨Rect.whole S16, v⟩])) (?hv : _ = outV L fp fe fu))) $$ HO
  case hv =>
    unfold outV accOf
    rw [← hacc0, ← hacc1, ← hacc2, ← hacc3]
    clear hacc0 hacc1 hacc2 hacc3
    delta tile_run.sl.dma3_1 tile_run.sl.HsS_1
    refine Eq.trans (writeS _ gs) ?_
    rw [← load_offsets L fu gu]
    rw [← row0_value a00 a01 a02 a03 a04 a05 a06 a07 x00 x01 x02 x03 g00 g01 g02 g03 hx00 hg00 hx01 hg01 hx02 hg02 hx03 hg03]
    rw [← row1_value a10 a11 a12 a13 a14 a15 a16 a17 x10 x11 x12 x13 g10 g11 g12 g13 _ hx10 hg10 hx11 hg11 hx12 hg12 hx13 hg13]
    rw [← row2_value a20 a21 a22 a23 a24 a25 a26 a27 x20 x21 x22 x23 g20 g21 g22 g23 _ hx20 hg20 hx21 hg21 hx22 hg22 hx23 hg23]
    rw [← row3_value a30 a31 a32 a33 a34 a35 a36 a37 x30 x31 x32 x33 g30 g31 g32 g33 _ _ hx30 hg30 hx31 hg31 hx32 hg32 hx33 hg33]
    rfl
  isplitl [P0]; · iexact P0
  isplitl [P1]; · iexact P1
  isplitl [P2]; · iexact P2
  isplitl [P3]; · iexact P3
  isplitl [E0]; · iexact E0
  isplitl [E1]; · iexact E1
  isplitl [E2]; · iexact E2
  isplitl [E3]; · iexact E3
  isplitl [HU]; · iexact HU
  isplitl [HO]; · iexact HO
  isplitl [A0]; · iexists _; iexact A0
  isplitl [A1]; · iexists _; iexact A1
  isplitl [A2]; · iexists _; iexact A2
  isplitl [A3]; · iexists _; iexact A3
  isplitl [B0]; · iexists _; iexact B0
  isplitl [B1]; · iexists _; iexact B1
  isplitl [B2]; · iexists _; iexact B2
  isplitl [B3]; · iexists _; iexact B3
  isplitl [HsU]; · iexists _; iexact HsU
  isplitl [HsS]; · iexists _; iexact HsS
  isplitl [HsX]; · iexists _; iexact HsX
  isplitl [HsG]; · iexists _; iexact HsG
  isplitl [S6]; · iexact S6
  isplitl [S7]; · iexact S7
  isplitl [S8]; · iexact S8
  isplitl [S9]; · iexact S9
  isplitl [S10]; · iexact S10
  isplitl [Sc]; · iexact Sc
  iexists _; isplitr
  swap; · iexact Howes
  ipureintro; intro p _
  rcases p.2 with _ | q
  · exact .inr (.inl rfl)
  · exact .inr (.inr (congrArg some (Subsingleton.elim q 0)))

end Cert.Proof.Sampler

end
-- ==== Proof.Launch.lean ====
/-
  The task as the launch theorem asks for it: the subcore's own buffers and cells opened, the body's run, and what the
  handshakes carry to and from each task.
-/
module

public import proofs.«01_k».proof.Proof.Tile
public import Idealize.ShloMosaic.Lib.VecWindow

@[expose] public section

noncomputable section

namespace Cert.Proof.Sampler

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Sets that split an array -/

/-- Sets that an index of `J` lies in exactly when a function of it says so split the ownership of `J`. -/
theorem pts_split {ι : Type} [Fintype ι] [DecidableEq ι] {ℓ : Loc nD τ sig} {q : PosShare TreeShare} (who : Idx ℓ → ι) (J : Finset (Idx ℓ)) (A : ι → Finset (Idx ℓ))
    (h : ∀ i x, x ∈ A i ↔ x ∈ J ∧ who x = i) (f : Buf (Elt F) ℓ) :
    (ℓ ↦[J]{q} f : sProp (𝕄 F)) = bigSep Finset.univ fun i => ℓ ↦[A i]{q} f := by
  rw [← pointsTo_biUnion Finset.univ (ℓ := ℓ) A (fun i _ j _ hij => Finset.disjoint_left.mpr fun x hi hj => hij (((h i x).mp hi).2.symm.trans ((h j x).mp hj).2))]
  congr 1
  symm
  ext x
  simp [h]

theorem bigSep_four (Φ : Fin 4 → sProp (𝕄 F)) : bigSep Finset.univ Φ = iprop(Φ 0 ∗ Φ 1 ∗ Φ 2 ∗ Φ 3) := by
  rw [show (Finset.univ : Finset (Fin 4)) = {0, 1, 2, 3} by decide,
    SparseCore.bigSep_insert' (by decide), SparseCore.bigSep_insert' (by decide), SparseCore.bigSep_insert' (by decide), bigSep_singleton]

/-- The same over the two SparseCores, the sixteen subcores of each. -/
theorem pts_split2 {ℓ : Loc nD τ sig} {q : PosShare TreeShare} (wc : Idx ℓ → Fin 2) (wi : Idx ℓ → Fin 16) (A : Fin 2 → Fin 16 → Finset (Idx ℓ))
    (h : ∀ c i x, x ∈ A c i ↔ wc x = c ∧ wi x = i) (f : Buf (Elt F) ℓ) :
    (ℓ ↦{q} f : sProp (𝕄 F)) = bigSep Finset.univ fun c => bigSep Finset.univ fun i => ℓ ↦[A c i]{q} f := by
  classical
  rw [pts_split wc Finset.univ (fun c => Finset.univ.filter fun x => wc x = c) (by simp)]
  refine bigSep_congr fun c _ => ?_
  rw [pts_split wi _ (A c) (by simp [h])]

/-- And over the four rows of each task. -/
theorem pts_split3 {ℓ : Loc nD τ sig} {q : PosShare TreeShare} (wc : Idx ℓ → Fin 2) (wi : Idx ℓ → Fin 16) (wr : Idx ℓ → Fin 4) (A : Fin 2 → Fin 16 → Fin 4 → Finset (Idx ℓ))
    (h : ∀ c i r x, x ∈ A c i r ↔ wc x = c ∧ wi x = i ∧ wr x = r) (f : Buf (Elt F) ℓ) :
    (ℓ ↦{q} f : sProp (𝕄 F)) = bigSep Finset.univ fun c => bigSep Finset.univ fun i =>
      iprop((ℓ ↦[A c i 0]{q} f) ∗ (ℓ ↦[A c i 1]{q} f) ∗ (ℓ ↦[A c i 2]{q} f) ∗ ℓ ↦[A c i 3]{q} f) := by
  classical
  rw [pts_split2 wc wi (fun c i => Finset.univ.filter fun x => wc x = c ∧ wi x = i) (by simp)]
  refine bigSep_congr fun c _ => bigSep_congr fun i _ => ?_
  rw [pts_split wr _ (A c i) (fun r x => by simp only [h, Finset.mem_filter, Finset.mem_univ, _root_.true_and, _root_.and_assoc]) f, bigSep_four]

/-! ## The pieces of the arrays -/

def coordsV (c : Fin (grid0.bound 0)) (s : Fin (grid0.bound 1)) : grid0.Coords :=
  fun | 0 => c | 1 => s | ⟨_ + 2, h⟩ => absurd h (Nat.not_lt.2 (Nat.le_add_left _ _))

abbrev Lc (c : Fin 2) (i : Fin 16) : grid0.Coords := coordsV c i

/-- A row of the weights, a segment of the reciprocals, as the body addresses them. -/
abbrev pKr (L : grid0.Coords) (r : Fin 4) : Memref sig .scVector .hbm S8192 .f32 :=
  (pV.slice (Rect.unit (s := S128x8192) (k0_off2 L (BitVec.ofNat 32 r.val)) S1x8192.size (k0_off2_inb L r)) (fun _ => rfl)).squeeze S8192 squeezes_S1x8192_S8192
abbrev eKr (L : grid0.Coords) (r : Fin 4) : Memref sig .scVector .hbm S8192 .f32 :=
  eV.slice (Rect.unit (s := S1048576) (k0_off3 L (BitVec.ofNat 32 r.val)) S8192.size (k0_off3_inb L r)) (fun _ => rfl)

theorem pKr_set (L : grid0.Coords) (r : Fin 4) (x : S128x8192.Idx) : x ∈ (pKr L r).view.set ↔ (x 0).val = 8 * (L 1).val + 4 * (L 0).val + r.val := by
  rw [show (pKr L r).view.set = (Rect.unit (s := S128x8192) (k0_off2 L (BitVec.ofNat 32 r.val)) S1x8192.size (k0_off2_inb L r)).set from
    (View.set_reshape ..).trans (View.set_slice_whole ..), Rect.mem_set_unit]
  rw [k0_off2_eq]
  constructor
  · intro h
    have := h 0
    simp at this
    omega
  · intro h a
    have h2 := (x a).isLt
    match a with
    | 0 => simp [h]
    | 1 => simp at h2 ⊢; exact h2

theorem eKr_set (L : grid0.Coords) (r : Fin 4) (x : S1048576.Idx) : x ∈ (eKr L r).view.set ↔ (x 0).val / 8192 = 8 * (L 1).val + 4 * (L 0).val + r.val := by
  rw [show (eKr L r).view.set = (Rect.unit (s := S1048576) (k0_off3 L (BitVec.ofNat 32 r.val)) S8192.size (k0_off3_inb L r)).set from
    View.set_slice_whole .., Rect.mem_set_unit]
  rw [k0_off3_eq]
  constructor
  · intro h
    have := h 0
    simp at this
    omega
  · intro h a
    match a with
    | 0 => simp; omega

theorem uK_set (L : grid0.Coords) (x : S32x16.Idx) : x ∈ (uK L).view.set ↔ (x 0).val = 2 * (L 1).val + (L 0).val := by
  rw [show (uK L).view.set = (Rect.unit (s := S32x16) (k0_off1 L) S1x16.size (k0_off1_inb L)).set from
    (View.set_reshape ..).trans (View.set_slice_whole ..), Rect.mem_set_unit]
  rw [k0_off1_eq]
  constructor
  · intro h
    have := h 0
    simp at this
    omega
  · intro h a
    have h2 := (x a).isLt
    match a with
    | 0 => simp [h]
    | 1 => simp at h2 ⊢; exact h2

theorem oK_set (L : grid0.Coords) (x : S32x16.Idx) : x ∈ (oK L).view.set ↔ (x 0).val = 2 * (L 1).val + (L 0).val := by
  rw [show (oK L).view.set = (Rect.unit (s := S32x16) (k0_off14 L) S1x16.size (k0_off14_inb L)).set from
    (View.set_reshape ..).trans (View.set_slice_whole ..), Rect.mem_set_unit]
  rw [k0_off14_eq]
  constructor
  · intro h
    have := h 0
    simp at this
    omega
  · intro h a
    have h2 := (x a).isLt
    match a with
    | 0 => simp [h]
    | 1 => simp at h2 ⊢; exact h2

variable (d : Dev nD)

theorem p_pieces (f : Buf (Elt F) (pLoc d)) :
    (pLoc d ↦{fullShare} f : sProp (𝕄 F)) = bigSep Finset.univ fun c => bigSep Finset.univ fun i =>
      iprop(own d (Lc c i) (pK0 (Lc c i)) f ∗ own d (Lc c i) (pK1 (Lc c i)) f ∗ own d (Lc c i) (pK2 (Lc c i)) f ∗ own d (Lc c i) (pK3 (Lc c i)) f) :=
  pts_split3 (ℓ := pLoc d) (fun x : S128x8192.Idx => ⟨(x 0).val / 4 % 2, by omega⟩) (fun x : S128x8192.Idx => ⟨(x 0).val / 8, by have : (x 0).val < 128 := (x 0).isLt; omega⟩)
    (fun x : S128x8192.Idx => ⟨(x 0).val % 4, by omega⟩) (fun c i r => (pKr (Lc c i) r).view.set)
    (fun c i r x => by
      refine (pKr_set (Lc c i) r x).trans ?_
      show (x 0).val = 8 * i.val + 4 * c.val + r.val ↔ _
      simp only [Fin.ext_iff]
      omega) f

theorem e_pieces (f : Buf (Elt F) (eLoc d)) :
    (eLoc d ↦{fullShare} f : sProp (𝕄 F)) = bigSep Finset.univ fun c => bigSep Finset.univ fun i =>
      iprop(own d (Lc c i) (eK0 (Lc c i)) f ∗ own d (Lc c i) (eK1 (Lc c i)) f ∗ own d (Lc c i) (eK2 (Lc c i)) f ∗ own d (Lc c i) (eK3 (Lc c i)) f) :=
  pts_split3 (ℓ := eLoc d) (fun x : S1048576.Idx => ⟨(x 0).val / 8192 / 4 % 2, by omega⟩) (fun x : S1048576.Idx => ⟨(x 0).val / 8192 / 8, by have : (x 0).val < 1048576 := (x 0).isLt; omega⟩)
    (fun x : S1048576.Idx => ⟨(x 0).val / 8192 % 4, by omega⟩) (fun c i r => (eKr (Lc c i) r).view.set)
    (fun c i r x => by
      refine (eKr_set (Lc c i) r x).trans ?_
      show (x 0).val / 8192 = 8 * i.val + 4 * c.val + r.val ↔ _
      simp only [Fin.ext_iff]
      omega) f

theorem u_pieces (f : Buf (Elt F) (uLoc d)) :
    (uLoc d ↦{fullShare} f : sProp (𝕄 F)) = bigSep Finset.univ fun c => bigSep Finset.univ fun i => own d (Lc c i) (uK (Lc c i)) f :=
  pts_split2 (ℓ := uLoc d) (fun x : S32x16.Idx => ⟨(x 0).val % 2, by omega⟩) (fun x : S32x16.Idx => ⟨(x 0).val / 2, by have : (x 0).val < 32 := (x 0).isLt; omega⟩)
    (fun c i => (uK (Lc c i)).view.set)
    (fun c i x => by
      refine (uK_set (Lc c i) x).trans ?_
      show (x 0).val = 2 * i.val + c.val ↔ _
      simp only [Fin.ext_iff]
      omega) f

theorem o_pieces (f : Buf (Elt F) (oLoc d)) :
    (oLoc d ↦{fullShare} f : sProp (𝕄 F)) = bigSep Finset.univ fun c => bigSep Finset.univ fun i => own d (Lc c i) (oK (Lc c i)) f :=
  pts_split2 (ℓ := oLoc d) (fun x : S32x16.Idx => ⟨(x 0).val % 2, by omega⟩) (fun x : S32x16.Idx => ⟨(x 0).val / 2, by have : (x 0).val < 32 := (x 0).isLt; omega⟩)
    (fun c i => (oK (Lc c i)).view.set)
    (fun c i x => by
      refine (oK_set (Lc c i) x).trans ?_
      show (x 0).val = 2 * i.val + c.val ↔ _
      simp only [Fin.ext_iff]
      omega) f

variable [FloatOps F]

/-- The kernel's array: row `2 s + c` is what task `(c, s)` leaves. -/
def outF (fp : S128x8192.Idx → F .f32) (fe : S1048576.Idx → F .f32) (fu : S32x16.Idx → F .f32) : S32x16.Idx → F .f32 := fun x =>
  outV (Lc ⟨(x 0).val % 2, by omega⟩ ⟨(x 0).val / 2, by have : (x 0).val < 32 := (x 0).isLt; omega⟩) fp fe fu (ix1 (x 1))

omit [FloatOps F] in
theorem oK_read (L : grid0.Coords) (g : S32x16.Idx → F .f32) (j : S16.Idx) :
    (oK L).view.read (Elt F) g j = g (ix2 ⟨2 * (L 1).val + (L 0).val, by have : (L 1).val < 16 := (L 1).isLt; have : (L 0).val < 2 := (L 0).isLt; omega⟩ (j 0)) := by
  show g _ = g _
  congr 1
  show (Rect.unit (s := S32x16) (k0_off14 L) S1x16.size (k0_off14_inb L)).emb (Shape.reshapeEquiv squeezes_S1x16_S16.numel_eq _) = _
  rw [show squeezes_S1x16_S16.numel_eq = squeezes_S1x16_S16.numel_eq from rfl, Shape.reshapeEquiv_cons_one]
  funext a
  apply Fin.ext
  rw [Rect.emb_apply]
  have h := congrFun (k0_off14_eq L) a
  match a with
  | 0 => simp [Rect.unit]; exact h
  | 1 => simp [Rect.unit]; rw [h]; simp; rfl

theorem out_piece (c : Fin 2) (i : Fin 16) (fp : S128x8192.Idx → F .f32) (fe : S1048576.Idx → F .f32) (fu : S32x16.Idx → F .f32) (fo : Buf (Elt F) (oLoc d)) :
    (own d (Lc c i) (oK (Lc c i)) ((oK (Lc c i)).view.writes (Elt F) fo [⟨Rect.whole S16, outV (Lc c i) fp fe fu⟩]) : sProp (𝕄 F))
      = own d (Lc c i) (oK (Lc c i)) (outF fp fe fu) := by
  refine pointsTo_congr fun x hx => ?_
  obtain ⟨j, -, rfl⟩ := Finset.mem_map.mp hx
  have h := congrFun (View.read_writes_whole (oK (Lc c i)).view fo (outV (Lc c i) fp fe fu)) j
  refine (show _ = outV (Lc c i) fp fe fu j from h).trans ?_
  have h2 := oK_read (Lc c i) (outF fp fe fu) j
  refine Eq.trans ?_ h2.symm
  show _ = outV (Lc ⟨(2 * i.val + c.val) % 2, _⟩ ⟨(2 * i.val + c.val) / 2, _⟩) fp fe fu (ix1 (j 0))
  have e1 : (⟨(2 * i.val + c.val) % 2, Nat.mod_lt _ (by decide)⟩ : Fin 2) = c := Fin.ext (by show (2 * i.val + c.val) % 2 = c.val; omega)
  have e2 : (⟨(2 * i.val + c.val) / 2, by omega⟩ : Fin 16) = i := Fin.ext (by show (2 * i.val + c.val) / 2 = i.val; omega)
  rw [e1, e2]
  congr 1
  funext a
  match a with
  | 0 => rfl

/-! ## The two buffers of four rows -/

theorem row_inb (r : Fin 4) : ∀ a, (![r.val, 0] : Fin 2 → ℕ) a + S1x8192.size a ≤ S4x8192.size a := by
  revert r; decide
abbrev bPr (r : Fin 4) : Memref sig .scVector .vmem S8192 .f32 :=
  (sP.slice (Rect.unit (s := S4x8192) ![r.val, 0] S1x8192.size (row_inb r)) (fun _ => rfl)).squeeze S8192 squeezes_S1x8192_S8192
abbrev bEr (r : Fin 4) : Memref sig .scVector .vmem S8192 .f32 :=
  (sE.slice (Rect.unit (s := S4x8192) ![r.val, 0] S1x8192.size (row_inb r)) (fun _ => rfl)).squeeze S8192 squeezes_S1x8192_S8192

theorem row_set {r : Fin 4} {inb : ∀ a, (![r.val, 0] : Fin 2 → ℕ) a + S1x8192.size a ≤ S4x8192.size a} (x : S4x8192.Idx) :
    x ∈ (Rect.unit (s := S4x8192) ![r.val, 0] S1x8192.size inb).set ↔ x 0 = r := by
  rw [Rect.mem_set_unit]
  constructor
  · intro h
    have := h 0
    simp at this
    exact Fin.ext (by omega)
  · intro h a
    have h2 := (x a).isLt
    match a with
    | 0 => simp [h]
    | 1 => simp at h2 ⊢; exact h2

theorem bPr_set (r : Fin 4) (x : S4x8192.Idx) : x ∈ (bPr r).view.set ↔ x 0 = r := by
  rw [show (bPr r).view.set = (Rect.unit (s := S4x8192) ![r.val, 0] S1x8192.size (row_inb r)).set from
    (View.set_reshape ..).trans (View.set_slice_whole ..)]
  exact row_set x
theorem bEr_set (r : Fin 4) (x : S4x8192.Idx) : x ∈ (bEr r).view.set ↔ x 0 = r := by
  rw [show (bEr r).view.set = (Rect.unit (s := S4x8192) ![r.val, 0] S1x8192.size (row_inb r)).set from
    (View.set_reshape ..).trans (View.set_slice_whole ..)]
  exact row_set x

/-- An array whose indices are of four rows splits into them, and the rows at contents of their own make the array at some. -/
theorem rows_split {ℓ : Loc nD τ sig} (wr : Idx ℓ → Fin 4) (A : Fin 4 → Finset (Idx ℓ)) (h : ∀ r x, x ∈ A r ↔ wr x = r) (f : Buf (Elt F) ℓ) :
    (ℓ ↦{fullShare} f : sProp (𝕄 F)) = iprop((ℓ ↦[A 0]{fullShare} f) ∗ (ℓ ↦[A 1]{fullShare} f) ∗ (ℓ ↦[A 2]{fullShare} f) ∗ ℓ ↦[A 3]{fullShare} f) := by
  rw [pts_split wr Finset.univ A (by simp [h]), bigSep_four]
theorem rows_join {ℓ : Loc nD τ sig} (wr : Idx ℓ → Fin 4) (A : Fin 4 → Finset (Idx ℓ)) (h : ∀ r x, x ∈ A r ↔ wr x = r) :
    iprop((∃ f, ℓ ↦[A 0]{fullShare} f) ∗ (∃ f, ℓ ↦[A 1]{fullShare} f) ∗ (∃ f, ℓ ↦[A 2]{fullShare} f) ∗ ∃ f, ℓ ↦[A 3]{fullShare} f)
      ⊢ (iprop(∃ f, ℓ ↦{fullShare} f) : sProp (𝕄 F)) := by
  rw [← bigSep_four (fun r => iprop(∃ f, ℓ ↦[A r]{fullShare} f))]
  refine (bigSep_exists_pi Finset.univ (fun r (f : Buf (Elt F) ℓ) => iprop(ℓ ↦[A r]{fullShare} f))).trans ?_
  iintro ⟨%fs, H⟩
  have : Nonempty (Buf (Elt F) ℓ) := ⟨fs 0⟩
  ihave H' := (pointsTo_biUnion_join (ℓ := ℓ) (q := fullShare) (Val := Elt F) Finset.univ A fs (fs 0)
    (fun i _ j _ hij => Finset.disjoint_left.mpr fun x hi hj => hij (((h i x).mp hi).symm.trans ((h j x).mp hj)))) $$ H
  icases H' with ⟨%g, -, Hg⟩
  iexists g
  rw [show Finset.univ.biUnion A = Finset.univ by ext x; simp [h]]
  iexact Hg

section Rows
variable (L : grid0.Coords)

theorem sP_rows (f : Buf (Elt F) (sP.view.loc (V d (cV L) (jV L)))) :
    (whole d L sP f : sProp (𝕄 F)) = iprop(own d L bP0 f ∗ own d L bP1 f ∗ own d L bP2 f ∗ own d L bP3 f) :=
  rows_split (ℓ := sP.view.loc (V d (cV L) (jV L))) (fun x : S4x8192.Idx => x 0) (fun r => (bPr r).view.set) bPr_set f
theorem sE_rows (f : Buf (Elt F) (sE.view.loc (V d (cV L) (jV L)))) :
    (whole d L sE f : sProp (𝕄 F)) = iprop(own d L bE0 f ∗ own d L bE1 f ∗ own d L bE2 f ∗ own d L bE3 f) :=
  rows_split (ℓ := sE.view.loc (V d (cV L) (jV L))) (fun x : S4x8192.Idx => x 0) (fun r => (bEr r).view.set) bEr_set f
theorem sP_join : iprop((∃ f, own d L bP0 f) ∗ (∃ f, own d L bP1 f) ∗ (∃ f, own d L bP2 f) ∗ ∃ f, own d L bP3 f) ⊢ (iprop(∃ f, whole d L sP f) : sProp (𝕄 F)) :=
  rows_join (ℓ := sP.view.loc (V d (cV L) (jV L))) (fun x : S4x8192.Idx => x 0) (fun r => (bPr r).view.set) bPr_set
theorem sE_join : iprop((∃ f, own d L bE0 f) ∗ (∃ f, own d L bE1 f) ∗ (∃ f, own d L bE2 f) ∗ ∃ f, own d L bE3 f) ⊢ (iprop(∃ f, whole d L sE f) : sProp (𝕄 F)) :=
  rows_join (ℓ := sE.view.loc (V d (cV L) (jV L))) (fun x : S4x8192.Idx => x 0) (fun r => (bEr r).view.set) bEr_set

/-! ## The subcore's own cells and buffers -/

theorem ownSems0_V :
    (ownSems0 (V d (cV L) (jV L)) : sProp (𝕄 F))
      = iprop(semVal (V d (cV L) (jV L), .dma cc0_scratch6.sem) 0 ∗ semVal (V d (cV L) (jV L), .dma cc0_scratch7.sem) 0
          ∗ semVal (V d (cV L) (jV L), .dma cc0_scratch8.sem) 0 ∗ semVal (V d (cV L) (jV L), .dma cc0_scratch9.sem) 0
          ∗ semVal (V d (cV L) (jV L), .dma cc0_scratch10.sem) 0 ∗ semVal (V d (cV L) (jV L), .dma cc0_scoped0.sem) 0
          ∗ bigSep (((((((ownCells (V d (cV L) (jV L))).erase (V d (cV L) (jV L), .dma cc0_scratch6.sem)).erase (V d (cV L) (jV L), .dma cc0_scratch7.sem)).erase
              (V d (cV L) (jV L), .dma cc0_scratch8.sem)).erase (V d (cV L) (jV L), .dma cc0_scratch9.sem)).erase (V d (cV L) (jV L), .dma cc0_scratch10.sem)).erase
              (V d (cV L) (jV L), .dma cc0_scoped0.sem)) fun g => semVal g 0) := by
  have own6 : ∀ s : SemLoc sig, s.isScoped .scVector = true → ((V d (cV L) (jV L), s) : GSem nD τ sig) ∈ ownCells (V d (cV L) (jV L)) :=
    fun s h => mem_ownCells.mpr ⟨rfl, h⟩
  have ne : ∀ s t : SemLoc sig, s ≠ t → ((V d (cV L) (jV L), s) : GSem nD τ sig) ≠ (V d (cV L) (jV L), t) := fun s t h e => h (congrArg Prod.snd e)
  unfold SparseCore.Cfg.ownSems0
  rw [SparseCore.bigSep_erase' (own6 (.dma cc0_scratch6.sem) (by decide)),
    SparseCore.bigSep_erase' (Finset.mem_erase.mpr ⟨ne _ _ (by decide), own6 (.dma cc0_scratch7.sem) (by decide)⟩),
    SparseCore.bigSep_erase' (Finset.mem_erase.mpr ⟨ne _ _ (by decide), Finset.mem_erase.mpr ⟨ne _ _ (by decide), own6 (.dma cc0_scratch8.sem) (by decide)⟩⟩),
    SparseCore.bigSep_erase' (Finset.mem_erase.mpr ⟨ne _ _ (by decide), Finset.mem_erase.mpr ⟨ne _ _ (by decide), Finset.mem_erase.mpr ⟨ne _ _ (by decide),
      own6 (.dma cc0_scratch9.sem) (by decide)⟩⟩⟩),
    SparseCore.bigSep_erase' (Finset.mem_erase.mpr ⟨ne _ _ (by decide), Finset.mem_erase.mpr ⟨ne _ _ (by decide), Finset.mem_erase.mpr ⟨ne _ _ (by decide),
      Finset.mem_erase.mpr ⟨ne _ _ (by decide), own6 (.dma cc0_scratch10.sem) (by decide)⟩⟩⟩⟩),
    SparseCore.bigSep_erase' (Finset.mem_erase.mpr ⟨ne _ _ (by decide), Finset.mem_erase.mpr ⟨ne _ _ (by decide), Finset.mem_erase.mpr ⟨ne _ _ (by decide),
      Finset.mem_erase.mpr ⟨ne _ _ (by decide), Finset.mem_erase.mpr ⟨ne _ _ (by decide), own6 (.dma cc0_scoped0.sem) (by decide)⟩⟩⟩⟩⟩)]

theorem ownBufs_V :
    (ownBufs (V d (cV L) (jV L)) : sProp (𝕄 F))
      = iprop((∃ f, whole d L sP f) ∗ (∃ f, whole d L sE f) ∗ (∃ f, whole d L sU f) ∗ (∃ f, whole d L sS f) ∗ (∃ f, whole d L sX f) ∗ (∃ f, whole d L sG f)
          ∗ bigSep (((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4)).erase
              ((Proc.scVector (cV L) (jV L)).devRef cc0_scratch5)) fun b => iprop(∃ f, ((d, b) : Loc nD τ sig) ↦{fullShare} f)) := by
  have ne : ∀ s t : Ref sig .scVector, s ≠ t → (Proc.scVector (cV L) (jV L)).devRef s ≠ (Proc.scVector (τ := τ) (cV L) (jV L)).devRef t :=
    fun s t h e => absurd (Proc.devRef_injective _ e) h
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ne cc0_scratch1 cc0_scratch0 (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨ne cc0_scratch2 cc0_scratch1 (by decide), Finset.mem_erase.mpr ⟨ne cc0_scratch2 cc0_scratch0 (by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide),
      SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨ne cc0_scratch4 cc0_scratch3 (by decide), Finset.mem_erase.mpr ⟨ne cc0_scratch4 cc0_scratch2 (by decide),
      Finset.mem_erase.mpr ⟨ne cc0_scratch4 cc0_scratch1 (by decide), Finset.mem_erase.mpr ⟨ne cc0_scratch4 cc0_scratch0 (by decide),
      SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨ne cc0_scratch5 cc0_scratch4 (by decide), Finset.mem_erase.mpr ⟨ne cc0_scratch5 cc0_scratch3 (by decide),
      Finset.mem_erase.mpr ⟨ne cc0_scratch5 cc0_scratch2 (by decide), Finset.mem_erase.mpr ⟨ne cc0_scratch5 cc0_scratch1 (by decide),
      Finset.mem_erase.mpr ⟨ne cc0_scratch5 cc0_scratch0 (by decide),
      SparseCore.Cfg.mem_ownRefs_of_owner (p := Proc.scVector (cV L) (jV L)) (b := (Proc.scVector (cV L) (jV L)).devRef cc0_scratch5) rfl⟩⟩⟩⟩⟩)]

end Rows

/-! ## What the handshakes carry -/

section Carry

variable (fp : Dev nD → S128x8192.Idx → F .f32) (fe : Dev nD → S1048576.Idx → F .f32) (fu : Dev nD → S32x16.Idx → F .f32) (fo : Dev nD → S32x16.Idx → F .f32)

/-- What a task is given, and what it brings back. -/
abbrev goP (d : Dev nD) (c : Fin 2) (i : Fin 16) : sProp (𝕄 F) :=
  iprop((own d (Lc c i) (pK0 (Lc c i)) (fp d) ∗ own d (Lc c i) (pK1 (Lc c i)) (fp d) ∗ own d (Lc c i) (pK2 (Lc c i)) (fp d) ∗ own d (Lc c i) (pK3 (Lc c i)) (fp d))
    ∗ (own d (Lc c i) (eK0 (Lc c i)) (fe d) ∗ own d (Lc c i) (eK1 (Lc c i)) (fe d) ∗ own d (Lc c i) (eK2 (Lc c i)) (fe d) ∗ own d (Lc c i) (eK3 (Lc c i)) (fe d))
    ∗ own d (Lc c i) (uK (Lc c i)) (fu d) ∗ own d (Lc c i) (oK (Lc c i)) (fo d))
abbrev tdP (d : Dev nD) (c : Fin 2) (i : Fin 16) : sProp (𝕄 F) :=
  iprop((own d (Lc c i) (pK0 (Lc c i)) (fp d) ∗ own d (Lc c i) (pK1 (Lc c i)) (fp d) ∗ own d (Lc c i) (pK2 (Lc c i)) (fp d) ∗ own d (Lc c i) (pK3 (Lc c i)) (fp d))
    ∗ own d (Lc c i) (oK (Lc c i)) (outF (fp d) (fe d) (fu d)))

/-- The call takes the four arrays in the tasks' pieces and brings back the weights and the result in theirs. -/
def P : (K (F := F)).Pay (nD := nD) (Val := Elt F) (Name := ℕ) (U := UU) where
  st := fun q d c => match q with | 0 => bigSep Finset.univ fun i : Fin ((K (F := F)).nSub 0) => goP fp fe fu fo d (Fin.cast nCore_zero c) (Fin.cast nSub_zero i)
  dn := fun q d c => match q with | 0 => bigSep Finset.univ fun i : Fin ((K (F := F)).nSub 0) => tdP fp fe fu d (Fin.cast nCore_zero c) (Fin.cast nSub_zero i)
  go := fun q d c i => match q with | 0 => goP fp fe fu fo d (Fin.cast nCore_zero c) (Fin.cast nSub_zero i)
  td := fun q d c i => match q with | 0 => tdP fp fe fu d (Fin.cast nCore_zero c) (Fin.cast nSub_zero i)
  x := fun _ _ => iprop(emp)

instance P_storable : (P fp fe fu fo).IsStorable where
  st q d c := match q with
    | 0 => (inferInstance : BI.Storable (upEmb : UEmb _ (𝕄 F)) (bigSep Finset.univ fun i : Fin ((K (F := F)).nSub 0) => goP fp fe fu fo d (Fin.cast nCore_zero c) (Fin.cast nSub_zero i)))
  dn q d c := match q with
    | 0 => (inferInstance : BI.Storable (upEmb : UEmb _ (𝕄 F)) (bigSep Finset.univ fun i : Fin ((K (F := F)).nSub 0) => tdP fp fe fu d (Fin.cast nCore_zero c) (Fin.cast nSub_zero i)))
  go q d c i := match q with
    | 0 => (inferInstance : BI.Storable (upEmb : UEmb _ (𝕄 F)) (goP fp fe fu fo d (Fin.cast nCore_zero c) (Fin.cast nSub_zero i)))
  td q d c i := match q with
    | 0 => (inferInstance : BI.Storable (upEmb : UEmb _ (𝕄 F)) (tdP fp fe fu d (Fin.cast nCore_zero c) (Fin.cast nSub_zero i)))

end Carry

end Cert.Proof.Sampler

end
-- ==== Proof.Chain.lean ====
/-
  A list of host operations in which every operation writes one buffer, numbered above all that it reads and below all
  that later operations write: after the whole list each written buffer is that operation's function of what the read
  buffers hold after the whole list.
-/
module

public import Idealize.ShloMosaic.Lib.StableHlo.Run

@[expose] public section

noncomputable section

namespace Cert.Proof.Chain

open Idealize.ShloMosaic
open Idealize.ShloMosaic.StableHlo

variable {τ : Topo} {sig : RefSig} {Val : EltTy → Type}

/-- The number of a TensorCore's reference. -/
def num (b : Ref sig .tc) : ℕ := b.idx.val

/-- The operation writes only the buffer numbered `k`, and what it leaves there depends only on buffers of smaller numbers. -/
def Good (k : ℕ) (op : HloOp τ sig Val) : Prop :=
  op.bufs ⊆ tcRefs τ sig ∧ op.fresh = ∅ ∧ ∃ y : Ref sig .tc, op.writes = {Proc.devRef .tc y} ∧ num y = k ∧
    ∀ G G' : Valuation τ sig Val, (∀ b : Ref sig .tc, num b < k → G (Proc.devRef .tc b) = G' (Proc.devRef .tc b)) →
      op.result G (Proc.devRef .tc y) = op.result G' (Proc.devRef .tc y)

/-- The operations of the list write the buffers numbered `k`, `k + 1`, and so on. -/
def Ordered : ℕ → List (HloOp τ sig Val) → Prop
  | _, [] => True
  | k, op :: ops => Good k op ∧ Ordered (k + 1) ops

theorem ordered_append {l l' : List (HloOp τ sig Val)} : ∀ {k : ℕ}, Ordered k l → Ordered (k + l.length) l' → Ordered k (l ++ l') := by
  induction l with
  | nil => intro k _ h; simpa using h
  | cons op l ih =>
    intro k h h'
    exact ⟨h.1, ih h.2 (by simpa [Nat.add_assoc, Nat.add_comm 1] using h')⟩

theorem num_inj_dev {x y : Ref sig .tc} (h : num x ≠ num y) : Proc.devRef (τ := τ) .tc x ≠ Proc.devRef .tc y :=
  devRef_ne_of_ne fun e => h (e ▸ rfl)

/-- Buffers of smaller numbers are left alone. -/
theorem after_low {ops : List (HloOp τ sig Val)} : ∀ {k : ℕ} (_ : Ordered k ops) (G : Valuation τ sig Val) {b : Ref sig .tc} (_ : num b < k),
    after ops G (Proc.devRef .tc b) = G (Proc.devRef .tc b) := by
  induction ops with
  | nil => intros; rfl
  | cons op ops ih =>
    intro k h G b hb
    obtain ⟨⟨-, -, y, hw, hy, -⟩, h2⟩ := h
    rw [after_cons, ih h2 _ (Nat.lt_succ_of_lt hb)]
    refine op.result_of_not_mem G ?_
    rw [hw, Finset.mem_singleton]
    exact num_inj_dev (by omega)

/-- What the operation at position `n` wrote is its function of the final contents. -/
theorem after_get {ops : List (HloOp τ sig Val)} : ∀ {k : ℕ} (_ : Ordered k ops) (G : Valuation τ sig Val) (n : ℕ) {op : HloOp τ sig Val}
    (_ : ops[n]? = some op) {y : Ref sig .tc} (_ : op.writes = {Proc.devRef .tc y}),
    after ops G (Proc.devRef .tc y) = op.result (after ops G) (Proc.devRef .tc y) := by
  induction ops with
  | nil => intro k _ G n op hn; simp at hn
  | cons op ops ih =>
    intro k h G n o hn y hw
    obtain ⟨⟨-, -, y', hw', hy', hf⟩, h2⟩ := h
    match n with
    | 0 =>
      obtain rfl : op = o := by simpa using hn
      have e : Proc.devRef (τ := τ) .tc y = Proc.devRef .tc y' := by
        have := hw.symm.trans hw'
        exact Finset.singleton_inj.mp this
      rw [e, after_cons, after_low h2 _ (by omega : num y' < k + 1)]
      refine hf _ _ fun b hb => ?_
      rw [after_low h2 _ (by omega : num b < k + 1)]
      refine (op.result_of_not_mem G ?_).symm
      rw [hw', Finset.mem_singleton]
      exact num_inj_dev (by omega)
    | n + 1 => exact ih h2 _ n (by simpa using hn) hw

theorem ordered_bufs {ops : List (HloOp τ sig Val)} : ∀ {k : ℕ} (_ : Ordered k ops), ∀ op ∈ ops, op.bufs ⊆ tcRefs τ sig := by
  induction ops with
  | nil => intro k _ op h; simp at h
  | cons o ops ih =>
    intro k h op hm
    rcases List.mem_cons.mp hm with rfl | hm
    · exact h.1.1
    · exact ih h.2 op hm
theorem ordered_fresh {ops : List (HloOp τ sig Val)} : ∀ {k : ℕ} (_ : Ordered k ops), ∀ op ∈ ops, op.fresh = ∅ := by
  induction ops with
  | nil => intro k _ op h; simp at h
  | cons o ops ih =>
    intro k h op hm
    rcases List.mem_cons.mp hm with rfl | hm
    · exact h.1.2.1
    · exact ih h.2 op hm

variable {x a b c y : Ref sig .tc} {k : ℕ}

theorem good_nullary {v : y.ty.Contents Val} {hy} (hk : num y = k) : Good k (nullary (τ := τ) y v hy) :=
  ⟨nullary_bufs_sub .., rfl, y, rfl, hk, fun G G' _ => (nullary_result' v hy G).trans (nullary_result' v hy G').symm⟩
theorem good_unary {f : x.ty.Contents Val → y.ty.Contents Val} {hx hy} (hk : num y = k) (h : num x < k) : Good k (unary (τ := τ) x y f hx hy) :=
  ⟨unary_bufs_sub .., rfl, y, rfl, hk, fun G G' e => (unary_result' f hx hy G).trans (by rw [e x h]; exact (unary_result' f hx hy G').symm)⟩
theorem good_binary {f : a.ty.Contents Val → b.ty.Contents Val → y.ty.Contents Val} {ha hb hy} (hk : num y = k) (h : num a < k) (h' : num b < k) :
    Good k (binary (τ := τ) a b y f ha hb hy) :=
  ⟨binary_bufs_sub .., rfl, y, rfl, hk, fun G G' e => (binary_result' f ha hb hy G).trans (by rw [e a h, e b h']; exact (binary_result' f ha hb hy G').symm)⟩
theorem good_reshape {he hn hx hy} (hk : num y = k) (h : num x < k) : Good k (reshape (τ := τ) (Val := Val) x y he hn hx hy) :=
  ⟨reshape_bufs_sub .., rfl, y, rfl, hk, fun G G' e => (reshape_result' he hn hx hy G).trans (by rw [e x h]; exact (reshape_result' he hn hx hy G').symm)⟩

theorem good_quaternary {e : Ref sig .tc} {f : a.ty.Contents Val → b.ty.Contents Val → c.ty.Contents Val → e.ty.Contents Val → y.ty.Contents Val} {ha hb hc he hy}
    (hk : num y = k) (h : num a < k) (h' : num b < k) (h2 : num c < k) (h3 : num e < k) :
    Good k (quaternary (τ := τ) a b c e y f ha hb hc he hy) :=
  ⟨quaternary_bufs_sub .., rfl, y, rfl, hk, fun G G' q => (quaternary_result' f ha hb hc he hy G).trans
    (by rw [q a h, q b h', q c h2, q e h3]; exact (quaternary_result' f ha hb hc he hy G').symm)⟩

variable {ops : List (HloOp τ sig Val)}
theorem ordered_quaternary {e : Ref sig .tc} {f : a.ty.Contents Val → b.ty.Contents Val → c.ty.Contents Val → e.ty.Contents Val → y.ty.Contents Val} {ha hb hc he hy}
    (hk : num y = k) (h : num a < k) (h' : num b < k) (h2 : num c < k) (h3 : num e < k) (t : Ordered (k + 1) ops) :
    Ordered k (quaternary (τ := τ) a b c e y f ha hb hc he hy :: ops) := ⟨good_quaternary hk h h' h2 h3, t⟩
theorem ordered_nullary {v : y.ty.Contents Val} {hy} (hk : num y = k) (t : Ordered (k + 1) ops) : Ordered k (nullary (τ := τ) y v hy :: ops) :=
  ⟨good_nullary hk, t⟩
theorem ordered_unary {f : x.ty.Contents Val → y.ty.Contents Val} {hx hy} (hk : num y = k) (h : num x < k) (t : Ordered (k + 1) ops) :
    Ordered k (unary (τ := τ) x y f hx hy :: ops) := ⟨good_unary hk h, t⟩
theorem ordered_binary {f : a.ty.Contents Val → b.ty.Contents Val → y.ty.Contents Val} {ha hb hy} (hk : num y = k) (h : num a < k) (h' : num b < k)
    (t : Ordered (k + 1) ops) : Ordered k (binary (τ := τ) a b y f ha hb hy :: ops) := ⟨good_binary hk h h', t⟩
theorem ordered_reshape {he hn hx hy} (hk : num y = k) (h : num x < k) (t : Ordered (k + 1) ops) :
    Ordered k (reshape (τ := τ) (Val := Val) x y he hn hx hy :: ops) := ⟨good_reshape hk h, t⟩
/-- `after_get` for an operation of the list, wherever it stands. -/
theorem after_mem {op : HloOp τ sig Val} (h : Ordered k ops) (G : Valuation τ sig Val) (hm : op ∈ ops) (hw : op.writes = {Proc.devRef .tc y}) :
    after ops G (Proc.devRef .tc y) = op.result (after ops G) (Proc.devRef .tc y) := by
  obtain ⟨n, hn⟩ := List.mem_iff_getElem?.mp hm
  exact after_get h G n hn hw

variable {l : List (HloOp τ sig Val)}

/-- What a buffer holds after the list, by the kind of the operation that wrote it; the operation is the one at position
    `n` of a part `l` of the list. -/
theorem eqN {v : y.ty.Contents Val} {hy} (h : Ordered k ops) (G : Valuation τ sig Val) (hl : ∀ op ∈ l, op ∈ ops) (n : ℕ)
    (e : l[n]? = some (nullary (τ := τ) y v hy)) : after ops G (Proc.devRef .tc y) = v :=
  (after_mem h G (hl _ (List.mem_of_getElem? e)) rfl).trans (nullary_result' v hy _)
theorem eqU {f : x.ty.Contents Val → y.ty.Contents Val} {hx hy} (h : Ordered k ops) (G : Valuation τ sig Val) (hl : ∀ op ∈ l, op ∈ ops) (n : ℕ)
    (e : l[n]? = some (unary (τ := τ) x y f hx hy)) : after ops G (Proc.devRef .tc y) = f (after ops G (Proc.devRef .tc x)) :=
  (after_mem h G (hl _ (List.mem_of_getElem? e)) rfl).trans (unary_result' f hx hy _)
theorem eqB {f : a.ty.Contents Val → b.ty.Contents Val → y.ty.Contents Val} {ha hb hy} (h : Ordered k ops) (G : Valuation τ sig Val)
    (hl : ∀ op ∈ l, op ∈ ops) (n : ℕ) (e : l[n]? = some (binary (τ := τ) a b y f ha hb hy)) :
    after ops G (Proc.devRef .tc y) = f (after ops G (Proc.devRef .tc a)) (after ops G (Proc.devRef .tc b)) :=
  (after_mem h G (hl _ (List.mem_of_getElem? e)) rfl).trans (binary_result' f ha hb hy _)
theorem eqQ {d : Ref sig .tc} {f : a.ty.Contents Val → b.ty.Contents Val → c.ty.Contents Val → d.ty.Contents Val → y.ty.Contents Val} {ha hb hc hd hy}
    (h : Ordered k ops) (G : Valuation τ sig Val)
    (hl : ∀ op ∈ l, op ∈ ops) (n : ℕ) (e : l[n]? = some (quaternary (τ := τ) a b c d y f ha hb hc hd hy)) :
    after ops G (Proc.devRef .tc y) = f (after ops G (Proc.devRef .tc a)) (after ops G (Proc.devRef .tc b)) (after ops G (Proc.devRef .tc c)) (after ops G (Proc.devRef .tc d)) :=
  (after_mem h G (hl _ (List.mem_of_getElem? e)) rfl).trans (quaternary_result' f ha hb hc hd hy _)
theorem eqR {he hn hx hy} (h : Ordered k ops) (G : Valuation τ sig Val)
    (hl : ∀ op ∈ l, op ∈ ops) (n : ℕ) (e : l[n]? = some (reshape (τ := τ) (Val := Val) x y he hn hx hy)) :
    after ops G (Proc.devRef .tc y) = fun i => he ▸ shapeCast y.ty.shape (after ops G (Proc.devRef .tc x)) hn i :=
  (after_mem h G (hl _ (List.mem_of_getElem? e)) rfl).trans (reshape_result' he hn hx hy _)

theorem ordered_nil : Ordered (τ := τ) (sig := sig) (Val := Val) k [] := trivial

end Cert.Proof.Chain

end
-- ==== Proof.Host.lean ====
/-
  The kernel's host operations as lists: those before the SparseCore's call, in five stretches, and the two after it.
-/
module

public import proofs.«01_k».proof.Proof.Setup
public import proofs.«01_k».proof.Proof.Chain
public import Idealize.ShloMosaic.Lib.StableHlo.RunHlo

@[expose] public section

noncomputable section

namespace Cert.Proof.Sampler

open Cert.KernelIdeal Cert.KernelIdeal.Gen
open Idealize.ShloMosaic
open Idealize.SL.Sem

variable {F : FTy → Type} [FloatOps F]

local notation "HOp" => HloOp τ sig (Elt F)

/-- The host operations of stretch 0. -/
def hostP0 : List HOp := [
  StableHlo.nullary main_cst (fun i => FloatOps.ofBits .f32 (lit0 (S32x16.rowMajor i))),
  StableHlo.nullary main_v0 (iotaInDim S1048576 32 0),
  StableHlo.nullary main_c (constantI S_ 32 0#32),
  StableHlo.unary main_c main_v1 (broadcastInDim S1048576 ![] bcast_S_S1048576 : (⟨S_, .i32⟩ : BufTy).Contents (Elt F) → (⟨S1048576, .i32⟩ : BufTy).Contents (Elt F)),
  StableHlo.nullary main_c_0 (constantI S_ 32 1832780943#32),
  StableHlo.unary main_c_0 main_v2 (broadcastInDim S1048576 ![] bcast_S_S1048576 : (⟨S_, .i32⟩ : BufTy).Contents (Elt F) → (⟨S1048576, .i32⟩ : BufTy).Contents (Elt F)),
  StableHlo.binary main_v1 main_v2 main_v3 (addi : (⟨S1048576, .i32⟩ : BufTy).Contents (Elt F) → (⟨S1048576, .i32⟩ : BufTy).Contents (Elt F) → (⟨S1048576, .i32⟩ : BufTy).Contents (Elt F)),
  StableHlo.nullary main_c_1 (constantI S_ 32 270669613#32),
  StableHlo.unary main_c_1 main_v4 (broadcastInDim S1048576 ![] bcast_S_S1048576 : (⟨S_, .i32⟩ : BufTy).Contents (Elt F) → (⟨S1048576, .i32⟩ : BufTy).Contents (Elt F)),
  StableHlo.binary main_v0 main_v4 main_v5 (addi : (⟨S1048576, .i32⟩ : BufTy).Contents (Elt F) → (⟨S1048576, .i32⟩ : BufTy).Contents (Elt F) → (⟨S1048576, .i32⟩ : BufTy).Contents (Elt F)),
  StableHlo.binary main_v3 main_v5 main_v6 (addi : (⟨S1048576, .i32⟩ : BufTy).Contents (Elt F) → (⟨S1048576, .i32⟩ : BufTy).Contents (Elt F) → (⟨S1048576, .i32⟩ : BufTy).Contents (Elt F)),
  StableHlo.nullary main_c_2 (constantI S_ 32 13#32),
  StableHlo.unary main_c_2 main_v7 (broadcastInDim S1048576 ![] bcast_S_S1048576 : (⟨S_, .i32⟩ : BufTy).Contents (Elt F) → (⟨S1048576, .i32⟩ : BufTy).Contents (Elt F)),
  StableHlo.binary main_v5 main_v7 main_v8 (Host.shli : (⟨S1048576, .i32⟩ : BufTy).Contents (Elt F) → (⟨S1048576, .i32⟩ : BufTy).Contents (Elt F) → (⟨S1048576, .i32⟩ : BufTy).Contents (Elt F)),
  StableHlo.nullary main_c_3 (constantI S_ 32 19#32),
  StableHlo.unary main_c_3 main_v9 (broadcastInDim S1048576 ![] bcast_S_S1048576 : (⟨S_, .i32⟩ : BufTy).Contents (Elt F) → (⟨S1048576, .i32⟩ : BufTy).Contents (Elt F)),
  StableHlo.binary main_v5 main_v9 main_v10 (Host.shrui : (⟨S1048576, .i32⟩ : BufTy).Contents (Elt F) → (⟨S1048576, .i32⟩ : BufTy).Contents (Elt F) → (⟨S1048576, .i32⟩ : BufTy).Contents (Elt F)),
  StableHlo.binary main_v8 main_v10 main_v11 (ori : (⟨S1048576, .i32⟩ : BufTy).Contents (Elt F) → (⟨S1048576, .i32⟩ : BufTy).Contents (Elt F) → (⟨S1048576, .i32⟩ : BufTy).Contents (Elt F)),
  StableHlo.binary main_v6 main_v11 main_v12 (xori : (⟨S1048576, .i32⟩ : BufTy).Contents (Elt F) → (⟨S1048576, .i32⟩ : BufTy).Contents (Elt F) → (⟨S1048576, .i32⟩ : BufTy).Contents (Elt F)),
  StableHlo.binary main_v6 main_v12 main_v13 (addi : (⟨S1048576, .i32⟩ : BufTy).Contents (Elt F) → (⟨S1048576, .i32⟩ : BufTy).Contents (Elt F) → (⟨S1048576, .i32⟩ : BufTy).Contents (Elt F)),
  StableHlo.nullary main_c_4 (constantI S_ 32 15#32),
  StableHlo.unary main_c_4 main_v14 (broadcastInDim S1048576 ![] bcast_S_S1048576 : (⟨S_, .i32⟩ : BufTy).Contents (Elt F) → (⟨S1048576, .i32⟩ : BufTy).Contents (Elt F)),
  StableHlo.binary main_v12 main_v14 main_v15 (Host.shli : (⟨S1048576, .i32⟩ : BufTy).Contents (Elt F) → (⟨S1048576, .i32⟩ : BufTy).Contents (Elt F) → (⟨S1048576, .i32⟩ : BufTy).Contents (Elt F)),
  StableHlo.nullary main_c_5 (constantI S_ 32 17#32),
  StableHlo.unary main_c_5 main_v16 (broadcastInDim S1048576 ![] bcast_S_S1048576 : (⟨S_, .i32⟩ : BufTy).Contents (Elt F) → (⟨S1048576, .i32⟩ : BufTy).Contents (Elt F)),
  StableHlo.binary main_v12 main_v16 main_v17 (Host.shrui : (⟨S1048576, .i32⟩ : BufTy).Contents (Elt F) → (⟨S1048576, .i32⟩ : BufTy).Contents (Elt F) → (⟨S1048576, .i32⟩ : BufTy).Contents (Elt F)),
  StableHlo.binary main_v15 main_v17 main_v18 (ori : (⟨S1048576, .i32⟩ : BufTy).Contents (Elt F) → (⟨S1048576, .i32⟩ : BufTy).Contents (Elt F) → (⟨S1048576, .i32⟩ : BufTy).Contents (Elt F)),
  StableHlo.binary main_v13 main_v18 main_v19 (xori : (⟨S1048576, .i32⟩ : BufTy).Contents (Elt F) → (⟨S1048576, .i32⟩ : BufTy).Contents (Elt F) → (⟨S1048576, .i32⟩ : BufTy).Contents (Elt F)),
  StableHlo.binary main_v13 main_v19 main_v20 (addi : (⟨S1048576, .i32⟩ : BufTy).Contents (Elt F) → (⟨S1048576, .i32⟩ : BufTy).Contents (Elt F) → (⟨S1048576, .i32⟩ : BufTy).Contents (Elt F)),
  StableHlo.nullary main_c_6 (constantI S_ 32 26#32),
  StableHlo.unary main_c_6 main_v21 (broadcastInDim S1048576 ![] bcast_S_S1048576 : (⟨S_, .i32⟩ : BufTy).Contents (Elt F) → (⟨S1048576, .i32⟩ : BufTy).Contents (Elt F)),
  StableHlo.binary main_v19 main_v21 main_v22 (Host.shli : (⟨S1048576, .i32⟩ : BufTy).Contents (Elt F) → (⟨S1048576, .i32⟩ : BufTy).Contents (Elt F) → (⟨S1048576, .i32⟩ : BufTy).Contents (Elt F)),
  StableHlo.nullary main_c_7 (constantI S_ 32 6#32),
  StableHlo.unary main_c_7 main_v23 (broadcastInDim S1048576 ![] bcast_S_S1048576 : (⟨S_, .i32⟩ : BufTy).Contents (Elt F) → (⟨S1048576, .i32⟩ : BufTy).Contents (Elt F)),
  StableHlo.binary main_v19 main_v23 main_v24 (Host.shrui : (⟨S1048576, .i32⟩ : BufTy).Contents (Elt F) → (⟨S1048576, .i32⟩ : BufTy).Contents (Elt F) → (⟨S1048576, .i32⟩ : BufTy).Contents (Elt F)),
  StableHlo.binary main_v22 main_v24 main_v25 (ori : (⟨S1048576, .i32⟩ : BufTy).Contents (Elt F) → (⟨S1048576, .i32⟩ : BufTy).Contents (Elt F) → (⟨S1048576, .i32⟩ : BufTy).Contents (Elt F)),
  StableHlo.binary main_v20 main_v25 main_v26 (xori : (⟨S1048576, .i32⟩ : BufTy).Contents (Elt F) → (⟨S1048576, .i32⟩ : BufTy).Contents (Elt F) → (⟨S1048576, .i32⟩ : BufTy).Contents (Elt F)),
  StableHlo.binary main_v20 main_v26 main_v27 (addi : (⟨S1048576, .i32⟩ : BufTy).Contents (Elt F) → (⟨S1048576, .i32⟩ : BufTy).Contents (Elt F) → (⟨S1048576, .i32⟩ : BufTy).Contents (Elt F)),
  StableHlo.nullary main_c_8 (constantI S_ 32 6#32),
  StableHlo.unary main_c_8 main_v28 (broadcastInDim S1048576 ![] bcast_S_S1048576 : (⟨S_, .i32⟩ : BufTy).Contents (Elt F) → (⟨S1048576, .i32⟩ : BufTy).Contents (Elt F)),
  StableHlo.binary main_v26 main_v28 main_v29 (Host.shli : (⟨S1048576, .i32⟩ : BufTy).Contents (Elt F) → (⟨S1048576, .i32⟩ : BufTy).Contents (Elt F) → (⟨S1048576, .i32⟩ : BufTy).Contents (Elt F)),
  StableHlo.nullary main_c_9 (constantI S_ 32 26#32),
  StableHlo.unary main_c_9 main_v30 (broadcastInDim S1048576 ![] bcast_S_S1048576 : (⟨S_, .i32⟩ : BufTy).Contents (Elt F) → (⟨S1048576, .i32⟩ : BufTy).Contents (Elt F)),
  StableHlo.binary main_v26 main_v30 main_v31 (Host.shrui : (⟨S1048576, .i32⟩ : BufTy).Contents (Elt F) → (⟨S1048576, .i32⟩ : BufTy).Contents (Elt F) → (⟨S1048576, .i32⟩ : BufTy).Contents (Elt F)),
  StableHlo.binary main_v29 main_v31 main_v32 (ori : (⟨S1048576, .i32⟩ : BufTy).Contents (Elt F) → (⟨S1048576, .i32⟩ : BufTy).Contents (Elt F) → (⟨S1048576, .i32⟩ : BufTy).Contents (Elt F)),
  StableHlo.binary main_v27 main_v32 main_v33 (xori : (⟨S1048576, .i32⟩ : BufTy).Contents (Elt F) → (⟨S1048576, .i32⟩ : BufTy).Contents (Elt F) → (⟨S1048576, .i32⟩ : BufTy).Contents (Elt F)),
  StableHlo.nullary main_c_10 (constantI S_ 32 270669613#32),
  StableHlo.unary main_c_10 main_v34 (broadcastInDim S1048576 ![] bcast_S_S1048576 : (⟨S_, .i32⟩ : BufTy).Contents (Elt F) → (⟨S1048576, .i32⟩ : BufTy).Contents (Elt F)),
  StableHlo.binary main_v27 main_v34 main_v35 (addi : (⟨S1048576, .i32⟩ : BufTy).Contents (Elt F) → (⟨S1048576, .i32⟩ : BufTy).Contents (Elt F) → (⟨S1048576, .i32⟩ : BufTy).Contents (Elt F)),
  StableHlo.nullary main_c_11 (constantI S_ 32 1724713080#32),
  StableHlo.unary main_c_11 main_v36 (broadcastInDim S1048576 ![] bcast_S_S1048576 : (⟨S_, .i32⟩ : BufTy).Contents (Elt F) → (⟨S1048576, .i32⟩ : BufTy).Contents (Elt F)),
  StableHlo.binary main_v33 main_v36 main_v37 (addi : (⟨S1048576, .i32⟩ : BufTy).Contents (Elt F) → (⟨S1048576, .i32⟩ : BufTy).Contents (Elt F) → (⟨S1048576, .i32⟩ : BufTy).Contents (Elt F)),
  StableHlo.nullary main_c_12 (constantI S_ 32 1#32),
  StableHlo.unary main_c_12 main_v38 (broadcastInDim S1048576 ![] bcast_S_S1048576 : (⟨S_, .i32⟩ : BufTy).Contents (Elt F) → (⟨S1048576, .i32⟩ : BufTy).Contents (Elt F)),
  StableHlo.binary main_v37 main_v38 main_v39 (addi : (⟨S1048576, .i32⟩ : BufTy).Contents (Elt F) → (⟨S1048576, .i32⟩ : BufTy).Contents (Elt F) → (⟨S1048576, .i32⟩ : BufTy).Contents (Elt F)),
  StableHlo.binary main_v35 main_v39 main_v40 (addi : (⟨S1048576, .i32⟩ : BufTy).Contents (Elt F) → (⟨S1048576, .i32⟩ : BufTy).Contents (Elt F) → (⟨S1048576, .i32⟩ : BufTy).Contents (Elt F)),
  StableHlo.nullary main_c_13 (constantI S_ 32 17#32),
  StableHlo.unary main_c_13 main_v41 (broadcastInDim S1048576 ![] bcast_S_S1048576 : (⟨S_, .i32⟩ : BufTy).Contents (Elt F) → (⟨S1048576, .i32⟩ : BufTy).Contents (Elt F)),
  StableHlo.binary main_v39 main_v41 main_v42 (Host.shli : (⟨S1048576, .i32⟩ : BufTy).Contents (Elt F) → (⟨S1048576, .i32⟩ : BufTy).Contents (Elt F) → (⟨S1048576, .i32⟩ : BufTy).Contents (Elt F)),
  StableHlo.nullary main_c_14 (constantI S_ 32 15#32)]

/-- The host operations of stretch 1. -/
def hostP1 : List HOp := [
  StableHlo.unary main_c_14 main_v43 (broadcastInDim S1048576 ![] bcast_S_S1048576 : (⟨S_, .i32⟩ : BufTy).Contents (Elt F) → (⟨S1048576, .i32⟩ : BufTy).Contents (Elt F)),
  StableHlo.binary main_v39 main_v43 main_v44 (Host.shrui : (⟨S1048576, .i32⟩ : BufTy).Contents (Elt F) → (⟨S1048576, .i32⟩ : BufTy).Contents (Elt F) → (⟨S1048576, .i32⟩ : BufTy).Contents (Elt F)),
  StableHlo.binary main_v42 main_v44 main_v45 (ori : (⟨S1048576, .i32⟩ : BufTy).Contents (Elt F) → (⟨S1048576, .i32⟩ : BufTy).Contents (Elt F) → (⟨S1048576, .i32⟩ : BufTy).Contents (Elt F)),
  StableHlo.binary main_v40 main_v45 main_v46 (xori : (⟨S1048576, .i32⟩ : BufTy).Contents (Elt F) → (⟨S1048576, .i32⟩ : BufTy).Contents (Elt F) → (⟨S1048576, .i32⟩ : BufTy).Contents (Elt F)),
  StableHlo.binary main_v40 main_v46 main_v47 (addi : (⟨S1048576, .i32⟩ : BufTy).Contents (Elt F) → (⟨S1048576, .i32⟩ : BufTy).Contents (Elt F) → (⟨S1048576, .i32⟩ : BufTy).Contents (Elt F)),
  StableHlo.nullary main_c_15 (constantI S_ 32 29#32),
  StableHlo.unary main_c_15 main_v48 (broadcastInDim S1048576 ![] bcast_S_S1048576 : (⟨S_, .i32⟩ : BufTy).Contents (Elt F) → (⟨S1048576, .i32⟩ : BufTy).Contents (Elt F)),
  StableHlo.binary main_v46 main_v48 main_v49 (Host.shli : (⟨S1048576, .i32⟩ : BufTy).Contents (Elt F) → (⟨S1048576, .i32⟩ : BufTy).Contents (Elt F) → (⟨S1048576, .i32⟩ : BufTy).Contents (Elt F)),
  StableHlo.nullary main_c_16 (constantI S_ 32 3#32),
  StableHlo.unary main_c_16 main_v50 (broadcastInDim S1048576 ![] bcast_S_S1048576 : (⟨S_, .i32⟩ : BufTy).Contents (Elt F) → (⟨S1048576, .i32⟩ : BufTy).Contents (Elt F)),
  StableHlo.binary main_v46 main_v50 main_v51 (Host.shrui : (⟨S1048576, .i32⟩ : BufTy).Contents (Elt F) → (⟨S1048576, .i32⟩ : BufTy).Contents (Elt F) → (⟨S1048576, .i32⟩ : BufTy).Contents (Elt F)),
  StableHlo.binary main_v49 main_v51 main_v52 (ori : (⟨S1048576, .i32⟩ : BufTy).Contents (Elt F) → (⟨S1048576, .i32⟩ : BufTy).Contents (Elt F) → (⟨S1048576, .i32⟩ : BufTy).Contents (Elt F)),
  StableHlo.binary main_v47 main_v52 main_v53 (xori : (⟨S1048576, .i32⟩ : BufTy).Contents (Elt F) → (⟨S1048576, .i32⟩ : BufTy).Contents (Elt F) → (⟨S1048576, .i32⟩ : BufTy).Contents (Elt F)),
  StableHlo.binary main_v47 main_v53 main_v54 (addi : (⟨S1048576, .i32⟩ : BufTy).Contents (Elt F) → (⟨S1048576, .i32⟩ : BufTy).Contents (Elt F) → (⟨S1048576, .i32⟩ : BufTy).Contents (Elt F)),
  StableHlo.nullary main_c_17 (constantI S_ 32 16#32),
  StableHlo.unary main_c_17 main_v55 (broadcastInDim S1048576 ![] bcast_S_S1048576 : (⟨S_, .i32⟩ : BufTy).Contents (Elt F) → (⟨S1048576, .i32⟩ : BufTy).Contents (Elt F)),
  StableHlo.binary main_v53 main_v55 main_v56 (Host.shli : (⟨S1048576, .i32⟩ : BufTy).Contents (Elt F) → (⟨S1048576, .i32⟩ : BufTy).Contents (Elt F) → (⟨S1048576, .i32⟩ : BufTy).Contents (Elt F)),
  StableHlo.nullary main_c_18 (constantI S_ 32 16#32),
  StableHlo.unary main_c_18 main_v57 (broadcastInDim S1048576 ![] bcast_S_S1048576 : (⟨S_, .i32⟩ : BufTy).Contents (Elt F) → (⟨S1048576, .i32⟩ : BufTy).Contents (Elt F)),
  StableHlo.binary main_v53 main_v57 main_v58 (Host.shrui : (⟨S1048576, .i32⟩ : BufTy).Contents (Elt F) → (⟨S1048576, .i32⟩ : BufTy).Contents (Elt F) → (⟨S1048576, .i32⟩ : BufTy).Contents (Elt F)),
  StableHlo.binary main_v56 main_v58 main_v59 (ori : (⟨S1048576, .i32⟩ : BufTy).Contents (Elt F) → (⟨S1048576, .i32⟩ : BufTy).Contents (Elt F) → (⟨S1048576, .i32⟩ : BufTy).Contents (Elt F)),
  StableHlo.binary main_v54 main_v59 main_v60 (xori : (⟨S1048576, .i32⟩ : BufTy).Contents (Elt F) → (⟨S1048576, .i32⟩ : BufTy).Contents (Elt F) → (⟨S1048576, .i32⟩ : BufTy).Contents (Elt F)),
  StableHlo.binary main_v54 main_v60 main_v61 (addi : (⟨S1048576, .i32⟩ : BufTy).Contents (Elt F) → (⟨S1048576, .i32⟩ : BufTy).Contents (Elt F) → (⟨S1048576, .i32⟩ : BufTy).Contents (Elt F)),
  StableHlo.nullary main_c_19 (constantI S_ 32 24#32),
  StableHlo.unary main_c_19 main_v62 (broadcastInDim S1048576 ![] bcast_S_S1048576 : (⟨S_, .i32⟩ : BufTy).Contents (Elt F) → (⟨S1048576, .i32⟩ : BufTy).Contents (Elt F)),
  StableHlo.binary main_v60 main_v62 main_v63 (Host.shli : (⟨S1048576, .i32⟩ : BufTy).Contents (Elt F) → (⟨S1048576, .i32⟩ : BufTy).Contents (Elt F) → (⟨S1048576, .i32⟩ : BufTy).Contents (Elt F)),
  StableHlo.nullary main_c_20 (constantI S_ 32 8#32),
  StableHlo.unary main_c_20 main_v64 (broadcastInDim S1048576 ![] bcast_S_S1048576 : (⟨S_, .i32⟩ : BufTy).Contents (Elt F) → (⟨S1048576, .i32⟩ : BufTy).Contents (Elt F)),
  StableHlo.binary main_v60 main_v64 main_v65 (Host.shrui : (⟨S1048576, .i32⟩ : BufTy).Contents (Elt F) → (⟨S1048576, .i32⟩ : BufTy).Contents (Elt F) → (⟨S1048576, .i32⟩ : BufTy).Contents (Elt F)),
  StableHlo.binary main_v63 main_v65 main_v66 (ori : (⟨S1048576, .i32⟩ : BufTy).Contents (Elt F) → (⟨S1048576, .i32⟩ : BufTy).Contents (Elt F) → (⟨S1048576, .i32⟩ : BufTy).Contents (Elt F)),
  StableHlo.binary main_v61 main_v66 main_v67 (xori : (⟨S1048576, .i32⟩ : BufTy).Contents (Elt F) → (⟨S1048576, .i32⟩ : BufTy).Contents (Elt F) → (⟨S1048576, .i32⟩ : BufTy).Contents (Elt F)),
  StableHlo.nullary main_c_21 (constantI S_ 32 1724713080#32),
  StableHlo.unary main_c_21 main_v68 (broadcastInDim S1048576 ![] bcast_S_S1048576 : (⟨S_, .i32⟩ : BufTy).Contents (Elt F) → (⟨S1048576, .i32⟩ : BufTy).Contents (Elt F)),
  StableHlo.binary main_v61 main_v68 main_v69 (addi : (⟨S1048576, .i32⟩ : BufTy).Contents (Elt F) → (⟨S1048576, .i32⟩ : BufTy).Contents (Elt F) → (⟨S1048576, .i32⟩ : BufTy).Contents (Elt F)),
  StableHlo.nullary main_c_22 (constantI S_ 32 1832780943#32),
  StableHlo.unary main_c_22 main_v70 (broadcastInDim S1048576 ![] bcast_S_S1048576 : (⟨S_, .i32⟩ : BufTy).Contents (Elt F) → (⟨S1048576, .i32⟩ : BufTy).Contents (Elt F)),
  StableHlo.binary main_v67 main_v70 main_v71 (addi : (⟨S1048576, .i32⟩ : BufTy).Contents (Elt F) → (⟨S1048576, .i32⟩ : BufTy).Contents (Elt F) → (⟨S1048576, .i32⟩ : BufTy).Contents (Elt F)),
  StableHlo.nullary main_c_23 (constantI S_ 32 2#32),
  StableHlo.unary main_c_23 main_v72 (broadcastInDim S1048576 ![] bcast_S_S1048576 : (⟨S_, .i32⟩ : BufTy).Contents (Elt F) → (⟨S1048576, .i32⟩ : BufTy).Contents (Elt F)),
  StableHlo.binary main_v71 main_v72 main_v73 (addi : (⟨S1048576, .i32⟩ : BufTy).Contents (Elt F) → (⟨S1048576, .i32⟩ : BufTy).Contents (Elt F) → (⟨S1048576, .i32⟩ : BufTy).Contents (Elt F)),
  StableHlo.binary main_v69 main_v73 main_v74 (addi : (⟨S1048576, .i32⟩ : BufTy).Contents (Elt F) → (⟨S1048576, .i32⟩ : BufTy).Contents (Elt F) → (⟨S1048576, .i32⟩ : BufTy).Contents (Elt F)),
  StableHlo.nullary main_c_24 (constantI S_ 32 13#32),
  StableHlo.unary main_c_24 main_v75 (broadcastInDim S1048576 ![] bcast_S_S1048576 : (⟨S_, .i32⟩ : BufTy).Contents (Elt F) → (⟨S1048576, .i32⟩ : BufTy).Contents (Elt F)),
  StableHlo.binary main_v73 main_v75 main_v76 (Host.shli : (⟨S1048576, .i32⟩ : BufTy).Contents (Elt F) → (⟨S1048576, .i32⟩ : BufTy).Contents (Elt F) → (⟨S1048576, .i32⟩ : BufTy).Contents (Elt F)),
  StableHlo.nullary main_c_25 (constantI S_ 32 19#32),
  StableHlo.unary main_c_25 main_v77 (broadcastInDim S1048576 ![] bcast_S_S1048576 : (⟨S_, .i32⟩ : BufTy).Contents (Elt F) → (⟨S1048576, .i32⟩ : BufTy).Contents (Elt F)),
  StableHlo.binary main_v73 main_v77 main_v78 (Host.shrui : (⟨S1048576, .i32⟩ : BufTy).Contents (Elt F) → (⟨S1048576, .i32⟩ : BufTy).Contents (Elt F) → (⟨S1048576, .i32⟩ : BufTy).Contents (Elt F)),
  StableHlo.binary main_v76 main_v78 main_v79 (ori : (⟨S1048576, .i32⟩ : BufTy).Contents (Elt F) → (⟨S1048576, .i32⟩ : BufTy).Contents (Elt F) → (⟨S1048576, .i32⟩ : BufTy).Contents (Elt F)),
  StableHlo.binary main_v74 main_v79 main_v80 (xori : (⟨S1048576, .i32⟩ : BufTy).Contents (Elt F) → (⟨S1048576, .i32⟩ : BufTy).Contents (Elt F) → (⟨S1048576, .i32⟩ : BufTy).Contents (Elt F)),
  StableHlo.binary main_v74 main_v80 main_v81 (addi : (⟨S1048576, .i32⟩ : BufTy).Contents (Elt F) → (⟨S1048576, .i32⟩ : BufTy).Contents (Elt F) → (⟨S1048576, .i32⟩ : BufTy).Contents (Elt F)),
  StableHlo.nullary main_c_26 (constantI S_ 32 15#32),
  StableHlo.unary main_c_26 main_v82 (broadcastInDim S1048576 ![] bcast_S_S1048576 : (⟨S_, .i32⟩ : BufTy).Contents (Elt F) → (⟨S1048576, .i32⟩ : BufTy).Contents (Elt F)),
  StableHlo.binary main_v80 main_v82 main_v83 (Host.shli : (⟨S1048576, .i32⟩ : BufTy).Contents (Elt F) → (⟨S1048576, .i32⟩ : BufTy).Contents (Elt F) → (⟨S1048576, .i32⟩ : BufTy).Contents (Elt F)),
  StableHlo.nullary main_c_27 (constantI S_ 32 17#32),
  StableHlo.unary main_c_27 main_v84 (broadcastInDim S1048576 ![] bcast_S_S1048576 : (⟨S_, .i32⟩ : BufTy).Contents (Elt F) → (⟨S1048576, .i32⟩ : BufTy).Contents (Elt F)),
  StableHlo.binary main_v80 main_v84 main_v85 (Host.shrui : (⟨S1048576, .i32⟩ : BufTy).Contents (Elt F) → (⟨S1048576, .i32⟩ : BufTy).Contents (Elt F) → (⟨S1048576, .i32⟩ : BufTy).Contents (Elt F)),
  StableHlo.binary main_v83 main_v85 main_v86 (ori : (⟨S1048576, .i32⟩ : BufTy).Contents (Elt F) → (⟨S1048576, .i32⟩ : BufTy).Contents (Elt F) → (⟨S1048576, .i32⟩ : BufTy).Contents (Elt F)),
  StableHlo.binary main_v81 main_v86 main_v87 (xori : (⟨S1048576, .i32⟩ : BufTy).Contents (Elt F) → (⟨S1048576, .i32⟩ : BufTy).Contents (Elt F) → (⟨S1048576, .i32⟩ : BufTy).Contents (Elt F)),
  StableHlo.binary main_v81 main_v87 main_v88 (addi : (⟨S1048576, .i32⟩ : BufTy).Contents (Elt F) → (⟨S1048576, .i32⟩ : BufTy).Contents (Elt F) → (⟨S1048576, .i32⟩ : BufTy).Contents (Elt F)),
  StableHlo.nullary main_c_28 (constantI S_ 32 26#32)]

/-- The host operations of stretch 2. -/
def hostP2 : List HOp := [
  StableHlo.unary main_c_28 main_v89 (broadcastInDim S1048576 ![] bcast_S_S1048576 : (⟨S_, .i32⟩ : BufTy).Contents (Elt F) → (⟨S1048576, .i32⟩ : BufTy).Contents (Elt F)),
  StableHlo.binary main_v87 main_v89 main_v90 (Host.shli : (⟨S1048576, .i32⟩ : BufTy).Contents (Elt F) → (⟨S1048576, .i32⟩ : BufTy).Contents (Elt F) → (⟨S1048576, .i32⟩ : BufTy).Contents (Elt F)),
  StableHlo.nullary main_c_29 (constantI S_ 32 6#32),
  StableHlo.unary main_c_29 main_v91 (broadcastInDim S1048576 ![] bcast_S_S1048576 : (⟨S_, .i32⟩ : BufTy).Contents (Elt F) → (⟨S1048576, .i32⟩ : BufTy).Contents (Elt F)),
  StableHlo.binary main_v87 main_v91 main_v92 (Host.shrui : (⟨S1048576, .i32⟩ : BufTy).Contents (Elt F) → (⟨S1048576, .i32⟩ : BufTy).Contents (Elt F) → (⟨S1048576, .i32⟩ : BufTy).Contents (Elt F)),
  StableHlo.binary main_v90 main_v92 main_v93 (ori : (⟨S1048576, .i32⟩ : BufTy).Contents (Elt F) → (⟨S1048576, .i32⟩ : BufTy).Contents (Elt F) → (⟨S1048576, .i32⟩ : BufTy).Contents (Elt F)),
  StableHlo.binary main_v88 main_v93 main_v94 (xori : (⟨S1048576, .i32⟩ : BufTy).Contents (Elt F) → (⟨S1048576, .i32⟩ : BufTy).Contents (Elt F) → (⟨S1048576, .i32⟩ : BufTy).Contents (Elt F)),
  StableHlo.binary main_v88 main_v94 main_v95 (addi : (⟨S1048576, .i32⟩ : BufTy).Contents (Elt F) → (⟨S1048576, .i32⟩ : BufTy).Contents (Elt F) → (⟨S1048576, .i32⟩ : BufTy).Contents (Elt F)),
  StableHlo.nullary main_c_30 (constantI S_ 32 6#32),
  StableHlo.unary main_c_30 main_v96 (broadcastInDim S1048576 ![] bcast_S_S1048576 : (⟨S_, .i32⟩ : BufTy).Contents (Elt F) → (⟨S1048576, .i32⟩ : BufTy).Contents (Elt F)),
  StableHlo.binary main_v94 main_v96 main_v97 (Host.shli : (⟨S1048576, .i32⟩ : BufTy).Contents (Elt F) → (⟨S1048576, .i32⟩ : BufTy).Contents (Elt F) → (⟨S1048576, .i32⟩ : BufTy).Contents (Elt F)),
  StableHlo.nullary main_c_31 (constantI S_ 32 26#32),
  StableHlo.unary main_c_31 main_v98 (broadcastInDim S1048576 ![] bcast_S_S1048576 : (⟨S_, .i32⟩ : BufTy).Contents (Elt F) → (⟨S1048576, .i32⟩ : BufTy).Contents (Elt F)),
  StableHlo.binary main_v94 main_v98 main_v99 (Host.shrui : (⟨S1048576, .i32⟩ : BufTy).Contents (Elt F) → (⟨S1048576, .i32⟩ : BufTy).Contents (Elt F) → (⟨S1048576, .i32⟩ : BufTy).Contents (Elt F)),
  StableHlo.binary main_v97 main_v99 main_v100 (ori : (⟨S1048576, .i32⟩ : BufTy).Contents (Elt F) → (⟨S1048576, .i32⟩ : BufTy).Contents (Elt F) → (⟨S1048576, .i32⟩ : BufTy).Contents (Elt F)),
  StableHlo.binary main_v95 main_v100 main_v101 (xori : (⟨S1048576, .i32⟩ : BufTy).Contents (Elt F) → (⟨S1048576, .i32⟩ : BufTy).Contents (Elt F) → (⟨S1048576, .i32⟩ : BufTy).Contents (Elt F)),
  StableHlo.nullary main_c_32 (constantI S_ 32 1832780943#32),
  StableHlo.unary main_c_32 main_v102 (broadcastInDim S1048576 ![] bcast_S_S1048576 : (⟨S_, .i32⟩ : BufTy).Contents (Elt F) → (⟨S1048576, .i32⟩ : BufTy).Contents (Elt F)),
  StableHlo.binary main_v95 main_v102 main_v103 (addi : (⟨S1048576, .i32⟩ : BufTy).Contents (Elt F) → (⟨S1048576, .i32⟩ : BufTy).Contents (Elt F) → (⟨S1048576, .i32⟩ : BufTy).Contents (Elt F)),
  StableHlo.nullary main_c_33 (constantI S_ 32 270669613#32),
  StableHlo.unary main_c_33 main_v104 (broadcastInDim S1048576 ![] bcast_S_S1048576 : (⟨S_, .i32⟩ : BufTy).Contents (Elt F) → (⟨S1048576, .i32⟩ : BufTy).Contents (Elt F)),
  StableHlo.binary main_v101 main_v104 main_v105 (addi : (⟨S1048576, .i32⟩ : BufTy).Contents (Elt F) → (⟨S1048576, .i32⟩ : BufTy).Contents (Elt F) → (⟨S1048576, .i32⟩ : BufTy).Contents (Elt F)),
  StableHlo.nullary main_c_34 (constantI S_ 32 3#32),
  StableHlo.unary main_c_34 main_v106 (broadcastInDim S1048576 ![] bcast_S_S1048576 : (⟨S_, .i32⟩ : BufTy).Contents (Elt F) → (⟨S1048576, .i32⟩ : BufTy).Contents (Elt F)),
  StableHlo.binary main_v105 main_v106 main_v107 (addi : (⟨S1048576, .i32⟩ : BufTy).Contents (Elt F) → (⟨S1048576, .i32⟩ : BufTy).Contents (Elt F) → (⟨S1048576, .i32⟩ : BufTy).Contents (Elt F)),
  StableHlo.binary main_v103 main_v107 main_v108 (addi : (⟨S1048576, .i32⟩ : BufTy).Contents (Elt F) → (⟨S1048576, .i32⟩ : BufTy).Contents (Elt F) → (⟨S1048576, .i32⟩ : BufTy).Contents (Elt F)),
  StableHlo.nullary main_c_35 (constantI S_ 32 17#32),
  StableHlo.unary main_c_35 main_v109 (broadcastInDim S1048576 ![] bcast_S_S1048576 : (⟨S_, .i32⟩ : BufTy).Contents (Elt F) → (⟨S1048576, .i32⟩ : BufTy).Contents (Elt F)),
  StableHlo.binary main_v107 main_v109 main_v110 (Host.shli : (⟨S1048576, .i32⟩ : BufTy).Contents (Elt F) → (⟨S1048576, .i32⟩ : BufTy).Contents (Elt F) → (⟨S1048576, .i32⟩ : BufTy).Contents (Elt F)),
  StableHlo.nullary main_c_36 (constantI S_ 32 15#32),
  StableHlo.unary main_c_36 main_v111 (broadcastInDim S1048576 ![] bcast_S_S1048576 : (⟨S_, .i32⟩ : BufTy).Contents (Elt F) → (⟨S1048576, .i32⟩ : BufTy).Contents (Elt F)),
  StableHlo.binary main_v107 main_v111 main_v112 (Host.shrui : (⟨S1048576, .i32⟩ : BufTy).Contents (Elt F) → (⟨S1048576, .i32⟩ : BufTy).Contents (Elt F) → (⟨S1048576, .i32⟩ : BufTy).Contents (Elt F)),
  StableHlo.binary main_v110 main_v112 main_v113 (ori : (⟨S1048576, .i32⟩ : BufTy).Contents (Elt F) → (⟨S1048576, .i32⟩ : BufTy).Contents (Elt F) → (⟨S1048576, .i32⟩ : BufTy).Contents (Elt F)),
  StableHlo.binary main_v108 main_v113 main_v114 (xori : (⟨S1048576, .i32⟩ : BufTy).Contents (Elt F) → (⟨S1048576, .i32⟩ : BufTy).Contents (Elt F) → (⟨S1048576, .i32⟩ : BufTy).Contents (Elt F)),
  StableHlo.binary main_v108 main_v114 main_v115 (addi : (⟨S1048576, .i32⟩ : BufTy).Contents (Elt F) → (⟨S1048576, .i32⟩ : BufTy).Contents (Elt F) → (⟨S1048576, .i32⟩ : BufTy).Contents (Elt F)),
  StableHlo.nullary main_c_37 (constantI S_ 32 29#32),
  StableHlo.unary main_c_37 main_v116 (broadcastInDim S1048576 ![] bcast_S_S1048576 : (⟨S_, .i32⟩ : BufTy).Contents (Elt F) → (⟨S1048576, .i32⟩ : BufTy).Contents (Elt F)),
  StableHlo.binary main_v114 main_v116 main_v117 (Host.shli : (⟨S1048576, .i32⟩ : BufTy).Contents (Elt F) → (⟨S1048576, .i32⟩ : BufTy).Contents (Elt F) → (⟨S1048576, .i32⟩ : BufTy).Contents (Elt F)),
  StableHlo.nullary main_c_38 (constantI S_ 32 3#32),
  StableHlo.unary main_c_38 main_v118 (broadcastInDim S1048576 ![] bcast_S_S1048576 : (⟨S_, .i32⟩ : BufTy).Contents (Elt F) → (⟨S1048576, .i32⟩ : BufTy).Contents (Elt F)),
  StableHlo.binary main_v114 main_v118 main_v119 (Host.shrui : (⟨S1048576, .i32⟩ : BufTy).Contents (Elt F) → (⟨S1048576, .i32⟩ : BufTy).Contents (Elt F) → (⟨S1048576, .i32⟩ : BufTy).Contents (Elt F)),
  StableHlo.binary main_v117 main_v119 main_v120 (ori : (⟨S1048576, .i32⟩ : BufTy).Contents (Elt F) → (⟨S1048576, .i32⟩ : BufTy).Contents (Elt F) → (⟨S1048576, .i32⟩ : BufTy).Contents (Elt F)),
  StableHlo.binary main_v115 main_v120 main_v121 (xori : (⟨S1048576, .i32⟩ : BufTy).Contents (Elt F) → (⟨S1048576, .i32⟩ : BufTy).Contents (Elt F) → (⟨S1048576, .i32⟩ : BufTy).Contents (Elt F)),
  StableHlo.binary main_v115 main_v121 main_v122 (addi : (⟨S1048576, .i32⟩ : BufTy).Contents (Elt F) → (⟨S1048576, .i32⟩ : BufTy).Contents (Elt F) → (⟨S1048576, .i32⟩ : BufTy).Contents (Elt F)),
  StableHlo.nullary main_c_39 (constantI S_ 32 16#32),
  StableHlo.unary main_c_39 main_v123 (broadcastInDim S1048576 ![] bcast_S_S1048576 : (⟨S_, .i32⟩ : BufTy).Contents (Elt F) → (⟨S1048576, .i32⟩ : BufTy).Contents (Elt F)),
  StableHlo.binary main_v121 main_v123 main_v124 (Host.shli : (⟨S1048576, .i32⟩ : BufTy).Contents (Elt F) → (⟨S1048576, .i32⟩ : BufTy).Contents (Elt F) → (⟨S1048576, .i32⟩ : BufTy).Contents (Elt F)),
  StableHlo.nullary main_c_40 (constantI S_ 32 16#32),
  StableHlo.unary main_c_40 main_v125 (broadcastInDim S1048576 ![] bcast_S_S1048576 : (⟨S_, .i32⟩ : BufTy).Contents (Elt F) → (⟨S1048576, .i32⟩ : BufTy).Contents (Elt F)),
  StableHlo.binary main_v121 main_v125 main_v126 (Host.shrui : (⟨S1048576, .i32⟩ : BufTy).Contents (Elt F) → (⟨S1048576, .i32⟩ : BufTy).Contents (Elt F) → (⟨S1048576, .i32⟩ : BufTy).Contents (Elt F)),
  StableHlo.binary main_v124 main_v126 main_v127 (ori : (⟨S1048576, .i32⟩ : BufTy).Contents (Elt F) → (⟨S1048576, .i32⟩ : BufTy).Contents (Elt F) → (⟨S1048576, .i32⟩ : BufTy).Contents (Elt F)),
  StableHlo.binary main_v122 main_v127 main_v128 (xori : (⟨S1048576, .i32⟩ : BufTy).Contents (Elt F) → (⟨S1048576, .i32⟩ : BufTy).Contents (Elt F) → (⟨S1048576, .i32⟩ : BufTy).Contents (Elt F)),
  StableHlo.binary main_v122 main_v128 main_v129 (addi : (⟨S1048576, .i32⟩ : BufTy).Contents (Elt F) → (⟨S1048576, .i32⟩ : BufTy).Contents (Elt F) → (⟨S1048576, .i32⟩ : BufTy).Contents (Elt F)),
  StableHlo.nullary main_c_41 (constantI S_ 32 24#32),
  StableHlo.unary main_c_41 main_v130 (broadcastInDim S1048576 ![] bcast_S_S1048576 : (⟨S_, .i32⟩ : BufTy).Contents (Elt F) → (⟨S1048576, .i32⟩ : BufTy).Contents (Elt F)),
  StableHlo.binary main_v128 main_v130 main_v131 (Host.shli : (⟨S1048576, .i32⟩ : BufTy).Contents (Elt F) → (⟨S1048576, .i32⟩ : BufTy).Contents (Elt F) → (⟨S1048576, .i32⟩ : BufTy).Contents (Elt F)),
  StableHlo.nullary main_c_42 (constantI S_ 32 8#32),
  StableHlo.unary main_c_42 main_v132 (broadcastInDim S1048576 ![] bcast_S_S1048576 : (⟨S_, .i32⟩ : BufTy).Contents (Elt F) → (⟨S1048576, .i32⟩ : BufTy).Contents (Elt F)),
  StableHlo.binary main_v128 main_v132 main_v133 (Host.shrui : (⟨S1048576, .i32⟩ : BufTy).Contents (Elt F) → (⟨S1048576, .i32⟩ : BufTy).Contents (Elt F) → (⟨S1048576, .i32⟩ : BufTy).Contents (Elt F)),
  StableHlo.binary main_v131 main_v133 main_v134 (ori : (⟨S1048576, .i32⟩ : BufTy).Contents (Elt F) → (⟨S1048576, .i32⟩ : BufTy).Contents (Elt F) → (⟨S1048576, .i32⟩ : BufTy).Contents (Elt F))]

/-- The host operations of stretch 3. -/
def hostP3 : List HOp := [
  StableHlo.binary main_v129 main_v134 main_v135 (xori : (⟨S1048576, .i32⟩ : BufTy).Contents (Elt F) → (⟨S1048576, .i32⟩ : BufTy).Contents (Elt F) → (⟨S1048576, .i32⟩ : BufTy).Contents (Elt F)),
  StableHlo.nullary main_c_43 (constantI S_ 32 270669613#32),
  StableHlo.unary main_c_43 main_v136 (broadcastInDim S1048576 ![] bcast_S_S1048576 : (⟨S_, .i32⟩ : BufTy).Contents (Elt F) → (⟨S1048576, .i32⟩ : BufTy).Contents (Elt F)),
  StableHlo.binary main_v129 main_v136 main_v137 (addi : (⟨S1048576, .i32⟩ : BufTy).Contents (Elt F) → (⟨S1048576, .i32⟩ : BufTy).Contents (Elt F) → (⟨S1048576, .i32⟩ : BufTy).Contents (Elt F)),
  StableHlo.nullary main_c_44 (constantI S_ 32 1724713080#32),
  StableHlo.unary main_c_44 main_v138 (broadcastInDim S1048576 ![] bcast_S_S1048576 : (⟨S_, .i32⟩ : BufTy).Contents (Elt F) → (⟨S1048576, .i32⟩ : BufTy).Contents (Elt F)),
  StableHlo.binary main_v135 main_v138 main_v139 (addi : (⟨S1048576, .i32⟩ : BufTy).Contents (Elt F) → (⟨S1048576, .i32⟩ : BufTy).Contents (Elt F) → (⟨S1048576, .i32⟩ : BufTy).Contents (Elt F)),
  StableHlo.nullary main_c_45 (constantI S_ 32 4#32),
  StableHlo.unary main_c_45 main_v140 (broadcastInDim S1048576 ![] bcast_S_S1048576 : (⟨S_, .i32⟩ : BufTy).Contents (Elt F) → (⟨S1048576, .i32⟩ : BufTy).Contents (Elt F)),
  StableHlo.binary main_v139 main_v140 main_v141 (addi : (⟨S1048576, .i32⟩ : BufTy).Contents (Elt F) → (⟨S1048576, .i32⟩ : BufTy).Contents (Elt F) → (⟨S1048576, .i32⟩ : BufTy).Contents (Elt F)),
  StableHlo.binary main_v137 main_v141 main_v142 (addi : (⟨S1048576, .i32⟩ : BufTy).Contents (Elt F) → (⟨S1048576, .i32⟩ : BufTy).Contents (Elt F) → (⟨S1048576, .i32⟩ : BufTy).Contents (Elt F)),
  StableHlo.nullary main_c_46 (constantI S_ 32 13#32),
  StableHlo.unary main_c_46 main_v143 (broadcastInDim S1048576 ![] bcast_S_S1048576 : (⟨S_, .i32⟩ : BufTy).Contents (Elt F) → (⟨S1048576, .i32⟩ : BufTy).Contents (Elt F)),
  StableHlo.binary main_v141 main_v143 main_v144 (Host.shli : (⟨S1048576, .i32⟩ : BufTy).Contents (Elt F) → (⟨S1048576, .i32⟩ : BufTy).Contents (Elt F) → (⟨S1048576, .i32⟩ : BufTy).Contents (Elt F)),
  StableHlo.nullary main_c_47 (constantI S_ 32 19#32),
  StableHlo.unary main_c_47 main_v145 (broadcastInDim S1048576 ![] bcast_S_S1048576 : (⟨S_, .i32⟩ : BufTy).Contents (Elt F) → (⟨S1048576, .i32⟩ : BufTy).Contents (Elt F)),
  StableHlo.binary main_v141 main_v145 main_v146 (Host.shrui : (⟨S1048576, .i32⟩ : BufTy).Contents (Elt F) → (⟨S1048576, .i32⟩ : BufTy).Contents (Elt F) → (⟨S1048576, .i32⟩ : BufTy).Contents (Elt F)),
  StableHlo.binary main_v144 main_v146 main_v147 (ori : (⟨S1048576, .i32⟩ : BufTy).Contents (Elt F) → (⟨S1048576, .i32⟩ : BufTy).Contents (Elt F) → (⟨S1048576, .i32⟩ : BufTy).Contents (Elt F)),
  StableHlo.binary main_v142 main_v147 main_v148 (xori : (⟨S1048576, .i32⟩ : BufTy).Contents (Elt F) → (⟨S1048576, .i32⟩ : BufTy).Contents (Elt F) → (⟨S1048576, .i32⟩ : BufTy).Contents (Elt F)),
  StableHlo.binary main_v142 main_v148 main_v149 (addi : (⟨S1048576, .i32⟩ : BufTy).Contents (Elt F) → (⟨S1048576, .i32⟩ : BufTy).Contents (Elt F) → (⟨S1048576, .i32⟩ : BufTy).Contents (Elt F)),
  StableHlo.nullary main_c_48 (constantI S_ 32 15#32),
  StableHlo.unary main_c_48 main_v150 (broadcastInDim S1048576 ![] bcast_S_S1048576 : (⟨S_, .i32⟩ : BufTy).Contents (Elt F) → (⟨S1048576, .i32⟩ : BufTy).Contents (Elt F)),
  StableHlo.binary main_v148 main_v150 main_v151 (Host.shli : (⟨S1048576, .i32⟩ : BufTy).Contents (Elt F) → (⟨S1048576, .i32⟩ : BufTy).Contents (Elt F) → (⟨S1048576, .i32⟩ : BufTy).Contents (Elt F)),
  StableHlo.nullary main_c_49 (constantI S_ 32 17#32),
  StableHlo.unary main_c_49 main_v152 (broadcastInDim S1048576 ![] bcast_S_S1048576 : (⟨S_, .i32⟩ : BufTy).Contents (Elt F) → (⟨S1048576, .i32⟩ : BufTy).Contents (Elt F)),
  StableHlo.binary main_v148 main_v152 main_v153 (Host.shrui : (⟨S1048576, .i32⟩ : BufTy).Contents (Elt F) → (⟨S1048576, .i32⟩ : BufTy).Contents (Elt F) → (⟨S1048576, .i32⟩ : BufTy).Contents (Elt F)),
  StableHlo.binary main_v151 main_v153 main_v154 (ori : (⟨S1048576, .i32⟩ : BufTy).Contents (Elt F) → (⟨S1048576, .i32⟩ : BufTy).Contents (Elt F) → (⟨S1048576, .i32⟩ : BufTy).Contents (Elt F)),
  StableHlo.binary main_v149 main_v154 main_v155 (xori : (⟨S1048576, .i32⟩ : BufTy).Contents (Elt F) → (⟨S1048576, .i32⟩ : BufTy).Contents (Elt F) → (⟨S1048576, .i32⟩ : BufTy).Contents (Elt F)),
  StableHlo.binary main_v149 main_v155 main_v156 (addi : (⟨S1048576, .i32⟩ : BufTy).Contents (Elt F) → (⟨S1048576, .i32⟩ : BufTy).Contents (Elt F) → (⟨S1048576, .i32⟩ : BufTy).Contents (Elt F)),
  StableHlo.nullary main_c_50 (constantI S_ 32 26#32),
  StableHlo.unary main_c_50 main_v157 (broadcastInDim S1048576 ![] bcast_S_S1048576 : (⟨S_, .i32⟩ : BufTy).Contents (Elt F) → (⟨S1048576, .i32⟩ : BufTy).Contents (Elt F)),
  StableHlo.binary main_v155 main_v157 main_v158 (Host.shli : (⟨S1048576, .i32⟩ : BufTy).Contents (Elt F) → (⟨S1048576, .i32⟩ : BufTy).Contents (Elt F) → (⟨S1048576, .i32⟩ : BufTy).Contents (Elt F)),
  StableHlo.nullary main_c_51 (constantI S_ 32 6#32),
  StableHlo.unary main_c_51 main_v159 (broadcastInDim S1048576 ![] bcast_S_S1048576 : (⟨S_, .i32⟩ : BufTy).Contents (Elt F) → (⟨S1048576, .i32⟩ : BufTy).Contents (Elt F)),
  StableHlo.binary main_v155 main_v159 main_v160 (Host.shrui : (⟨S1048576, .i32⟩ : BufTy).Contents (Elt F) → (⟨S1048576, .i32⟩ : BufTy).Contents (Elt F) → (⟨S1048576, .i32⟩ : BufTy).Contents (Elt F)),
  StableHlo.binary main_v158 main_v160 main_v161 (ori : (⟨S1048576, .i32⟩ : BufTy).Contents (Elt F) → (⟨S1048576, .i32⟩ : BufTy).Contents (Elt F) → (⟨S1048576, .i32⟩ : BufTy).Contents (Elt F)),
  StableHlo.binary main_v156 main_v161 main_v162 (xori : (⟨S1048576, .i32⟩ : BufTy).Contents (Elt F) → (⟨S1048576, .i32⟩ : BufTy).Contents (Elt F) → (⟨S1048576, .i32⟩ : BufTy).Contents (Elt F)),
  StableHlo.binary main_v156 main_v162 main_v163 (addi : (⟨S1048576, .i32⟩ : BufTy).Contents (Elt F) → (⟨S1048576, .i32⟩ : BufTy).Contents (Elt F) → (⟨S1048576, .i32⟩ : BufTy).Contents (Elt F)),
  StableHlo.nullary main_c_52 (constantI S_ 32 6#32),
  StableHlo.unary main_c_52 main_v164 (broadcastInDim S1048576 ![] bcast_S_S1048576 : (⟨S_, .i32⟩ : BufTy).Contents (Elt F) → (⟨S1048576, .i32⟩ : BufTy).Contents (Elt F)),
  StableHlo.binary main_v162 main_v164 main_v165 (Host.shli : (⟨S1048576, .i32⟩ : BufTy).Contents (Elt F) → (⟨S1048576, .i32⟩ : BufTy).Contents (Elt F) → (⟨S1048576, .i32⟩ : BufTy).Contents (Elt F)),
  StableHlo.nullary main_c_53 (constantI S_ 32 26#32),
  StableHlo.unary main_c_53 main_v166 (broadcastInDim S1048576 ![] bcast_S_S1048576 : (⟨S_, .i32⟩ : BufTy).Contents (Elt F) → (⟨S1048576, .i32⟩ : BufTy).Contents (Elt F)),
  StableHlo.binary main_v162 main_v166 main_v167 (Host.shrui : (⟨S1048576, .i32⟩ : BufTy).Contents (Elt F) → (⟨S1048576, .i32⟩ : BufTy).Contents (Elt F) → (⟨S1048576, .i32⟩ : BufTy).Contents (Elt F)),
  StableHlo.binary main_v165 main_v167 main_v168 (ori : (⟨S1048576, .i32⟩ : BufTy).Contents (Elt F) → (⟨S1048576, .i32⟩ : BufTy).Contents (Elt F) → (⟨S1048576, .i32⟩ : BufTy).Contents (Elt F)),
  StableHlo.binary main_v163 main_v168 main_v169 (xori : (⟨S1048576, .i32⟩ : BufTy).Contents (Elt F) → (⟨S1048576, .i32⟩ : BufTy).Contents (Elt F) → (⟨S1048576, .i32⟩ : BufTy).Contents (Elt F)),
  StableHlo.nullary main_c_54 (constantI S_ 32 1724713080#32),
  StableHlo.unary main_c_54 main_v170 (broadcastInDim S1048576 ![] bcast_S_S1048576 : (⟨S_, .i32⟩ : BufTy).Contents (Elt F) → (⟨S1048576, .i32⟩ : BufTy).Contents (Elt F)),
  StableHlo.binary main_v163 main_v170 main_v171 (addi : (⟨S1048576, .i32⟩ : BufTy).Contents (Elt F) → (⟨S1048576, .i32⟩ : BufTy).Contents (Elt F) → (⟨S1048576, .i32⟩ : BufTy).Contents (Elt F)),
  StableHlo.nullary main_c_55 (constantI S_ 32 1832780943#32),
  StableHlo.unary main_c_55 main_v172 (broadcastInDim S1048576 ![] bcast_S_S1048576 : (⟨S_, .i32⟩ : BufTy).Contents (Elt F) → (⟨S1048576, .i32⟩ : BufTy).Contents (Elt F)),
  StableHlo.binary main_v169 main_v172 main_v173 (addi : (⟨S1048576, .i32⟩ : BufTy).Contents (Elt F) → (⟨S1048576, .i32⟩ : BufTy).Contents (Elt F) → (⟨S1048576, .i32⟩ : BufTy).Contents (Elt F)),
  StableHlo.nullary main_c_56 (constantI S_ 32 5#32),
  StableHlo.unary main_c_56 main_v174 (broadcastInDim S1048576 ![] bcast_S_S1048576 : (⟨S_, .i32⟩ : BufTy).Contents (Elt F) → (⟨S1048576, .i32⟩ : BufTy).Contents (Elt F)),
  StableHlo.binary main_v173 main_v174 main_v175 (addi : (⟨S1048576, .i32⟩ : BufTy).Contents (Elt F) → (⟨S1048576, .i32⟩ : BufTy).Contents (Elt F) → (⟨S1048576, .i32⟩ : BufTy).Contents (Elt F)),
  StableHlo.binary main_v171 main_v175 main_v176 (xori : (⟨S1048576, .i32⟩ : BufTy).Contents (Elt F) → (⟨S1048576, .i32⟩ : BufTy).Contents (Elt F) → (⟨S1048576, .i32⟩ : BufTy).Contents (Elt F)),
  StableHlo.nullary main_c_57 (constantI S_ 32 9#32),
  StableHlo.unary main_c_57 main_v177 (broadcastInDim S1048576 ![] bcast_S_S1048576 : (⟨S_, .i32⟩ : BufTy).Contents (Elt F) → (⟨S1048576, .i32⟩ : BufTy).Contents (Elt F)),
  StableHlo.binary main_v176 main_v177 main_v178 (Host.shrui : (⟨S1048576, .i32⟩ : BufTy).Contents (Elt F) → (⟨S1048576, .i32⟩ : BufTy).Contents (Elt F) → (⟨S1048576, .i32⟩ : BufTy).Contents (Elt F)),
  StableHlo.nullary main_c_58 (constantI S_ 32 1065353216#32)]

/-- The host operations of stretch 4. -/
def hostP4 : List HOp := [
  StableHlo.unary main_c_58 main_v179 (broadcastInDim S1048576 ![] bcast_S_S1048576 : (⟨S_, .i32⟩ : BufTy).Contents (Elt F) → (⟨S1048576, .i32⟩ : BufTy).Contents (Elt F)),
  StableHlo.binary main_v178 main_v179 main_v180 (ori : (⟨S1048576, .i32⟩ : BufTy).Contents (Elt F) → (⟨S1048576, .i32⟩ : BufTy).Contents (Elt F) → (⟨S1048576, .i32⟩ : BufTy).Contents (Elt F)),
  StableHlo.unary main_v180 main_v181 (bitcastToFloat .f32 : (⟨S1048576, .i32⟩ : BufTy).Contents (Elt F) → (⟨S1048576, .f32⟩ : BufTy).Contents (Elt F)),
  StableHlo.nullary main_cst_59 (constant S_ .f32 0x3F800000#32),
  StableHlo.unary main_cst_59 main_v182 (broadcastInDim S1048576 ![] bcast_S_S1048576 : (⟨S_, .f32⟩ : BufTy).Contents (Elt F) → (⟨S1048576, .f32⟩ : BufTy).Contents (Elt F)),
  StableHlo.binary main_v181 main_v182 main_v183 (subf : (⟨S1048576, .f32⟩ : BufTy).Contents (Elt F) → (⟨S1048576, .f32⟩ : BufTy).Contents (Elt F) → (⟨S1048576, .f32⟩ : BufTy).Contents (Elt F)),
  StableHlo.nullary main_cst_60 (constant S_ .f32 0x3F800000#32),
  StableHlo.nullary main_cst_61 (constant S_ .f32 0x00800000#32),
  StableHlo.binary main_cst_60 main_cst_61 main_v184 (subf : (⟨S_, .f32⟩ : BufTy).Contents (Elt F) → (⟨S_, .f32⟩ : BufTy).Contents (Elt F) → (⟨S_, .f32⟩ : BufTy).Contents (Elt F)),
  StableHlo.unary main_v184 main_v185 (broadcastInDim S1048576 ![] bcast_S_S1048576 : (⟨S_, .f32⟩ : BufTy).Contents (Elt F) → (⟨S1048576, .f32⟩ : BufTy).Contents (Elt F)),
  StableHlo.binary main_v183 main_v185 main_v186 (mulf : (⟨S1048576, .f32⟩ : BufTy).Contents (Elt F) → (⟨S1048576, .f32⟩ : BufTy).Contents (Elt F) → (⟨S1048576, .f32⟩ : BufTy).Contents (Elt F)),
  StableHlo.nullary main_cst_62 (constant S_ .f32 0x00800000#32),
  StableHlo.unary main_cst_62 main_v187 (broadcastInDim S1048576 ![] bcast_S_S1048576 : (⟨S_, .f32⟩ : BufTy).Contents (Elt F) → (⟨S1048576, .f32⟩ : BufTy).Contents (Elt F)),
  StableHlo.binary main_v186 main_v187 main_v188 (addf : (⟨S1048576, .f32⟩ : BufTy).Contents (Elt F) → (⟨S1048576, .f32⟩ : BufTy).Contents (Elt F) → (⟨S1048576, .f32⟩ : BufTy).Contents (Elt F)),
  StableHlo.nullary main_cst_63 (constant S_ .f32 0x00800000#32),
  StableHlo.unary main_cst_63 main_v189 (broadcastInDim S1048576 ![] bcast_S_S1048576 : (⟨S_, .f32⟩ : BufTy).Contents (Elt F) → (⟨S1048576, .f32⟩ : BufTy).Contents (Elt F)),
  StableHlo.binary main_v189 main_v188 main_v190 (maximumf : (⟨S1048576, .f32⟩ : BufTy).Contents (Elt F) → (⟨S1048576, .f32⟩ : BufTy).Contents (Elt F) → (⟨S1048576, .f32⟩ : BufTy).Contents (Elt F)),
  StableHlo.unary main_v190 main_v191 (Host.log : (⟨S1048576, .f32⟩ : BufTy).Contents (Elt F) → (⟨S1048576, .f32⟩ : BufTy).Contents (Elt F)),
  StableHlo.nullary main_cst_64 (constant S_ .f32 0xBF800000#32),
  StableHlo.unary main_cst_64 main_v192 (broadcastInDim S1048576 ![] bcast_S_S1048576 : (⟨S_, .f32⟩ : BufTy).Contents (Elt F) → (⟨S1048576, .f32⟩ : BufTy).Contents (Elt F)),
  StableHlo.binary main_v192 main_v191 main_v193 (Host.divf : (⟨S1048576, .f32⟩ : BufTy).Contents (Elt F) → (⟨S1048576, .f32⟩ : BufTy).Contents (Elt F) → (⟨S1048576, .f32⟩ : BufTy).Contents (Elt F))]

/-- The host operations after the call. -/
def hostT : List HOp := [
  StableHlo.unary main_v194 main_v195 ((extractStridedSlice S32x4 ![0, 0] · slices_S32x16_S32x4_0_0) : (⟨S32x16, .f32⟩ : BufTy).Contents (Elt F) → (⟨S32x4, .f32⟩ : BufTy).Contents (Elt F)),
  StableHlo.reshape main_v195 main_v196 (rfl : (.f32 : EltTy) = .f32) shapeCasts_S32x4_S128x1x1x1]

/-- The host operations before the call. -/
def hostOps : List HOp := hostP0 ++ (hostP1 ++ (hostP2 ++ (hostP3 ++ hostP4)))

open StableHlo (seq IsSeq)

theorem seq_last {op : HOp} : IsSeq (nD := nD) (Λ := SparseCore.Sig (ΛP (F := F)) 1) (hlo rfl op fun _ => .ret (⟨⟩ : PUnit)) [op] := rfl

theorem main_part0_eq (d : Dev nD) : main_part0 (F := F) d = seq hostP0 := by
  show IsSeq _ _; unfold main_part0 hostP0
  repeat (first | exact seq_last | exact StableHlo.IsSeq.nil | apply StableHlo.IsSeq.cons)
theorem main_part1_eq (d : Dev nD) : main_part1 (F := F) d = seq hostP1 := by
  show IsSeq _ _; unfold main_part1 hostP1
  repeat (first | exact seq_last | exact StableHlo.IsSeq.nil | apply StableHlo.IsSeq.cons)
theorem main_part2_eq (d : Dev nD) : main_part2 (F := F) d = seq hostP2 := by
  show IsSeq _ _; unfold main_part2 hostP2
  repeat (first | exact seq_last | exact StableHlo.IsSeq.nil | apply StableHlo.IsSeq.cons)
theorem main_part3_eq (d : Dev nD) : main_part3 (F := F) d = seq hostP3 := by
  show IsSeq _ _; unfold main_part3 hostP3
  repeat (first | exact seq_last | exact StableHlo.IsSeq.nil | apply StableHlo.IsSeq.cons)

theorem step_op {op : HOp} {ops : List HOp} {q : Prog (TpuEff nD τ sig (Elt F) (SparseCore.Sig (ΛP (F := F)) 1) .tc) PUnit}
    {k : Prog (TpuEff nD τ sig (Elt F) (SparseCore.Sig (ΛP (F := F)) 1) .tc) PUnit} (h : k = seq ops >>= fun _ => q) :
    ((hlo rfl op fun _ => .ret (⟨⟩ : PUnit)) >>= fun _ => k) = seq (op :: ops) >>= fun _ => q := by
  subst h; rfl

theorem hostT_eq (d : Dev nD) : (do sc.run d 0; seq hostT : Prog (TpuEff nD τ sig (Elt F) (SparseCore.Sig (ΛP (F := F)) 1) .tc) PUnit)
    = (do sc.run d 0; hlo rfl (StableHlo.unary main_v194 main_v195 ((extractStridedSlice S32x4 ![0, 0] · slices_S32x16_S32x4_0_0) : (⟨S32x16, .f32⟩ : BufTy).Contents (Elt F) → (⟨S32x4, .f32⟩ : BufTy).Contents (Elt F))) (fun _ => .ret ⟨⟩)
          hlo rfl (StableHlo.reshape main_v195 main_v196 (rfl : (.f32 : EltTy) = .f32) shapeCasts_S32x4_S128x1x1x1) (fun _ => .ret ⟨⟩)
          pure ⟨⟩) := rfl

theorem main_part4_eq (d : Dev nD) : main_part4 (F := F) d = seq hostP4 >>= fun _ => (do sc.run d 0; seq hostT) := by
  rw [hostT_eq]
  unfold main_part4 hostP4
  repeat (apply step_op)
  rfl

theorem main_eq (d : Dev nD) : main (F := F) d = seq hostOps >>= fun _ => (do sc.run d 0; seq hostT) := by
  unfold main hostOps
  simp only [main_part0_eq, main_part1_eq, main_part2_eq, main_part3_eq, main_part4_eq, StableHlo.seq_append, bind_assoc]

theorem host_ordered0 : Chain.Ordered (Val := Elt F) 1 (hostP0 (F := F)) :=
  Chain.ordered_nullary rfl <|
  Chain.ordered_nullary rfl <|
  Chain.ordered_nullary rfl <|
  Chain.ordered_unary rfl (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_nil

theorem host_ordered1 : Chain.Ordered (Val := Elt F) 61 (hostP1 (F := F)) :=
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_nil

theorem host_ordered2 : Chain.Ordered (Val := Elt F) 121 (hostP2 (F := F)) :=
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_nil

theorem host_ordered3 : Chain.Ordered (Val := Elt F) 181 (hostP3 (F := F)) :=
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_nil

theorem host_ordered4 : Chain.Ordered (Val := Elt F) 241 (hostP4 (F := F)) :=
  Chain.ordered_unary rfl (by decide) <|
  Chain.ordered_binary rfl (by decide) (by decide) <|
  Chain.ordered_unary rfl (by decide) <|
  Chain.ordered_nullary rfl <|
  Chain.ordered_unary rfl (by decide) <|
  Chain.ordered_binary rfl (by decide) (by decide) <|
  Chain.ordered_nullary rfl <|
  Chain.ordered_nullary rfl <|
  Chain.ordered_binary rfl (by decide) (by decide) <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_unary rfl (by decide) <|
  Chain.ordered_nullary rfl <|
  Chain.ordered_unary rfl (by decide) <|
  Chain.ordered_binary rfl (by decide) (by decide) <|
  Chain.ordered_nil

theorem host_ordered : Chain.Ordered (Val := Elt F) 1 (hostOps (F := F)) :=
  Chain.ordered_append host_ordered0 <| Chain.ordered_append host_ordered1 <| Chain.ordered_append host_ordered2 <|
    Chain.ordered_append host_ordered3 host_ordered4

end Cert.Proof.Sampler

end
-- ==== Proof.Task.lean ====
/-
  The launch: each task's obligation, the host program around the call, and the run of the whole program with the
  contents it ends at.
-/
module

public import proofs.«01_k».proof.Proof.Launch
public import proofs.«01_k».proof.Proof.Host
public import Idealize.ShloMosaic.Lib.Pipeline.Kit

@[expose] public section

noncomputable section

namespace Cert.Proof.Sampler

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## One task -/

section Tile

variable (fp : Dev nD → S128x8192.Idx → F .f32) (fe : Dev nD → S1048576.Idx → F .f32) (fu : Dev nD → S32x16.Idx → F .f32) (fo : Dev nD → S32x16.Idx → F .f32)

/-- The task on the coordinates' subcore: what the call gave it, its own buffers and cells, through the body's run. -/
theorem tile_body (d : Dev nD) (c : Fin 2) (i : Fin 16) (hF : (K (F := F)).Facts) (O : CellTallies nD τ sig (HIx 1)) (W : Waits sig (HIx 1)) (hO : ∀ g, O g none = 0) :
    iprop(levAts (K (F := F)).L (K (F := F)).lev ∗ emp
        ∗ goP fp fe fu fo d c i
        ∗ scopedBufs (V d (cV (Lc c i)) (jV (Lc c i))) ∗ scopedSems0 (V d (cV (Lc c i)) (jV (Lc c i))) ∗ owes (V d (cV (Lc c i)) (jV (Lc c i))) O W)
      ⊢ wp frame (wpE (defs₀ (F := F)) 𝒱₀ (V d (cV (Lc c i)) (jV (Lc c i))) none) Set.univ (bodyAt (Lc c i))
          fun _ => iprop(tdP fp fe fu d c i
            ∗ scopedBufs (V d (cV (Lc c i)) (jV (Lc c i))) ∗ scopedSems0 (V d (cV (Lc c i)) (jV (Lc c i)))
            ∗ ∃ W', ⌜∀ p ∈ W', p ∈ W ∨ p.2 = none ∨ p.2 = some (0 : Fin 1)⌝ ∗ owes (V d (cV (Lc c i)) (jV (Lc c i))) O W') := by
  rw [(K (F := F)).scopedBufs_V hF d (cV (Lc c i)) (jV (Lc c i)), SparseCore.Cfg.scopedSems0_V (Val := Elt F) d (cV (Lc c i)) (jV (Lc c i)), ownSems0_V, ownBufs_V]
  iintro ⟨#Hlv, -, ⟨⟨P0, P1, P2, P3⟩, ⟨E0, E1, E2, E3⟩, HU, HO⟩, ⟨⟨%gp, HsP⟩, ⟨%ge, HsE⟩, ⟨%gu, HsU⟩, ⟨%gs, HsS⟩, ⟨%gx, HsX⟩, ⟨%gg, HsG⟩, Hbufs⟩,
    ⟨S6, S7, S8, S9, S10, Sc, Hsems⟩, Howes⟩
  ihave Hmw := (show levAts (K (F := F)).L (K (F := F)).lev ⊢ Transfers.MayWaits (V d (cV (Lc c i)) (jV (Lc c i))) (default : HIx 1) O from
    (K (F := F)).mayWaits_none (thr := V d (cV (Lc c i)) (jV (Lc c i))) hO) $$ Hlv
  ihave HsP := (Entails.of_eq (sP_rows d (Lc c i) gp)) $$ HsP
  icases HsP with ⟨A0, A1, A2, A3⟩
  ihave HsE := (Entails.of_eq (sE_rows d (Lc c i) ge)) $$ HsE
  icases HsE with ⟨B0, B1, B2, B3⟩
  iapply (wp_wand_r frame (wpE (defs₀ (F := F)) 𝒱₀ (V d (cV (Lc c i)) (jV (Lc c i))) none) Set.univ)
  isplitr [Hbufs Hsems]
  · iapply (tile_run d (Lc c i) O W (fp d) (fe d) (fu d) (fo d) gp ge gu gs gx gg trivial trivial trivial trivial)
    isplitl [Hmw]; · iexact Hmw
    isplitl [P0]; · iexact P0
    isplitl [P1]; · iexact P1
    isplitl [P2]; · iexact P2
    isplitl [P3]; · iexact P3
    isplitl [E0]; · iexact E0
    isplitl [E1]; · iexact E1
    isplitl [E2]; · iexact E2
    isplitl [E3]; · iexact E3
    isplitl [HU]; · iexact HU
    isplitl [HO]; · iexact HO
    isplitl [A0]; · iexact A0
    isplitl [A1]; · iexact A1
    isplitl [A2]; · iexact A2
    isplitl [A3]; · iexact A3
    isplitl [B0]; · iexact B0
    isplitl [B1]; · iexact B1
    isplitl [B2]; · iexact B2
    isplitl [B3]; · iexact B3
    isplitl [HsU]; · iexact HsU
    isplitl [HsS]; · iexact HsS
    isplitl [HsX]; · iexact HsX
    isplitl [HsG]; · iexact HsG
    isplitl [S6]; · iexact S6
    isplitl [S7]; · iexact S7
    isplitl [S8]; · iexact S8
    isplitl [S9]; · iexact S9
    isplitl [S10]; · iexact S10
    isplitl [Sc]; · iexact Sc
    iexact Howes
  iintro %u ⟨P0, P1, P2, P3, E0, E1, E2, E3, HU, HO, A0, A1, A2, A3, B0, B1, B2, B3, HsU, HsS, HsX, HsG, S6, S7, S8, S9, S10, Sc, Howes⟩
  ihave HO := (Entails.of_eq (out_piece d c i (fp d) (fe d) (fu d) (fo d))) $$ HO
  isplitl [P0 P1 P2 P3 HO]
  · isplitl [P0 P1 P2 P3]
    · isplitl [P0]; · iexact P0
      isplitl [P1]; · iexact P1
      isplitl [P2]; · iexact P2
      iexact P3
    iexact HO
  isplitl [A0 A1 A2 A3 B0 B1 B2 B3 HsU HsS HsX HsG Hbufs]
  · isplitl [A0 A1 A2 A3]
    · iapply (sP_join d (Lc c i))
      isplitl [A0]; · iexact A0
      isplitl [A1]; · iexact A1
      isplitl [A2]; · iexact A2
      iexact A3
    isplitl [B0 B1 B2 B3]
    · iapply (sE_join d (Lc c i))
      isplitl [B0]; · iexact B0
      isplitl [B1]; · iexact B1
      isplitl [B2]; · iexact B2
      iexact B3
    isplitl [HsU]; · iexact HsU
    isplitl [HsS]; · iexact HsS
    isplitl [HsX]; · iexact HsX
    isplitl [HsG]; · iexact HsG
    iexact Hbufs
  isplitl [S6 S7 S8 S9 S10 Sc Hsems]
  · isplitl [S6]; · iexact S6
    isplitl [S7]; · iexact S7
    isplitl [S8]; · iexact S8
    isplitl [S9]; · iexact S9
    isplitl [S10]; · iexact S10
    isplitl [Sc]; · iexact Sc
    iexact Hsems
  iexact Howes

theorem defs₀_vector (c : Fin τ.nSC) (s : Fin τ.nSub) :
    defs₀ (F := F) (.scVector c s) 0 () = SparseCore.onTile hcore0 hsub0 (fun c s => bodyAt (coordsV c s)) ⟨⟩ c s := rfl

theorem tileObl (hF : (K (F := F)).Facts) : (K (F := F)).TileObl (D (F := F)) 𝒱 (P fp fe fu fo) v₀ 0 := by
  intro d c i O W hO _ _
  simp only [show (P fp fe fu fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body fp fe fu fo d (Fin.cast nCore_zero c) (Fin.cast nSub_zero i) hF O W hO

theorem bigSep_tasks (Φ : Fin 16 → sProp (𝕄 F)) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp (𝕄 F)) :
    (bigSep Finset.univ fun c : Fin ((K (F := F)).nCore 0) => Φ (Fin.cast nCore_zero c)) = bigSep Finset.univ Φ :=
  bigSep_congr fun _ _ => congrArg Φ (Fin.ext rfl)

theorem st_at (d : Dev nD) (c : Fin ((K (F := F)).nCore 0)) : (P fp fe fu fo).st 0 d c = bigSep Finset.univ fun i : Fin ((K (F := F)).nSub 0) => goP fp fe fu fo d (Fin.cast nCore_zero c) (Fin.cast nSub_zero i) := by
  unfold P; rfl
theorem go_at (d : Dev nD) (c : Fin ((K (F := F)).nCore 0)) (i : Fin ((K (F := F)).nSub 0)) : (P fp fe fu fo).go 0 d c i = goP fp fe fu fo d (Fin.cast nCore_zero c) (Fin.cast nSub_zero i) := by
  unfold P; rfl
theorem dn_at (d : Dev nD) (c : Fin ((K (F := F)).nCore 0)) : (P fp fe fu fo).dn 0 d c = bigSep Finset.univ fun i : Fin ((K (F := F)).nSub 0) => tdP fp fe fu d (Fin.cast nCore_zero c) (Fin.cast nSub_zero i) := by
  unfold P; rfl
theorem td_at (d : Dev nD) (c : Fin ((K (F := F)).nCore 0)) (i : Fin ((K (F := F)).nSub 0)) : (P fp fe fu fo).td 0 d c i = tdP fp fe fu d (Fin.cast nCore_zero c) (Fin.cast nSub_zero i) := by
  unfold P; rfl
theorem keep_both (A B : sProp (𝕄 F)) : A ⊢ |={Set.univ}=> iprop(A ∗ (B -∗ B)) := by
    iintro H; imodintro
    isplitl [H]; · iexact H
    iintro H; iexact H
theorem vecSplit : (K (F := F)).VecSplit' (P fp fe fu fo) 0 := by
  intro d c
  rw [st_at, dn_at, bigSep_congr fun i _ => go_at fp fe fu fo d c i, bigSep_congr fun i _ => td_at fp fe fu fo d c i]
  exact keep_both _ _

/-! ## The launch's own resources: the handshakes' rounds -/

def u₀ : UU := (initOf (K (F := F)).hsCells (K (F := F)).hsToks, 1)

theorem bigSep_emp' {I : Type} (s : Finset I) : (bigSep s fun _ => iprop(emp)) = (iprop(emp) : sProp (𝕄 F)) := bigSep_emp_const s

theorem hu₀ : (ownU (u₀ (F := F)) : sProp (𝕄 F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fp fe fu fo).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P fp fe fu fo).x q thr) = bigSep Finset.univ fun _ => iprop(emp) from
    bigSep_congr fun _ _ => bigSep_univ_of_subsingleton (0 : Fin 1), bigSep_emp']
  iempintro

theorem st0_eq (d : Dev nD) :
    (bigSep Finset.univ fun c : Fin ((K (F := F)).nCore 0) => (P fp fe fu fo).st 0 d c)
      = iprop((pLoc d ↦{fullShare} fp d) ∗ (eLoc d ↦{fullShare} fe d) ∗ (uLoc d ↦{fullShare} fu d) ∗ oLoc d ↦{fullShare} fo d) := by
  rw [p_pieces, e_pieces, u_pieces, o_pieces, ← bigSep_sep', ← bigSep_sep', ← bigSep_sep']
  refine (bigSep_congr fun c _ => st_at fp fe fu fo d c).trans ?_
  refine (bigSep_cores (F := F) (fun c => bigSep Finset.univ fun i : Fin ((K (F := F)).nSub 0) => goP fp fe fu fo d c (Fin.cast nSub_zero i))).trans ?_
  refine bigSep_congr fun c _ => ?_
  rw [bigSep_tasks (F := F) (fun i => goP fp fe fu fo d c i)]
  rw [← bigSep_sep', ← bigSep_sep', ← bigSep_sep']
theorem dn0_eq (d : Dev nD) :
    (bigSep Finset.univ fun c : Fin ((K (F := F)).nCore 0) => (P fp fe fu fo).dn 0 d c)
      = iprop((pLoc d ↦{fullShare} fp d) ∗ oLoc d ↦{fullShare} outF (fp d) (fe d) (fu d)) := by
  rw [p_pieces, o_pieces, ← bigSep_sep']
  refine (bigSep_congr fun c _ => dn_at fp fe fu fo d c).trans ?_
  refine (bigSep_cores (F := F) (fun c => bigSep Finset.univ fun i : Fin ((K (F := F)).nSub 0) => tdP fp fe fu d c (Fin.cast nSub_zero i))).trans ?_
  refine bigSep_congr fun c _ => ?_
  rw [bigSep_tasks (F := F) (fun i => tdP fp fe fu d c i)]
  rw [← bigSep_sep']

end Tile

end Cert.Proof.Sampler

end
-- ==== Proof.Main.lean ====
/-
  The host program around the call, and the run of the whole program with the contents it ends at.
-/
module

public import proofs.«01_k».proof.Proof.Task
public import proofs.«01_k».proof.Defs

@[expose] public section

noncomputable section

namespace Cert.Proof.Sampler

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.StableHlo (after held held_sub_split held_congr seq)

variable (m : (ℓ : Loc nD τ sig) → Buf (Elt F) ℓ) (ρ : Dev nD → PrngReg)

/-! ## What the buffers hold around the call -/

abbrev rp : DevRef τ sig := Proc.devRef .tc main_arg0
abbrev re : DevRef τ sig := Proc.devRef .tc main_v193
abbrev ru : DevRef τ sig := Proc.devRef .tc main_cst
abbrev ro : DevRef τ sig := Proc.devRef .tc main_v194
abbrev rs : DevRef τ sig := Proc.devRef .tc main_v195
abbrev rr : DevRef τ sig := Proc.devRef .tc main_v196

/-- At the launch, and before the call. -/
def V0 (d : Dev nD) : Valuation τ sig (Elt F) := fun b => m (d, b)
def VH (d : Dev nD) : Valuation τ sig (Elt F) := after hostOps (V0 m d)

abbrev fp (d : Dev nD) : S128x8192.Idx → F .f32 := m (pLoc d)
abbrev fe (d : Dev nD) : S1048576.Idx → F .f32 := VH m d re
abbrev fu (d : Dev nD) : S32x16.Idx → F .f32 := VH m d ru
abbrev fo (d : Dev nD) : S32x16.Idx → F .f32 := VH m d ro

/-- After the call, and at the end. -/
def VC (d : Dev nD) : Valuation τ sig (Elt F) := Function.update (VH m d) ro (outF (fp m d) (fe m d) (fu m d))
def VE (d : Dev nD) : Valuation τ sig (Elt F) := after hostT (VC m d)

abbrev rLoc (d : Dev nD) : Loc nD τ sig := (SparseCore.T d).loc main_v196

theorem VH_p (d : Dev nD) : VH m d rp = m (pLoc d) := Chain.after_low host_ordered (V0 m d) (b := main_arg0) (by decide)

abbrev S6 : Finset (DevRef τ sig) := {rp, re, ru, ro, rs, rr}
abbrev S3 : Finset (DevRef τ sig) := {ro, rs, rr}

theorem held_S6 (d : Dev nD) (W : Valuation τ sig (Elt F)) :
    (held (T d) S6 W : sProp (𝕄 F)) = iprop((pLoc d ↦{fullShare} W rp) ∗ (eLoc d ↦{fullShare} W re) ∗ (uLoc d ↦{fullShare} W ru) ∗ (oLoc d ↦{fullShare} W ro)
      ∗ ((SparseCore.T d).loc main_v195 ↦{fullShare} W rs) ∗ rLoc d ↦{fullShare} W rr) := by
  unfold held S6
  rw [SparseCore.bigSep_insert' (by decide), SparseCore.bigSep_insert' (by decide), SparseCore.bigSep_insert' (by decide),
    SparseCore.bigSep_insert' (by decide), SparseCore.bigSep_insert' (by decide), bigSep_singleton]
theorem held_S3 (d : Dev nD) (W : Valuation τ sig (Elt F)) :
    (held (T d) S3 W : sProp (𝕄 F)) = iprop((oLoc d ↦{fullShare} W ro) ∗ ((SparseCore.T d).loc main_v195 ↦{fullShare} W rs) ∗ rLoc d ↦{fullShare} W rr) := by
  unfold held S3
  rw [SparseCore.bigSep_insert' (by decide), SparseCore.bigSep_insert' (by decide), bigSep_singleton]

theorem unscoped_held (d : Dev nD) : (unscopedBufs d (fun b => m ((SparseCore.T d).loc b)) : sProp (𝕄 F)) = held (T d) (Pipeline.ucRefs τ sig) (V0 m d) :=
  Pipeline.unscopedBufs_held d (V0 m d)

theorem S6_sub : S6 ⊆ Pipeline.ucRefs τ sig := by
  intro b hb
  simp only [S6, Finset.mem_insert, Finset.mem_singleton] at hb
  unfold Pipeline.ucRefs StableHlo.tcRefs
  rcases hb with rfl | rfl | rfl | rfl | rfl | rfl <;>
    exact Finset.mem_filter.mpr ⟨Finset.mem_map.mpr ⟨_, Finset.mem_univ _, rfl⟩, by decide⟩

theorem VC_o (d : Dev nD) : VC m d ro = outF (fp m d) (fe m d) (fu m d) := Function.update_self _ _ _
theorem VC_s (d : Dev nD) : VC m d rs = VH m d rs := Function.update_of_ne (show rs ≠ ro by decide) _ _
theorem VC_r (d : Dev nD) : VC m d rr = VH m d rr := Function.update_of_ne (show rr ≠ ro by decide) _ _

/-- What the claims read at the end: the weights at their launch contents, the result at the end's. -/
abbrev FIN (d : Dev nD) : sProp (𝕄 F) := iprop((pLoc d ↦{fullShare} m (pLoc d)) ∗ rLoc d ↦{fullShare} VE m d rr)

abbrev PP : (K (F := F)).Pay (nD := nD) (Val := Elt F) (Name := ℕ) (U := UU) := P (fp m) (fe m) (fu m) (fo m)

theorem hostT_sub : ∀ op ∈ hostT (F := F), op.bufs ⊆ S3 := by
  intro op hop
  unfold hostT at hop
  rcases List.mem_cons.mp hop with rfl | hop
  · show ({ro, rs} : Finset (DevRef τ sig)) ⊆ S3
    decide
  · obtain rfl := List.mem_singleton.mp hop
    show ({rs, rr} : Finset (DevRef τ sig)) ⊆ S3
    decide
theorem hostT_fresh : ∀ op ∈ hostT (F := F), op.fresh = ∅ := by
  intro op hop
  unfold hostT at hop
  rcases List.mem_cons.mp hop with rfl | hop
  · rfl
  · obtain rfl := List.mem_singleton.mp hop
    rfl

theorem held_VH (d : Dev nD) :
    (held (d.tc : Thread nD τ) (Pipeline.ucRefs τ sig) (after hostOps (V0 m d)) : sProp (𝕄 F))
      = iprop(((pLoc d ↦{fullShare} fp m d) ∗ (eLoc d ↦{fullShare} fe m d) ∗ (uLoc d ↦{fullShare} fu m d) ∗ (oLoc d ↦{fullShare} fo m d)
          ∗ ((SparseCore.T d).loc main_v195 ↦{fullShare} VH m d rs) ∗ rLoc d ↦{fullShare} VH m d rr)
        ∗ held (d.tc : Thread nD τ) (Pipeline.ucRefs τ sig \ S6) (VH m d)) := by
  show (held (SparseCore.T d) (Pipeline.ucRefs τ sig) (VH m d) : sProp (𝕄 F)) = _
  rw [held_sub_split (SparseCore.T d) S6_sub (VH m d), held_S6, VH_p]

theorem held_VE (d : Dev nD) :
    (held (d.tc : Thread nD τ) S3 (after hostT (VC m d)) : sProp (𝕄 F))
      = iprop((oLoc d ↦{fullShare} VE m d ro) ∗ ((SparseCore.T d).loc main_v195 ↦{fullShare} VE m d rs) ∗ rLoc d ↦{fullShare} VE m d rr) := held_S3 d (VE m d)

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d (Pipeline.ucRefs τ sig) _ hostOps
    (fun op h => Pipeline.sub_ucRefs op (Chain.ordered_bufs host_ordered op h)) (Chain.ordered_fresh host_ordered) (V0 m d)) $$ [Hb Hheld]
  · isplitl [Hb] <;> iassumption
  iintro ⟨Hb, Hheld⟩
  ihave Hheld := (Entails.of_eq (held_VH m d)) $$ Hheld
  icases Hheld with ⟨⟨Hp, He, Hu, Ho, Hs, Hr⟩, -⟩
  rw [wp_bind]
  iapply ((K (F := F)).wp_run (D (F := F)) 𝒱 (EH := EH) (P := PP m) κ d 0) $$ [Hst Hp He Hu Ho Hs Hr Hb Hts]
  isplitr; · iexact Hctx
  isplitl [Hst]; · iexact Hst
  isplitl [Hp He Hu Ho]
  · rw [st0_eq]
    isplitl [Hp]; · iexact Hp
    isplitl [He]; · iexact He
    isplitl [Hu]; · iexact Hu
    iexact Ho
  iintro ⟨Hst, Hdn⟩
  ihave Hdn := (Entails.of_eq (dn0_eq (fp m) (fe m) (fu m) (fo m) d)) $$ Hdn
  icases Hdn with ⟨Hp, Ho⟩
  ihave H3 := (Entails.of_eq (held_S3 d (VC m d)).symm) $$ [Ho Hs Hr]
  · rw [VC_o, VC_s, VC_r]
    isplitl [Ho]; · iexact Ho
    isplitl [Hs]; · iexact Hs
    iexact Hr
  rw [show (seq hostT : Prog (TpuEff nD τ sig (Elt F) (SparseCore.Sig (ΛP (F := F)) 1) .tc) PUnit) = seq hostT >>= fun _ => pure ⟨⟩ from (bind_pure _).symm]
  iapply (StableHlo.wp_seq 𝒱 none Set.univ d S3 _ hostT hostT_sub hostT_fresh (VC m d)) $$ [Hb H3]
  · isplitl [Hb] <;> iassumption
  iintro ⟨Hb, H3⟩
  ihave H3 := (Entails.of_eq (held_VE m d)) $$ H3
  icases H3 with ⟨-, -, Hr⟩
  rw [wp_pure]; imodintro
  isplitl [Hst]; · iexact Hst
  isplitr [Hb Hts]
  · isplitl [Hp]; · iexact Hp
    iexact Hr
  isplitl [Hb] <;> iassumption

def fq (d : Dev nD) (s' : Phys nD τ sig (Elt F)) : Prop := s'.mem.mem (rLoc d) = VE m d rr ∧ s'.mem.mem (pLoc d) = m (pLoc d)

theorem hfin (d : Dev nD) (s' : Phys nD τ sig (Elt F)) : iprop(FIN m d ∗ SI s') ⊢ (⌜fq m d s'⌝ : sProp (𝕄 F)) := by
  iintro ⟨⟨Hp, Hr⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (SI_pointsTo_agree (st := s') (ℓ := rLoc d) (I := Finset.univ) (q := fullShare) (f := VE m d rr)) $$ [HSI Hr]
  · isplitl [HSI] <;> iassumption
  icases H with %hr
  ipureintro; exact ⟨funext fun i => hr i (Finset.mem_univ i), funext fun i => hp i (Finset.mem_univ i)⟩

/-! ## The program's run -/

def QC : PUnit × MemSt nD τ sig (Elt F) → Prop := fun r => (∀ c : Dev nD, r.2.mem (rLoc c) = VE m c rr ∧ r.2.mem (pLoc c) = m (pLoc c)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (fp m) (fe m) (fu m) (fo m) facts)
    (fun q _ => match q with | 0 => SparseCore.Cfg.VecSplit.of_plain (vecSplit (fp m) (fe m) (fu m) (fo m)))
    m ρ main (fun _ => iprop(emp)) (FIN m) (u₀ (F := F)) (sep_elim_left.trans (hu₀ (fp m) (fe m) (fu m) (fo m))) (hmain m ρ) (fq m) (hfin m) (QC m) (fun _ h hz => ⟨h, hz⟩)

end Cert.Proof.Sampler

end
-- ==== Proof.RefOps.lean ====
/-
  The reference's operations as lists, in the order they run: one list for each stretch of a function's body.
-/
module

public import proofs.«01_k».proof.Proof.Gen.ReferenceIdeal
public import proofs.«01_k».proof.Proof.Chain
public import Idealize.ShloMosaic.Lib.StableHlo.RunHlo

@[expose] public section

noncomputable section

namespace Cert.Proof.Ref

open Cert.ReferenceIdeal Cert.ReferenceIdeal.Gen
open Idealize.ShloMosaic
open Idealize.SL.Sem

variable {F : FTy → Type} [FloatOps F]

local notation "ROp" => HloOp τ sig (Elt F)
/-- What a buffer of shape `s` and element type `e` holds. -/
abbrev T (F : FTy → Type) (s : Shape) (e : EltTy) : Type := BufTy.Contents (Elt F) ⟨s, e⟩

/-- Stretch 0: operations 0 to 9. -/
noncomputable def seg0 : List ROp := [
  StableHlo.nullary main_c (constantI S_ 32 42#32),
  StableHlo.nullary main_c_0 (constantI S_ 32 32#32),
  StableHlo.binary main_c main_c_0 main_v0 (Host.shrui : T F S_ .i32 → T F S_ .i32 → T F S_ .i32),
  StableHlo.unary main_v0 main_v1 (id : T F S_ .i32 → T F S_ .i32),
  StableHlo.unary main_v1 main_v2 (broadcastInDim S1 ![] bcast_S_S1 : T F S_ .i32 → T F S1 .i32),
  StableHlo.nullary main_c_1 (constantI S_ 32 4294967295#32),
  StableHlo.binary main_c main_c_1 main_v3 (andi : T F S_ .i32 → T F S_ .i32 → T F S_ .i32),
  StableHlo.unary main_v3 main_v4 (id : T F S_ .i32 → T F S_ .i32),
  StableHlo.unary main_v4 main_v5 (broadcastInDim S1 ![] bcast_S_S1 : T F S_ .i32 → T F S1 .i32),
  StableHlo.binary main_v2 main_v5 main_v6 ((fun a b => concatenate S2 0 [⟨S1, a⟩, ⟨S1, b⟩] concatenates_S1_S1_S2_d0) : T F S1 .i32 → T F S1 .i32 → T F S2 .i32)]

/-- Stretch 1: operations 10 to 22. -/
noncomputable def seg1 : List ROp := [
  StableHlo.unary main_v6 main_call0_v0 ((extractStridedSlice S1 ![0] · slices_S2_S1_0) : T F S2 .i32 → T F S1 .i32),
  StableHlo.reshape main_call0_v0 main_call0_v1 (rfl : (.i32 : EltTy) = .i32) shapeCasts_S1_S_,
  StableHlo.unary main_v6 main_call0_v2 ((extractStridedSlice S1 ![1] · slices_S2_S1_1) : T F S2 .i32 → T F S1 .i32),
  StableHlo.reshape main_call0_v2 main_call0_v3 (rfl : (.i32 : EltTy) = .i32) shapeCasts_S1_S_,
  StableHlo.nullary main_call0_v4 (iotaInDim S2 64 0),
  StableHlo.nullary main_call0_c (constantI S_ 64 1#64),
  StableHlo.unary main_call0_c main_call0_v5 ((broadcastInDim S2 ![] bcast_S_S2) : T F S_ .i64 → T F S2 .i64),
  StableHlo.binary main_call0_v5 main_call0_v4 main_call0_v6 (muli : T F S2 .i64 → T F S2 .i64 → T F S2 .i64),
  StableHlo.nullary main_call0_c_0 (constantI S_ 64 32#64),
  StableHlo.unary main_call0_c_0 main_call0_v7 ((broadcastInDim S2 ![] bcast_S_S2) : T F S_ .i64 → T F S2 .i64),
  StableHlo.binary main_call0_v6 main_call0_v7 main_call0_v8 (Host.shrui : T F S2 .i64 → T F S2 .i64 → T F S2 .i64),
  StableHlo.unary main_call0_v6 main_call0_v9 ((trunci 32 · natLt_32_64) : T F S2 .i64 → T F S2 .i32),
  StableHlo.unary main_call0_v8 main_call0_v10 ((trunci 32 · natLt_32_64) : T F S2 .i64 → T F S2 .i32)]

/-- Stretch 2: operations 23 to 52. -/
noncomputable def seg2 : List ROp := [
  StableHlo.binary main_call0_v1 main_call0_v3 main_call0_call0_v0 (xori : T F S_ .i32 → T F S_ .i32 → T F S_ .i32),
  StableHlo.nullary main_call0_call0_c (constantI S_ 32 466688986#32),
  StableHlo.binary main_call0_call0_v0 main_call0_call0_c main_call0_call0_v1 (xori : T F S_ .i32 → T F S_ .i32 → T F S_ .i32),
  StableHlo.unary main_call0_v1 main_call0_call0_v2 ((broadcastInDim S2 ![] bcast_S_S2) : T F S_ .i32 → T F S2 .i32),
  StableHlo.binary main_call0_v10 main_call0_call0_v2 main_call0_call0_v3 (addi : T F S2 .i32 → T F S2 .i32 → T F S2 .i32),
  StableHlo.unary main_call0_v3 main_call0_call0_v4 ((broadcastInDim S2 ![] bcast_S_S2) : T F S_ .i32 → T F S2 .i32),
  StableHlo.binary main_call0_v9 main_call0_call0_v4 main_call0_call0_v5 (addi : T F S2 .i32 → T F S2 .i32 → T F S2 .i32),
  StableHlo.binary main_call0_call0_v3 main_call0_call0_v5 main_call0_call0_v6 (addi : T F S2 .i32 → T F S2 .i32 → T F S2 .i32),
  StableHlo.nullary main_call0_call0_c_0 (constantI S_ 32 13#32),
  StableHlo.unary main_call0_call0_c_0 main_call0_call0_v7 ((broadcastInDim S2 ![] bcast_S_S2) : T F S_ .i32 → T F S2 .i32),
  StableHlo.binary main_call0_call0_v5 main_call0_call0_v7 main_call0_call0_v8 (Host.shli : T F S2 .i32 → T F S2 .i32 → T F S2 .i32),
  StableHlo.nullary main_call0_call0_c_1 (constantI S_ 32 19#32),
  StableHlo.unary main_call0_call0_c_1 main_call0_call0_v9 ((broadcastInDim S2 ![] bcast_S_S2) : T F S_ .i32 → T F S2 .i32),
  StableHlo.binary main_call0_call0_v5 main_call0_call0_v9 main_call0_call0_v10 (Host.shrui : T F S2 .i32 → T F S2 .i32 → T F S2 .i32),
  StableHlo.binary main_call0_call0_v8 main_call0_call0_v10 main_call0_call0_v11 (ori : T F S2 .i32 → T F S2 .i32 → T F S2 .i32),
  StableHlo.binary main_call0_call0_v6 main_call0_call0_v11 main_call0_call0_v12 (xori : T F S2 .i32 → T F S2 .i32 → T F S2 .i32),
  StableHlo.binary main_call0_call0_v6 main_call0_call0_v12 main_call0_call0_v13 (addi : T F S2 .i32 → T F S2 .i32 → T F S2 .i32),
  StableHlo.nullary main_call0_call0_c_2 (constantI S_ 32 15#32),
  StableHlo.unary main_call0_call0_c_2 main_call0_call0_v14 ((broadcastInDim S2 ![] bcast_S_S2) : T F S_ .i32 → T F S2 .i32),
  StableHlo.binary main_call0_call0_v12 main_call0_call0_v14 main_call0_call0_v15 (Host.shli : T F S2 .i32 → T F S2 .i32 → T F S2 .i32),
  StableHlo.nullary main_call0_call0_c_3 (constantI S_ 32 17#32),
  StableHlo.unary main_call0_call0_c_3 main_call0_call0_v16 ((broadcastInDim S2 ![] bcast_S_S2) : T F S_ .i32 → T F S2 .i32),
  StableHlo.binary main_call0_call0_v12 main_call0_call0_v16 main_call0_call0_v17 (Host.shrui : T F S2 .i32 → T F S2 .i32 → T F S2 .i32),
  StableHlo.binary main_call0_call0_v15 main_call0_call0_v17 main_call0_call0_v18 (ori : T F S2 .i32 → T F S2 .i32 → T F S2 .i32),
  StableHlo.binary main_call0_call0_v13 main_call0_call0_v18 main_call0_call0_v19 (xori : T F S2 .i32 → T F S2 .i32 → T F S2 .i32),
  StableHlo.binary main_call0_call0_v13 main_call0_call0_v19 main_call0_call0_v20 (addi : T F S2 .i32 → T F S2 .i32 → T F S2 .i32),
  StableHlo.nullary main_call0_call0_c_4 (constantI S_ 32 26#32),
  StableHlo.unary main_call0_call0_c_4 main_call0_call0_v21 ((broadcastInDim S2 ![] bcast_S_S2) : T F S_ .i32 → T F S2 .i32),
  StableHlo.binary main_call0_call0_v19 main_call0_call0_v21 main_call0_call0_v22 (Host.shli : T F S2 .i32 → T F S2 .i32 → T F S2 .i32),
  StableHlo.nullary main_call0_call0_c_5 (constantI S_ 32 6#32)]

/-- Stretch 3: operations 53 to 82. -/
noncomputable def seg3 : List ROp := [
  StableHlo.unary main_call0_call0_c_5 main_call0_call0_v23 ((broadcastInDim S2 ![] bcast_S_S2) : T F S_ .i32 → T F S2 .i32),
  StableHlo.binary main_call0_call0_v19 main_call0_call0_v23 main_call0_call0_v24 (Host.shrui : T F S2 .i32 → T F S2 .i32 → T F S2 .i32),
  StableHlo.binary main_call0_call0_v22 main_call0_call0_v24 main_call0_call0_v25 (ori : T F S2 .i32 → T F S2 .i32 → T F S2 .i32),
  StableHlo.binary main_call0_call0_v20 main_call0_call0_v25 main_call0_call0_v26 (xori : T F S2 .i32 → T F S2 .i32 → T F S2 .i32),
  StableHlo.binary main_call0_call0_v20 main_call0_call0_v26 main_call0_call0_v27 (addi : T F S2 .i32 → T F S2 .i32 → T F S2 .i32),
  StableHlo.nullary main_call0_call0_c_6 (constantI S_ 32 6#32),
  StableHlo.unary main_call0_call0_c_6 main_call0_call0_v28 ((broadcastInDim S2 ![] bcast_S_S2) : T F S_ .i32 → T F S2 .i32),
  StableHlo.binary main_call0_call0_v26 main_call0_call0_v28 main_call0_call0_v29 (Host.shli : T F S2 .i32 → T F S2 .i32 → T F S2 .i32),
  StableHlo.nullary main_call0_call0_c_7 (constantI S_ 32 26#32),
  StableHlo.unary main_call0_call0_c_7 main_call0_call0_v30 ((broadcastInDim S2 ![] bcast_S_S2) : T F S_ .i32 → T F S2 .i32),
  StableHlo.binary main_call0_call0_v26 main_call0_call0_v30 main_call0_call0_v31 (Host.shrui : T F S2 .i32 → T F S2 .i32 → T F S2 .i32),
  StableHlo.binary main_call0_call0_v29 main_call0_call0_v31 main_call0_call0_v32 (ori : T F S2 .i32 → T F S2 .i32 → T F S2 .i32),
  StableHlo.binary main_call0_call0_v27 main_call0_call0_v32 main_call0_call0_v33 (xori : T F S2 .i32 → T F S2 .i32 → T F S2 .i32),
  StableHlo.unary main_call0_v3 main_call0_call0_v34 ((broadcastInDim S2 ![] bcast_S_S2) : T F S_ .i32 → T F S2 .i32),
  StableHlo.binary main_call0_call0_v27 main_call0_call0_v34 main_call0_call0_v35 (addi : T F S2 .i32 → T F S2 .i32 → T F S2 .i32),
  StableHlo.unary main_call0_call0_v1 main_call0_call0_v36 ((broadcastInDim S2 ![] bcast_S_S2) : T F S_ .i32 → T F S2 .i32),
  StableHlo.binary main_call0_call0_v33 main_call0_call0_v36 main_call0_call0_v37 (addi : T F S2 .i32 → T F S2 .i32 → T F S2 .i32),
  StableHlo.nullary main_call0_call0_c_8 (constantI S_ 32 1#32),
  StableHlo.unary main_call0_call0_c_8 main_call0_call0_v38 ((broadcastInDim S2 ![] bcast_S_S2) : T F S_ .i32 → T F S2 .i32),
  StableHlo.binary main_call0_call0_v37 main_call0_call0_v38 main_call0_call0_v39 (addi : T F S2 .i32 → T F S2 .i32 → T F S2 .i32),
  StableHlo.binary main_call0_call0_v35 main_call0_call0_v39 main_call0_call0_v40 (addi : T F S2 .i32 → T F S2 .i32 → T F S2 .i32),
  StableHlo.nullary main_call0_call0_c_9 (constantI S_ 32 17#32),
  StableHlo.unary main_call0_call0_c_9 main_call0_call0_v41 ((broadcastInDim S2 ![] bcast_S_S2) : T F S_ .i32 → T F S2 .i32),
  StableHlo.binary main_call0_call0_v39 main_call0_call0_v41 main_call0_call0_v42 (Host.shli : T F S2 .i32 → T F S2 .i32 → T F S2 .i32),
  StableHlo.nullary main_call0_call0_c_10 (constantI S_ 32 15#32),
  StableHlo.unary main_call0_call0_c_10 main_call0_call0_v43 ((broadcastInDim S2 ![] bcast_S_S2) : T F S_ .i32 → T F S2 .i32),
  StableHlo.binary main_call0_call0_v39 main_call0_call0_v43 main_call0_call0_v44 (Host.shrui : T F S2 .i32 → T F S2 .i32 → T F S2 .i32),
  StableHlo.binary main_call0_call0_v42 main_call0_call0_v44 main_call0_call0_v45 (ori : T F S2 .i32 → T F S2 .i32 → T F S2 .i32),
  StableHlo.binary main_call0_call0_v40 main_call0_call0_v45 main_call0_call0_v46 (xori : T F S2 .i32 → T F S2 .i32 → T F S2 .i32),
  StableHlo.binary main_call0_call0_v40 main_call0_call0_v46 main_call0_call0_v47 (addi : T F S2 .i32 → T F S2 .i32 → T F S2 .i32)]

/-- Stretch 4: operations 83 to 112. -/
noncomputable def seg4 : List ROp := [
  StableHlo.nullary main_call0_call0_c_11 (constantI S_ 32 29#32),
  StableHlo.unary main_call0_call0_c_11 main_call0_call0_v48 ((broadcastInDim S2 ![] bcast_S_S2) : T F S_ .i32 → T F S2 .i32),
  StableHlo.binary main_call0_call0_v46 main_call0_call0_v48 main_call0_call0_v49 (Host.shli : T F S2 .i32 → T F S2 .i32 → T F S2 .i32),
  StableHlo.nullary main_call0_call0_c_12 (constantI S_ 32 3#32),
  StableHlo.unary main_call0_call0_c_12 main_call0_call0_v50 ((broadcastInDim S2 ![] bcast_S_S2) : T F S_ .i32 → T F S2 .i32),
  StableHlo.binary main_call0_call0_v46 main_call0_call0_v50 main_call0_call0_v51 (Host.shrui : T F S2 .i32 → T F S2 .i32 → T F S2 .i32),
  StableHlo.binary main_call0_call0_v49 main_call0_call0_v51 main_call0_call0_v52 (ori : T F S2 .i32 → T F S2 .i32 → T F S2 .i32),
  StableHlo.binary main_call0_call0_v47 main_call0_call0_v52 main_call0_call0_v53 (xori : T F S2 .i32 → T F S2 .i32 → T F S2 .i32),
  StableHlo.binary main_call0_call0_v47 main_call0_call0_v53 main_call0_call0_v54 (addi : T F S2 .i32 → T F S2 .i32 → T F S2 .i32),
  StableHlo.nullary main_call0_call0_c_13 (constantI S_ 32 16#32),
  StableHlo.unary main_call0_call0_c_13 main_call0_call0_v55 ((broadcastInDim S2 ![] bcast_S_S2) : T F S_ .i32 → T F S2 .i32),
  StableHlo.binary main_call0_call0_v53 main_call0_call0_v55 main_call0_call0_v56 (Host.shli : T F S2 .i32 → T F S2 .i32 → T F S2 .i32),
  StableHlo.nullary main_call0_call0_c_14 (constantI S_ 32 16#32),
  StableHlo.unary main_call0_call0_c_14 main_call0_call0_v57 ((broadcastInDim S2 ![] bcast_S_S2) : T F S_ .i32 → T F S2 .i32),
  StableHlo.binary main_call0_call0_v53 main_call0_call0_v57 main_call0_call0_v58 (Host.shrui : T F S2 .i32 → T F S2 .i32 → T F S2 .i32),
  StableHlo.binary main_call0_call0_v56 main_call0_call0_v58 main_call0_call0_v59 (ori : T F S2 .i32 → T F S2 .i32 → T F S2 .i32),
  StableHlo.binary main_call0_call0_v54 main_call0_call0_v59 main_call0_call0_v60 (xori : T F S2 .i32 → T F S2 .i32 → T F S2 .i32),
  StableHlo.binary main_call0_call0_v54 main_call0_call0_v60 main_call0_call0_v61 (addi : T F S2 .i32 → T F S2 .i32 → T F S2 .i32),
  StableHlo.nullary main_call0_call0_c_15 (constantI S_ 32 24#32),
  StableHlo.unary main_call0_call0_c_15 main_call0_call0_v62 ((broadcastInDim S2 ![] bcast_S_S2) : T F S_ .i32 → T F S2 .i32),
  StableHlo.binary main_call0_call0_v60 main_call0_call0_v62 main_call0_call0_v63 (Host.shli : T F S2 .i32 → T F S2 .i32 → T F S2 .i32),
  StableHlo.nullary main_call0_call0_c_16 (constantI S_ 32 8#32),
  StableHlo.unary main_call0_call0_c_16 main_call0_call0_v64 ((broadcastInDim S2 ![] bcast_S_S2) : T F S_ .i32 → T F S2 .i32),
  StableHlo.binary main_call0_call0_v60 main_call0_call0_v64 main_call0_call0_v65 (Host.shrui : T F S2 .i32 → T F S2 .i32 → T F S2 .i32),
  StableHlo.binary main_call0_call0_v63 main_call0_call0_v65 main_call0_call0_v66 (ori : T F S2 .i32 → T F S2 .i32 → T F S2 .i32),
  StableHlo.binary main_call0_call0_v61 main_call0_call0_v66 main_call0_call0_v67 (xori : T F S2 .i32 → T F S2 .i32 → T F S2 .i32),
  StableHlo.unary main_call0_call0_v1 main_call0_call0_v68 ((broadcastInDim S2 ![] bcast_S_S2) : T F S_ .i32 → T F S2 .i32),
  StableHlo.binary main_call0_call0_v61 main_call0_call0_v68 main_call0_call0_v69 (addi : T F S2 .i32 → T F S2 .i32 → T F S2 .i32),
  StableHlo.unary main_call0_v1 main_call0_call0_v70 ((broadcastInDim S2 ![] bcast_S_S2) : T F S_ .i32 → T F S2 .i32),
  StableHlo.binary main_call0_call0_v67 main_call0_call0_v70 main_call0_call0_v71 (addi : T F S2 .i32 → T F S2 .i32 → T F S2 .i32)]

/-- Stretch 5: operations 113 to 142. -/
noncomputable def seg5 : List ROp := [
  StableHlo.nullary main_call0_call0_c_17 (constantI S_ 32 2#32),
  StableHlo.unary main_call0_call0_c_17 main_call0_call0_v72 ((broadcastInDim S2 ![] bcast_S_S2) : T F S_ .i32 → T F S2 .i32),
  StableHlo.binary main_call0_call0_v71 main_call0_call0_v72 main_call0_call0_v73 (addi : T F S2 .i32 → T F S2 .i32 → T F S2 .i32),
  StableHlo.binary main_call0_call0_v69 main_call0_call0_v73 main_call0_call0_v74 (addi : T F S2 .i32 → T F S2 .i32 → T F S2 .i32),
  StableHlo.nullary main_call0_call0_c_18 (constantI S_ 32 13#32),
  StableHlo.unary main_call0_call0_c_18 main_call0_call0_v75 ((broadcastInDim S2 ![] bcast_S_S2) : T F S_ .i32 → T F S2 .i32),
  StableHlo.binary main_call0_call0_v73 main_call0_call0_v75 main_call0_call0_v76 (Host.shli : T F S2 .i32 → T F S2 .i32 → T F S2 .i32),
  StableHlo.nullary main_call0_call0_c_19 (constantI S_ 32 19#32),
  StableHlo.unary main_call0_call0_c_19 main_call0_call0_v77 ((broadcastInDim S2 ![] bcast_S_S2) : T F S_ .i32 → T F S2 .i32),
  StableHlo.binary main_call0_call0_v73 main_call0_call0_v77 main_call0_call0_v78 (Host.shrui : T F S2 .i32 → T F S2 .i32 → T F S2 .i32),
  StableHlo.binary main_call0_call0_v76 main_call0_call0_v78 main_call0_call0_v79 (ori : T F S2 .i32 → T F S2 .i32 → T F S2 .i32),
  StableHlo.binary main_call0_call0_v74 main_call0_call0_v79 main_call0_call0_v80 (xori : T F S2 .i32 → T F S2 .i32 → T F S2 .i32),
  StableHlo.binary main_call0_call0_v74 main_call0_call0_v80 main_call0_call0_v81 (addi : T F S2 .i32 → T F S2 .i32 → T F S2 .i32),
  StableHlo.nullary main_call0_call0_c_20 (constantI S_ 32 15#32),
  StableHlo.unary main_call0_call0_c_20 main_call0_call0_v82 ((broadcastInDim S2 ![] bcast_S_S2) : T F S_ .i32 → T F S2 .i32),
  StableHlo.binary main_call0_call0_v80 main_call0_call0_v82 main_call0_call0_v83 (Host.shli : T F S2 .i32 → T F S2 .i32 → T F S2 .i32),
  StableHlo.nullary main_call0_call0_c_21 (constantI S_ 32 17#32),
  StableHlo.unary main_call0_call0_c_21 main_call0_call0_v84 ((broadcastInDim S2 ![] bcast_S_S2) : T F S_ .i32 → T F S2 .i32),
  StableHlo.binary main_call0_call0_v80 main_call0_call0_v84 main_call0_call0_v85 (Host.shrui : T F S2 .i32 → T F S2 .i32 → T F S2 .i32),
  StableHlo.binary main_call0_call0_v83 main_call0_call0_v85 main_call0_call0_v86 (ori : T F S2 .i32 → T F S2 .i32 → T F S2 .i32),
  StableHlo.binary main_call0_call0_v81 main_call0_call0_v86 main_call0_call0_v87 (xori : T F S2 .i32 → T F S2 .i32 → T F S2 .i32),
  StableHlo.binary main_call0_call0_v81 main_call0_call0_v87 main_call0_call0_v88 (addi : T F S2 .i32 → T F S2 .i32 → T F S2 .i32),
  StableHlo.nullary main_call0_call0_c_22 (constantI S_ 32 26#32),
  StableHlo.unary main_call0_call0_c_22 main_call0_call0_v89 ((broadcastInDim S2 ![] bcast_S_S2) : T F S_ .i32 → T F S2 .i32),
  StableHlo.binary main_call0_call0_v87 main_call0_call0_v89 main_call0_call0_v90 (Host.shli : T F S2 .i32 → T F S2 .i32 → T F S2 .i32),
  StableHlo.nullary main_call0_call0_c_23 (constantI S_ 32 6#32),
  StableHlo.unary main_call0_call0_c_23 main_call0_call0_v91 ((broadcastInDim S2 ![] bcast_S_S2) : T F S_ .i32 → T F S2 .i32),
  StableHlo.binary main_call0_call0_v87 main_call0_call0_v91 main_call0_call0_v92 (Host.shrui : T F S2 .i32 → T F S2 .i32 → T F S2 .i32),
  StableHlo.binary main_call0_call0_v90 main_call0_call0_v92 main_call0_call0_v93 (ori : T F S2 .i32 → T F S2 .i32 → T F S2 .i32),
  StableHlo.binary main_call0_call0_v88 main_call0_call0_v93 main_call0_call0_v94 (xori : T F S2 .i32 → T F S2 .i32 → T F S2 .i32)]

/-- Stretch 6: operations 143 to 172. -/
noncomputable def seg6 : List ROp := [
  StableHlo.binary main_call0_call0_v88 main_call0_call0_v94 main_call0_call0_v95 (addi : T F S2 .i32 → T F S2 .i32 → T F S2 .i32),
  StableHlo.nullary main_call0_call0_c_24 (constantI S_ 32 6#32),
  StableHlo.unary main_call0_call0_c_24 main_call0_call0_v96 ((broadcastInDim S2 ![] bcast_S_S2) : T F S_ .i32 → T F S2 .i32),
  StableHlo.binary main_call0_call0_v94 main_call0_call0_v96 main_call0_call0_v97 (Host.shli : T F S2 .i32 → T F S2 .i32 → T F S2 .i32),
  StableHlo.nullary main_call0_call0_c_25 (constantI S_ 32 26#32),
  StableHlo.unary main_call0_call0_c_25 main_call0_call0_v98 ((broadcastInDim S2 ![] bcast_S_S2) : T F S_ .i32 → T F S2 .i32),
  StableHlo.binary main_call0_call0_v94 main_call0_call0_v98 main_call0_call0_v99 (Host.shrui : T F S2 .i32 → T F S2 .i32 → T F S2 .i32),
  StableHlo.binary main_call0_call0_v97 main_call0_call0_v99 main_call0_call0_v100 (ori : T F S2 .i32 → T F S2 .i32 → T F S2 .i32),
  StableHlo.binary main_call0_call0_v95 main_call0_call0_v100 main_call0_call0_v101 (xori : T F S2 .i32 → T F S2 .i32 → T F S2 .i32),
  StableHlo.unary main_call0_v1 main_call0_call0_v102 ((broadcastInDim S2 ![] bcast_S_S2) : T F S_ .i32 → T F S2 .i32),
  StableHlo.binary main_call0_call0_v95 main_call0_call0_v102 main_call0_call0_v103 (addi : T F S2 .i32 → T F S2 .i32 → T F S2 .i32),
  StableHlo.unary main_call0_v3 main_call0_call0_v104 ((broadcastInDim S2 ![] bcast_S_S2) : T F S_ .i32 → T F S2 .i32),
  StableHlo.binary main_call0_call0_v101 main_call0_call0_v104 main_call0_call0_v105 (addi : T F S2 .i32 → T F S2 .i32 → T F S2 .i32),
  StableHlo.nullary main_call0_call0_c_26 (constantI S_ 32 3#32),
  StableHlo.unary main_call0_call0_c_26 main_call0_call0_v106 ((broadcastInDim S2 ![] bcast_S_S2) : T F S_ .i32 → T F S2 .i32),
  StableHlo.binary main_call0_call0_v105 main_call0_call0_v106 main_call0_call0_v107 (addi : T F S2 .i32 → T F S2 .i32 → T F S2 .i32),
  StableHlo.binary main_call0_call0_v103 main_call0_call0_v107 main_call0_call0_v108 (addi : T F S2 .i32 → T F S2 .i32 → T F S2 .i32),
  StableHlo.nullary main_call0_call0_c_27 (constantI S_ 32 17#32),
  StableHlo.unary main_call0_call0_c_27 main_call0_call0_v109 ((broadcastInDim S2 ![] bcast_S_S2) : T F S_ .i32 → T F S2 .i32),
  StableHlo.binary main_call0_call0_v107 main_call0_call0_v109 main_call0_call0_v110 (Host.shli : T F S2 .i32 → T F S2 .i32 → T F S2 .i32),
  StableHlo.nullary main_call0_call0_c_28 (constantI S_ 32 15#32),
  StableHlo.unary main_call0_call0_c_28 main_call0_call0_v111 ((broadcastInDim S2 ![] bcast_S_S2) : T F S_ .i32 → T F S2 .i32),
  StableHlo.binary main_call0_call0_v107 main_call0_call0_v111 main_call0_call0_v112 (Host.shrui : T F S2 .i32 → T F S2 .i32 → T F S2 .i32),
  StableHlo.binary main_call0_call0_v110 main_call0_call0_v112 main_call0_call0_v113 (ori : T F S2 .i32 → T F S2 .i32 → T F S2 .i32),
  StableHlo.binary main_call0_call0_v108 main_call0_call0_v113 main_call0_call0_v114 (xori : T F S2 .i32 → T F S2 .i32 → T F S2 .i32),
  StableHlo.binary main_call0_call0_v108 main_call0_call0_v114 main_call0_call0_v115 (addi : T F S2 .i32 → T F S2 .i32 → T F S2 .i32),
  StableHlo.nullary main_call0_call0_c_29 (constantI S_ 32 29#32),
  StableHlo.unary main_call0_call0_c_29 main_call0_call0_v116 ((broadcastInDim S2 ![] bcast_S_S2) : T F S_ .i32 → T F S2 .i32),
  StableHlo.binary main_call0_call0_v114 main_call0_call0_v116 main_call0_call0_v117 (Host.shli : T F S2 .i32 → T F S2 .i32 → T F S2 .i32),
  StableHlo.nullary main_call0_call0_c_30 (constantI S_ 32 3#32)]

/-- Stretch 7: operations 173 to 202. -/
noncomputable def seg7 : List ROp := [
  StableHlo.unary main_call0_call0_c_30 main_call0_call0_v118 ((broadcastInDim S2 ![] bcast_S_S2) : T F S_ .i32 → T F S2 .i32),
  StableHlo.binary main_call0_call0_v114 main_call0_call0_v118 main_call0_call0_v119 (Host.shrui : T F S2 .i32 → T F S2 .i32 → T F S2 .i32),
  StableHlo.binary main_call0_call0_v117 main_call0_call0_v119 main_call0_call0_v120 (ori : T F S2 .i32 → T F S2 .i32 → T F S2 .i32),
  StableHlo.binary main_call0_call0_v115 main_call0_call0_v120 main_call0_call0_v121 (xori : T F S2 .i32 → T F S2 .i32 → T F S2 .i32),
  StableHlo.binary main_call0_call0_v115 main_call0_call0_v121 main_call0_call0_v122 (addi : T F S2 .i32 → T F S2 .i32 → T F S2 .i32),
  StableHlo.nullary main_call0_call0_c_31 (constantI S_ 32 16#32),
  StableHlo.unary main_call0_call0_c_31 main_call0_call0_v123 ((broadcastInDim S2 ![] bcast_S_S2) : T F S_ .i32 → T F S2 .i32),
  StableHlo.binary main_call0_call0_v121 main_call0_call0_v123 main_call0_call0_v124 (Host.shli : T F S2 .i32 → T F S2 .i32 → T F S2 .i32),
  StableHlo.nullary main_call0_call0_c_32 (constantI S_ 32 16#32),
  StableHlo.unary main_call0_call0_c_32 main_call0_call0_v125 ((broadcastInDim S2 ![] bcast_S_S2) : T F S_ .i32 → T F S2 .i32),
  StableHlo.binary main_call0_call0_v121 main_call0_call0_v125 main_call0_call0_v126 (Host.shrui : T F S2 .i32 → T F S2 .i32 → T F S2 .i32),
  StableHlo.binary main_call0_call0_v124 main_call0_call0_v126 main_call0_call0_v127 (ori : T F S2 .i32 → T F S2 .i32 → T F S2 .i32),
  StableHlo.binary main_call0_call0_v122 main_call0_call0_v127 main_call0_call0_v128 (xori : T F S2 .i32 → T F S2 .i32 → T F S2 .i32),
  StableHlo.binary main_call0_call0_v122 main_call0_call0_v128 main_call0_call0_v129 (addi : T F S2 .i32 → T F S2 .i32 → T F S2 .i32),
  StableHlo.nullary main_call0_call0_c_33 (constantI S_ 32 24#32),
  StableHlo.unary main_call0_call0_c_33 main_call0_call0_v130 ((broadcastInDim S2 ![] bcast_S_S2) : T F S_ .i32 → T F S2 .i32),
  StableHlo.binary main_call0_call0_v128 main_call0_call0_v130 main_call0_call0_v131 (Host.shli : T F S2 .i32 → T F S2 .i32 → T F S2 .i32),
  StableHlo.nullary main_call0_call0_c_34 (constantI S_ 32 8#32),
  StableHlo.unary main_call0_call0_c_34 main_call0_call0_v132 ((broadcastInDim S2 ![] bcast_S_S2) : T F S_ .i32 → T F S2 .i32),
  StableHlo.binary main_call0_call0_v128 main_call0_call0_v132 main_call0_call0_v133 (Host.shrui : T F S2 .i32 → T F S2 .i32 → T F S2 .i32),
  StableHlo.binary main_call0_call0_v131 main_call0_call0_v133 main_call0_call0_v134 (ori : T F S2 .i32 → T F S2 .i32 → T F S2 .i32),
  StableHlo.binary main_call0_call0_v129 main_call0_call0_v134 main_call0_call0_v135 (xori : T F S2 .i32 → T F S2 .i32 → T F S2 .i32),
  StableHlo.unary main_call0_v3 main_call0_call0_v136 ((broadcastInDim S2 ![] bcast_S_S2) : T F S_ .i32 → T F S2 .i32),
  StableHlo.binary main_call0_call0_v129 main_call0_call0_v136 main_call0_call0_v137 (addi : T F S2 .i32 → T F S2 .i32 → T F S2 .i32),
  StableHlo.unary main_call0_call0_v1 main_call0_call0_v138 ((broadcastInDim S2 ![] bcast_S_S2) : T F S_ .i32 → T F S2 .i32),
  StableHlo.binary main_call0_call0_v135 main_call0_call0_v138 main_call0_call0_v139 (addi : T F S2 .i32 → T F S2 .i32 → T F S2 .i32),
  StableHlo.nullary main_call0_call0_c_35 (constantI S_ 32 4#32),
  StableHlo.unary main_call0_call0_c_35 main_call0_call0_v140 ((broadcastInDim S2 ![] bcast_S_S2) : T F S_ .i32 → T F S2 .i32),
  StableHlo.binary main_call0_call0_v139 main_call0_call0_v140 main_call0_call0_v141 (addi : T F S2 .i32 → T F S2 .i32 → T F S2 .i32),
  StableHlo.binary main_call0_call0_v137 main_call0_call0_v141 main_call0_call0_v142 (addi : T F S2 .i32 → T F S2 .i32 → T F S2 .i32)]

/-- Stretch 8: operations 203 to 232. -/
noncomputable def seg8 : List ROp := [
  StableHlo.nullary main_call0_call0_c_36 (constantI S_ 32 13#32),
  StableHlo.unary main_call0_call0_c_36 main_call0_call0_v143 ((broadcastInDim S2 ![] bcast_S_S2) : T F S_ .i32 → T F S2 .i32),
  StableHlo.binary main_call0_call0_v141 main_call0_call0_v143 main_call0_call0_v144 (Host.shli : T F S2 .i32 → T F S2 .i32 → T F S2 .i32),
  StableHlo.nullary main_call0_call0_c_37 (constantI S_ 32 19#32),
  StableHlo.unary main_call0_call0_c_37 main_call0_call0_v145 ((broadcastInDim S2 ![] bcast_S_S2) : T F S_ .i32 → T F S2 .i32),
  StableHlo.binary main_call0_call0_v141 main_call0_call0_v145 main_call0_call0_v146 (Host.shrui : T F S2 .i32 → T F S2 .i32 → T F S2 .i32),
  StableHlo.binary main_call0_call0_v144 main_call0_call0_v146 main_call0_call0_v147 (ori : T F S2 .i32 → T F S2 .i32 → T F S2 .i32),
  StableHlo.binary main_call0_call0_v142 main_call0_call0_v147 main_call0_call0_v148 (xori : T F S2 .i32 → T F S2 .i32 → T F S2 .i32),
  StableHlo.binary main_call0_call0_v142 main_call0_call0_v148 main_call0_call0_v149 (addi : T F S2 .i32 → T F S2 .i32 → T F S2 .i32),
  StableHlo.nullary main_call0_call0_c_38 (constantI S_ 32 15#32),
  StableHlo.unary main_call0_call0_c_38 main_call0_call0_v150 ((broadcastInDim S2 ![] bcast_S_S2) : T F S_ .i32 → T F S2 .i32),
  StableHlo.binary main_call0_call0_v148 main_call0_call0_v150 main_call0_call0_v151 (Host.shli : T F S2 .i32 → T F S2 .i32 → T F S2 .i32),
  StableHlo.nullary main_call0_call0_c_39 (constantI S_ 32 17#32),
  StableHlo.unary main_call0_call0_c_39 main_call0_call0_v152 ((broadcastInDim S2 ![] bcast_S_S2) : T F S_ .i32 → T F S2 .i32),
  StableHlo.binary main_call0_call0_v148 main_call0_call0_v152 main_call0_call0_v153 (Host.shrui : T F S2 .i32 → T F S2 .i32 → T F S2 .i32),
  StableHlo.binary main_call0_call0_v151 main_call0_call0_v153 main_call0_call0_v154 (ori : T F S2 .i32 → T F S2 .i32 → T F S2 .i32),
  StableHlo.binary main_call0_call0_v149 main_call0_call0_v154 main_call0_call0_v155 (xori : T F S2 .i32 → T F S2 .i32 → T F S2 .i32),
  StableHlo.binary main_call0_call0_v149 main_call0_call0_v155 main_call0_call0_v156 (addi : T F S2 .i32 → T F S2 .i32 → T F S2 .i32),
  StableHlo.nullary main_call0_call0_c_40 (constantI S_ 32 26#32),
  StableHlo.unary main_call0_call0_c_40 main_call0_call0_v157 ((broadcastInDim S2 ![] bcast_S_S2) : T F S_ .i32 → T F S2 .i32),
  StableHlo.binary main_call0_call0_v155 main_call0_call0_v157 main_call0_call0_v158 (Host.shli : T F S2 .i32 → T F S2 .i32 → T F S2 .i32),
  StableHlo.nullary main_call0_call0_c_41 (constantI S_ 32 6#32),
  StableHlo.unary main_call0_call0_c_41 main_call0_call0_v159 ((broadcastInDim S2 ![] bcast_S_S2) : T F S_ .i32 → T F S2 .i32),
  StableHlo.binary main_call0_call0_v155 main_call0_call0_v159 main_call0_call0_v160 (Host.shrui : T F S2 .i32 → T F S2 .i32 → T F S2 .i32),
  StableHlo.binary main_call0_call0_v158 main_call0_call0_v160 main_call0_call0_v161 (ori : T F S2 .i32 → T F S2 .i32 → T F S2 .i32),
  StableHlo.binary main_call0_call0_v156 main_call0_call0_v161 main_call0_call0_v162 (xori : T F S2 .i32 → T F S2 .i32 → T F S2 .i32),
  StableHlo.binary main_call0_call0_v156 main_call0_call0_v162 main_call0_call0_v163 (addi : T F S2 .i32 → T F S2 .i32 → T F S2 .i32),
  StableHlo.nullary main_call0_call0_c_42 (constantI S_ 32 6#32),
  StableHlo.unary main_call0_call0_c_42 main_call0_call0_v164 ((broadcastInDim S2 ![] bcast_S_S2) : T F S_ .i32 → T F S2 .i32),
  StableHlo.binary main_call0_call0_v162 main_call0_call0_v164 main_call0_call0_v165 (Host.shli : T F S2 .i32 → T F S2 .i32 → T F S2 .i32)]

/-- Stretch 9: operations 233 to 244. -/
noncomputable def seg9 : List ROp := [
  StableHlo.nullary main_call0_call0_c_43 (constantI S_ 32 26#32),
  StableHlo.unary main_call0_call0_c_43 main_call0_call0_v166 ((broadcastInDim S2 ![] bcast_S_S2) : T F S_ .i32 → T F S2 .i32),
  StableHlo.binary main_call0_call0_v162 main_call0_call0_v166 main_call0_call0_v167 (Host.shrui : T F S2 .i32 → T F S2 .i32 → T F S2 .i32),
  StableHlo.binary main_call0_call0_v165 main_call0_call0_v167 main_call0_call0_v168 (ori : T F S2 .i32 → T F S2 .i32 → T F S2 .i32),
  StableHlo.binary main_call0_call0_v163 main_call0_call0_v168 main_call0_call0_v169 (xori : T F S2 .i32 → T F S2 .i32 → T F S2 .i32),
  StableHlo.unary main_call0_call0_v1 main_call0_call0_v170 ((broadcastInDim S2 ![] bcast_S_S2) : T F S_ .i32 → T F S2 .i32),
  StableHlo.binary main_call0_call0_v163 main_call0_call0_v170 main_call0_v11_0 (addi : T F S2 .i32 → T F S2 .i32 → T F S2 .i32),
  StableHlo.unary main_call0_v1 main_call0_call0_v172 ((broadcastInDim S2 ![] bcast_S_S2) : T F S_ .i32 → T F S2 .i32),
  StableHlo.binary main_call0_call0_v169 main_call0_call0_v172 main_call0_call0_v173 (addi : T F S2 .i32 → T F S2 .i32 → T F S2 .i32),
  StableHlo.nullary main_call0_call0_c_44 (constantI S_ 32 5#32),
  StableHlo.unary main_call0_call0_c_44 main_call0_call0_v174 ((broadcastInDim S2 ![] bcast_S_S2) : T F S_ .i32 → T F S2 .i32),
  StableHlo.binary main_call0_call0_v173 main_call0_call0_v174 main_call0_v11_1 (addi : T F S2 .i32 → T F S2 .i32 → T F S2 .i32)]

/-- Stretch 10: operations 245 to 247. -/
noncomputable def seg10 : List ROp := [
  StableHlo.unary main_call0_v11_0 main_call0_v12 ((broadcastInDim S2x1 ![0] bcast_S2_S2x1_0) : T F S2 .i32 → T F S2x1 .i32),
  StableHlo.unary main_call0_v11_1 main_call0_v13 ((broadcastInDim S2x1 ![0] bcast_S2_S2x1_0) : T F S2 .i32 → T F S2x1 .i32),
  StableHlo.binary main_call0_v12 main_call0_v13 main_v7 ((fun a b => concatenate S2x2 1 [⟨S2x1, a⟩, ⟨S2x1, b⟩] concatenates_S2x1_S2x1_S2x2_d1) : T F S2x1 .i32 → T F S2x1 .i32 → T F S2x2 .i32)]

/-- Stretch 11: operations 248 to 255. -/
noncomputable def seg11 : List ROp := [
  StableHlo.unary main_v7 main_v8 ((extractStridedSlice S1x2 ![0, 0] · slices_S2x2_S1x2_0_0) : T F S2x2 .i32 → T F S1x2 .i32),
  StableHlo.reshape main_v8 main_v9 (rfl : (.i32 : EltTy) = .i32) shapeCasts_S1x2_S2,
  StableHlo.unary main_v7 main_v10 ((extractStridedSlice S1x2 ![1, 0] · slices_S2x2_S1x2_1_0) : T F S2x2 .i32 → T F S1x2 .i32),
  StableHlo.reshape main_v10 main_v11 (rfl : (.i32 : EltTy) = .i32) shapeCasts_S1x2_S2,
  StableHlo.nullary main_cst (constant S_ .f32 0x1E3CE508#32),
  StableHlo.unary main_cst main_v12 (broadcastInDim S128x8192 ![] bcast_S_S128x8192 : T F S_ .f32 → T F S128x8192 .f32),
  StableHlo.binary main_arg0 main_v12 main_v13 (addf : T F S128x8192 .f32 → T F S128x8192 .f32 → T F S128x8192 .f32),
  StableHlo.unary main_v13 main_v14 (Host.log : T F S128x8192 .f32 → T F S128x8192 .f32)]

/-- Stretch 12: operations 256 to 257. -/
noncomputable def seg12 : List ROp := [
  StableHlo.nullary main_call1_cst (constant S_ .f32 0x3F800000#32),
  StableHlo.nullary main_call1_cst_0 (constant S_ .f32 0x00800000#32)]

/-- Stretch 13: operations 258 to 278. -/
noncomputable def seg13 : List ROp := [
  StableHlo.unary main_call1_cst main_call1_call0_v0 (id : T F S_ .f32 → T F S_ .f32),
  StableHlo.unary main_call1_cst_0 main_call1_call0_v1 ((broadcastInDim S1x1 ![] bcast_S_S1x1) : T F S_ .f32 → T F S1x1 .f32),
  StableHlo.unary main_call1_call0_v0 main_call1_call0_v2 ((broadcastInDim S1x1 ![] bcast_S_S1x1) : T F S_ .f32 → T F S1x1 .f32),
  StableHlo.unary main_v9 main_call1_call0_v3 ((extractStridedSlice S1 ![0] · slices_S2_S1_0) : T F S2 .i32 → T F S1 .i32),
  StableHlo.reshape main_call1_call0_v3 main_call1_call0_v4 (rfl : (.i32 : EltTy) = .i32) shapeCasts_S1_S_,
  StableHlo.unary main_v9 main_call1_call0_v5 ((extractStridedSlice S1 ![1] · slices_S2_S1_1) : T F S2 .i32 → T F S1 .i32),
  StableHlo.reshape main_call1_call0_v5 main_call1_call0_v6 (rfl : (.i32 : EltTy) = .i32) shapeCasts_S1_S_,
  StableHlo.nullary main_call1_call0_v7 (iotaInDim S128x8192 64 0),
  StableHlo.nullary main_call1_call0_v8 (iotaInDim S128x8192 64 1),
  StableHlo.nullary main_call1_call0_c (constantI S_ 64 8192#64),
  StableHlo.unary main_call1_call0_c main_call1_call0_v9 ((broadcastInDim S128x8192 ![] bcast_S_S128x8192) : T F S_ .i64 → T F S128x8192 .i64),
  StableHlo.binary main_call1_call0_v9 main_call1_call0_v7 main_call1_call0_v10 (muli : T F S128x8192 .i64 → T F S128x8192 .i64 → T F S128x8192 .i64),
  StableHlo.nullary main_call1_call0_c_0 (constantI S_ 64 1#64),
  StableHlo.unary main_call1_call0_c_0 main_call1_call0_v11 ((broadcastInDim S128x8192 ![] bcast_S_S128x8192) : T F S_ .i64 → T F S128x8192 .i64),
  StableHlo.binary main_call1_call0_v11 main_call1_call0_v8 main_call1_call0_v12 (muli : T F S128x8192 .i64 → T F S128x8192 .i64 → T F S128x8192 .i64),
  StableHlo.binary main_call1_call0_v10 main_call1_call0_v12 main_call1_call0_v13 (addi : T F S128x8192 .i64 → T F S128x8192 .i64 → T F S128x8192 .i64),
  StableHlo.nullary main_call1_call0_c_1 (constantI S_ 64 32#64),
  StableHlo.unary main_call1_call0_c_1 main_call1_call0_v14 ((broadcastInDim S128x8192 ![] bcast_S_S128x8192) : T F S_ .i64 → T F S128x8192 .i64),
  StableHlo.binary main_call1_call0_v13 main_call1_call0_v14 main_call1_call0_v15 (Host.shrui : T F S128x8192 .i64 → T F S128x8192 .i64 → T F S128x8192 .i64),
  StableHlo.unary main_call1_call0_v13 main_call1_call0_v16 ((trunci 32 · natLt_32_64) : T F S128x8192 .i64 → T F S128x8192 .i32),
  StableHlo.unary main_call1_call0_v15 main_call1_call0_v17 ((trunci 32 · natLt_32_64) : T F S128x8192 .i64 → T F S128x8192 .i32)]

/-- Stretch 14: operations 279 to 308. -/
noncomputable def seg14 : List ROp := [
  StableHlo.binary main_call1_call0_v4 main_call1_call0_v6 main_call1_call0_call0_v0 (xori : T F S_ .i32 → T F S_ .i32 → T F S_ .i32),
  StableHlo.nullary main_call1_call0_call0_c (constantI S_ 32 466688986#32),
  StableHlo.binary main_call1_call0_call0_v0 main_call1_call0_call0_c main_call1_call0_call0_v1 (xori : T F S_ .i32 → T F S_ .i32 → T F S_ .i32),
  StableHlo.unary main_call1_call0_v4 main_call1_call0_call0_v2 ((broadcastInDim S128x8192 ![] bcast_S_S128x8192) : T F S_ .i32 → T F S128x8192 .i32),
  StableHlo.binary main_call1_call0_v17 main_call1_call0_call0_v2 main_call1_call0_call0_v3 (addi : T F S128x8192 .i32 → T F S128x8192 .i32 → T F S128x8192 .i32),
  StableHlo.unary main_call1_call0_v6 main_call1_call0_call0_v4 ((broadcastInDim S128x8192 ![] bcast_S_S128x8192) : T F S_ .i32 → T F S128x8192 .i32),
  StableHlo.binary main_call1_call0_v16 main_call1_call0_call0_v4 main_call1_call0_call0_v5 (addi : T F S128x8192 .i32 → T F S128x8192 .i32 → T F S128x8192 .i32),
  StableHlo.binary main_call1_call0_call0_v3 main_call1_call0_call0_v5 main_call1_call0_call0_v6 (addi : T F S128x8192 .i32 → T F S128x8192 .i32 → T F S128x8192 .i32),
  StableHlo.nullary main_call1_call0_call0_c_0 (constantI S_ 32 13#32),
  StableHlo.unary main_call1_call0_call0_c_0 main_call1_call0_call0_v7 ((broadcastInDim S128x8192 ![] bcast_S_S128x8192) : T F S_ .i32 → T F S128x8192 .i32),
  StableHlo.binary main_call1_call0_call0_v5 main_call1_call0_call0_v7 main_call1_call0_call0_v8 (Host.shli : T F S128x8192 .i32 → T F S128x8192 .i32 → T F S128x8192 .i32),
  StableHlo.nullary main_call1_call0_call0_c_1 (constantI S_ 32 19#32),
  StableHlo.unary main_call1_call0_call0_c_1 main_call1_call0_call0_v9 ((broadcastInDim S128x8192 ![] bcast_S_S128x8192) : T F S_ .i32 → T F S128x8192 .i32),
  StableHlo.binary main_call1_call0_call0_v5 main_call1_call0_call0_v9 main_call1_call0_call0_v10 (Host.shrui : T F S128x8192 .i32 → T F S128x8192 .i32 → T F S128x8192 .i32),
  StableHlo.binary main_call1_call0_call0_v8 main_call1_call0_call0_v10 main_call1_call0_call0_v11 (ori : T F S128x8192 .i32 → T F S128x8192 .i32 → T F S128x8192 .i32),
  StableHlo.binary main_call1_call0_call0_v6 main_call1_call0_call0_v11 main_call1_call0_call0_v12 (xori : T F S128x8192 .i32 → T F S128x8192 .i32 → T F S128x8192 .i32),
  StableHlo.binary main_call1_call0_call0_v6 main_call1_call0_call0_v12 main_call1_call0_call0_v13 (addi : T F S128x8192 .i32 → T F S128x8192 .i32 → T F S128x8192 .i32),
  StableHlo.nullary main_call1_call0_call0_c_2 (constantI S_ 32 15#32),
  StableHlo.unary main_call1_call0_call0_c_2 main_call1_call0_call0_v14 ((broadcastInDim S128x8192 ![] bcast_S_S128x8192) : T F S_ .i32 → T F S128x8192 .i32),
  StableHlo.binary main_call1_call0_call0_v12 main_call1_call0_call0_v14 main_call1_call0_call0_v15 (Host.shli : T F S128x8192 .i32 → T F S128x8192 .i32 → T F S128x8192 .i32),
  StableHlo.nullary main_call1_call0_call0_c_3 (constantI S_ 32 17#32),
  StableHlo.unary main_call1_call0_call0_c_3 main_call1_call0_call0_v16 ((broadcastInDim S128x8192 ![] bcast_S_S128x8192) : T F S_ .i32 → T F S128x8192 .i32),
  StableHlo.binary main_call1_call0_call0_v12 main_call1_call0_call0_v16 main_call1_call0_call0_v17 (Host.shrui : T F S128x8192 .i32 → T F S128x8192 .i32 → T F S128x8192 .i32),
  StableHlo.binary main_call1_call0_call0_v15 main_call1_call0_call0_v17 main_call1_call0_call0_v18 (ori : T F S128x8192 .i32 → T F S128x8192 .i32 → T F S128x8192 .i32),
  StableHlo.binary main_call1_call0_call0_v13 main_call1_call0_call0_v18 main_call1_call0_call0_v19 (xori : T F S128x8192 .i32 → T F S128x8192 .i32 → T F S128x8192 .i32),
  StableHlo.binary main_call1_call0_call0_v13 main_call1_call0_call0_v19 main_call1_call0_call0_v20 (addi : T F S128x8192 .i32 → T F S128x8192 .i32 → T F S128x8192 .i32),
  StableHlo.nullary main_call1_call0_call0_c_4 (constantI S_ 32 26#32),
  StableHlo.unary main_call1_call0_call0_c_4 main_call1_call0_call0_v21 ((broadcastInDim S128x8192 ![] bcast_S_S128x8192) : T F S_ .i32 → T F S128x8192 .i32),
  StableHlo.binary main_call1_call0_call0_v19 main_call1_call0_call0_v21 main_call1_call0_call0_v22 (Host.shli : T F S128x8192 .i32 → T F S128x8192 .i32 → T F S128x8192 .i32),
  StableHlo.nullary main_call1_call0_call0_c_5 (constantI S_ 32 6#32)]

/-- Stretch 15: operations 309 to 338. -/
noncomputable def seg15 : List ROp := [
  StableHlo.unary main_call1_call0_call0_c_5 main_call1_call0_call0_v23 ((broadcastInDim S128x8192 ![] bcast_S_S128x8192) : T F S_ .i32 → T F S128x8192 .i32),
  StableHlo.binary main_call1_call0_call0_v19 main_call1_call0_call0_v23 main_call1_call0_call0_v24 (Host.shrui : T F S128x8192 .i32 → T F S128x8192 .i32 → T F S128x8192 .i32),
  StableHlo.binary main_call1_call0_call0_v22 main_call1_call0_call0_v24 main_call1_call0_call0_v25 (ori : T F S128x8192 .i32 → T F S128x8192 .i32 → T F S128x8192 .i32),
  StableHlo.binary main_call1_call0_call0_v20 main_call1_call0_call0_v25 main_call1_call0_call0_v26 (xori : T F S128x8192 .i32 → T F S128x8192 .i32 → T F S128x8192 .i32),
  StableHlo.binary main_call1_call0_call0_v20 main_call1_call0_call0_v26 main_call1_call0_call0_v27 (addi : T F S128x8192 .i32 → T F S128x8192 .i32 → T F S128x8192 .i32),
  StableHlo.nullary main_call1_call0_call0_c_6 (constantI S_ 32 6#32),
  StableHlo.unary main_call1_call0_call0_c_6 main_call1_call0_call0_v28 ((broadcastInDim S128x8192 ![] bcast_S_S128x8192) : T F S_ .i32 → T F S128x8192 .i32),
  StableHlo.binary main_call1_call0_call0_v26 main_call1_call0_call0_v28 main_call1_call0_call0_v29 (Host.shli : T F S128x8192 .i32 → T F S128x8192 .i32 → T F S128x8192 .i32),
  StableHlo.nullary main_call1_call0_call0_c_7 (constantI S_ 32 26#32),
  StableHlo.unary main_call1_call0_call0_c_7 main_call1_call0_call0_v30 ((broadcastInDim S128x8192 ![] bcast_S_S128x8192) : T F S_ .i32 → T F S128x8192 .i32),
  StableHlo.binary main_call1_call0_call0_v26 main_call1_call0_call0_v30 main_call1_call0_call0_v31 (Host.shrui : T F S128x8192 .i32 → T F S128x8192 .i32 → T F S128x8192 .i32),
  StableHlo.binary main_call1_call0_call0_v29 main_call1_call0_call0_v31 main_call1_call0_call0_v32 (ori : T F S128x8192 .i32 → T F S128x8192 .i32 → T F S128x8192 .i32),
  StableHlo.binary main_call1_call0_call0_v27 main_call1_call0_call0_v32 main_call1_call0_call0_v33 (xori : T F S128x8192 .i32 → T F S128x8192 .i32 → T F S128x8192 .i32),
  StableHlo.unary main_call1_call0_v6 main_call1_call0_call0_v34 ((broadcastInDim S128x8192 ![] bcast_S_S128x8192) : T F S_ .i32 → T F S128x8192 .i32),
  StableHlo.binary main_call1_call0_call0_v27 main_call1_call0_call0_v34 main_call1_call0_call0_v35 (addi : T F S128x8192 .i32 → T F S128x8192 .i32 → T F S128x8192 .i32),
  StableHlo.unary main_call1_call0_call0_v1 main_call1_call0_call0_v36 ((broadcastInDim S128x8192 ![] bcast_S_S128x8192) : T F S_ .i32 → T F S128x8192 .i32),
  StableHlo.binary main_call1_call0_call0_v33 main_call1_call0_call0_v36 main_call1_call0_call0_v37 (addi : T F S128x8192 .i32 → T F S128x8192 .i32 → T F S128x8192 .i32),
  StableHlo.nullary main_call1_call0_call0_c_8 (constantI S_ 32 1#32),
  StableHlo.unary main_call1_call0_call0_c_8 main_call1_call0_call0_v38 ((broadcastInDim S128x8192 ![] bcast_S_S128x8192) : T F S_ .i32 → T F S128x8192 .i32),
  StableHlo.binary main_call1_call0_call0_v37 main_call1_call0_call0_v38 main_call1_call0_call0_v39 (addi : T F S128x8192 .i32 → T F S128x8192 .i32 → T F S128x8192 .i32),
  StableHlo.binary main_call1_call0_call0_v35 main_call1_call0_call0_v39 main_call1_call0_call0_v40 (addi : T F S128x8192 .i32 → T F S128x8192 .i32 → T F S128x8192 .i32),
  StableHlo.nullary main_call1_call0_call0_c_9 (constantI S_ 32 17#32),
  StableHlo.unary main_call1_call0_call0_c_9 main_call1_call0_call0_v41 ((broadcastInDim S128x8192 ![] bcast_S_S128x8192) : T F S_ .i32 → T F S128x8192 .i32),
  StableHlo.binary main_call1_call0_call0_v39 main_call1_call0_call0_v41 main_call1_call0_call0_v42 (Host.shli : T F S128x8192 .i32 → T F S128x8192 .i32 → T F S128x8192 .i32),
  StableHlo.nullary main_call1_call0_call0_c_10 (constantI S_ 32 15#32),
  StableHlo.unary main_call1_call0_call0_c_10 main_call1_call0_call0_v43 ((broadcastInDim S128x8192 ![] bcast_S_S128x8192) : T F S_ .i32 → T F S128x8192 .i32),
  StableHlo.binary main_call1_call0_call0_v39 main_call1_call0_call0_v43 main_call1_call0_call0_v44 (Host.shrui : T F S128x8192 .i32 → T F S128x8192 .i32 → T F S128x8192 .i32),
  StableHlo.binary main_call1_call0_call0_v42 main_call1_call0_call0_v44 main_call1_call0_call0_v45 (ori : T F S128x8192 .i32 → T F S128x8192 .i32 → T F S128x8192 .i32),
  StableHlo.binary main_call1_call0_call0_v40 main_call1_call0_call0_v45 main_call1_call0_call0_v46 (xori : T F S128x8192 .i32 → T F S128x8192 .i32 → T F S128x8192 .i32),
  StableHlo.binary main_call1_call0_call0_v40 main_call1_call0_call0_v46 main_call1_call0_call0_v47 (addi : T F S128x8192 .i32 → T F S128x8192 .i32 → T F S128x8192 .i32)]

/-- Stretch 16: operations 339 to 368. -/
noncomputable def seg16 : List ROp := [
  StableHlo.nullary main_call1_call0_call0_c_11 (constantI S_ 32 29#32),
  StableHlo.unary main_call1_call0_call0_c_11 main_call1_call0_call0_v48 ((broadcastInDim S128x8192 ![] bcast_S_S128x8192) : T F S_ .i32 → T F S128x8192 .i32),
  StableHlo.binary main_call1_call0_call0_v46 main_call1_call0_call0_v48 main_call1_call0_call0_v49 (Host.shli : T F S128x8192 .i32 → T F S128x8192 .i32 → T F S128x8192 .i32),
  StableHlo.nullary main_call1_call0_call0_c_12 (constantI S_ 32 3#32),
  StableHlo.unary main_call1_call0_call0_c_12 main_call1_call0_call0_v50 ((broadcastInDim S128x8192 ![] bcast_S_S128x8192) : T F S_ .i32 → T F S128x8192 .i32),
  StableHlo.binary main_call1_call0_call0_v46 main_call1_call0_call0_v50 main_call1_call0_call0_v51 (Host.shrui : T F S128x8192 .i32 → T F S128x8192 .i32 → T F S128x8192 .i32),
  StableHlo.binary main_call1_call0_call0_v49 main_call1_call0_call0_v51 main_call1_call0_call0_v52 (ori : T F S128x8192 .i32 → T F S128x8192 .i32 → T F S128x8192 .i32),
  StableHlo.binary main_call1_call0_call0_v47 main_call1_call0_call0_v52 main_call1_call0_call0_v53 (xori : T F S128x8192 .i32 → T F S128x8192 .i32 → T F S128x8192 .i32),
  StableHlo.binary main_call1_call0_call0_v47 main_call1_call0_call0_v53 main_call1_call0_call0_v54 (addi : T F S128x8192 .i32 → T F S128x8192 .i32 → T F S128x8192 .i32),
  StableHlo.nullary main_call1_call0_call0_c_13 (constantI S_ 32 16#32),
  StableHlo.unary main_call1_call0_call0_c_13 main_call1_call0_call0_v55 ((broadcastInDim S128x8192 ![] bcast_S_S128x8192) : T F S_ .i32 → T F S128x8192 .i32),
  StableHlo.binary main_call1_call0_call0_v53 main_call1_call0_call0_v55 main_call1_call0_call0_v56 (Host.shli : T F S128x8192 .i32 → T F S128x8192 .i32 → T F S128x8192 .i32),
  StableHlo.nullary main_call1_call0_call0_c_14 (constantI S_ 32 16#32),
  StableHlo.unary main_call1_call0_call0_c_14 main_call1_call0_call0_v57 ((broadcastInDim S128x8192 ![] bcast_S_S128x8192) : T F S_ .i32 → T F S128x8192 .i32),
  StableHlo.binary main_call1_call0_call0_v53 main_call1_call0_call0_v57 main_call1_call0_call0_v58 (Host.shrui : T F S128x8192 .i32 → T F S128x8192 .i32 → T F S128x8192 .i32),
  StableHlo.binary main_call1_call0_call0_v56 main_call1_call0_call0_v58 main_call1_call0_call0_v59 (ori : T F S128x8192 .i32 → T F S128x8192 .i32 → T F S128x8192 .i32),
  StableHlo.binary main_call1_call0_call0_v54 main_call1_call0_call0_v59 main_call1_call0_call0_v60 (xori : T F S128x8192 .i32 → T F S128x8192 .i32 → T F S128x8192 .i32),
  StableHlo.binary main_call1_call0_call0_v54 main_call1_call0_call0_v60 main_call1_call0_call0_v61 (addi : T F S128x8192 .i32 → T F S128x8192 .i32 → T F S128x8192 .i32),
  StableHlo.nullary main_call1_call0_call0_c_15 (constantI S_ 32 24#32),
  StableHlo.unary main_call1_call0_call0_c_15 main_call1_call0_call0_v62 ((broadcastInDim S128x8192 ![] bcast_S_S128x8192) : T F S_ .i32 → T F S128x8192 .i32),
  StableHlo.binary main_call1_call0_call0_v60 main_call1_call0_call0_v62 main_call1_call0_call0_v63 (Host.shli : T F S128x8192 .i32 → T F S128x8192 .i32 → T F S128x8192 .i32),
  StableHlo.nullary main_call1_call0_call0_c_16 (constantI S_ 32 8#32),
  StableHlo.unary main_call1_call0_call0_c_16 main_call1_call0_call0_v64 ((broadcastInDim S128x8192 ![] bcast_S_S128x8192) : T F S_ .i32 → T F S128x8192 .i32),
  StableHlo.binary main_call1_call0_call0_v60 main_call1_call0_call0_v64 main_call1_call0_call0_v65 (Host.shrui : T F S128x8192 .i32 → T F S128x8192 .i32 → T F S128x8192 .i32),
  StableHlo.binary main_call1_call0_call0_v63 main_call1_call0_call0_v65 main_call1_call0_call0_v66 (ori : T F S128x8192 .i32 → T F S128x8192 .i32 → T F S128x8192 .i32),
  StableHlo.binary main_call1_call0_call0_v61 main_call1_call0_call0_v66 main_call1_call0_call0_v67 (xori : T F S128x8192 .i32 → T F S128x8192 .i32 → T F S128x8192 .i32),
  StableHlo.unary main_call1_call0_call0_v1 main_call1_call0_call0_v68 ((broadcastInDim S128x8192 ![] bcast_S_S128x8192) : T F S_ .i32 → T F S128x8192 .i32),
  StableHlo.binary main_call1_call0_call0_v61 main_call1_call0_call0_v68 main_call1_call0_call0_v69 (addi : T F S128x8192 .i32 → T F S128x8192 .i32 → T F S128x8192 .i32),
  StableHlo.unary main_call1_call0_v4 main_call1_call0_call0_v70 ((broadcastInDim S128x8192 ![] bcast_S_S128x8192) : T F S_ .i32 → T F S128x8192 .i32),
  StableHlo.binary main_call1_call0_call0_v67 main_call1_call0_call0_v70 main_call1_call0_call0_v71 (addi : T F S128x8192 .i32 → T F S128x8192 .i32 → T F S128x8192 .i32)]

/-- Stretch 17: operations 369 to 398. -/
noncomputable def seg17 : List ROp := [
  StableHlo.nullary main_call1_call0_call0_c_17 (constantI S_ 32 2#32),
  StableHlo.unary main_call1_call0_call0_c_17 main_call1_call0_call0_v72 ((broadcastInDim S128x8192 ![] bcast_S_S128x8192) : T F S_ .i32 → T F S128x8192 .i32),
  StableHlo.binary main_call1_call0_call0_v71 main_call1_call0_call0_v72 main_call1_call0_call0_v73 (addi : T F S128x8192 .i32 → T F S128x8192 .i32 → T F S128x8192 .i32),
  StableHlo.binary main_call1_call0_call0_v69 main_call1_call0_call0_v73 main_call1_call0_call0_v74 (addi : T F S128x8192 .i32 → T F S128x8192 .i32 → T F S128x8192 .i32),
  StableHlo.nullary main_call1_call0_call0_c_18 (constantI S_ 32 13#32),
  StableHlo.unary main_call1_call0_call0_c_18 main_call1_call0_call0_v75 ((broadcastInDim S128x8192 ![] bcast_S_S128x8192) : T F S_ .i32 → T F S128x8192 .i32),
  StableHlo.binary main_call1_call0_call0_v73 main_call1_call0_call0_v75 main_call1_call0_call0_v76 (Host.shli : T F S128x8192 .i32 → T F S128x8192 .i32 → T F S128x8192 .i32),
  StableHlo.nullary main_call1_call0_call0_c_19 (constantI S_ 32 19#32),
  StableHlo.unary main_call1_call0_call0_c_19 main_call1_call0_call0_v77 ((broadcastInDim S128x8192 ![] bcast_S_S128x8192) : T F S_ .i32 → T F S128x8192 .i32),
  StableHlo.binary main_call1_call0_call0_v73 main_call1_call0_call0_v77 main_call1_call0_call0_v78 (Host.shrui : T F S128x8192 .i32 → T F S128x8192 .i32 → T F S128x8192 .i32),
  StableHlo.binary main_call1_call0_call0_v76 main_call1_call0_call0_v78 main_call1_call0_call0_v79 (ori : T F S128x8192 .i32 → T F S128x8192 .i32 → T F S128x8192 .i32),
  StableHlo.binary main_call1_call0_call0_v74 main_call1_call0_call0_v79 main_call1_call0_call0_v80 (xori : T F S128x8192 .i32 → T F S128x8192 .i32 → T F S128x8192 .i32),
  StableHlo.binary main_call1_call0_call0_v74 main_call1_call0_call0_v80 main_call1_call0_call0_v81 (addi : T F S128x8192 .i32 → T F S128x8192 .i32 → T F S128x8192 .i32),
  StableHlo.nullary main_call1_call0_call0_c_20 (constantI S_ 32 15#32),
  StableHlo.unary main_call1_call0_call0_c_20 main_call1_call0_call0_v82 ((broadcastInDim S128x8192 ![] bcast_S_S128x8192) : T F S_ .i32 → T F S128x8192 .i32),
  StableHlo.binary main_call1_call0_call0_v80 main_call1_call0_call0_v82 main_call1_call0_call0_v83 (Host.shli : T F S128x8192 .i32 → T F S128x8192 .i32 → T F S128x8192 .i32),
  StableHlo.nullary main_call1_call0_call0_c_21 (constantI S_ 32 17#32),
  StableHlo.unary main_call1_call0_call0_c_21 main_call1_call0_call0_v84 ((broadcastInDim S128x8192 ![] bcast_S_S128x8192) : T F S_ .i32 → T F S128x8192 .i32),
  StableHlo.binary main_call1_call0_call0_v80 main_call1_call0_call0_v84 main_call1_call0_call0_v85 (Host.shrui : T F S128x8192 .i32 → T F S128x8192 .i32 → T F S128x8192 .i32),
  StableHlo.binary main_call1_call0_call0_v83 main_call1_call0_call0_v85 main_call1_call0_call0_v86 (ori : T F S128x8192 .i32 → T F S128x8192 .i32 → T F S128x8192 .i32),
  StableHlo.binary main_call1_call0_call0_v81 main_call1_call0_call0_v86 main_call1_call0_call0_v87 (xori : T F S128x8192 .i32 → T F S128x8192 .i32 → T F S128x8192 .i32),
  StableHlo.binary main_call1_call0_call0_v81 main_call1_call0_call0_v87 main_call1_call0_call0_v88 (addi : T F S128x8192 .i32 → T F S128x8192 .i32 → T F S128x8192 .i32),
  StableHlo.nullary main_call1_call0_call0_c_22 (constantI S_ 32 26#32),
  StableHlo.unary main_call1_call0_call0_c_22 main_call1_call0_call0_v89 ((broadcastInDim S128x8192 ![] bcast_S_S128x8192) : T F S_ .i32 → T F S128x8192 .i32),
  StableHlo.binary main_call1_call0_call0_v87 main_call1_call0_call0_v89 main_call1_call0_call0_v90 (Host.shli : T F S128x8192 .i32 → T F S128x8192 .i32 → T F S128x8192 .i32),
  StableHlo.nullary main_call1_call0_call0_c_23 (constantI S_ 32 6#32),
  StableHlo.unary main_call1_call0_call0_c_23 main_call1_call0_call0_v91 ((broadcastInDim S128x8192 ![] bcast_S_S128x8192) : T F S_ .i32 → T F S128x8192 .i32),
  StableHlo.binary main_call1_call0_call0_v87 main_call1_call0_call0_v91 main_call1_call0_call0_v92 (Host.shrui : T F S128x8192 .i32 → T F S128x8192 .i32 → T F S128x8192 .i32),
  StableHlo.binary main_call1_call0_call0_v90 main_call1_call0_call0_v92 main_call1_call0_call0_v93 (ori : T F S128x8192 .i32 → T F S128x8192 .i32 → T F S128x8192 .i32),
  StableHlo.binary main_call1_call0_call0_v88 main_call1_call0_call0_v93 main_call1_call0_call0_v94 (xori : T F S128x8192 .i32 → T F S128x8192 .i32 → T F S128x8192 .i32)]

/-- Stretch 18: operations 399 to 428. -/
noncomputable def seg18 : List ROp := [
  StableHlo.binary main_call1_call0_call0_v88 main_call1_call0_call0_v94 main_call1_call0_call0_v95 (addi : T F S128x8192 .i32 → T F S128x8192 .i32 → T F S128x8192 .i32),
  StableHlo.nullary main_call1_call0_call0_c_24 (constantI S_ 32 6#32),
  StableHlo.unary main_call1_call0_call0_c_24 main_call1_call0_call0_v96 ((broadcastInDim S128x8192 ![] bcast_S_S128x8192) : T F S_ .i32 → T F S128x8192 .i32),
  StableHlo.binary main_call1_call0_call0_v94 main_call1_call0_call0_v96 main_call1_call0_call0_v97 (Host.shli : T F S128x8192 .i32 → T F S128x8192 .i32 → T F S128x8192 .i32),
  StableHlo.nullary main_call1_call0_call0_c_25 (constantI S_ 32 26#32),
  StableHlo.unary main_call1_call0_call0_c_25 main_call1_call0_call0_v98 ((broadcastInDim S128x8192 ![] bcast_S_S128x8192) : T F S_ .i32 → T F S128x8192 .i32),
  StableHlo.binary main_call1_call0_call0_v94 main_call1_call0_call0_v98 main_call1_call0_call0_v99 (Host.shrui : T F S128x8192 .i32 → T F S128x8192 .i32 → T F S128x8192 .i32),
  StableHlo.binary main_call1_call0_call0_v97 main_call1_call0_call0_v99 main_call1_call0_call0_v100 (ori : T F S128x8192 .i32 → T F S128x8192 .i32 → T F S128x8192 .i32),
  StableHlo.binary main_call1_call0_call0_v95 main_call1_call0_call0_v100 main_call1_call0_call0_v101 (xori : T F S128x8192 .i32 → T F S128x8192 .i32 → T F S128x8192 .i32),
  StableHlo.unary main_call1_call0_v4 main_call1_call0_call0_v102 ((broadcastInDim S128x8192 ![] bcast_S_S128x8192) : T F S_ .i32 → T F S128x8192 .i32),
  StableHlo.binary main_call1_call0_call0_v95 main_call1_call0_call0_v102 main_call1_call0_call0_v103 (addi : T F S128x8192 .i32 → T F S128x8192 .i32 → T F S128x8192 .i32),
  StableHlo.unary main_call1_call0_v6 main_call1_call0_call0_v104 ((broadcastInDim S128x8192 ![] bcast_S_S128x8192) : T F S_ .i32 → T F S128x8192 .i32),
  StableHlo.binary main_call1_call0_call0_v101 main_call1_call0_call0_v104 main_call1_call0_call0_v105 (addi : T F S128x8192 .i32 → T F S128x8192 .i32 → T F S128x8192 .i32),
  StableHlo.nullary main_call1_call0_call0_c_26 (constantI S_ 32 3#32),
  StableHlo.unary main_call1_call0_call0_c_26 main_call1_call0_call0_v106 ((broadcastInDim S128x8192 ![] bcast_S_S128x8192) : T F S_ .i32 → T F S128x8192 .i32),
  StableHlo.binary main_call1_call0_call0_v105 main_call1_call0_call0_v106 main_call1_call0_call0_v107 (addi : T F S128x8192 .i32 → T F S128x8192 .i32 → T F S128x8192 .i32),
  StableHlo.binary main_call1_call0_call0_v103 main_call1_call0_call0_v107 main_call1_call0_call0_v108 (addi : T F S128x8192 .i32 → T F S128x8192 .i32 → T F S128x8192 .i32),
  StableHlo.nullary main_call1_call0_call0_c_27 (constantI S_ 32 17#32),
  StableHlo.unary main_call1_call0_call0_c_27 main_call1_call0_call0_v109 ((broadcastInDim S128x8192 ![] bcast_S_S128x8192) : T F S_ .i32 → T F S128x8192 .i32),
  StableHlo.binary main_call1_call0_call0_v107 main_call1_call0_call0_v109 main_call1_call0_call0_v110 (Host.shli : T F S128x8192 .i32 → T F S128x8192 .i32 → T F S128x8192 .i32),
  StableHlo.nullary main_call1_call0_call0_c_28 (constantI S_ 32 15#32),
  StableHlo.unary main_call1_call0_call0_c_28 main_call1_call0_call0_v111 ((broadcastInDim S128x8192 ![] bcast_S_S128x8192) : T F S_ .i32 → T F S128x8192 .i32),
  StableHlo.binary main_call1_call0_call0_v107 main_call1_call0_call0_v111 main_call1_call0_call0_v112 (Host.shrui : T F S128x8192 .i32 → T F S128x8192 .i32 → T F S128x8192 .i32),
  StableHlo.binary main_call1_call0_call0_v110 main_call1_call0_call0_v112 main_call1_call0_call0_v113 (ori : T F S128x8192 .i32 → T F S128x8192 .i32 → T F S128x8192 .i32),
  StableHlo.binary main_call1_call0_call0_v108 main_call1_call0_call0_v113 main_call1_call0_call0_v114 (xori : T F S128x8192 .i32 → T F S128x8192 .i32 → T F S128x8192 .i32),
  StableHlo.binary main_call1_call0_call0_v108 main_call1_call0_call0_v114 main_call1_call0_call0_v115 (addi : T F S128x8192 .i32 → T F S128x8192 .i32 → T F S128x8192 .i32),
  StableHlo.nullary main_call1_call0_call0_c_29 (constantI S_ 32 29#32),
  StableHlo.unary main_call1_call0_call0_c_29 main_call1_call0_call0_v116 ((broadcastInDim S128x8192 ![] bcast_S_S128x8192) : T F S_ .i32 → T F S128x8192 .i32),
  StableHlo.binary main_call1_call0_call0_v114 main_call1_call0_call0_v116 main_call1_call0_call0_v117 (Host.shli : T F S128x8192 .i32 → T F S128x8192 .i32 → T F S128x8192 .i32),
  StableHlo.nullary main_call1_call0_call0_c_30 (constantI S_ 32 3#32)]

/-- Stretch 19: operations 429 to 458. -/
noncomputable def seg19 : List ROp := [
  StableHlo.unary main_call1_call0_call0_c_30 main_call1_call0_call0_v118 ((broadcastInDim S128x8192 ![] bcast_S_S128x8192) : T F S_ .i32 → T F S128x8192 .i32),
  StableHlo.binary main_call1_call0_call0_v114 main_call1_call0_call0_v118 main_call1_call0_call0_v119 (Host.shrui : T F S128x8192 .i32 → T F S128x8192 .i32 → T F S128x8192 .i32),
  StableHlo.binary main_call1_call0_call0_v117 main_call1_call0_call0_v119 main_call1_call0_call0_v120 (ori : T F S128x8192 .i32 → T F S128x8192 .i32 → T F S128x8192 .i32),
  StableHlo.binary main_call1_call0_call0_v115 main_call1_call0_call0_v120 main_call1_call0_call0_v121 (xori : T F S128x8192 .i32 → T F S128x8192 .i32 → T F S128x8192 .i32),
  StableHlo.binary main_call1_call0_call0_v115 main_call1_call0_call0_v121 main_call1_call0_call0_v122 (addi : T F S128x8192 .i32 → T F S128x8192 .i32 → T F S128x8192 .i32),
  StableHlo.nullary main_call1_call0_call0_c_31 (constantI S_ 32 16#32),
  StableHlo.unary main_call1_call0_call0_c_31 main_call1_call0_call0_v123 ((broadcastInDim S128x8192 ![] bcast_S_S128x8192) : T F S_ .i32 → T F S128x8192 .i32),
  StableHlo.binary main_call1_call0_call0_v121 main_call1_call0_call0_v123 main_call1_call0_call0_v124 (Host.shli : T F S128x8192 .i32 → T F S128x8192 .i32 → T F S128x8192 .i32),
  StableHlo.nullary main_call1_call0_call0_c_32 (constantI S_ 32 16#32),
  StableHlo.unary main_call1_call0_call0_c_32 main_call1_call0_call0_v125 ((broadcastInDim S128x8192 ![] bcast_S_S128x8192) : T F S_ .i32 → T F S128x8192 .i32),
  StableHlo.binary main_call1_call0_call0_v121 main_call1_call0_call0_v125 main_call1_call0_call0_v126 (Host.shrui : T F S128x8192 .i32 → T F S128x8192 .i32 → T F S128x8192 .i32),
  StableHlo.binary main_call1_call0_call0_v124 main_call1_call0_call0_v126 main_call1_call0_call0_v127 (ori : T F S128x8192 .i32 → T F S128x8192 .i32 → T F S128x8192 .i32),
  StableHlo.binary main_call1_call0_call0_v122 main_call1_call0_call0_v127 main_call1_call0_call0_v128 (xori : T F S128x8192 .i32 → T F S128x8192 .i32 → T F S128x8192 .i32),
  StableHlo.binary main_call1_call0_call0_v122 main_call1_call0_call0_v128 main_call1_call0_call0_v129 (addi : T F S128x8192 .i32 → T F S128x8192 .i32 → T F S128x8192 .i32),
  StableHlo.nullary main_call1_call0_call0_c_33 (constantI S_ 32 24#32),
  StableHlo.unary main_call1_call0_call0_c_33 main_call1_call0_call0_v130 ((broadcastInDim S128x8192 ![] bcast_S_S128x8192) : T F S_ .i32 → T F S128x8192 .i32),
  StableHlo.binary main_call1_call0_call0_v128 main_call1_call0_call0_v130 main_call1_call0_call0_v131 (Host.shli : T F S128x8192 .i32 → T F S128x8192 .i32 → T F S128x8192 .i32),
  StableHlo.nullary main_call1_call0_call0_c_34 (constantI S_ 32 8#32),
  StableHlo.unary main_call1_call0_call0_c_34 main_call1_call0_call0_v132 ((broadcastInDim S128x8192 ![] bcast_S_S128x8192) : T F S_ .i32 → T F S128x8192 .i32),
  StableHlo.binary main_call1_call0_call0_v128 main_call1_call0_call0_v132 main_call1_call0_call0_v133 (Host.shrui : T F S128x8192 .i32 → T F S128x8192 .i32 → T F S128x8192 .i32),
  StableHlo.binary main_call1_call0_call0_v131 main_call1_call0_call0_v133 main_call1_call0_call0_v134 (ori : T F S128x8192 .i32 → T F S128x8192 .i32 → T F S128x8192 .i32),
  StableHlo.binary main_call1_call0_call0_v129 main_call1_call0_call0_v134 main_call1_call0_call0_v135 (xori : T F S128x8192 .i32 → T F S128x8192 .i32 → T F S128x8192 .i32),
  StableHlo.unary main_call1_call0_v6 main_call1_call0_call0_v136 ((broadcastInDim S128x8192 ![] bcast_S_S128x8192) : T F S_ .i32 → T F S128x8192 .i32),
  StableHlo.binary main_call1_call0_call0_v129 main_call1_call0_call0_v136 main_call1_call0_call0_v137 (addi : T F S128x8192 .i32 → T F S128x8192 .i32 → T F S128x8192 .i32),
  StableHlo.unary main_call1_call0_call0_v1 main_call1_call0_call0_v138 ((broadcastInDim S128x8192 ![] bcast_S_S128x8192) : T F S_ .i32 → T F S128x8192 .i32),
  StableHlo.binary main_call1_call0_call0_v135 main_call1_call0_call0_v138 main_call1_call0_call0_v139 (addi : T F S128x8192 .i32 → T F S128x8192 .i32 → T F S128x8192 .i32),
  StableHlo.nullary main_call1_call0_call0_c_35 (constantI S_ 32 4#32),
  StableHlo.unary main_call1_call0_call0_c_35 main_call1_call0_call0_v140 ((broadcastInDim S128x8192 ![] bcast_S_S128x8192) : T F S_ .i32 → T F S128x8192 .i32),
  StableHlo.binary main_call1_call0_call0_v139 main_call1_call0_call0_v140 main_call1_call0_call0_v141 (addi : T F S128x8192 .i32 → T F S128x8192 .i32 → T F S128x8192 .i32),
  StableHlo.binary main_call1_call0_call0_v137 main_call1_call0_call0_v141 main_call1_call0_call0_v142 (addi : T F S128x8192 .i32 → T F S128x8192 .i32 → T F S128x8192 .i32)]

/-- Stretch 20: operations 459 to 488. -/
noncomputable def seg20 : List ROp := [
  StableHlo.nullary main_call1_call0_call0_c_36 (constantI S_ 32 13#32),
  StableHlo.unary main_call1_call0_call0_c_36 main_call1_call0_call0_v143 ((broadcastInDim S128x8192 ![] bcast_S_S128x8192) : T F S_ .i32 → T F S128x8192 .i32),
  StableHlo.binary main_call1_call0_call0_v141 main_call1_call0_call0_v143 main_call1_call0_call0_v144 (Host.shli : T F S128x8192 .i32 → T F S128x8192 .i32 → T F S128x8192 .i32),
  StableHlo.nullary main_call1_call0_call0_c_37 (constantI S_ 32 19#32),
  StableHlo.unary main_call1_call0_call0_c_37 main_call1_call0_call0_v145 ((broadcastInDim S128x8192 ![] bcast_S_S128x8192) : T F S_ .i32 → T F S128x8192 .i32),
  StableHlo.binary main_call1_call0_call0_v141 main_call1_call0_call0_v145 main_call1_call0_call0_v146 (Host.shrui : T F S128x8192 .i32 → T F S128x8192 .i32 → T F S128x8192 .i32),
  StableHlo.binary main_call1_call0_call0_v144 main_call1_call0_call0_v146 main_call1_call0_call0_v147 (ori : T F S128x8192 .i32 → T F S128x8192 .i32 → T F S128x8192 .i32),
  StableHlo.binary main_call1_call0_call0_v142 main_call1_call0_call0_v147 main_call1_call0_call0_v148 (xori : T F S128x8192 .i32 → T F S128x8192 .i32 → T F S128x8192 .i32),
  StableHlo.binary main_call1_call0_call0_v142 main_call1_call0_call0_v148 main_call1_call0_call0_v149 (addi : T F S128x8192 .i32 → T F S128x8192 .i32 → T F S128x8192 .i32),
  StableHlo.nullary main_call1_call0_call0_c_38 (constantI S_ 32 15#32),
  StableHlo.unary main_call1_call0_call0_c_38 main_call1_call0_call0_v150 ((broadcastInDim S128x8192 ![] bcast_S_S128x8192) : T F S_ .i32 → T F S128x8192 .i32),
  StableHlo.binary main_call1_call0_call0_v148 main_call1_call0_call0_v150 main_call1_call0_call0_v151 (Host.shli : T F S128x8192 .i32 → T F S128x8192 .i32 → T F S128x8192 .i32),
  StableHlo.nullary main_call1_call0_call0_c_39 (constantI S_ 32 17#32),
  StableHlo.unary main_call1_call0_call0_c_39 main_call1_call0_call0_v152 ((broadcastInDim S128x8192 ![] bcast_S_S128x8192) : T F S_ .i32 → T F S128x8192 .i32),
  StableHlo.binary main_call1_call0_call0_v148 main_call1_call0_call0_v152 main_call1_call0_call0_v153 (Host.shrui : T F S128x8192 .i32 → T F S128x8192 .i32 → T F S128x8192 .i32),
  StableHlo.binary main_call1_call0_call0_v151 main_call1_call0_call0_v153 main_call1_call0_call0_v154 (ori : T F S128x8192 .i32 → T F S128x8192 .i32 → T F S128x8192 .i32),
  StableHlo.binary main_call1_call0_call0_v149 main_call1_call0_call0_v154 main_call1_call0_call0_v155 (xori : T F S128x8192 .i32 → T F S128x8192 .i32 → T F S128x8192 .i32),
  StableHlo.binary main_call1_call0_call0_v149 main_call1_call0_call0_v155 main_call1_call0_call0_v156 (addi : T F S128x8192 .i32 → T F S128x8192 .i32 → T F S128x8192 .i32),
  StableHlo.nullary main_call1_call0_call0_c_40 (constantI S_ 32 26#32),
  StableHlo.unary main_call1_call0_call0_c_40 main_call1_call0_call0_v157 ((broadcastInDim S128x8192 ![] bcast_S_S128x8192) : T F S_ .i32 → T F S128x8192 .i32),
  StableHlo.binary main_call1_call0_call0_v155 main_call1_call0_call0_v157 main_call1_call0_call0_v158 (Host.shli : T F S128x8192 .i32 → T F S128x8192 .i32 → T F S128x8192 .i32),
  StableHlo.nullary main_call1_call0_call0_c_41 (constantI S_ 32 6#32),
  StableHlo.unary main_call1_call0_call0_c_41 main_call1_call0_call0_v159 ((broadcastInDim S128x8192 ![] bcast_S_S128x8192) : T F S_ .i32 → T F S128x8192 .i32),
  StableHlo.binary main_call1_call0_call0_v155 main_call1_call0_call0_v159 main_call1_call0_call0_v160 (Host.shrui : T F S128x8192 .i32 → T F S128x8192 .i32 → T F S128x8192 .i32),
  StableHlo.binary main_call1_call0_call0_v158 main_call1_call0_call0_v160 main_call1_call0_call0_v161 (ori : T F S128x8192 .i32 → T F S128x8192 .i32 → T F S128x8192 .i32),
  StableHlo.binary main_call1_call0_call0_v156 main_call1_call0_call0_v161 main_call1_call0_call0_v162 (xori : T F S128x8192 .i32 → T F S128x8192 .i32 → T F S128x8192 .i32),
  StableHlo.binary main_call1_call0_call0_v156 main_call1_call0_call0_v162 main_call1_call0_call0_v163 (addi : T F S128x8192 .i32 → T F S128x8192 .i32 → T F S128x8192 .i32),
  StableHlo.nullary main_call1_call0_call0_c_42 (constantI S_ 32 6#32),
  StableHlo.unary main_call1_call0_call0_c_42 main_call1_call0_call0_v164 ((broadcastInDim S128x8192 ![] bcast_S_S128x8192) : T F S_ .i32 → T F S128x8192 .i32),
  StableHlo.binary main_call1_call0_call0_v162 main_call1_call0_call0_v164 main_call1_call0_call0_v165 (Host.shli : T F S128x8192 .i32 → T F S128x8192 .i32 → T F S128x8192 .i32)]

/-- Stretch 21: operations 489 to 500. -/
noncomputable def seg21 : List ROp := [
  StableHlo.nullary main_call1_call0_call0_c_43 (constantI S_ 32 26#32),
  StableHlo.unary main_call1_call0_call0_c_43 main_call1_call0_call0_v166 ((broadcastInDim S128x8192 ![] bcast_S_S128x8192) : T F S_ .i32 → T F S128x8192 .i32),
  StableHlo.binary main_call1_call0_call0_v162 main_call1_call0_call0_v166 main_call1_call0_call0_v167 (Host.shrui : T F S128x8192 .i32 → T F S128x8192 .i32 → T F S128x8192 .i32),
  StableHlo.binary main_call1_call0_call0_v165 main_call1_call0_call0_v167 main_call1_call0_call0_v168 (ori : T F S128x8192 .i32 → T F S128x8192 .i32 → T F S128x8192 .i32),
  StableHlo.binary main_call1_call0_call0_v163 main_call1_call0_call0_v168 main_call1_call0_call0_v169 (xori : T F S128x8192 .i32 → T F S128x8192 .i32 → T F S128x8192 .i32),
  StableHlo.unary main_call1_call0_call0_v1 main_call1_call0_call0_v170 ((broadcastInDim S128x8192 ![] bcast_S_S128x8192) : T F S_ .i32 → T F S128x8192 .i32),
  StableHlo.binary main_call1_call0_call0_v163 main_call1_call0_call0_v170 main_call1_call0_v18_0 (addi : T F S128x8192 .i32 → T F S128x8192 .i32 → T F S128x8192 .i32),
  StableHlo.unary main_call1_call0_v4 main_call1_call0_call0_v172 ((broadcastInDim S128x8192 ![] bcast_S_S128x8192) : T F S_ .i32 → T F S128x8192 .i32),
  StableHlo.binary main_call1_call0_call0_v169 main_call1_call0_call0_v172 main_call1_call0_call0_v173 (addi : T F S128x8192 .i32 → T F S128x8192 .i32 → T F S128x8192 .i32),
  StableHlo.nullary main_call1_call0_call0_c_44 (constantI S_ 32 5#32),
  StableHlo.unary main_call1_call0_call0_c_44 main_call1_call0_call0_v174 ((broadcastInDim S128x8192 ![] bcast_S_S128x8192) : T F S_ .i32 → T F S128x8192 .i32),
  StableHlo.binary main_call1_call0_call0_v173 main_call1_call0_call0_v174 main_call1_call0_v18_1 (addi : T F S128x8192 .i32 → T F S128x8192 .i32 → T F S128x8192 .i32)]

/-- Stretch 22: operations 501 to 518. -/
noncomputable def seg22 : List ROp := [
  StableHlo.binary main_call1_call0_v18_0 main_call1_call0_v18_1 main_call1_call0_v19 (xori : T F S128x8192 .i32 → T F S128x8192 .i32 → T F S128x8192 .i32),
  StableHlo.nullary main_call1_call0_c_2 (constantI S_ 32 9#32),
  StableHlo.unary main_call1_call0_c_2 main_call1_call0_v20 ((broadcastInDim S128x8192 ![] bcast_S_S128x8192) : T F S_ .i32 → T F S128x8192 .i32),
  StableHlo.binary main_call1_call0_v19 main_call1_call0_v20 main_call1_call0_v21 (Host.shrui : T F S128x8192 .i32 → T F S128x8192 .i32 → T F S128x8192 .i32),
  StableHlo.nullary main_call1_call0_c_3 (constantI S_ 32 1065353216#32),
  StableHlo.unary main_call1_call0_c_3 main_call1_call0_v22 ((broadcastInDim S128x8192 ![] bcast_S_S128x8192) : T F S_ .i32 → T F S128x8192 .i32),
  StableHlo.binary main_call1_call0_v21 main_call1_call0_v22 main_call1_call0_v23 (ori : T F S128x8192 .i32 → T F S128x8192 .i32 → T F S128x8192 .i32),
  StableHlo.unary main_call1_call0_v23 main_call1_call0_v24 ((bitcastToFloat .f32) : T F S128x8192 .i32 → T F S128x8192 .f32),
  StableHlo.nullary main_call1_call0_cst (constant S_ .f32 0x3F800000#32),
  StableHlo.unary main_call1_call0_cst main_call1_call0_v25 ((broadcastInDim S128x8192 ![] bcast_S_S128x8192) : T F S_ .f32 → T F S128x8192 .f32),
  StableHlo.binary main_call1_call0_v24 main_call1_call0_v25 main_call1_call0_v26 (subf : T F S128x8192 .f32 → T F S128x8192 .f32 → T F S128x8192 .f32),
  StableHlo.binary main_call1_call0_v2 main_call1_call0_v1 main_call1_call0_v27 (subf : T F S1x1 .f32 → T F S1x1 .f32 → T F S1x1 .f32),
  StableHlo.unary main_call1_call0_v27 main_call1_call0_v28 ((broadcastInDim S128x8192 ![0, 1] bcast_S1x1_S128x8192_0_1) : T F S1x1 .f32 → T F S128x8192 .f32),
  StableHlo.binary main_call1_call0_v26 main_call1_call0_v28 main_call1_call0_v29 (mulf : T F S128x8192 .f32 → T F S128x8192 .f32 → T F S128x8192 .f32),
  StableHlo.unary main_call1_call0_v1 main_call1_call0_v30 ((broadcastInDim S128x8192 ![0, 1] bcast_S1x1_S128x8192_0_1) : T F S1x1 .f32 → T F S128x8192 .f32),
  StableHlo.binary main_call1_call0_v29 main_call1_call0_v30 main_call1_call0_v31 (addf : T F S128x8192 .f32 → T F S128x8192 .f32 → T F S128x8192 .f32),
  StableHlo.unary main_call1_call0_v1 main_call1_call0_v32 ((broadcastInDim S128x8192 ![0, 1] bcast_S1x1_S128x8192_0_1) : T F S1x1 .f32 → T F S128x8192 .f32),
  StableHlo.binary main_call1_call0_v32 main_call1_call0_v31 main_call1_v0 (maximumf : T F S128x8192 .f32 → T F S128x8192 .f32 → T F S128x8192 .f32)]

/-- Stretch 23: operations 519 to 522. -/
noncomputable def seg23 : List ROp := [
  StableHlo.unary main_call1_v0 main_call1_v1 (Host.log : T F S128x8192 .f32 → T F S128x8192 .f32),
  StableHlo.unary main_call1_v1 main_call1_v2 (Host.negf : T F S128x8192 .f32 → T F S128x8192 .f32),
  StableHlo.unary main_call1_v2 main_call1_v3 (Host.log : T F S128x8192 .f32 → T F S128x8192 .f32),
  StableHlo.unary main_call1_v3 main_v15 (Host.negf : T F S128x8192 .f32 → T F S128x8192 .f32)]

/-- Stretch 24: operations 523 to 523. -/
noncomputable def seg24 : List ROp := [
  StableHlo.binary main_v15 main_v14 main_v16 (addf : T F S128x8192 .f32 → T F S128x8192 .f32 → T F S128x8192 .f32)]

/-- Stretch 25: operations 524 to 528. -/
noncomputable def seg25 : List ROp := [
  StableHlo.nullary main_call2_v0 (iotaInDim S128x8192 32 1),
  StableHlo.nullary main_call2_cst (constant S_ .f32 0xFF800000#32),
  StableHlo.nullary main_call2_c (constantI S_ 32 0#32),
  StableHlo.quaternary main_v16 main_call2_v0 main_call2_cst main_call2_c main_call2_v1_0 ((fun x y u v j => (Host.argReduce reducer_argmax_f32_i32 x y u v reducesTo_S128x8192_S128_d1 h_S_ j).1) : T F S128x8192 .f32 → T F S128x8192 .i32 → T F S_ .f32 → T F S_ .i32 → T F S128 .f32),
  StableHlo.quaternary main_v16 main_call2_v0 main_call2_cst main_call2_c main_v17 ((fun x y u v j => (Host.argReduce reducer_argmax_f32_i32 x y u v reducesTo_S128x8192_S128_d1 h_S_ j).2) : T F S128x8192 .f32 → T F S128x8192 .i32 → T F S_ .f32 → T F S_ .i32 → T F S128 .i32)]

/-- Stretch 26: operations 529 to 530. -/
noncomputable def seg26 : List ROp := [
  StableHlo.nullary main_cst_2 (constant S_ .f32 0x00000000#32),
  StableHlo.nullary main_cst_3 (constant S_ .f32 0x39800000#32)]

/-- Stretch 27: operations 531 to 547. -/
noncomputable def seg27 : List ROp := [
  StableHlo.unary main_cst_2 main_call3_v0 (id : T F S_ .f32 → T F S_ .f32),
  StableHlo.unary main_cst_3 main_call3_v1 (id : T F S_ .f32 → T F S_ .f32),
  StableHlo.unary main_call3_v0 main_call3_v2 ((broadcastInDim S1 ![] bcast_S_S1) : T F S_ .f32 → T F S1 .f32),
  StableHlo.unary main_call3_v1 main_call3_v3 ((broadcastInDim S1 ![] bcast_S_S1) : T F S_ .f32 → T F S1 .f32),
  StableHlo.unary main_v11 main_call3_v4 ((extractStridedSlice S1 ![0] · slices_S2_S1_0) : T F S2 .i32 → T F S1 .i32),
  StableHlo.reshape main_call3_v4 main_call3_v5 (rfl : (.i32 : EltTy) = .i32) shapeCasts_S1_S_,
  StableHlo.unary main_v11 main_call3_v6 ((extractStridedSlice S1 ![1] · slices_S2_S1_1) : T F S2 .i32 → T F S1 .i32),
  StableHlo.reshape main_call3_v6 main_call3_v7 (rfl : (.i32 : EltTy) = .i32) shapeCasts_S1_S_,
  StableHlo.nullary main_call3_v8 (iotaInDim S128 64 0),
  StableHlo.nullary main_call3_c (constantI S_ 64 1#64),
  StableHlo.unary main_call3_c main_call3_v9 ((broadcastInDim S128 ![] bcast_S_S128) : T F S_ .i64 → T F S128 .i64),
  StableHlo.binary main_call3_v9 main_call3_v8 main_call3_v10 (muli : T F S128 .i64 → T F S128 .i64 → T F S128 .i64),
  StableHlo.nullary main_call3_c_0 (constantI S_ 64 32#64),
  StableHlo.unary main_call3_c_0 main_call3_v11 ((broadcastInDim S128 ![] bcast_S_S128) : T F S_ .i64 → T F S128 .i64),
  StableHlo.binary main_call3_v10 main_call3_v11 main_call3_v12 (Host.shrui : T F S128 .i64 → T F S128 .i64 → T F S128 .i64),
  StableHlo.unary main_call3_v10 main_call3_v13 ((trunci 32 · natLt_32_64) : T F S128 .i64 → T F S128 .i32),
  StableHlo.unary main_call3_v12 main_call3_v14 ((trunci 32 · natLt_32_64) : T F S128 .i64 → T F S128 .i32)]

/-- Stretch 28: operations 548 to 577. -/
noncomputable def seg28 : List ROp := [
  StableHlo.binary main_call3_v5 main_call3_v7 main_call3_call0_v0 (xori : T F S_ .i32 → T F S_ .i32 → T F S_ .i32),
  StableHlo.nullary main_call3_call0_c (constantI S_ 32 466688986#32),
  StableHlo.binary main_call3_call0_v0 main_call3_call0_c main_call3_call0_v1 (xori : T F S_ .i32 → T F S_ .i32 → T F S_ .i32),
  StableHlo.unary main_call3_v5 main_call3_call0_v2 ((broadcastInDim S128 ![] bcast_S_S128) : T F S_ .i32 → T F S128 .i32),
  StableHlo.binary main_call3_v14 main_call3_call0_v2 main_call3_call0_v3 (addi : T F S128 .i32 → T F S128 .i32 → T F S128 .i32),
  StableHlo.unary main_call3_v7 main_call3_call0_v4 ((broadcastInDim S128 ![] bcast_S_S128) : T F S_ .i32 → T F S128 .i32),
  StableHlo.binary main_call3_v13 main_call3_call0_v4 main_call3_call0_v5 (addi : T F S128 .i32 → T F S128 .i32 → T F S128 .i32),
  StableHlo.binary main_call3_call0_v3 main_call3_call0_v5 main_call3_call0_v6 (addi : T F S128 .i32 → T F S128 .i32 → T F S128 .i32),
  StableHlo.nullary main_call3_call0_c_0 (constantI S_ 32 13#32),
  StableHlo.unary main_call3_call0_c_0 main_call3_call0_v7 ((broadcastInDim S128 ![] bcast_S_S128) : T F S_ .i32 → T F S128 .i32),
  StableHlo.binary main_call3_call0_v5 main_call3_call0_v7 main_call3_call0_v8 (Host.shli : T F S128 .i32 → T F S128 .i32 → T F S128 .i32),
  StableHlo.nullary main_call3_call0_c_1 (constantI S_ 32 19#32),
  StableHlo.unary main_call3_call0_c_1 main_call3_call0_v9 ((broadcastInDim S128 ![] bcast_S_S128) : T F S_ .i32 → T F S128 .i32),
  StableHlo.binary main_call3_call0_v5 main_call3_call0_v9 main_call3_call0_v10 (Host.shrui : T F S128 .i32 → T F S128 .i32 → T F S128 .i32),
  StableHlo.binary main_call3_call0_v8 main_call3_call0_v10 main_call3_call0_v11 (ori : T F S128 .i32 → T F S128 .i32 → T F S128 .i32),
  StableHlo.binary main_call3_call0_v6 main_call3_call0_v11 main_call3_call0_v12 (xori : T F S128 .i32 → T F S128 .i32 → T F S128 .i32),
  StableHlo.binary main_call3_call0_v6 main_call3_call0_v12 main_call3_call0_v13 (addi : T F S128 .i32 → T F S128 .i32 → T F S128 .i32),
  StableHlo.nullary main_call3_call0_c_2 (constantI S_ 32 15#32),
  StableHlo.unary main_call3_call0_c_2 main_call3_call0_v14 ((broadcastInDim S128 ![] bcast_S_S128) : T F S_ .i32 → T F S128 .i32),
  StableHlo.binary main_call3_call0_v12 main_call3_call0_v14 main_call3_call0_v15 (Host.shli : T F S128 .i32 → T F S128 .i32 → T F S128 .i32),
  StableHlo.nullary main_call3_call0_c_3 (constantI S_ 32 17#32),
  StableHlo.unary main_call3_call0_c_3 main_call3_call0_v16 ((broadcastInDim S128 ![] bcast_S_S128) : T F S_ .i32 → T F S128 .i32),
  StableHlo.binary main_call3_call0_v12 main_call3_call0_v16 main_call3_call0_v17 (Host.shrui : T F S128 .i32 → T F S128 .i32 → T F S128 .i32),
  StableHlo.binary main_call3_call0_v15 main_call3_call0_v17 main_call3_call0_v18 (ori : T F S128 .i32 → T F S128 .i32 → T F S128 .i32),
  StableHlo.binary main_call3_call0_v13 main_call3_call0_v18 main_call3_call0_v19 (xori : T F S128 .i32 → T F S128 .i32 → T F S128 .i32),
  StableHlo.binary main_call3_call0_v13 main_call3_call0_v19 main_call3_call0_v20 (addi : T F S128 .i32 → T F S128 .i32 → T F S128 .i32),
  StableHlo.nullary main_call3_call0_c_4 (constantI S_ 32 26#32),
  StableHlo.unary main_call3_call0_c_4 main_call3_call0_v21 ((broadcastInDim S128 ![] bcast_S_S128) : T F S_ .i32 → T F S128 .i32),
  StableHlo.binary main_call3_call0_v19 main_call3_call0_v21 main_call3_call0_v22 (Host.shli : T F S128 .i32 → T F S128 .i32 → T F S128 .i32),
  StableHlo.nullary main_call3_call0_c_5 (constantI S_ 32 6#32)]

/-- Stretch 29: operations 578 to 607. -/
noncomputable def seg29 : List ROp := [
  StableHlo.unary main_call3_call0_c_5 main_call3_call0_v23 ((broadcastInDim S128 ![] bcast_S_S128) : T F S_ .i32 → T F S128 .i32),
  StableHlo.binary main_call3_call0_v19 main_call3_call0_v23 main_call3_call0_v24 (Host.shrui : T F S128 .i32 → T F S128 .i32 → T F S128 .i32),
  StableHlo.binary main_call3_call0_v22 main_call3_call0_v24 main_call3_call0_v25 (ori : T F S128 .i32 → T F S128 .i32 → T F S128 .i32),
  StableHlo.binary main_call3_call0_v20 main_call3_call0_v25 main_call3_call0_v26 (xori : T F S128 .i32 → T F S128 .i32 → T F S128 .i32),
  StableHlo.binary main_call3_call0_v20 main_call3_call0_v26 main_call3_call0_v27 (addi : T F S128 .i32 → T F S128 .i32 → T F S128 .i32),
  StableHlo.nullary main_call3_call0_c_6 (constantI S_ 32 6#32),
  StableHlo.unary main_call3_call0_c_6 main_call3_call0_v28 ((broadcastInDim S128 ![] bcast_S_S128) : T F S_ .i32 → T F S128 .i32),
  StableHlo.binary main_call3_call0_v26 main_call3_call0_v28 main_call3_call0_v29 (Host.shli : T F S128 .i32 → T F S128 .i32 → T F S128 .i32),
  StableHlo.nullary main_call3_call0_c_7 (constantI S_ 32 26#32),
  StableHlo.unary main_call3_call0_c_7 main_call3_call0_v30 ((broadcastInDim S128 ![] bcast_S_S128) : T F S_ .i32 → T F S128 .i32),
  StableHlo.binary main_call3_call0_v26 main_call3_call0_v30 main_call3_call0_v31 (Host.shrui : T F S128 .i32 → T F S128 .i32 → T F S128 .i32),
  StableHlo.binary main_call3_call0_v29 main_call3_call0_v31 main_call3_call0_v32 (ori : T F S128 .i32 → T F S128 .i32 → T F S128 .i32),
  StableHlo.binary main_call3_call0_v27 main_call3_call0_v32 main_call3_call0_v33 (xori : T F S128 .i32 → T F S128 .i32 → T F S128 .i32),
  StableHlo.unary main_call3_v7 main_call3_call0_v34 ((broadcastInDim S128 ![] bcast_S_S128) : T F S_ .i32 → T F S128 .i32),
  StableHlo.binary main_call3_call0_v27 main_call3_call0_v34 main_call3_call0_v35 (addi : T F S128 .i32 → T F S128 .i32 → T F S128 .i32),
  StableHlo.unary main_call3_call0_v1 main_call3_call0_v36 ((broadcastInDim S128 ![] bcast_S_S128) : T F S_ .i32 → T F S128 .i32),
  StableHlo.binary main_call3_call0_v33 main_call3_call0_v36 main_call3_call0_v37 (addi : T F S128 .i32 → T F S128 .i32 → T F S128 .i32),
  StableHlo.nullary main_call3_call0_c_8 (constantI S_ 32 1#32),
  StableHlo.unary main_call3_call0_c_8 main_call3_call0_v38 ((broadcastInDim S128 ![] bcast_S_S128) : T F S_ .i32 → T F S128 .i32),
  StableHlo.binary main_call3_call0_v37 main_call3_call0_v38 main_call3_call0_v39 (addi : T F S128 .i32 → T F S128 .i32 → T F S128 .i32),
  StableHlo.binary main_call3_call0_v35 main_call3_call0_v39 main_call3_call0_v40 (addi : T F S128 .i32 → T F S128 .i32 → T F S128 .i32),
  StableHlo.nullary main_call3_call0_c_9 (constantI S_ 32 17#32),
  StableHlo.unary main_call3_call0_c_9 main_call3_call0_v41 ((broadcastInDim S128 ![] bcast_S_S128) : T F S_ .i32 → T F S128 .i32),
  StableHlo.binary main_call3_call0_v39 main_call3_call0_v41 main_call3_call0_v42 (Host.shli : T F S128 .i32 → T F S128 .i32 → T F S128 .i32),
  StableHlo.nullary main_call3_call0_c_10 (constantI S_ 32 15#32),
  StableHlo.unary main_call3_call0_c_10 main_call3_call0_v43 ((broadcastInDim S128 ![] bcast_S_S128) : T F S_ .i32 → T F S128 .i32),
  StableHlo.binary main_call3_call0_v39 main_call3_call0_v43 main_call3_call0_v44 (Host.shrui : T F S128 .i32 → T F S128 .i32 → T F S128 .i32),
  StableHlo.binary main_call3_call0_v42 main_call3_call0_v44 main_call3_call0_v45 (ori : T F S128 .i32 → T F S128 .i32 → T F S128 .i32),
  StableHlo.binary main_call3_call0_v40 main_call3_call0_v45 main_call3_call0_v46 (xori : T F S128 .i32 → T F S128 .i32 → T F S128 .i32),
  StableHlo.binary main_call3_call0_v40 main_call3_call0_v46 main_call3_call0_v47 (addi : T F S128 .i32 → T F S128 .i32 → T F S128 .i32)]

/-- Stretch 30: operations 608 to 637. -/
noncomputable def seg30 : List ROp := [
  StableHlo.nullary main_call3_call0_c_11 (constantI S_ 32 29#32),
  StableHlo.unary main_call3_call0_c_11 main_call3_call0_v48 ((broadcastInDim S128 ![] bcast_S_S128) : T F S_ .i32 → T F S128 .i32),
  StableHlo.binary main_call3_call0_v46 main_call3_call0_v48 main_call3_call0_v49 (Host.shli : T F S128 .i32 → T F S128 .i32 → T F S128 .i32),
  StableHlo.nullary main_call3_call0_c_12 (constantI S_ 32 3#32),
  StableHlo.unary main_call3_call0_c_12 main_call3_call0_v50 ((broadcastInDim S128 ![] bcast_S_S128) : T F S_ .i32 → T F S128 .i32),
  StableHlo.binary main_call3_call0_v46 main_call3_call0_v50 main_call3_call0_v51 (Host.shrui : T F S128 .i32 → T F S128 .i32 → T F S128 .i32),
  StableHlo.binary main_call3_call0_v49 main_call3_call0_v51 main_call3_call0_v52 (ori : T F S128 .i32 → T F S128 .i32 → T F S128 .i32),
  StableHlo.binary main_call3_call0_v47 main_call3_call0_v52 main_call3_call0_v53 (xori : T F S128 .i32 → T F S128 .i32 → T F S128 .i32),
  StableHlo.binary main_call3_call0_v47 main_call3_call0_v53 main_call3_call0_v54 (addi : T F S128 .i32 → T F S128 .i32 → T F S128 .i32),
  StableHlo.nullary main_call3_call0_c_13 (constantI S_ 32 16#32),
  StableHlo.unary main_call3_call0_c_13 main_call3_call0_v55 ((broadcastInDim S128 ![] bcast_S_S128) : T F S_ .i32 → T F S128 .i32),
  StableHlo.binary main_call3_call0_v53 main_call3_call0_v55 main_call3_call0_v56 (Host.shli : T F S128 .i32 → T F S128 .i32 → T F S128 .i32),
  StableHlo.nullary main_call3_call0_c_14 (constantI S_ 32 16#32),
  StableHlo.unary main_call3_call0_c_14 main_call3_call0_v57 ((broadcastInDim S128 ![] bcast_S_S128) : T F S_ .i32 → T F S128 .i32),
  StableHlo.binary main_call3_call0_v53 main_call3_call0_v57 main_call3_call0_v58 (Host.shrui : T F S128 .i32 → T F S128 .i32 → T F S128 .i32),
  StableHlo.binary main_call3_call0_v56 main_call3_call0_v58 main_call3_call0_v59 (ori : T F S128 .i32 → T F S128 .i32 → T F S128 .i32),
  StableHlo.binary main_call3_call0_v54 main_call3_call0_v59 main_call3_call0_v60 (xori : T F S128 .i32 → T F S128 .i32 → T F S128 .i32),
  StableHlo.binary main_call3_call0_v54 main_call3_call0_v60 main_call3_call0_v61 (addi : T F S128 .i32 → T F S128 .i32 → T F S128 .i32),
  StableHlo.nullary main_call3_call0_c_15 (constantI S_ 32 24#32),
  StableHlo.unary main_call3_call0_c_15 main_call3_call0_v62 ((broadcastInDim S128 ![] bcast_S_S128) : T F S_ .i32 → T F S128 .i32),
  StableHlo.binary main_call3_call0_v60 main_call3_call0_v62 main_call3_call0_v63 (Host.shli : T F S128 .i32 → T F S128 .i32 → T F S128 .i32),
  StableHlo.nullary main_call3_call0_c_16 (constantI S_ 32 8#32),
  StableHlo.unary main_call3_call0_c_16 main_call3_call0_v64 ((broadcastInDim S128 ![] bcast_S_S128) : T F S_ .i32 → T F S128 .i32),
  StableHlo.binary main_call3_call0_v60 main_call3_call0_v64 main_call3_call0_v65 (Host.shrui : T F S128 .i32 → T F S128 .i32 → T F S128 .i32),
  StableHlo.binary main_call3_call0_v63 main_call3_call0_v65 main_call3_call0_v66 (ori : T F S128 .i32 → T F S128 .i32 → T F S128 .i32),
  StableHlo.binary main_call3_call0_v61 main_call3_call0_v66 main_call3_call0_v67 (xori : T F S128 .i32 → T F S128 .i32 → T F S128 .i32),
  StableHlo.unary main_call3_call0_v1 main_call3_call0_v68 ((broadcastInDim S128 ![] bcast_S_S128) : T F S_ .i32 → T F S128 .i32),
  StableHlo.binary main_call3_call0_v61 main_call3_call0_v68 main_call3_call0_v69 (addi : T F S128 .i32 → T F S128 .i32 → T F S128 .i32),
  StableHlo.unary main_call3_v5 main_call3_call0_v70 ((broadcastInDim S128 ![] bcast_S_S128) : T F S_ .i32 → T F S128 .i32),
  StableHlo.binary main_call3_call0_v67 main_call3_call0_v70 main_call3_call0_v71 (addi : T F S128 .i32 → T F S128 .i32 → T F S128 .i32)]

/-- Stretch 31: operations 638 to 667. -/
noncomputable def seg31 : List ROp := [
  StableHlo.nullary main_call3_call0_c_17 (constantI S_ 32 2#32),
  StableHlo.unary main_call3_call0_c_17 main_call3_call0_v72 ((broadcastInDim S128 ![] bcast_S_S128) : T F S_ .i32 → T F S128 .i32),
  StableHlo.binary main_call3_call0_v71 main_call3_call0_v72 main_call3_call0_v73 (addi : T F S128 .i32 → T F S128 .i32 → T F S128 .i32),
  StableHlo.binary main_call3_call0_v69 main_call3_call0_v73 main_call3_call0_v74 (addi : T F S128 .i32 → T F S128 .i32 → T F S128 .i32),
  StableHlo.nullary main_call3_call0_c_18 (constantI S_ 32 13#32),
  StableHlo.unary main_call3_call0_c_18 main_call3_call0_v75 ((broadcastInDim S128 ![] bcast_S_S128) : T F S_ .i32 → T F S128 .i32),
  StableHlo.binary main_call3_call0_v73 main_call3_call0_v75 main_call3_call0_v76 (Host.shli : T F S128 .i32 → T F S128 .i32 → T F S128 .i32),
  StableHlo.nullary main_call3_call0_c_19 (constantI S_ 32 19#32),
  StableHlo.unary main_call3_call0_c_19 main_call3_call0_v77 ((broadcastInDim S128 ![] bcast_S_S128) : T F S_ .i32 → T F S128 .i32),
  StableHlo.binary main_call3_call0_v73 main_call3_call0_v77 main_call3_call0_v78 (Host.shrui : T F S128 .i32 → T F S128 .i32 → T F S128 .i32),
  StableHlo.binary main_call3_call0_v76 main_call3_call0_v78 main_call3_call0_v79 (ori : T F S128 .i32 → T F S128 .i32 → T F S128 .i32),
  StableHlo.binary main_call3_call0_v74 main_call3_call0_v79 main_call3_call0_v80 (xori : T F S128 .i32 → T F S128 .i32 → T F S128 .i32),
  StableHlo.binary main_call3_call0_v74 main_call3_call0_v80 main_call3_call0_v81 (addi : T F S128 .i32 → T F S128 .i32 → T F S128 .i32),
  StableHlo.nullary main_call3_call0_c_20 (constantI S_ 32 15#32),
  StableHlo.unary main_call3_call0_c_20 main_call3_call0_v82 ((broadcastInDim S128 ![] bcast_S_S128) : T F S_ .i32 → T F S128 .i32),
  StableHlo.binary main_call3_call0_v80 main_call3_call0_v82 main_call3_call0_v83 (Host.shli : T F S128 .i32 → T F S128 .i32 → T F S128 .i32),
  StableHlo.nullary main_call3_call0_c_21 (constantI S_ 32 17#32),
  StableHlo.unary main_call3_call0_c_21 main_call3_call0_v84 ((broadcastInDim S128 ![] bcast_S_S128) : T F S_ .i32 → T F S128 .i32),
  StableHlo.binary main_call3_call0_v80 main_call3_call0_v84 main_call3_call0_v85 (Host.shrui : T F S128 .i32 → T F S128 .i32 → T F S128 .i32),
  StableHlo.binary main_call3_call0_v83 main_call3_call0_v85 main_call3_call0_v86 (ori : T F S128 .i32 → T F S128 .i32 → T F S128 .i32),
  StableHlo.binary main_call3_call0_v81 main_call3_call0_v86 main_call3_call0_v87 (xori : T F S128 .i32 → T F S128 .i32 → T F S128 .i32),
  StableHlo.binary main_call3_call0_v81 main_call3_call0_v87 main_call3_call0_v88 (addi : T F S128 .i32 → T F S128 .i32 → T F S128 .i32),
  StableHlo.nullary main_call3_call0_c_22 (constantI S_ 32 26#32),
  StableHlo.unary main_call3_call0_c_22 main_call3_call0_v89 ((broadcastInDim S128 ![] bcast_S_S128) : T F S_ .i32 → T F S128 .i32),
  StableHlo.binary main_call3_call0_v87 main_call3_call0_v89 main_call3_call0_v90 (Host.shli : T F S128 .i32 → T F S128 .i32 → T F S128 .i32),
  StableHlo.nullary main_call3_call0_c_23 (constantI S_ 32 6#32),
  StableHlo.unary main_call3_call0_c_23 main_call3_call0_v91 ((broadcastInDim S128 ![] bcast_S_S128) : T F S_ .i32 → T F S128 .i32),
  StableHlo.binary main_call3_call0_v87 main_call3_call0_v91 main_call3_call0_v92 (Host.shrui : T F S128 .i32 → T F S128 .i32 → T F S128 .i32),
  StableHlo.binary main_call3_call0_v90 main_call3_call0_v92 main_call3_call0_v93 (ori : T F S128 .i32 → T F S128 .i32 → T F S128 .i32),
  StableHlo.binary main_call3_call0_v88 main_call3_call0_v93 main_call3_call0_v94 (xori : T F S128 .i32 → T F S128 .i32 → T F S128 .i32)]

/-- Stretch 32: operations 668 to 697. -/
noncomputable def seg32 : List ROp := [
  StableHlo.binary main_call3_call0_v88 main_call3_call0_v94 main_call3_call0_v95 (addi : T F S128 .i32 → T F S128 .i32 → T F S128 .i32),
  StableHlo.nullary main_call3_call0_c_24 (constantI S_ 32 6#32),
  StableHlo.unary main_call3_call0_c_24 main_call3_call0_v96 ((broadcastInDim S128 ![] bcast_S_S128) : T F S_ .i32 → T F S128 .i32),
  StableHlo.binary main_call3_call0_v94 main_call3_call0_v96 main_call3_call0_v97 (Host.shli : T F S128 .i32 → T F S128 .i32 → T F S128 .i32),
  StableHlo.nullary main_call3_call0_c_25 (constantI S_ 32 26#32),
  StableHlo.unary main_call3_call0_c_25 main_call3_call0_v98 ((broadcastInDim S128 ![] bcast_S_S128) : T F S_ .i32 → T F S128 .i32),
  StableHlo.binary main_call3_call0_v94 main_call3_call0_v98 main_call3_call0_v99 (Host.shrui : T F S128 .i32 → T F S128 .i32 → T F S128 .i32),
  StableHlo.binary main_call3_call0_v97 main_call3_call0_v99 main_call3_call0_v100 (ori : T F S128 .i32 → T F S128 .i32 → T F S128 .i32),
  StableHlo.binary main_call3_call0_v95 main_call3_call0_v100 main_call3_call0_v101 (xori : T F S128 .i32 → T F S128 .i32 → T F S128 .i32),
  StableHlo.unary main_call3_v5 main_call3_call0_v102 ((broadcastInDim S128 ![] bcast_S_S128) : T F S_ .i32 → T F S128 .i32),
  StableHlo.binary main_call3_call0_v95 main_call3_call0_v102 main_call3_call0_v103 (addi : T F S128 .i32 → T F S128 .i32 → T F S128 .i32),
  StableHlo.unary main_call3_v7 main_call3_call0_v104 ((broadcastInDim S128 ![] bcast_S_S128) : T F S_ .i32 → T F S128 .i32),
  StableHlo.binary main_call3_call0_v101 main_call3_call0_v104 main_call3_call0_v105 (addi : T F S128 .i32 → T F S128 .i32 → T F S128 .i32),
  StableHlo.nullary main_call3_call0_c_26 (constantI S_ 32 3#32),
  StableHlo.unary main_call3_call0_c_26 main_call3_call0_v106 ((broadcastInDim S128 ![] bcast_S_S128) : T F S_ .i32 → T F S128 .i32),
  StableHlo.binary main_call3_call0_v105 main_call3_call0_v106 main_call3_call0_v107 (addi : T F S128 .i32 → T F S128 .i32 → T F S128 .i32),
  StableHlo.binary main_call3_call0_v103 main_call3_call0_v107 main_call3_call0_v108 (addi : T F S128 .i32 → T F S128 .i32 → T F S128 .i32),
  StableHlo.nullary main_call3_call0_c_27 (constantI S_ 32 17#32),
  StableHlo.unary main_call3_call0_c_27 main_call3_call0_v109 ((broadcastInDim S128 ![] bcast_S_S128) : T F S_ .i32 → T F S128 .i32),
  StableHlo.binary main_call3_call0_v107 main_call3_call0_v109 main_call3_call0_v110 (Host.shli : T F S128 .i32 → T F S128 .i32 → T F S128 .i32),
  StableHlo.nullary main_call3_call0_c_28 (constantI S_ 32 15#32),
  StableHlo.unary main_call3_call0_c_28 main_call3_call0_v111 ((broadcastInDim S128 ![] bcast_S_S128) : T F S_ .i32 → T F S128 .i32),
  StableHlo.binary main_call3_call0_v107 main_call3_call0_v111 main_call3_call0_v112 (Host.shrui : T F S128 .i32 → T F S128 .i32 → T F S128 .i32),
  StableHlo.binary main_call3_call0_v110 main_call3_call0_v112 main_call3_call0_v113 (ori : T F S128 .i32 → T F S128 .i32 → T F S128 .i32),
  StableHlo.binary main_call3_call0_v108 main_call3_call0_v113 main_call3_call0_v114 (xori : T F S128 .i32 → T F S128 .i32 → T F S128 .i32),
  StableHlo.binary main_call3_call0_v108 main_call3_call0_v114 main_call3_call0_v115 (addi : T F S128 .i32 → T F S128 .i32 → T F S128 .i32),
  StableHlo.nullary main_call3_call0_c_29 (constantI S_ 32 29#32),
  StableHlo.unary main_call3_call0_c_29 main_call3_call0_v116 ((broadcastInDim S128 ![] bcast_S_S128) : T F S_ .i32 → T F S128 .i32),
  StableHlo.binary main_call3_call0_v114 main_call3_call0_v116 main_call3_call0_v117 (Host.shli : T F S128 .i32 → T F S128 .i32 → T F S128 .i32),
  StableHlo.nullary main_call3_call0_c_30 (constantI S_ 32 3#32)]

/-- Stretch 33: operations 698 to 727. -/
noncomputable def seg33 : List ROp := [
  StableHlo.unary main_call3_call0_c_30 main_call3_call0_v118 ((broadcastInDim S128 ![] bcast_S_S128) : T F S_ .i32 → T F S128 .i32),
  StableHlo.binary main_call3_call0_v114 main_call3_call0_v118 main_call3_call0_v119 (Host.shrui : T F S128 .i32 → T F S128 .i32 → T F S128 .i32),
  StableHlo.binary main_call3_call0_v117 main_call3_call0_v119 main_call3_call0_v120 (ori : T F S128 .i32 → T F S128 .i32 → T F S128 .i32),
  StableHlo.binary main_call3_call0_v115 main_call3_call0_v120 main_call3_call0_v121 (xori : T F S128 .i32 → T F S128 .i32 → T F S128 .i32),
  StableHlo.binary main_call3_call0_v115 main_call3_call0_v121 main_call3_call0_v122 (addi : T F S128 .i32 → T F S128 .i32 → T F S128 .i32),
  StableHlo.nullary main_call3_call0_c_31 (constantI S_ 32 16#32),
  StableHlo.unary main_call3_call0_c_31 main_call3_call0_v123 ((broadcastInDim S128 ![] bcast_S_S128) : T F S_ .i32 → T F S128 .i32),
  StableHlo.binary main_call3_call0_v121 main_call3_call0_v123 main_call3_call0_v124 (Host.shli : T F S128 .i32 → T F S128 .i32 → T F S128 .i32),
  StableHlo.nullary main_call3_call0_c_32 (constantI S_ 32 16#32),
  StableHlo.unary main_call3_call0_c_32 main_call3_call0_v125 ((broadcastInDim S128 ![] bcast_S_S128) : T F S_ .i32 → T F S128 .i32),
  StableHlo.binary main_call3_call0_v121 main_call3_call0_v125 main_call3_call0_v126 (Host.shrui : T F S128 .i32 → T F S128 .i32 → T F S128 .i32),
  StableHlo.binary main_call3_call0_v124 main_call3_call0_v126 main_call3_call0_v127 (ori : T F S128 .i32 → T F S128 .i32 → T F S128 .i32),
  StableHlo.binary main_call3_call0_v122 main_call3_call0_v127 main_call3_call0_v128 (xori : T F S128 .i32 → T F S128 .i32 → T F S128 .i32),
  StableHlo.binary main_call3_call0_v122 main_call3_call0_v128 main_call3_call0_v129 (addi : T F S128 .i32 → T F S128 .i32 → T F S128 .i32),
  StableHlo.nullary main_call3_call0_c_33 (constantI S_ 32 24#32),
  StableHlo.unary main_call3_call0_c_33 main_call3_call0_v130 ((broadcastInDim S128 ![] bcast_S_S128) : T F S_ .i32 → T F S128 .i32),
  StableHlo.binary main_call3_call0_v128 main_call3_call0_v130 main_call3_call0_v131 (Host.shli : T F S128 .i32 → T F S128 .i32 → T F S128 .i32),
  StableHlo.nullary main_call3_call0_c_34 (constantI S_ 32 8#32),
  StableHlo.unary main_call3_call0_c_34 main_call3_call0_v132 ((broadcastInDim S128 ![] bcast_S_S128) : T F S_ .i32 → T F S128 .i32),
  StableHlo.binary main_call3_call0_v128 main_call3_call0_v132 main_call3_call0_v133 (Host.shrui : T F S128 .i32 → T F S128 .i32 → T F S128 .i32),
  StableHlo.binary main_call3_call0_v131 main_call3_call0_v133 main_call3_call0_v134 (ori : T F S128 .i32 → T F S128 .i32 → T F S128 .i32),
  StableHlo.binary main_call3_call0_v129 main_call3_call0_v134 main_call3_call0_v135 (xori : T F S128 .i32 → T F S128 .i32 → T F S128 .i32),
  StableHlo.unary main_call3_v7 main_call3_call0_v136 ((broadcastInDim S128 ![] bcast_S_S128) : T F S_ .i32 → T F S128 .i32),
  StableHlo.binary main_call3_call0_v129 main_call3_call0_v136 main_call3_call0_v137 (addi : T F S128 .i32 → T F S128 .i32 → T F S128 .i32),
  StableHlo.unary main_call3_call0_v1 main_call3_call0_v138 ((broadcastInDim S128 ![] bcast_S_S128) : T F S_ .i32 → T F S128 .i32),
  StableHlo.binary main_call3_call0_v135 main_call3_call0_v138 main_call3_call0_v139 (addi : T F S128 .i32 → T F S128 .i32 → T F S128 .i32),
  StableHlo.nullary main_call3_call0_c_35 (constantI S_ 32 4#32),
  StableHlo.unary main_call3_call0_c_35 main_call3_call0_v140 ((broadcastInDim S128 ![] bcast_S_S128) : T F S_ .i32 → T F S128 .i32),
  StableHlo.binary main_call3_call0_v139 main_call3_call0_v140 main_call3_call0_v141 (addi : T F S128 .i32 → T F S128 .i32 → T F S128 .i32),
  StableHlo.binary main_call3_call0_v137 main_call3_call0_v141 main_call3_call0_v142 (addi : T F S128 .i32 → T F S128 .i32 → T F S128 .i32)]

/-- Stretch 34: operations 728 to 757. -/
noncomputable def seg34 : List ROp := [
  StableHlo.nullary main_call3_call0_c_36 (constantI S_ 32 13#32),
  StableHlo.unary main_call3_call0_c_36 main_call3_call0_v143 ((broadcastInDim S128 ![] bcast_S_S128) : T F S_ .i32 → T F S128 .i32),
  StableHlo.binary main_call3_call0_v141 main_call3_call0_v143 main_call3_call0_v144 (Host.shli : T F S128 .i32 → T F S128 .i32 → T F S128 .i32),
  StableHlo.nullary main_call3_call0_c_37 (constantI S_ 32 19#32),
  StableHlo.unary main_call3_call0_c_37 main_call3_call0_v145 ((broadcastInDim S128 ![] bcast_S_S128) : T F S_ .i32 → T F S128 .i32),
  StableHlo.binary main_call3_call0_v141 main_call3_call0_v145 main_call3_call0_v146 (Host.shrui : T F S128 .i32 → T F S128 .i32 → T F S128 .i32),
  StableHlo.binary main_call3_call0_v144 main_call3_call0_v146 main_call3_call0_v147 (ori : T F S128 .i32 → T F S128 .i32 → T F S128 .i32),
  StableHlo.binary main_call3_call0_v142 main_call3_call0_v147 main_call3_call0_v148 (xori : T F S128 .i32 → T F S128 .i32 → T F S128 .i32),
  StableHlo.binary main_call3_call0_v142 main_call3_call0_v148 main_call3_call0_v149 (addi : T F S128 .i32 → T F S128 .i32 → T F S128 .i32),
  StableHlo.nullary main_call3_call0_c_38 (constantI S_ 32 15#32),
  StableHlo.unary main_call3_call0_c_38 main_call3_call0_v150 ((broadcastInDim S128 ![] bcast_S_S128) : T F S_ .i32 → T F S128 .i32),
  StableHlo.binary main_call3_call0_v148 main_call3_call0_v150 main_call3_call0_v151 (Host.shli : T F S128 .i32 → T F S128 .i32 → T F S128 .i32),
  StableHlo.nullary main_call3_call0_c_39 (constantI S_ 32 17#32),
  StableHlo.unary main_call3_call0_c_39 main_call3_call0_v152 ((broadcastInDim S128 ![] bcast_S_S128) : T F S_ .i32 → T F S128 .i32),
  StableHlo.binary main_call3_call0_v148 main_call3_call0_v152 main_call3_call0_v153 (Host.shrui : T F S128 .i32 → T F S128 .i32 → T F S128 .i32),
  StableHlo.binary main_call3_call0_v151 main_call3_call0_v153 main_call3_call0_v154 (ori : T F S128 .i32 → T F S128 .i32 → T F S128 .i32),
  StableHlo.binary main_call3_call0_v149 main_call3_call0_v154 main_call3_call0_v155 (xori : T F S128 .i32 → T F S128 .i32 → T F S128 .i32),
  StableHlo.binary main_call3_call0_v149 main_call3_call0_v155 main_call3_call0_v156 (addi : T F S128 .i32 → T F S128 .i32 → T F S128 .i32),
  StableHlo.nullary main_call3_call0_c_40 (constantI S_ 32 26#32),
  StableHlo.unary main_call3_call0_c_40 main_call3_call0_v157 ((broadcastInDim S128 ![] bcast_S_S128) : T F S_ .i32 → T F S128 .i32),
  StableHlo.binary main_call3_call0_v155 main_call3_call0_v157 main_call3_call0_v158 (Host.shli : T F S128 .i32 → T F S128 .i32 → T F S128 .i32),
  StableHlo.nullary main_call3_call0_c_41 (constantI S_ 32 6#32),
  StableHlo.unary main_call3_call0_c_41 main_call3_call0_v159 ((broadcastInDim S128 ![] bcast_S_S128) : T F S_ .i32 → T F S128 .i32),
  StableHlo.binary main_call3_call0_v155 main_call3_call0_v159 main_call3_call0_v160 (Host.shrui : T F S128 .i32 → T F S128 .i32 → T F S128 .i32),
  StableHlo.binary main_call3_call0_v158 main_call3_call0_v160 main_call3_call0_v161 (ori : T F S128 .i32 → T F S128 .i32 → T F S128 .i32),
  StableHlo.binary main_call3_call0_v156 main_call3_call0_v161 main_call3_call0_v162 (xori : T F S128 .i32 → T F S128 .i32 → T F S128 .i32),
  StableHlo.binary main_call3_call0_v156 main_call3_call0_v162 main_call3_call0_v163 (addi : T F S128 .i32 → T F S128 .i32 → T F S128 .i32),
  StableHlo.nullary main_call3_call0_c_42 (constantI S_ 32 6#32),
  StableHlo.unary main_call3_call0_c_42 main_call3_call0_v164 ((broadcastInDim S128 ![] bcast_S_S128) : T F S_ .i32 → T F S128 .i32),
  StableHlo.binary main_call3_call0_v162 main_call3_call0_v164 main_call3_call0_v165 (Host.shli : T F S128 .i32 → T F S128 .i32 → T F S128 .i32)]

/-- Stretch 35: operations 758 to 769. -/
noncomputable def seg35 : List ROp := [
  StableHlo.nullary main_call3_call0_c_43 (constantI S_ 32 26#32),
  StableHlo.unary main_call3_call0_c_43 main_call3_call0_v166 ((broadcastInDim S128 ![] bcast_S_S128) : T F S_ .i32 → T F S128 .i32),
  StableHlo.binary main_call3_call0_v162 main_call3_call0_v166 main_call3_call0_v167 (Host.shrui : T F S128 .i32 → T F S128 .i32 → T F S128 .i32),
  StableHlo.binary main_call3_call0_v165 main_call3_call0_v167 main_call3_call0_v168 (ori : T F S128 .i32 → T F S128 .i32 → T F S128 .i32),
  StableHlo.binary main_call3_call0_v163 main_call3_call0_v168 main_call3_call0_v169 (xori : T F S128 .i32 → T F S128 .i32 → T F S128 .i32),
  StableHlo.unary main_call3_call0_v1 main_call3_call0_v170 ((broadcastInDim S128 ![] bcast_S_S128) : T F S_ .i32 → T F S128 .i32),
  StableHlo.binary main_call3_call0_v163 main_call3_call0_v170 main_call3_v15_0 (addi : T F S128 .i32 → T F S128 .i32 → T F S128 .i32),
  StableHlo.unary main_call3_v5 main_call3_call0_v172 ((broadcastInDim S128 ![] bcast_S_S128) : T F S_ .i32 → T F S128 .i32),
  StableHlo.binary main_call3_call0_v169 main_call3_call0_v172 main_call3_call0_v173 (addi : T F S128 .i32 → T F S128 .i32 → T F S128 .i32),
  StableHlo.nullary main_call3_call0_c_44 (constantI S_ 32 5#32),
  StableHlo.unary main_call3_call0_c_44 main_call3_call0_v174 ((broadcastInDim S128 ![] bcast_S_S128) : T F S_ .i32 → T F S128 .i32),
  StableHlo.binary main_call3_call0_v173 main_call3_call0_v174 main_call3_v15_1 (addi : T F S128 .i32 → T F S128 .i32 → T F S128 .i32)]

/-- Stretch 36: operations 770 to 787. -/
noncomputable def seg36 : List ROp := [
  StableHlo.binary main_call3_v15_0 main_call3_v15_1 main_call3_v16 (xori : T F S128 .i32 → T F S128 .i32 → T F S128 .i32),
  StableHlo.nullary main_call3_c_1 (constantI S_ 32 9#32),
  StableHlo.unary main_call3_c_1 main_call3_v17 ((broadcastInDim S128 ![] bcast_S_S128) : T F S_ .i32 → T F S128 .i32),
  StableHlo.binary main_call3_v16 main_call3_v17 main_call3_v18 (Host.shrui : T F S128 .i32 → T F S128 .i32 → T F S128 .i32),
  StableHlo.nullary main_call3_c_2 (constantI S_ 32 1065353216#32),
  StableHlo.unary main_call3_c_2 main_call3_v19 ((broadcastInDim S128 ![] bcast_S_S128) : T F S_ .i32 → T F S128 .i32),
  StableHlo.binary main_call3_v18 main_call3_v19 main_call3_v20 (ori : T F S128 .i32 → T F S128 .i32 → T F S128 .i32),
  StableHlo.unary main_call3_v20 main_call3_v21 ((bitcastToFloat .f32) : T F S128 .i32 → T F S128 .f32),
  StableHlo.nullary main_call3_cst (constant S_ .f32 0x3F800000#32),
  StableHlo.unary main_call3_cst main_call3_v22 ((broadcastInDim S128 ![] bcast_S_S128) : T F S_ .f32 → T F S128 .f32),
  StableHlo.binary main_call3_v21 main_call3_v22 main_call3_v23 (subf : T F S128 .f32 → T F S128 .f32 → T F S128 .f32),
  StableHlo.binary main_call3_v3 main_call3_v2 main_call3_v24 (subf : T F S1 .f32 → T F S1 .f32 → T F S1 .f32),
  StableHlo.unary main_call3_v24 main_call3_v25 ((broadcastInDim S128 ![0] bcast_S1_S128_0) : T F S1 .f32 → T F S128 .f32),
  StableHlo.binary main_call3_v23 main_call3_v25 main_call3_v26 (mulf : T F S128 .f32 → T F S128 .f32 → T F S128 .f32),
  StableHlo.unary main_call3_v2 main_call3_v27 ((broadcastInDim S128 ![0] bcast_S1_S128_0) : T F S1 .f32 → T F S128 .f32),
  StableHlo.binary main_call3_v26 main_call3_v27 main_call3_v28 (addf : T F S128 .f32 → T F S128 .f32 → T F S128 .f32),
  StableHlo.unary main_call3_v2 main_call3_v29 ((broadcastInDim S128 ![0] bcast_S1_S128_0) : T F S1 .f32 → T F S128 .f32),
  StableHlo.binary main_call3_v29 main_call3_v28 main_v18 (maximumf : T F S128 .f32 → T F S128 .f32 → T F S128 .f32)]

/-- Stretch 37: operations 788 to 796. -/
noncomputable def seg37 : List ROp := [
  StableHlo.unary main_v17 main_v19 (sitofp .f32 : T F S128 .i32 → T F S128 .f32),
  StableHlo.nullary main_cst_4 (constant S_ .f32 0x39800000#32),
  StableHlo.unary main_cst_4 main_v20 (broadcastInDim S128 ![] bcast_S_S128 : T F S_ .f32 → T F S128 .f32),
  StableHlo.binary main_v19 main_v20 main_v21 (mulf : T F S128 .f32 → T F S128 .f32 → T F S128 .f32),
  StableHlo.binary main_v21 main_v18 main_v22 (addf : T F S128 .f32 → T F S128 .f32 → T F S128 .f32),
  StableHlo.nullary main_cst_5 (constant S_ .f32 0x3F800000#32),
  StableHlo.unary main_cst_5 main_v23 (broadcastInDim S128 ![] bcast_S_S128 : T F S_ .f32 → T F S128 .f32),
  StableHlo.binary main_v22 main_v23 main_v24 (subf : T F S128 .f32 → T F S128 .f32 → T F S128 .f32),
  StableHlo.reshape main_v24 main_v25 (rfl : (.f32 : EltTy) = .f32) shapeCasts_S128_S128x1x1x1]

noncomputable def refOps : List ROp := seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19 ++ (seg20 ++ (seg21 ++ (seg22 ++ (seg23 ++ (seg24 ++ (seg25 ++ (seg26 ++ (seg27 ++ (seg28 ++ (seg29 ++ (seg30 ++ (seg31 ++ (seg32 ++ (seg33 ++ (seg34 ++ (seg35 ++ (seg36 ++ (seg37)))))))))))))))))))))))))))))))))))))

end Cert.Proof.Ref

end
-- ==== Proof.RefRun.lean ====
/-
  The reference program is its list of operations.
-/
module

public import proofs.«01_k».proof.Proof.RefOps

@[expose] public section

noncomputable section

namespace Cert.Proof.Ref

open Cert.ReferenceIdeal Cert.ReferenceIdeal.Gen
open Idealize.ShloMosaic
open Idealize.SL.Sem

variable {F : FTy → Type} [FloatOps F]

local notation "ROp" => HloOp τ sig (Elt F)

/-- The reference's programs. -/
abbrev RProg (F : FTy → Type) [FloatOps F] : Type _ := Prog (TpuEff nD τ sig (Elt F) (Pipeline.Sig Λ₀ (Fin 0) fun p => (pcfgs (F := F) p).Adm) .tc) PUnit
theorem op_step {op : ROp} {l : List ROp} {k : RProg F} (h : k = StableHlo.seq l) :
    ((hlo rfl op fun _ => .ret (⟨⟩ : PUnit)) >>= fun _ => k) = StableHlo.seq (op :: l) := by
  subst h; rfl
theorem op_last {op : ROp} : (hlo rfl op fun _ => .ret (⟨⟩ : PUnit) : RProg F) = StableHlo.seq [op] := rfl
theorem seq_nil : (pure ⟨⟩ : RProg F) = StableHlo.seq [] := rfl
theorem call_step {p : RProg F} {l l' : List ROp} {k : RProg F} (h : p = StableHlo.seq l) (h' : k = StableHlo.seq l') :
    (p >>= fun _ => k) = StableHlo.seq (l ++ l') := by
  rw [h, h', StableHlo.seq_append]
theorem call_last {p : RProg F} {l : List ROp} (h : p = StableHlo.seq l) : p = StableHlo.seq l := h

/-- The operations of one call. -/
noncomputable def lst0 : List ROp := seg2 ++ (seg3)
/-- The operations of one call. -/
noncomputable def lst1 : List ROp := seg4 ++ (seg5)
/-- The operations of one call. -/
noncomputable def lst2 : List ROp := seg6 ++ (seg7)
/-- The operations of one call. -/
noncomputable def lst3 : List ROp := seg8 ++ (seg9)
/-- The operations of one call. -/
noncomputable def lst4 : List ROp := lst0 ++ (lst1 ++ (lst2 ++ (lst3)))
/-- The operations of one call. -/
noncomputable def lst5 : List ROp := seg1 ++ (lst4 ++ (seg10))
/-- The operations of one call. -/
noncomputable def lst6 : List ROp := seg14 ++ (seg15)
/-- The operations of one call. -/
noncomputable def lst7 : List ROp := seg16 ++ (seg17)
/-- The operations of one call. -/
noncomputable def lst8 : List ROp := seg18 ++ (seg19)
/-- The operations of one call. -/
noncomputable def lst9 : List ROp := seg20 ++ (seg21)
/-- The operations of one call. -/
noncomputable def lst10 : List ROp := lst6 ++ (lst7 ++ (lst8 ++ (lst9)))
/-- The operations of one call. -/
noncomputable def lst11 : List ROp := seg13 ++ (lst10 ++ (seg22))
/-- The operations of one call. -/
noncomputable def lst12 : List ROp := seg12 ++ (lst11 ++ (seg23))
/-- The operations of one call. -/
noncomputable def lst14 : List ROp := seg28 ++ (seg29)
/-- The operations of one call. -/
noncomputable def lst15 : List ROp := seg30 ++ (seg31)
/-- The operations of one call. -/
noncomputable def lst16 : List ROp := seg32 ++ (seg33)
/-- The operations of one call. -/
noncomputable def lst17 : List ROp := seg34 ++ (seg35)
/-- The operations of one call. -/
noncomputable def lst18 : List ROp := lst14 ++ (lst15 ++ (lst16 ++ (lst17)))
/-- The operations of one call. -/
noncomputable def lst19 : List ROp := seg27 ++ (lst18 ++ (seg36))

theorem run0 : fn_threefry2x32.body_part0 (F := F) (.of main_call0_v1) (.of main_call0_v3) (.of main_call0_v10) (.of main_call0_v9) main_call0_call0 = StableHlo.seq lst0 := by
  unfold fn_threefry2x32.body_part0 lst0
  unfold seg2
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  unfold seg3
  repeat (first | exact seq_nil | exact op_last | apply op_step)

theorem run1 : fn_threefry2x32.body_part1 (F := F) (.of main_call0_v1) (.of main_call0_v3) (.of main_call0_v10) (.of main_call0_v9) main_call0_call0 = StableHlo.seq lst1 := by
  unfold fn_threefry2x32.body_part1 lst1
  unfold seg4
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  unfold seg5
  repeat (first | exact seq_nil | exact op_last | apply op_step)

theorem run2 : fn_threefry2x32.body_part2 (F := F) (.of main_call0_v1) (.of main_call0_v3) (.of main_call0_v10) (.of main_call0_v9) main_call0_call0 = StableHlo.seq lst2 := by
  unfold fn_threefry2x32.body_part2 lst2
  unfold seg6
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  unfold seg7
  repeat (first | exact seq_nil | exact op_last | apply op_step)

theorem run3 : fn_threefry2x32.body_part3 (F := F) (.of main_call0_v1) (.of main_call0_v3) (.of main_call0_v10) (.of main_call0_v9) main_call0_call0 = StableHlo.seq lst3 := by
  unfold fn_threefry2x32.body_part3 lst3
  unfold seg8
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  unfold seg9
  repeat (first | exact seq_nil | exact op_last | apply op_step)

theorem run4 : fn_threefry2x32.body (F := F) (.of main_call0_v1) (.of main_call0_v3) (.of main_call0_v10) (.of main_call0_v9) main_call0_call0 = StableHlo.seq lst4 := by
  unfold fn_threefry2x32.body lst4
  show _ = StableHlo.seq (lst0 ++ (lst1 ++ (lst2 ++ (lst3))))
  refine call_step run0 ?_
  show _ = StableHlo.seq (lst1 ++ (lst2 ++ (lst3)))
  refine call_step run1 ?_
  show _ = StableHlo.seq (lst2 ++ (lst3))
  refine call_step run2 ?_
  exact call_last run3

theorem run5 : fn_threefry_split.body (F := F) (.of main_v6) main_call0 = StableHlo.seq lst5 := by
  unfold fn_threefry_split.body lst5
  unfold seg1
  apply op_step
  apply op_step
  apply op_step
  apply op_step
  apply op_step
  apply op_step
  apply op_step
  apply op_step
  apply op_step
  apply op_step
  apply op_step
  apply op_step
  apply op_step
  show _ = StableHlo.seq (lst4 ++ (seg10))
  refine call_step run4 ?_
  unfold seg10
  repeat (first | exact seq_nil | exact op_last | apply op_step)

theorem run6 : fn_threefry2x32_0.body_part0 (F := F) (.of main_call1_call0_v4) (.of main_call1_call0_v6) (.of main_call1_call0_v17) (.of main_call1_call0_v16) main_call1_call0_call0 = StableHlo.seq lst6 := by
  unfold fn_threefry2x32_0.body_part0 lst6
  unfold seg14
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  unfold seg15
  repeat (first | exact seq_nil | exact op_last | apply op_step)

theorem run7 : fn_threefry2x32_0.body_part1 (F := F) (.of main_call1_call0_v4) (.of main_call1_call0_v6) (.of main_call1_call0_v17) (.of main_call1_call0_v16) main_call1_call0_call0 = StableHlo.seq lst7 := by
  unfold fn_threefry2x32_0.body_part1 lst7
  unfold seg16
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  unfold seg17
  repeat (first | exact seq_nil | exact op_last | apply op_step)

theorem run8 : fn_threefry2x32_0.body_part2 (F := F) (.of main_call1_call0_v4) (.of main_call1_call0_v6) (.of main_call1_call0_v17) (.of main_call1_call0_v16) main_call1_call0_call0 = StableHlo.seq lst8 := by
  unfold fn_threefry2x32_0.body_part2 lst8
  unfold seg18
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  unfold seg19
  repeat (first | exact seq_nil | exact op_last | apply op_step)

theorem run9 : fn_threefry2x32_0.body_part3 (F := F) (.of main_call1_call0_v4) (.of main_call1_call0_v6) (.of main_call1_call0_v17) (.of main_call1_call0_v16) main_call1_call0_call0 = StableHlo.seq lst9 := by
  unfold fn_threefry2x32_0.body_part3 lst9
  unfold seg20
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  unfold seg21
  repeat (first | exact seq_nil | exact op_last | apply op_step)

theorem run10 : fn_threefry2x32_0.body (F := F) (.of main_call1_call0_v4) (.of main_call1_call0_v6) (.of main_call1_call0_v17) (.of main_call1_call0_v16) main_call1_call0_call0 = StableHlo.seq lst10 := by
  unfold fn_threefry2x32_0.body lst10
  show _ = StableHlo.seq (lst6 ++ (lst7 ++ (lst8 ++ (lst9))))
  refine call_step run6 ?_
  show _ = StableHlo.seq (lst7 ++ (lst8 ++ (lst9)))
  refine call_step run7 ?_
  show _ = StableHlo.seq (lst8 ++ (lst9))
  refine call_step run8 ?_
  exact call_last run9

theorem run11 : fn_uniform.body (F := F) (.of main_v9) (.of main_call1_cst) (.of main_call1_cst_0) main_call1_call0 = StableHlo.seq lst11 := by
  unfold fn_uniform.body lst11
  unfold seg13
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  show _ = StableHlo.seq (lst10 ++ (seg22))
  refine call_step run10 ?_
  unfold seg22
  repeat (first | exact seq_nil | exact op_last | apply op_step)

theorem run12 : fn_gumbel.body (F := F) (.of main_v9) main_call1 = StableHlo.seq lst12 := by
  unfold fn_gumbel.body lst12
  unfold seg12
  apply op_step
  apply op_step
  show _ = StableHlo.seq (lst11 ++ (seg23))
  refine call_step run11 ?_
  unfold seg23
  repeat (first | exact seq_nil | exact op_last | apply op_step)

theorem run13 : fn_argmax.body (F := F) (.of main_v16) main_call2 = StableHlo.seq seg25 := by
  unfold fn_argmax.body
  unfold seg25
  repeat (first | exact seq_nil | exact op_last | apply op_step)

theorem run14 : fn_threefry2x32_2.body_part0 (F := F) (.of main_call3_v5) (.of main_call3_v7) (.of main_call3_v14) (.of main_call3_v13) main_call3_call0 = StableHlo.seq lst14 := by
  unfold fn_threefry2x32_2.body_part0 lst14
  unfold seg28
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  unfold seg29
  repeat (first | exact seq_nil | exact op_last | apply op_step)

theorem run15 : fn_threefry2x32_2.body_part1 (F := F) (.of main_call3_v5) (.of main_call3_v7) (.of main_call3_v14) (.of main_call3_v13) main_call3_call0 = StableHlo.seq lst15 := by
  unfold fn_threefry2x32_2.body_part1 lst15
  unfold seg30
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  unfold seg31
  repeat (first | exact seq_nil | exact op_last | apply op_step)

theorem run16 : fn_threefry2x32_2.body_part2 (F := F) (.of main_call3_v5) (.of main_call3_v7) (.of main_call3_v14) (.of main_call3_v13) main_call3_call0 = StableHlo.seq lst16 := by
  unfold fn_threefry2x32_2.body_part2 lst16
  unfold seg32
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  unfold seg33
  repeat (first | exact seq_nil | exact op_last | apply op_step)

theorem run17 : fn_threefry2x32_2.body_part3 (F := F) (.of main_call3_v5) (.of main_call3_v7) (.of main_call3_v14) (.of main_call3_v13) main_call3_call0 = StableHlo.seq lst17 := by
  unfold fn_threefry2x32_2.body_part3 lst17
  unfold seg34
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  apply op_step
  unfold seg35
  repeat (first | exact seq_nil | exact op_last | apply op_step)

theorem run18 : fn_threefry2x32_2.body (F := F) (.of main_call3_v5) (.of main_call3_v7) (.of main_call3_v14) (.of main_call3_v13) main_call3_call0 = StableHlo.seq lst18 := by
  unfold fn_threefry2x32_2.body lst18
  show _ = StableHlo.seq (lst14 ++ (lst15 ++ (lst16 ++ (lst17))))
  refine call_step run14 ?_
  show _ = StableHlo.seq (lst15 ++ (lst16 ++ (lst17)))
  refine call_step run15 ?_
  show _ = StableHlo.seq (lst16 ++ (lst17))
  refine call_step run16 ?_
  exact call_last run17

theorem run19 : fn_uniform_1.body (F := F) (.of main_v11) (.of main_cst_2) (.of main_cst_3) main_call3 = StableHlo.seq lst19 := by
  unfold fn_uniform_1.body lst19
  unfold seg27
  apply op_step
  apply op_step
  apply op_step
  apply op_step
  apply op_step
  apply op_step
  apply op_step
  apply op_step
  apply op_step
  apply op_step
  apply op_step
  apply op_step
  apply op_step
  apply op_step
  apply op_step
  apply op_step
  apply op_step
  show _ = StableHlo.seq (lst18 ++ (seg36))
  refine call_step run18 ?_
  unfold seg36
  repeat (first | exact seq_nil | exact op_last | apply op_step)

/-- The whole program's operations. -/
noncomputable def refNest : List ROp := seg0 ++ (lst5 ++ (seg11 ++ (lst12 ++ (seg24 ++ (seg25 ++ (seg26 ++ (lst19 ++ (seg37))))))))

theorem main_nest (d : Dev nD) : main (F := F) d = StableHlo.seq refNest := by
  unfold main refNest
  unfold seg0
  apply op_step
  apply op_step
  apply op_step
  apply op_step
  apply op_step
  apply op_step
  apply op_step
  apply op_step
  apply op_step
  apply op_step
  show _ = StableHlo.seq (lst5 ++ (seg11 ++ (lst12 ++ (seg24 ++ (seg25 ++ (seg26 ++ (lst19 ++ (seg37))))))))
  refine call_step run5 ?_
  unfold seg11
  apply op_step
  apply op_step
  apply op_step
  apply op_step
  apply op_step
  apply op_step
  apply op_step
  apply op_step
  show _ = StableHlo.seq (lst12 ++ (seg24 ++ (seg25 ++ (seg26 ++ (lst19 ++ (seg37))))))
  refine call_step run12 ?_
  unfold seg24
  apply op_step
  show _ = StableHlo.seq (seg25 ++ (seg26 ++ (lst19 ++ (seg37))))
  refine call_step run13 ?_
  unfold seg26
  apply op_step
  apply op_step
  show _ = StableHlo.seq (lst19 ++ (seg37))
  refine call_step run19 ?_
  unfold seg37
  repeat (first | exact seq_nil | exact op_last | apply op_step)

theorem main_eq (d : Dev nD) : main (F := F) d = StableHlo.seq refOps := by
  rw [main_nest]
  simp only [refNest, refOps, lst0, lst1, lst2, lst3, lst4, lst5, lst6, lst7, lst8, lst9, lst10, lst11, lst12, lst14, lst15, lst16, lst17, lst18, lst19, List.append_assoc]

end Cert.Proof.Ref

end
-- ==== Proof.RefOrd.lean ====
/-
  Every operation of the reference writes the next buffer and reads earlier ones.
-/
module

public import proofs.«01_k».proof.Proof.RefRun
public import Idealize.ShloMosaic.Lib.Claim

@[expose] public section

noncomputable section

namespace Cert.Proof.Ref

open Cert.ReferenceIdeal Cert.ReferenceIdeal.Gen
open Idealize.ShloMosaic
open Idealize.SL.Sem

variable {F : FTy → Type} [FloatOps F]

local notation "ROp" => HloOp τ sig (Elt F)

theorem ordered0 : Chain.Ordered (Val := Elt F) 1 (seg0 (F := F)) :=
  Chain.ordered_nullary rfl <|
  Chain.ordered_nullary rfl <|
  Chain.ordered_binary rfl (by decide) (by decide) <|
  Chain.ordered_unary rfl (by decide) <|
  Chain.ordered_unary rfl (by decide) <|
  Chain.ordered_nullary rfl <|
  Chain.ordered_binary rfl (by decide) (by decide) <|
  Chain.ordered_unary rfl (by decide) <|
  Chain.ordered_unary rfl (by decide) <|
  Chain.ordered_binary rfl (by decide) (by decide) <|
  Chain.ordered_nil

theorem ordered1 : Chain.Ordered (Val := Elt F) 11 (seg1 (F := F)) :=
  Chain.ordered_unary rfl (by decide) <|
  Chain.ordered_reshape rfl (by decide) <|
  Chain.ordered_unary rfl (by decide) <|
  Chain.ordered_reshape rfl (by decide) <|
  Chain.ordered_nullary rfl <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_unary rfl (by decide) <|
  Chain.ordered_unary rfl (by decide) <|
  Chain.ordered_nil

theorem ordered2 : Chain.Ordered (Val := Elt F) 24 (seg2 (F := F)) :=
  Chain.ordered_binary rfl (by decide) (by decide) <|
  Chain.ordered_nullary rfl <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_nil

theorem ordered3 : Chain.Ordered (Val := Elt F) 54 (seg3 (F := F)) :=
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nil

theorem ordered4 : Chain.Ordered (Val := Elt F) 84 (seg4 (F := F)) :=
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_nil

theorem ordered5 : Chain.Ordered (Val := Elt F) 114 (seg5 (F := F)) :=
  Chain.ordered_nullary rfl <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_nil

theorem ordered6 : Chain.Ordered (Val := Elt F) 144 (seg6 (F := F)) :=
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_nil

theorem ordered7 : Chain.Ordered (Val := Elt F) 174 (seg7 (F := F)) :=
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_nil

theorem ordered8 : Chain.Ordered (Val := Elt F) 204 (seg8 (F := F)) :=
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nil

theorem ordered9 : Chain.Ordered (Val := Elt F) 234 (seg9 (F := F)) :=
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_nil

theorem ordered10 : Chain.Ordered (Val := Elt F) 246 (seg10 (F := F)) :=
  Chain.ordered_unary rfl (by decide) <|
  Chain.ordered_unary rfl (by decide) <|
  Chain.ordered_binary rfl (by decide) (by decide) <|
  Chain.ordered_nil

theorem ordered11 : Chain.Ordered (Val := Elt F) 249 (seg11 (F := F)) :=
  Chain.ordered_unary rfl (by decide) <|
  Chain.ordered_reshape rfl (by decide) <|
  Chain.ordered_unary rfl (by decide) <|
  Chain.ordered_reshape rfl (by decide) <|
  Chain.ordered_nullary rfl <|
  Chain.ordered_unary rfl (by decide) <|
  Chain.ordered_binary rfl (by decide) (by decide) <|
  Chain.ordered_unary rfl (by decide) <|
  Chain.ordered_nil

theorem ordered12 : Chain.Ordered (Val := Elt F) 257 (seg12 (F := F)) :=
  Chain.ordered_nullary rfl <|
  Chain.ordered_nullary rfl <|
  Chain.ordered_nil

theorem ordered13 : Chain.Ordered (Val := Elt F) 259 (seg13 (F := F)) :=
  Chain.ordered_unary rfl (by decide) <|
  Chain.ordered_unary rfl (by decide) <|
  Chain.ordered_unary rfl (by decide) <|
  Chain.ordered_unary rfl (by decide) <|
  Chain.ordered_reshape rfl (by decide) <|
  Chain.ordered_unary rfl (by decide) <|
  Chain.ordered_reshape rfl (by decide) <|
  Chain.ordered_nullary rfl <|
  Chain.ordered_nullary rfl <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_unary rfl (by decide) <|
  Chain.ordered_unary rfl (by decide) <|
  Chain.ordered_nil

theorem ordered14 : Chain.Ordered (Val := Elt F) 280 (seg14 (F := F)) :=
  Chain.ordered_binary rfl (by decide) (by decide) <|
  Chain.ordered_nullary rfl <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_nil

theorem ordered15 : Chain.Ordered (Val := Elt F) 310 (seg15 (F := F)) :=
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nil

theorem ordered16 : Chain.Ordered (Val := Elt F) 340 (seg16 (F := F)) :=
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_nil

theorem ordered17 : Chain.Ordered (Val := Elt F) 370 (seg17 (F := F)) :=
  Chain.ordered_nullary rfl <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_nil

theorem ordered18 : Chain.Ordered (Val := Elt F) 400 (seg18 (F := F)) :=
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_nil

theorem ordered19 : Chain.Ordered (Val := Elt F) 430 (seg19 (F := F)) :=
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_nil

theorem ordered20 : Chain.Ordered (Val := Elt F) 460 (seg20 (F := F)) :=
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nil

theorem ordered21 : Chain.Ordered (Val := Elt F) 490 (seg21 (F := F)) :=
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_nil

theorem ordered22 : Chain.Ordered (Val := Elt F) 502 (seg22 (F := F)) :=
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_unary rfl (by decide) <|
  Chain.ordered_nullary rfl <|
  Chain.ordered_unary rfl (by decide) <|
  Chain.ordered_binary rfl (by decide) (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_nil

theorem ordered23 : Chain.Ordered (Val := Elt F) 520 (seg23 (F := F)) :=
  Chain.ordered_unary rfl (by decide) <|
  Chain.ordered_unary rfl (by decide) <|
  Chain.ordered_unary rfl (by decide) <|
  Chain.ordered_unary rfl (by decide) <|
  Chain.ordered_nil

theorem ordered24 : Chain.Ordered (Val := Elt F) 524 (seg24 (F := F)) :=
  Chain.ordered_binary rfl (by decide) (by decide) <|
  Chain.ordered_nil

theorem ordered25 : Chain.Ordered (Val := Elt F) 525 (seg25 (F := F)) :=
  Chain.ordered_nullary rfl <|
  Chain.ordered_nullary rfl <|
  Chain.ordered_nullary rfl <|
  Chain.ordered_quaternary rfl (by decide) (by decide) (by decide) (by decide) <|
  Chain.ordered_quaternary rfl (by decide) (by decide) (by decide) (by decide) <|
  Chain.ordered_nil

theorem ordered26 : Chain.Ordered (Val := Elt F) 530 (seg26 (F := F)) :=
  Chain.ordered_nullary rfl <|
  Chain.ordered_nullary rfl <|
  Chain.ordered_nil

theorem ordered27 : Chain.Ordered (Val := Elt F) 532 (seg27 (F := F)) :=
  Chain.ordered_unary rfl (by decide) <|
  Chain.ordered_unary rfl (by decide) <|
  Chain.ordered_unary rfl (by decide) <|
  Chain.ordered_unary rfl (by decide) <|
  Chain.ordered_unary rfl (by decide) <|
  Chain.ordered_reshape rfl (by decide) <|
  Chain.ordered_unary rfl (by decide) <|
  Chain.ordered_reshape rfl (by decide) <|
  Chain.ordered_nullary rfl <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_unary rfl (by decide) <|
  Chain.ordered_unary rfl (by decide) <|
  Chain.ordered_nil

theorem ordered28 : Chain.Ordered (Val := Elt F) 549 (seg28 (F := F)) :=
  Chain.ordered_binary rfl (by decide) (by decide) <|
  Chain.ordered_nullary rfl <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_nil

theorem ordered29 : Chain.Ordered (Val := Elt F) 579 (seg29 (F := F)) :=
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nil

theorem ordered30 : Chain.Ordered (Val := Elt F) 609 (seg30 (F := F)) :=
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_nil

theorem ordered31 : Chain.Ordered (Val := Elt F) 639 (seg31 (F := F)) :=
  Chain.ordered_nullary rfl <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_nil

theorem ordered32 : Chain.Ordered (Val := Elt F) 669 (seg32 (F := F)) :=
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_nil

theorem ordered33 : Chain.Ordered (Val := Elt F) 699 (seg33 (F := F)) :=
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_nil

theorem ordered34 : Chain.Ordered (Val := Elt F) 729 (seg34 (F := F)) :=
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_nil

theorem ordered35 : Chain.Ordered (Val := Elt F) 759 (seg35 (F := F)) :=
  Chain.ordered_nullary rfl <|
  Chain.ordered_unary rfl (by decide) <|
  Chain.ordered_binary rfl (by decide) (by decide) <|
  Chain.ordered_binary rfl (by decide) (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_nil

theorem ordered36 : Chain.Ordered (Val := Elt F) 771 (seg36 (F := F)) :=
  Chain.ordered_binary rfl (by decide) (by decide) <|
  Chain.ordered_nullary rfl <|
  Chain.ordered_unary rfl (by decide) <|
  Chain.ordered_binary rfl (by decide) (by decide) <|
  Chain.ordered_nullary rfl <|
  Chain.ordered_unary rfl (by decide) <|
  Chain.ordered_binary rfl (by decide) (by decide) <|
  Chain.ordered_unary rfl (by decide) <|
  Chain.ordered_nullary rfl <|
  Chain.ordered_unary rfl (by decide) <|
  Chain.ordered_binary rfl (by decide) (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_unary rfl (by decide) <|
  Chain.ordered_binary rfl (by decide) (by decide) <|
  Chain.ordered_nil

theorem ordered37 : Chain.Ordered (Val := Elt F) 789 (seg37 (F := F)) :=
  Chain.ordered_unary rfl (by decide) <|
  Chain.ordered_nullary rfl <|
  Chain.ordered_unary rfl (by decide) <|
  Chain.ordered_binary rfl (by decide) (by decide) <|
  Chain.ordered_binary rfl (by decide) (by decide) <|
  Chain.ordered_nullary rfl <|
  Chain.ordered_unary rfl (by decide) <|
  Chain.ordered_binary rfl (by decide) (by decide) <|
  Chain.ordered_reshape rfl (by decide) <|
  Chain.ordered_nil

theorem ref_ordered : Chain.Ordered (Val := Elt F) 1 (refOps (F := F)) :=
  Chain.ordered_append ordered0 <|
  Chain.ordered_append ordered1 <|
  Chain.ordered_append ordered2 <|
  Chain.ordered_append ordered3 <|
  Chain.ordered_append ordered4 <|
  Chain.ordered_append ordered5 <|
  Chain.ordered_append ordered6 <|
  Chain.ordered_append ordered7 <|
  Chain.ordered_append ordered8 <|
  Chain.ordered_append ordered9 <|
  Chain.ordered_append ordered10 <|
  Chain.ordered_append ordered11 <|
  Chain.ordered_append ordered12 <|
  Chain.ordered_append ordered13 <|
  Chain.ordered_append ordered14 <|
  Chain.ordered_append ordered15 <|
  Chain.ordered_append ordered16 <|
  Chain.ordered_append ordered17 <|
  Chain.ordered_append ordered18 <|
  Chain.ordered_append ordered19 <|
  Chain.ordered_append ordered20 <|
  Chain.ordered_append ordered21 <|
  Chain.ordered_append ordered22 <|
  Chain.ordered_append ordered23 <|
  Chain.ordered_append ordered24 <|
  Chain.ordered_append ordered25 <|
  Chain.ordered_append ordered26 <|
  Chain.ordered_append ordered27 <|
  Chain.ordered_append ordered28 <|
  Chain.ordered_append ordered29 <|
  Chain.ordered_append ordered30 <|
  Chain.ordered_append ordered31 <|
  Chain.ordered_append ordered32 <|
  Chain.ordered_append ordered33 <|
  Chain.ordered_append ordered34 <|
  Chain.ordered_append ordered35 <|
  Chain.ordered_append ordered36 <|
  ordered37

/-- What device `d`'s buffers hold when the reference starts. -/
abbrev W0 (m : (ℓ : Loc nD τ sig) → Buf (Elt F) ℓ) (d : Dev nD) : Valuation τ sig (Elt F) := StableHlo.launchContents m d

/-- What device `d`'s buffers hold when the reference ends. -/
noncomputable def WR (m : (ℓ : Loc nD τ sig) → Buf (Elt F) ℓ) (d : Dev nD) : Valuation τ sig (Elt F) := StableHlo.after refOps (W0 m d)

theorem WR_arg0 (m : (ℓ : Loc nD τ sig) → Buf (Elt F) ℓ) (d : Dev nD) :
    WR m d (Proc.devRef .tc main_arg0) = m ((d.tc : Thread nD τ).loc main_arg0) :=
  Chain.after_low (b := main_arg0) ref_ordered _ (by decide)

theorem run_main (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = WR m d (Proc.devRef .tc b)) ∧ r.2.sem = fun _ => 0 :=
  (θ_run _ _ _).mono (fun r h => ⟨h, sem_eq_zero_of_no_sems (by decide) r.2⟩)
    (StableHlo.run_hlo (defs (F := F)) main main_eq (by decide) (by decide)
      (List.forall_iff_forall_mem.2 (Chain.ordered_bufs ref_ordered)) (Chain.ordered_fresh ref_ordered) m ρ)

end Cert.Proof.Ref

end
-- ==== Proof.Best.lean ====
/-
  The first place of a family's greatest value, held as a value and an index: how two such pairs merge, how a fold of merges
  runs, and that families in the same order have the same first place.
-/
module

public import Idealize.ShloMosaic.PureOps.Ideal

@[expose] public section

noncomputable section

namespace Cert.Proof.Best

open Idealize.ShloMosaic

/-- `x` at index `j` is the greatest of `v` over `S`, at its first place. -/
def Best (v : ℕ → EReal) (S : ℕ → Prop) (x : EReal) (j : BitVec 32) : Prop :=
  ∃ n, S n ∧ n < 8192 ∧ j = BitVec.ofNat 32 n ∧ x = v n ∧ ∀ n', S n' → v n' < v n ∨ (v n' = v n ∧ n ≤ n')

theorem slt_ofNat {a b : ℕ} (ha : a < 8192) (hb : b < 8192) : (BitVec.ofNat 32 a).slt (BitVec.ofNat 32 b) = decide (a < b) := by
  rw [BitVec.slt_eq_decide, BitVec.toInt_eq_toNat_of_lt (by simp; omega), BitVec.toInt_eq_toNat_of_lt (by simp; omega)]
  congr 1
  simp
  omega

theorem one {v : ℕ → EReal} {n : ℕ} (hn : n < 8192) : Best v (fun a => a = n) (v n) (BitVec.ofNat 32 n) :=
  ⟨n, rfl, hn, rfl, rfl, fun n' h => Or.inr ⟨by rw [h], by rw [h]⟩⟩

theorem congr {v : ℕ → EReal} {S T : ℕ → Prop} {x : EReal} {j : BitVec 32} (h : Best v S x j) (e : ∀ n, T n ↔ S n) : Best v T x j := by
  obtain ⟨n, h1, h2, h3, h4, h5⟩ := h
  exact ⟨n, (e n).2 h1, h2, h3, h4, fun n' hn => h5 n' ((e n').1 hn)⟩

/-- Whether `y` at `k` wins over `x` at `j`. -/
def wins (y x : EReal) (k j : BitVec 32) : BitVec 1 :=
  IntOp.ori (FloatOps.cmpf (F := Ideal) (φ := .f32) .ogt y x) (IntOp.andi (FloatOps.cmpf (F := Ideal) (φ := .f32) .oeq y x) (IntOp.cmpi .slt k j))

/-- Two pairs merge. -/
theorem merge {v : ℕ → EReal} {S T U : ℕ → Prop} {x y : EReal} {j k : BitVec 32} (h : Best v S x j) (h' : Best v T y k)
    (hU : ∀ n, U n ↔ S n ∨ T n) : Best v U (Scalar.select (wins y x k j) y x) (Scalar.select (wins y x k j) k j) := by
  obtain ⟨a, a1, a2, rfl, rfl, a5⟩ := h
  obtain ⟨b, b1, b2, rfl, rfl, b5⟩ := h'
  have e : wins (v b) (v a) (BitVec.ofNat 32 b) (BitVec.ofNat 32 a) = BitVec.ofBool (decide (v a < v b ∨ (v b = v a ∧ b < a))) := by
    show IntOp.ori (BitVec.ofBool (decide (v a < v b))) (IntOp.andi (BitVec.ofBool (decide (v b = v a)))
      (BitVec.ofBool ((BitVec.ofNat 32 b).slt (BitVec.ofNat 32 a)))) = _
    rw [slt_ofNat b2 a2, Bool.decide_or, Bool.decide_and]
    generalize decide (v a < v b) = p
    generalize decide (v b = v a) = q
    generalize decide (b < a) = r
    revert p q r
    decide
  rw [e]
  by_cases c : v a < v b ∨ (v b = v a ∧ b < a)
  · rw [decide_eq_true c]
    refine ⟨b, (hU b).2 (Or.inr b1), b2, rfl, rfl, fun n hn => ?_⟩
    rcases (hU n).1 hn with hn | hn
    · rcases a5 n hn with h | ⟨h, h'⟩
      · rcases c with c | ⟨c, -⟩
        · exact Or.inl (h.trans c)
        · exact Or.inl (c ▸ h)
      · rcases c with c | ⟨c, c'⟩
        · exact Or.inl (h ▸ c)
        · exact Or.inr ⟨h.trans c.symm, by omega⟩
    · exact b5 n hn
  · rw [decide_eq_false c]
    push Not at c
    obtain ⟨c, c'⟩ := c
    refine ⟨a, (hU a).2 (Or.inl a1), a2, rfl, rfl, fun n hn => ?_⟩
    rcases (hU n).1 hn with hn | hn
    · exact a5 n hn
    · rcases b5 n hn with h | ⟨h, h'⟩
      · exact Or.inl (h.trans_le c)
      · rcases c.lt_or_eq with c | c
        · exact Or.inl (h ▸ c)
        · exact Or.inr ⟨h.trans c, (c' c).trans h'⟩

/-- A later value merges by a strict comparison alone. -/
theorem later {v : ℕ → EReal} {S U : ℕ → Prop} {x : EReal} {j : BitVec 32} {k : ℕ} (h : Best v S x j) (hk : k < 8192)
    (hS : ∀ n, S n → n < k) (hU : ∀ n, U n ↔ S n ∨ n = k) :
    Best v U (Scalar.select (FloatOps.cmpf (F := Ideal) (φ := .f32) .ogt (v k) x) (v k) x)
      (Scalar.select (FloatOps.cmpf (F := Ideal) (φ := .f32) .ogt (v k) x) (BitVec.ofNat 32 k) j) := by
  have h' := merge h (one (v := v) hk) hU
  obtain ⟨a, a1, a2, rfl, rfl, a5⟩ := h
  have e : wins (v k) (v a) (BitVec.ofNat 32 k) (BitVec.ofNat 32 a) = FloatOps.cmpf (F := Ideal) (φ := .f32) .ogt (v k) (v a) := by
    show IntOp.ori (BitVec.ofBool (decide (v a < v k))) (IntOp.andi (BitVec.ofBool (decide (v k = v a)))
      (BitVec.ofBool ((BitVec.ofNat 32 k).slt (BitVec.ofNat 32 a)))) = BitVec.ofBool (decide (v a < v k))
    rw [slt_ofNat hk a2, decide_eq_false (not_lt.2 (hS a a1).le)]
    generalize decide (v a < v k) = p
    generalize decide (v k = v a) = q
    revert p q
    decide
  rw [e] at h'
  exact h'

/-- A value above the start takes its place. -/
theorem start {v : ℕ → EReal} {x : EReal} {j : BitVec 32} {k : ℕ} (hk : k < 8192) (hx : x < v k) :
    Best v (fun n => n = k) (Scalar.select (FloatOps.cmpf (F := Ideal) (φ := .f32) .ogt (v k) x) (v k) x)
      (Scalar.select (FloatOps.cmpf (F := Ideal) (φ := .f32) .ogt (v k) x) (BitVec.ofNat 32 k) j) := by
  have e : FloatOps.cmpf (F := Ideal) (φ := .f32) .ogt (v k) x = 1#1 := by
    show BitVec.ofBool (decide (x < v k)) = 1#1
    rw [decide_eq_true hx]; rfl
  rw [e]
  exact one hk

/-- Two families in the same order have the same first place. -/
theorem unique {v w : ℕ → EReal} {S : ℕ → Prop} {x y : EReal} {j k : BitVec 32} (h : Best v S x j) (h' : Best w S y k)
    (ho : ∀ a b, S a → S b → (v a < v b ↔ w a < w b)) : j = k := by
  obtain ⟨a, a1, a2, rfl, rfl, a5⟩ := h
  obtain ⟨b, b1, b2, rfl, rfl, b5⟩ := h'
  have c1 : a ≤ b := by
    rcases a5 b b1 with h | h
    · have h := (ho b a b1 a1).1 h
      rcases b5 a a1 with h' | h'
      · exact absurd h h'.asymm
      · exact absurd h'.1 h.ne'
    · exact h.2
  have c2 : b ≤ a := by
    rcases b5 a a1 with h | h
    · have h := (ho a b a1 b1).2 h
      rcases a5 b b1 with h' | h'
      · exact absurd h h'.asymm
      · exact absurd h'.1 h.ne'
    · exact h.2
  rw [le_antisymm c1 c2]

/-- A fold of merges over pairs of a family. -/
theorem fold {v : ℕ → EReal} {f : EReal × BitVec 32 → EReal × BitVec 32 → EReal × BitVec 32}
    (hf : ∀ a b, f a b = (Scalar.select (wins a.1 b.1 a.2 b.2) a.1 b.1, Scalar.select (wins a.1 b.1 a.2 b.2) a.2 b.2)) :
    ∀ (l : List ℕ) (_ : ∀ n ∈ l, n < 8192) (S : ℕ → Prop) (a : EReal × BitVec 32) (_ : Best v S a.1 a.2),
      Best v (fun n => S n ∨ n ∈ l) ((l.map fun n => (v n, BitVec.ofNat 32 n)).foldl f a).1
        ((l.map fun n => (v n, BitVec.ofNat 32 n)).foldl f a).2
  | [], _, S, a, h => congr h fun n => by simp
  | k :: l, hl, S, a, h => by
    have h1 := merge (one (v := v) (hl k (List.mem_cons_self ..))) h (U := fun n => S n ∨ n = k) (fun n => by tauto)
    have h2 := fold hf l (fun n hn => hl n (List.mem_cons_of_mem _ hn)) (fun n => S n ∨ n = k) (f a (v k, BitVec.ofNat 32 k)) (by
      rw [hf]
      exact h1)
    exact congr h2 fun n => by simp [or_assoc]

/-- The same from a start below every value. -/
theorem fold_start {v : ℕ → EReal} {f : EReal × BitVec 32 → EReal × BitVec 32 → EReal × BitVec 32}
    (hf : ∀ a b, f a b = (Scalar.select (wins a.1 b.1 a.2 b.2) a.1 b.1, Scalar.select (wins a.1 b.1 a.2 b.2) a.2 b.2))
    (l : List ℕ) (hl : ∀ n ∈ l, n < 8192) (hne : l ≠ []) (hv : ∀ n ∈ l, ⊥ < v n) :
    Best v (fun n => n ∈ l) ((l.map fun n => (v n, BitVec.ofNat 32 n)).foldl f (⊥, 0#32)).1
        ((l.map fun n => (v n, BitVec.ofNat 32 n)).foldl f (⊥, 0#32)).2 := by
  match l, hne with
  | k :: l, _ =>
    have hk := hv k (List.mem_cons_self ..)
    have e : wins ⊥ (v k) 0#32 (BitVec.ofNat 32 k) = 0#1 := by
      show IntOp.ori (BitVec.ofBool (decide (v k < ⊥))) (IntOp.andi (BitVec.ofBool (decide (⊥ = v k)))
        (BitVec.ofBool ((0#32).slt (BitVec.ofNat 32 k)))) = _
      rw [decide_eq_false hk.asymm, decide_eq_false hk.ne]
      generalize (0#32).slt (BitVec.ofNat 32 k) = r
      revert r
      decide
    have e2 : f (⊥, 0#32) (v k, BitVec.ofNat 32 k) = (v k, BitVec.ofNat 32 k) := by
      rw [hf]
      show (Scalar.select (wins ⊥ (v k) 0#32 (BitVec.ofNat 32 k)) _ _, Scalar.select (wins ⊥ (v k) 0#32 (BitVec.ofNat 32 k)) _ _) = _
      rw [e]
      rfl
    have h := fold hf l (fun n hn => hl n (List.mem_cons_of_mem _ hn)) (fun n => n = k) (v k, BitVec.ofNat 32 k)
      (one (hl k (List.mem_cons_self ..)))
    rw [← e2] at h
    exact congr h fun n => by simp

end Cert.Proof.Best

end
-- ==== Proof.Rounds.lean ====
/-
  The counter-based generator threefry-2x32, on one pair of words, and the two kinds of step of a program of whole-array
  operations that computes it at every index.
-/
module

public import Idealize.ShloMosaic.PureOps

@[expose] public section

noncomputable section

namespace Cert.Proof.Rounds

open Idealize.ShloMosaic

/-- A 32-bit word. -/
abbrev W := BitVec 32

/-- One round: add, rotate left by `l` (right by `r`), exclusive or. -/
def rnd (l r : W) (x : W × W) : W × W := (x.1 + x.2, (x.1 + x.2) ^^^ ((x.2 <<< l) ||| (x.2 >>> r)))

/-- A key is added: `a` and `b`, and the number `n` of the injection. -/
def inj (a b n : W) (x : W × W) : W × W := (x.1 + a, x.2 + b + n)

def four (x : W × W) : W × W := rnd 6 26 (rnd 26 6 (rnd 15 17 (rnd 13 19 x)))
def four' (x : W × W) : W × W := rnd 24 8 (rnd 16 16 (rnd 29 3 (rnd 17 15 x)))

/-- The third key word. -/
def key2 (k0 k1 : W) : W := k0 ^^^ k1 ^^^ 466688986

/-- Threefry-2x32 with twenty rounds. -/
def tf (k0 k1 : W) (x : W × W) : W × W :=
  inj (key2 k0 k1) k0 5 (four (inj k1 (key2 k0 k1) 4 (four' (inj k0 k1 3 (four (inj (key2 k0 k1) k0 2 (four' (inj k1 (key2 k0 k1) 1
    (four (x.1 + k0, x.2 + k1))))))))))

variable {s z : Shape}

theorem round_step (l r : W) {x0 x1 y0 a b c y1 bl br : IVec s 32} {cl cr : IVec z 32} {dl dr : Fin z.rank → Fin s.rank}
    {hl : z.BroadcastsInDim s dl} {hr : z.BroadcastsInDim s dr} {st : s.Idx → W × W} (h : ∀ i, (x0 i, x1 i) = st i)
    (e0 : y0 = addi x0 x1) (e1 : cl = constantI z 32 l) (e2 : bl = broadcastInDim s dl hl cl) (e3 : a = Host.shli x1 bl)
    (e4 : cr = constantI z 32 r) (e5 : br = broadcastInDim s dr hr cr) (e6 : b = Host.shrui x1 br)
    (e7 : c = ori a b) (e8 : y1 = xori y0 c) (wl : l.toNat < 32) (wr : r.toNat < 32) :
    ∀ i, (y0 i, y1 i) = rnd l r (st i) := by
  intro i
  rw [← h i]
  subst e0 e1 e2 e3 e4 e5 e6 e7 e8
  simp only [rnd, addi, xori, ori, Host.shli, Host.shrui, broadcastInDim, constantI, IntOp.addi, IntOp.xori, IntOp.ori, IntOp.shli,
    IntOp.shrui, wl, wr, if_true]

theorem inj_step {a b n : W} {x0 x1 y0 y1 y1' ba bb bn : IVec s 32} {st : s.Idx → W × W} (h : ∀ i, (x0 i, x1 i) = st i)
    (ha : ∀ i, ba i = a) (hb : ∀ i, bb i = b) (hn : ∀ i, bn i = n)
    (e0 : y0 = addi x0 ba) (e1 : y1' = addi x1 bb) (e2 : y1 = addi y1' bn) : ∀ i, (y0 i, y1 i) = inj a b n (st i) := by
  intro i
  rw [← h i]
  subst e0 e1 e2
  simp only [inj, addi, IntOp.addi, ha, hb, hn]

/-- A word broadcast from a constant, or from an array that holds it everywhere, is that word at every index. -/
theorem bc_const {w : W} {c : IVec z 32} {b : IVec s 32} {d : Fin z.rank → Fin s.rank} {hd : z.BroadcastsInDim s d}
    (e : c = constantI z 32 w) (e' : b = broadcastInDim s d hd c) : ∀ i, b i = w := by
  subst e e'; intro i; rfl
theorem bc_all {w : W} {c : IVec z 32} {b : IVec s 32} {d : Fin z.rank → Fin s.rank} {hd : z.BroadcastsInDim s d}
    (e : ∀ i, c i = w) (e' : b = broadcastInDim s d hd c) : ∀ i, b i = w := by
  subst e'; intro i; exact e _
theorem key2_all {k0 k1 : W} {a b c d e : IVec z 32} (ha : ∀ i, a i = k0) (hb : ∀ i, b i = k1) (h0 : d = xori a b)
    (h1 : c = constantI z 32 466688986) (h2 : e = xori d c) : ∀ i, e i = key2 k0 k1 := by
  subst h0 h1 h2; intro i; simp only [xori, constantI, IntOp.xori, ha, hb, key2]
theorem start_step {a b : W} {x0 x1 y0 y1 ba bb : IVec s 32} {st : s.Idx → W × W} (h : ∀ i, (x0 i, x1 i) = st i)
    (ha : ∀ i, ba i = a) (hb : ∀ i, bb i = b) (e0 : y0 = addi x0 ba) (e1 : y1 = addi x1 bb) :
    ∀ i, (y0 i, y1 i) = ((st i).1 + a, (st i).2 + b) := by
  intro i
  rw [← h i]
  subst e0 e1
  simp only [addi, IntOp.addi, ha, hb]

end Cert.Proof.Rounds

end
-- ==== Proof.Uniform.lean ====
/-
  The uniform numbers made of the generator's words, and the exponential variates' reciprocals made of them, at the ideal
  instance.
-/
module

public import proofs.«01_k».proof.Proof.Rounds
public import Idealize.ShloMosaic.PureOps.Ideal

@[expose] public section

noncomputable section

namespace Cert.Proof.Rounds

open Idealize.ShloMosaic

/-- The word at position `n` of the stream of the key `(k0, k1)`. -/
def bits (k0 k1 : W) (n : ℕ) : W := (tf k0 k1 (0#32, BitVec.ofNat 32 n)).1 ^^^ (tf k0 k1 (0#32, BitVec.ofNat 32 n)).2
/-- A word's upper bits as a number in `[0, 1)`. -/
def fl (w : W) : EReal := Ideal.ofBits .f32 ((w >>> 9#32) ||| 1065353216#32) - Ideal.ofBits .f32 0x3F800000#32
/-- That number on the interval from `lo` to `hi`. -/
def unif (lo hi : EReal) (w : W) : EReal := max lo (fl w * (hi - lo) + lo)
/-- The uniform number of the flat position `n`. -/
def uN (n : ℕ) : EReal := unif (Ideal.ofBits .f32 0x00800000#32) (Ideal.ofBits .f32 0x3F800000#32) (bits 1832780943#32 270669613#32 n)
/-- The reciprocal of the exponential variate of the flat position `n`. -/
def eN (n : ℕ) : EReal := Ideal.div (Ideal.ofBits .f32 0xBF800000#32) (Ideal.log (uN n))

section Steps

variable {s z z' : Shape} {d0 d1 d2 : Fin z.rank → Fin s.rank} {b0 : z.BroadcastsInDim s d0} {b1 : z.BroadcastsInDim s d1} {b2 : z.BroadcastsInDim s d2}

/-- The operations that make a number in `[0, 1)` of a pair of words. -/
theorem fl_step {x0 x1 x nb t ob w : IVec s 32} {n o : IVec z 32} {st : s.Idx → W × W} (h : ∀ i, (x0 i, x1 i) = st i)
    {f kb g : FVec Ideal s .f32} {k : FVec Ideal z .f32}
    (e0 : x = xori x0 x1) (e1 : n = constantI z 32 9#32) (e2 : nb = broadcastInDim s d0 b0 n) (e3 : t = Host.shrui x nb)
    (e4 : o = constantI z 32 1065353216#32) (e5 : ob = broadcastInDim s d1 b1 o) (e6 : w = ori t ob) (e7 : f = bitcastToFloat .f32 w)
    (e8 : k = constant z .f32 0x3F800000#32) (e9 : kb = broadcastInDim s d2 b2 k) (e10 : g = subf f kb) :
    ∀ i, g i = fl ((st i).1 ^^^ (st i).2) := by
  intro i
  rw [← h i]
  subst e0 e1 e2 e3 e4 e5 e6 e7 e8 e9 e10
  have hs : IntOp.shrui .host (x0 i ^^^ x1 i) 9#32 = (x0 i ^^^ x1 i) >>> 9#32 := if_pos (by decide)
  show Ideal.ofBits .f32 (IntOp.shrui .host (x0 i ^^^ x1 i) 9#32 ||| 1065353216#32) - _ = _
  rw [hs]
  rfl

/-- The operations that bring such a number onto an interval. -/
theorem unif_step {L H : EReal} {v : s.Idx → EReal} {g gb m lb a lb' u : FVec Ideal s .f32} {lo lo' lo'' hi r : FVec Ideal z .f32} (h : ∀ i, g i = v i)
    (hL : ∀ i, lo i = L) (hL' : ∀ i, lo' i = L) (hL'' : ∀ i, lo'' i = L) (hH : ∀ i, hi i = H)
    (e0 : r = subf hi lo) (e1 : gb = broadcastInDim s d0 b0 r) (e2 : m = mulf g gb) (e3 : lb = broadcastInDim s d1 b1 lo') (e4 : a = addf m lb)
    (e5 : lb' = broadcastInDim s d2 b2 lo'') (e6 : u = maximumf lb' a) : ∀ i, u i = max L (v i * (H - L) + L) := by
  intro i
  rw [← h i]
  subst e0 e1 e2 e3 e4 e5 e6
  simp only [mulf, addf, subf, maximumf, broadcastInDim, hL, hL', hL'', hH, Ideal.mulf_def, Ideal.addf_def, Ideal.subf_def, Ideal.maximumf_def]

/-- The operations that make the reciprocal of an exponential variate of a uniform number. -/
theorem recip_step {u l kb e : FVec Ideal s .f32} {k : FVec Ideal z .f32} {v : s.Idx → EReal} (h : ∀ i, u i = v i)
    (e0 : l = Host.log u) (e1 : k = constant z .f32 0xBF800000#32) (e2 : kb = broadcastInDim s d0 b0 k) (e3 : e = Host.divf kb l) :
    ∀ i, e i = Ideal.div (Ideal.ofBits .f32 0xBF800000#32) (Ideal.log (v i)) := by
  intro i
  rw [← h i]
  subst e0 e1 e2 e3
  rfl

/-- The operations that make a score of a weight and a uniform number. -/
theorem score_step {u l n l' g p kb a la y : FVec Ideal s .f32} {k : FVec Ideal z .f32} {v : s.Idx → EReal} (h : ∀ i, u i = v i)
    (e0 : l = Host.log u) (e1 : n = Host.negf l) (e2 : l' = Host.log n) (e3 : g = Host.negf l') (e4 : k = constant z .f32 0x1E3CE508#32)
    (e5 : kb = broadcastInDim s d0 b0 k) (e6 : a = addf p kb) (e7 : la = Host.log a) (e8 : y = addf g la) :
    ∀ i, y i = -Ideal.log (-Ideal.log (v i)) + Ideal.log (p i + Ideal.ofBits .f32 0x1E3CE508#32) := by
  intro i
  rw [← h i]
  subst e0 e1 e2 e3 e4 e5 e6 e7 e8
  rfl

/-- The operations that make a sample of a column and an offset. -/
theorem sample_step {j : IVec s 32} {x kb a o b k'b y : FVec Ideal s .f32} {k k' : FVec Ideal z .f32}
    (e0 : x = sitofp .f32 j) (e1 : k = constant z .f32 0x39800000#32) (e2 : kb = broadcastInDim s d0 b0 k) (e3 : a = mulf x kb)
    (e4 : b = addf a o) (e5 : k' = constant z .f32 0x3F800000#32) (e6 : k'b = broadcastInDim s d1 b1 k') (e7 : y = subf b k'b) :
    ∀ i, y i = (((j i).toInt : ℝ) : EReal) * Ideal.ofBits .f32 0x39800000#32 + o i - Ideal.ofBits .f32 0x3F800000#32 := by
  intro i
  subst e0 e1 e2 e3 e4 e5 e6 e7
  rfl

end Steps

end Cert.Proof.Rounds

end
-- ==== Proof.Numbers.lean ====
/-
  The uniform numbers as reals, the table's offsets, and the order of scores: the reference compares the logarithms of what
  the kernel compares.
-/
module

public import proofs.«01_k».proof.Proof.Uniform

@[expose] public section

noncomputable section

namespace Cert.Proof.Rounds

open Idealize.ShloMosaic

/-! ## Patterns as reals -/

/-- A pattern with a zero sign and an exponent neither zero nor all ones. -/
theorem ofBits_normal (b : W) (E T : ℕ) (hb : b.toNat = 2 ^ 23 * E + T) (hE : E ≠ 0) (hE' : E < 255) (hT : T < 2 ^ 23) :
    Ideal.ofBits .f32 b = (((2 ^ 23 + T : ℕ) * (2 : ℝ) ^ ((E : ℤ) - 150) : ℝ) : EReal) := by
  have h0 : (b.extractLsb' 31 1 == 1#1) = false := by
    rw [beq_eq_false_iff_ne]
    intro h
    have h := congrArg BitVec.toNat h
    simp only [BitVec.extractLsb'_toNat, Nat.shiftRight_eq_div_pow, hb] at h
    simp at h
    omega
  have h1 : (b.extractLsb' 23 8).toNat = E := by
    simp only [BitVec.extractLsb'_toNat, Nat.shiftRight_eq_div_pow, hb]
    omega
  have h2 : (b.extractLsb' 0 23).toNat = T := by
    simp only [BitVec.extractLsb'_toNat, Nat.shiftRight_eq_div_pow, hb]
    omega
  show Ideal.ieee 8 23 b = _
  unfold Ideal.ieee
  simp only [h0, h1, h2]
  rw [if_neg (by norm_num; omega), if_neg hE]
  norm_num
  congr 2
  push_cast
  ring_nf

theorem zero_eq : Ideal.ofBits .f32 0x00000000#32 = 0 := by simp [Ideal.ofBits, Ideal.ieee]
theorem one_eq : Ideal.ofBits .f32 0x3F800000#32 = ((1 : ℝ) : EReal) := by
  rw [ofBits_normal _ 127 0 (by decide) (by decide) (by decide) (by decide)]
  norm_num
theorem neg_one_eq : Ideal.ofBits .f32 0xBF800000#32 = ((-1 : ℝ) : EReal) := by
  show Ideal.ieee 8 23 (0xBF800000#32 : W) = _
  have h0 : (0xBF800000#32 : W).extractLsb' 31 1 = 1#1 := by decide
  have h1 : (0xBF800000#32 : W).extractLsb' 23 8 = 127#8 := by decide
  have h2 : (0xBF800000#32 : W).extractLsb' 0 23 = 0#23 := by decide
  unfold Ideal.ieee
  simp only [h0, h1, h2, Nat.reduceAdd]
  norm_num
theorem bot_eq : Ideal.ofBits .f32 0xFF800000#32 = ⊥ := by
  simp [Ideal.ofBits, Ideal.ieee]
theorem tiny_eq : Ideal.ofBits .f32 0x00800000#32 = (((2 : ℝ) ^ (-126 : ℤ) : ℝ) : EReal) := by
  rw [ofBits_normal _ 1 0 (by decide) (by decide) (by decide) (by decide)]
  norm_num
theorem eps_pos : ∃ r : ℝ, 0 < r ∧ Ideal.ofBits .f32 0x1E3CE508#32 = (r : EReal) := by
  rw [ofBits_normal _ 60 0x3CE508 (by decide) (by decide) (by decide) (by decide)]
  exact ⟨_, by positivity, rfl⟩
theorem scale_eq : Ideal.ofBits .f32 0x39800000#32 = (((2 : ℝ) ^ (-12 : ℤ) : ℝ) : EReal) := by
  rw [ofBits_normal _ 115 0 (by decide) (by decide) (by decide) (by decide)]
  norm_num

theorem frac_lt (w : W) : (w >>> 9#32).toNat < 2 ^ 23 := by
  have := w.isLt
  simp [Nat.shiftRight_eq_div_pow]
  omega

/-- The upper bits of a word as a number. -/
theorem fl_eq (w : W) : fl w = ((((w >>> 9#32).toNat : ℝ) / 2 ^ 23 : ℝ) : EReal) := by
  have hlt := frac_lt w
  have hb : ((w >>> 9#32) ||| 1065353216#32).toNat = 2 ^ 23 * 127 + (w >>> 9#32).toNat := by
    rw [BitVec.toNat_or, Nat.two_pow_add_eq_or_of_lt hlt, Nat.or_comm]
    rfl
  unfold fl
  rw [ofBits_normal _ 127 _ hb (by decide) (by decide) hlt, one_eq, ← EReal.coe_sub]
  congr 1
  push_cast
  norm_num
  ring_nf

/-! ## The uniform numbers -/

/-- A uniform number lies strictly between zero and one. -/
theorem uN_real (n : ℕ) : ∃ r : ℝ, 0 < r ∧ r < 1 ∧ uN n = (r : EReal) := by
  unfold uN unif
  rw [tiny_eq, one_eq, fl_eq]
  generalize bits 1832780943#32 270669613#32 n = w
  have hlt : ((w >>> 9#32).toNat : ℝ) ≤ 2 ^ 23 - 1 := by
    have h := frac_lt w
    generalize (w >>> 9#32).toNat = t at h ⊢
    have : ((t + 1 : ℕ) : ℝ) ≤ ((2 ^ 23 : ℕ) : ℝ) := Nat.cast_le.2 h
    push_cast at this
    linarith
  generalize ((w >>> 9#32).toNat : ℝ) = x at hlt ⊢
  refine ⟨max ((2 : ℝ) ^ (-126 : ℤ)) (x / 2 ^ 23 * (1 - (2 : ℝ) ^ (-126 : ℤ)) + (2 : ℝ) ^ (-126 : ℤ)), ?_, ?_, ?_⟩
  · exact lt_max_of_lt_left (by positivity)
  · have h1 : (2 : ℝ) ^ (-126 : ℤ) < 1 := by norm_num
    have h0 : (0 : ℝ) < (2 : ℝ) ^ (-126 : ℤ) := by positivity
    refine max_lt h1 ?_
    generalize (2 : ℝ) ^ (-126 : ℤ) = t at h0 h1 ⊢
    have hx : x / 2 ^ 23 < 1 := by
      rw [div_lt_one (by norm_num)]
      linarith
    nlinarith
  · rw [EReal.coe_strictMono.monotone.map_max]
    push_cast
    rfl

/-- The reciprocal the kernel multiplies by is a positive real, and its logarithm is the reference's noise. -/
theorem eN_real (n : ℕ) : ∃ r : ℝ, 0 < r ∧ eN n = (r : EReal) ∧ -Ideal.log (-Ideal.log (uN n)) = ((Real.log r : ℝ) : EReal) := by
  obtain ⟨u, h0, h1, hu⟩ := uN_real n
  have hl : Real.log u < 0 := Real.log_neg h0 h1
  have hlog : Ideal.log (uN n) = ((Real.log u : ℝ) : EReal) := by
    rw [hu]
    show (if u ≤ 0 then (⊥ : EReal) else _) = _
    rw [if_neg (by linarith)]
  refine ⟨(-1) * (Real.log u)⁻¹, ?_, ?_, ?_⟩
  · have := inv_lt_zero.2 hl
    linarith
  · unfold eN Ideal.div
    rw [hlog, if_neg (by exact_mod_cast hl.ne), neg_one_eq]
    push_cast
    rfl
  · rw [hlog, ← EReal.coe_neg]
    show -(if -Real.log u ≤ 0 then (⊥ : EReal) else _) = _
    rw [if_neg (by linarith), ← EReal.coe_neg]
    congr 1
    rw [show (-1) * (Real.log u)⁻¹ = (-Real.log u)⁻¹ by rw [inv_neg]; ring, Real.log_inv]

/-! ## Scores against products -/

/-- The noise plus a logarithm is the logarithm of the product. -/
theorem score_log (n : ℕ) (a : EReal) (ha : 0 < a) :
    -Ideal.log (-Ideal.log (uN n)) + Ideal.log a = Ideal.log (a * eN n) := by
  obtain ⟨r, hr, he, hg⟩ := eN_real n
  rw [hg, he]
  induction a using EReal.rec with
  | bot => exact absurd ha (by simp)
  | top =>
    rw [EReal.top_mul_coe_of_pos hr]
    exact EReal.coe_add_top _
  | coe a =>
    have ha : 0 < a := by exact_mod_cast ha
    rw [← EReal.coe_mul]
    show _ + (if a ≤ 0 then (⊥ : EReal) else _) = (if a * r ≤ 0 then (⊥ : EReal) else _)
    rw [if_neg (by linarith), if_neg (by have := mul_pos ha hr; linarith), ← EReal.coe_add, Real.log_mul ha.ne' hr.ne', add_comm]

theorem prod_pos (n : ℕ) (a : EReal) (ha : 0 < a) : 0 < a * eN n := by
  obtain ⟨r, hr, he, -⟩ := eN_real n
  rw [he]
  exact EReal.mul_pos ha (by exact_mod_cast hr)

theorem bot_lt_log (a : EReal) (ha : 0 < a) : ⊥ < Ideal.log a := by
  induction a using EReal.rec with
  | bot => exact absurd ha (by simp)
  | top => exact bot_lt_top
  | coe a =>
    have ha : 0 < a := by exact_mod_cast ha
    show _ < (if a ≤ 0 then (⊥ : EReal) else _)
    rw [if_neg (by linarith)]
    exact EReal.bot_lt_coe _

/-- The logarithm keeps the order of what is above zero. -/
theorem log_lt {a b : EReal} (ha : 0 < a) (h : a < b) : Ideal.log a < Ideal.log b := by
  induction a using EReal.rec with
  | bot => exact absurd ha (by simp)
  | top => exact absurd h (by simp)
  | coe a =>
    have ha : 0 < a := by exact_mod_cast ha
    have e : Ideal.log (a : EReal) = ((Real.log a : ℝ) : EReal) := by
      show (if a ≤ 0 then (⊥ : EReal) else _) = _
      rw [if_neg (by linarith)]
    rw [e]
    induction b using EReal.rec with
    | bot => exact absurd h (by simp)
    | top => exact EReal.coe_lt_top _
    | coe b =>
      have h : a < b := by exact_mod_cast h
      show _ < (if b ≤ 0 then (⊥ : EReal) else _)
      rw [if_neg (by linarith)]
      exact_mod_cast Real.log_lt_log ha h

theorem log_lt_iff {a b : EReal} (ha : 0 < a) (hb : 0 < b) : Ideal.log a < Ideal.log b ↔ a < b := by
  constructor
  · intro h
    by_contra hn
    rcases (not_lt.1 hn).lt_or_eq with h' | h'
    · exact absurd (log_lt hb h') h.asymm
    · rw [h'] at h; exact lt_irrefl _ h
  · exact log_lt ha

/-! ## The table of offsets -/

/-- What is checked of a word of the table: it is the pattern of `fr` times two to the minus thirty-five. -/
def good (b : W) (fr : ℕ) : Bool :=
  (b.toNat == 0 && fr == 0) ||
    (b.toNat / 2 ^ 23 != 0 && decide (b.toNat / 2 ^ 23 ≤ 115) &&
      (2 ^ 23 + b.toNat % 2 ^ 23 == fr * 2 ^ (115 - b.toNat / 2 ^ 23)))

theorem good_eq (b w : W) (h : good b (w >>> 9#32).toNat = true) :
    Ideal.ofBits .f32 b = unif (Ideal.ofBits .f32 0x00000000#32) (Ideal.ofBits .f32 0x39800000#32) w := by
  have hu : unif (Ideal.ofBits .f32 0x00000000#32) (Ideal.ofBits .f32 0x39800000#32) w =
      ((((w >>> 9#32).toNat : ℝ) * (2 : ℝ) ^ (-35 : ℤ) : ℝ) : EReal) := by
    unfold unif
    rw [fl_eq, scale_eq, zero_eq, sub_zero, add_zero, ← EReal.coe_mul, max_eq_right (by
      rw [← EReal.coe_zero]
      exact EReal.coe_le_coe_iff.2 (by positivity))]
    congr 1
    norm_num
    ring_nf
  rw [hu]
  generalize (w >>> 9#32).toNat = fr at h ⊢
  unfold good at h
  rw [Bool.or_eq_true] at h
  rcases h with h | h
  · simp only [Bool.and_eq_true, beq_iff_eq] at h
    rw [show b = 0#32 from BitVec.eq_of_toNat_eq h.1, h.2, zero_eq]
    simp
  · simp only [Bool.and_eq_true, beq_iff_eq, bne_iff_ne, decide_eq_true_eq] at h
    obtain ⟨⟨hE, hE'⟩, hT⟩ := h
    rw [ofBits_normal b (b.toNat / 2 ^ 23) (b.toNat % 2 ^ 23) (by omega) hE (by omega) (by omega), hT]
    congr 1
    push_cast
    rw [mul_assoc]
    congr 1
    rw [← zpow_natCast, ← zpow_add₀ (by norm_num)]
    congr 1
    omega

end Cert.Proof.Rounds

end
-- ==== Proof.KernBest.lean ====
/-
  One row in the kernel: the winning column is the first place of the row's greatest product.
-/
module

public import proofs.«01_k».proof.Proof.Spec
public import proofs.«01_k».proof.Proof.Best
public import proofs.«01_k».proof.Proof.Numbers
public import Idealize.ShloMosaic.Lib.Pointwise

@[expose] public section

noncomputable section

namespace Cert.Proof.Sampler

open Cert.KernelIdeal Cert.KernelIdeal.Gen
open Idealize.ShloMosaic
open Cert.Proof.Best (Best)

/-- Column `n` of a row: what the kernel compares. -/
def prod (p e : Vec Ideal S8192 .f32) (n : ℕ) : EReal :=
  ((show EReal from p (ix1 ⟨n % 8192, Nat.mod_lt _ (by decide)⟩)) + Ideal.ofBits .f32 0x1E3CE508#32) * (show EReal from e (ix1 ⟨n % 8192, Nat.mod_lt _ (by decide)⟩))

theorem step_best {v : ℕ → EReal} {S T U : ℕ → Prop} {ov : FVec Ideal S16 .f32} {oj : IVec S16 32} {s : FVec Ideal S16 .f32 × IVec S16 32}
    {l : S16.Idx} (h : Best v S (s.1 l) (s.2 l)) (h' : Best v T (ov l) (oj l)) (hU : ∀ n, U n ↔ S n ∨ T n) :
    Best v U ((step ov oj s).1 l) ((step ov oj s).2 l) := Best.merge h h' hU

/-- One rack after some trips, at one lane: chunk numbers `4 c + r`. -/
theorem rack_best (p e : Vec Ideal S8192 .f32) (hp : ∀ n, 0 < prod p e n) (r : ℕ) (hr : r < 4) (l : S16.Idx) :
    ∀ k, k < 128 → Best (fun c => prod p e (16 * c + (l 0).val)) (fun c => c % 4 = r ∧ c < 4 * (k + 1))
      (rackV (F := Ideal) (rowChunk p) (rowChunk e) r (k + 1) l) (rackJ (F := Ideal) (rowChunk p) (rowChunk e) r (k + 1) l)
  | 0, _ => by
    refine Best.congr (Best.start (v := fun c => prod p e (16 * c + (l 0).val)) (k := 4 * 0 + r) (by omega) ?_) fun n => by omega
    refine lt_trans ?_ (hp _)
    show Ideal.ofBits .f32 0xBF800000#32 < 0
    rw [Rounds.neg_one_eq]
    exact_mod_cast (by norm_num : (-1 : ℝ) < 0)
  | k + 1, hk => by
    exact Best.later (rack_best p e hp r hr l k (by omega)) (k := 4 * (k + 1) + r) (by omega) (fun n h => by omega) fun n => by omega

/-- The four racks at one lane: all chunk numbers. -/
theorem rk_best (p e : Vec Ideal S8192 .f32) (hp : ∀ n, 0 < prod p e n) (l : S16.Idx) :
    Best (fun c => prod p e (16 * c + (l 0).val)) (fun c => c < 512) ((rkV (accOf p e)).1 l) ((rkV (accOf p e)).2 l) := by
  have h r hr := rack_best p e hp r hr l 127 (by decide)
  exact step_best (step_best (step_best (h 0 (by decide)) (h 1 (by decide)) (fun n => Iff.rfl)) (h 2 (by decide)) (fun n => Iff.rfl))
    (h 3 (by decide)) (fun n => by omega)

/-- One lane's winner as a column. -/
theorem lane0_best (p e : Vec Ideal S8192 .f32) (hp : ∀ n, 0 < prod p e n) (l : Fin 16) :
    Best (prod p e) (fun n => n < 8192 ∧ n % 16 / 1 = l.val / 1) ((lane0 (accOf p e)).1 (ix1 l)) ((lane0 (accOf p e)).2 (ix1 l)) := by
  obtain ⟨c, h1, h2, h3, h4, h5⟩ := rk_best p e hp (ix1 l)
  have hl := l.isLt
  refine ⟨16 * c + l.val, ⟨by omega, by omega⟩, by omega, ?_, h4, fun n hn => ?_⟩
  · show IntOp.addi (IntOp.muli ((rkV (accOf p e)).2 (ix1 l)) 16#32) (lanes (ix1 l)) = _
    rw [h3, lanes_at]
    simp [IntOp.addi, IntOp.muli, BitVec.ofNat_add, BitVec.ofNat_mul, mul_comm]
  · have h := h5 (n / 16) (by omega)
    have e : 16 * (n / 16) + l.val = n := by omega
    simp only [ix1] at h
    rcases h with h | h
    · refine Or.inl ?_
      convert h using 2
      exact e.symm
    · refine Or.inr ⟨?_, by omega⟩
      refine Eq.trans ?_ h.1
      congr 1
      exact e.symm

/-- The lane an exchange reads. -/
def pl (m : BitVec 32) (l : Fin 16) : Fin 16 := ⟨(BitVec.ofNat 32 l.val ^^^ m).toNat % 16, Nat.mod_lt _ (by decide)⟩

theorem xchg_best {v : ℕ → EReal} (m : BitVec 32) (q q' : ℕ) (hq : ∀ l a : Fin 16, a.val / q' = l.val / q' ↔ a.val / q = l.val / q ∨ a.val / q = (pl m l).val / q)
    {s : FVec Ideal S16 .f32 × IVec S16 32} (h : ∀ l : Fin 16, Best v (fun n => n < 8192 ∧ n % 16 / q = l.val / q) (s.1 (ix1 l)) (s.2 (ix1 l))) (l : Fin 16) :
    Best v (fun n => n < 8192 ∧ n % 16 / q' = l.val / q') ((xchg (F := Ideal) m s).1 (ix1 l)) ((xchg (F := Ideal) m s).2 (ix1 l)) := by
  refine step_best (h l) (T := fun n => n < 8192 ∧ n % 16 / q = (pl m l).val / q) ?_ fun n => ?_
  · have h' := h (pl m l)
    have e1 : perm (F := Ideal) (e := .f32) m (shapeCast S16 s.1 shapeCasts_S16_S16) (ix1 l) = s.1 (ix1 (pl m l)) := by
      rw [shapeCast_self]; rfl
    have e2 : perm (F := Ideal) (e := .i32) m (shapeCast S16 s.2 shapeCasts_S16_S16) (ix1 l) = s.2 (ix1 (pl m l)) := by
      rw [shapeCast_self]; rfl
    rw [e1, e2]
    exact h'
  · have h' := hq l ⟨n % 16, Nat.mod_lt _ (by decide)⟩
    simp only at h'
    rw [h']
    tauto

/-- A row's winning column, in every lane. -/
theorem row_best (p e : Vec Ideal S8192 .f32) (hp : ∀ n, 0 < prod p e n) (l : Fin 16) :
    ∃ x, Best (prod p e) (fun n => n < 8192) x (rowG (accOf p e) (ix1 l)) := by
  have h0 := lane0_best p e hp
  have h1 := xchg_best 1#32 1 2 (by decide +kernel) h0
  have h2 := xchg_best 2#32 2 4 (by decide +kernel) h1
  have h3 := xchg_best 4#32 4 8 (by decide +kernel) h2
  have h4 := xchg_best 8#32 8 16 (by decide +kernel) h3
  have hl := l.isLt
  exact ⟨_, Best.congr (h4 l) fun n => by omega⟩

end Cert.Proof.Sampler

end
-- ==== Proof.HostTf.lean ====
/-
  The kernel's host operations: the words they compute, as the generator's function at every index, and the table of
  reciprocals made of them.
-/
module

public import proofs.«01_k».proof.Proof.Host
public import proofs.«01_k».proof.Proof.Uniform

@[expose] public section

noncomputable section

namespace Cert.Proof.Sampler

open Cert.KernelIdeal Cert.KernelIdeal.Gen
open Cert.Proof.Rounds
open Idealize.ShloMosaic
open Idealize.SL.Sem

section Words

variable {F : FTy → Type} [FloatOps F] (G : Valuation τ sig (Elt F))

/-- What the host's operations leave in a buffer. -/
abbrev hv (b : Ref sig .tc) : b.ty.Contents (Elt F) := StableHlo.after hostOps G (Proc.devRef .tc b)

variable {l : List (HloOp τ sig (Elt F))} {a b x y : Ref sig .tc}

theorem hN {v : y.ty.Contents (Elt F)} {hy} (hl : ∀ op ∈ l, op ∈ hostOps (F := F)) (n : ℕ)
    (h : l[n]? = some (StableHlo.nullary (τ := τ) y v hy)) : hv G y = v := Chain.eqN host_ordered _ hl n h
theorem hU {f : x.ty.Contents (Elt F) → y.ty.Contents (Elt F)} {hx hy} (hl : ∀ op ∈ l, op ∈ hostOps (F := F)) (n : ℕ)
    (h : l[n]? = some (StableHlo.unary (τ := τ) x y f hx hy)) : hv G y = f (hv G x) := Chain.eqU host_ordered _ hl n h
theorem hB {f : a.ty.Contents (Elt F) → b.ty.Contents (Elt F) → y.ty.Contents (Elt F)} {ha hb hy} (hl : ∀ op ∈ l, op ∈ hostOps (F := F)) (n : ℕ)
    (h : l[n]? = some (StableHlo.binary (τ := τ) a b y f ha hb hy)) : hv G y = f (hv G a) (hv G b) := Chain.eqB host_ordered _ hl n h

theorem t0 : ∀ op ∈ hostP0 (F := F), op ∈ hostOps (F := F) := fun _ h => List.mem_append_left _ h
theorem t1 : ∀ op ∈ hostP1 (F := F), op ∈ hostOps (F := F) := fun _ h => List.mem_append_right _ (List.mem_append_left _ h)
theorem t2 : ∀ op ∈ hostP2 (F := F), op ∈ hostOps (F := F) := fun _ h => List.mem_append_right _ (List.mem_append_right _ (List.mem_append_left _ h))
theorem t3 : ∀ op ∈ hostP3 (F := F), op ∈ hostOps (F := F) := fun _ h => List.mem_append_right _ (List.mem_append_right _ (List.mem_append_right _ (List.mem_append_left _ h)))
theorem t4 : ∀ op ∈ hostP4 (F := F), op ∈ hostOps (F := F) := fun _ h => List.mem_append_right _ (List.mem_append_right _ (List.mem_append_right _ (List.mem_append_right _ (h))))

set_option maxHeartbeats 4000000 in -- 235 operations
/-- The pair of words at every index of the table. -/
theorem words (i : S1048576.Idx) :
    ((hv G main_v171 i, hv G main_v175 i) : W × W) = tf 1832780943#32 270669613#32 (0#32, BitVec.ofNat 32 (i 0).val) := by
  revert i
  have q1 := hN G t0 1 rfl
  have q2 := hN G t0 2 rfl
  have q3 := hU G t0 3 rfl
  have hx : ∀ i : S1048576.Idx, ((hv G main_v1 i, hv G main_v0 i) : W × W) = (fun i : S1048576.Idx => (0#32, BitVec.ofNat 32 (i 0).val)) i := by
    intro i; rw [q3, q2, q1]; rfl
  have q4 := hN G t0 4 rfl
  have q5 := hU G t0 5 rfl
  have q6 := hB G t0 6 rfl
  have q7 := hN G t0 7 rfl
  have q8 := hU G t0 8 rfl
  have q9 := hB G t0 9 rfl
  have b0 := bc_const q4 q5
  have b1 := bc_const q7 q8
  have r := start_step hx b0 b1 q6 q9
  have q0 := hB G t0 10 rfl
  have q1 := hN G t0 11 rfl
  have q2 := hU G t0 12 rfl
  have q3 := hB G t0 13 rfl
  have q4 := hN G t0 14 rfl
  have q5 := hU G t0 15 rfl
  have q6 := hB G t0 16 rfl
  have q7 := hB G t0 17 rfl
  have q8 := hB G t0 18 rfl
  replace r := round_step 13 19 r q0 q1 q2 q3 q4 q5 q6 q7 q8 (by decide) (by decide)
  have q0 := hB G t0 19 rfl
  have q1 := hN G t0 20 rfl
  have q2 := hU G t0 21 rfl
  have q3 := hB G t0 22 rfl
  have q4 := hN G t0 23 rfl
  have q5 := hU G t0 24 rfl
  have q6 := hB G t0 25 rfl
  have q7 := hB G t0 26 rfl
  have q8 := hB G t0 27 rfl
  replace r := round_step 15 17 r q0 q1 q2 q3 q4 q5 q6 q7 q8 (by decide) (by decide)
  have q0 := hB G t0 28 rfl
  have q1 := hN G t0 29 rfl
  have q2 := hU G t0 30 rfl
  have q3 := hB G t0 31 rfl
  have q4 := hN G t0 32 rfl
  have q5 := hU G t0 33 rfl
  have q6 := hB G t0 34 rfl
  have q7 := hB G t0 35 rfl
  have q8 := hB G t0 36 rfl
  replace r := round_step 26 6 r q0 q1 q2 q3 q4 q5 q6 q7 q8 (by decide) (by decide)
  have q0 := hB G t0 37 rfl
  have q1 := hN G t0 38 rfl
  have q2 := hU G t0 39 rfl
  have q3 := hB G t0 40 rfl
  have q4 := hN G t0 41 rfl
  have q5 := hU G t0 42 rfl
  have q6 := hB G t0 43 rfl
  have q7 := hB G t0 44 rfl
  have q8 := hB G t0 45 rfl
  replace r := round_step 6 26 r q0 q1 q2 q3 q4 q5 q6 q7 q8 (by decide) (by decide)
  have q0 := hN G t0 46 rfl
  have q1 := hU G t0 47 rfl
  have q2 := hB G t0 48 rfl
  have q3 := hN G t0 49 rfl
  have q4 := hU G t0 50 rfl
  have q5 := hB G t0 51 rfl
  have q6 := hN G t0 52 rfl
  have q7 := hU G t0 53 rfl
  have q8 := hB G t0 54 rfl
  have ba := bc_const q0 q1
  have bb := bc_const q3 q4
  have bn := bc_const q6 q7
  replace r := inj_step r ba bb bn q2 q5 q8
  have q0 := hB G t0 55 rfl
  have q1 := hN G t0 56 rfl
  have q2 := hU G t0 57 rfl
  have q3 := hB G t0 58 rfl
  have q4 := hN G t0 59 rfl
  have q5 := hU G t1 0 rfl
  have q6 := hB G t1 1 rfl
  have q7 := hB G t1 2 rfl
  have q8 := hB G t1 3 rfl
  replace r := round_step 17 15 r q0 q1 q2 q3 q4 q5 q6 q7 q8 (by decide) (by decide)
  have q0 := hB G t1 4 rfl
  have q1 := hN G t1 5 rfl
  have q2 := hU G t1 6 rfl
  have q3 := hB G t1 7 rfl
  have q4 := hN G t1 8 rfl
  have q5 := hU G t1 9 rfl
  have q6 := hB G t1 10 rfl
  have q7 := hB G t1 11 rfl
  have q8 := hB G t1 12 rfl
  replace r := round_step 29 3 r q0 q1 q2 q3 q4 q5 q6 q7 q8 (by decide) (by decide)
  have q0 := hB G t1 13 rfl
  have q1 := hN G t1 14 rfl
  have q2 := hU G t1 15 rfl
  have q3 := hB G t1 16 rfl
  have q4 := hN G t1 17 rfl
  have q5 := hU G t1 18 rfl
  have q6 := hB G t1 19 rfl
  have q7 := hB G t1 20 rfl
  have q8 := hB G t1 21 rfl
  replace r := round_step 16 16 r q0 q1 q2 q3 q4 q5 q6 q7 q8 (by decide) (by decide)
  have q0 := hB G t1 22 rfl
  have q1 := hN G t1 23 rfl
  have q2 := hU G t1 24 rfl
  have q3 := hB G t1 25 rfl
  have q4 := hN G t1 26 rfl
  have q5 := hU G t1 27 rfl
  have q6 := hB G t1 28 rfl
  have q7 := hB G t1 29 rfl
  have q8 := hB G t1 30 rfl
  replace r := round_step 24 8 r q0 q1 q2 q3 q4 q5 q6 q7 q8 (by decide) (by decide)
  have q0 := hN G t1 31 rfl
  have q1 := hU G t1 32 rfl
  have q2 := hB G t1 33 rfl
  have q3 := hN G t1 34 rfl
  have q4 := hU G t1 35 rfl
  have q5 := hB G t1 36 rfl
  have q6 := hN G t1 37 rfl
  have q7 := hU G t1 38 rfl
  have q8 := hB G t1 39 rfl
  have ba := bc_const q0 q1
  have bb := bc_const q3 q4
  have bn := bc_const q6 q7
  replace r := inj_step r ba bb bn q2 q5 q8
  have q0 := hB G t1 40 rfl
  have q1 := hN G t1 41 rfl
  have q2 := hU G t1 42 rfl
  have q3 := hB G t1 43 rfl
  have q4 := hN G t1 44 rfl
  have q5 := hU G t1 45 rfl
  have q6 := hB G t1 46 rfl
  have q7 := hB G t1 47 rfl
  have q8 := hB G t1 48 rfl
  replace r := round_step 13 19 r q0 q1 q2 q3 q4 q5 q6 q7 q8 (by decide) (by decide)
  have q0 := hB G t1 49 rfl
  have q1 := hN G t1 50 rfl
  have q2 := hU G t1 51 rfl
  have q3 := hB G t1 52 rfl
  have q4 := hN G t1 53 rfl
  have q5 := hU G t1 54 rfl
  have q6 := hB G t1 55 rfl
  have q7 := hB G t1 56 rfl
  have q8 := hB G t1 57 rfl
  replace r := round_step 15 17 r q0 q1 q2 q3 q4 q5 q6 q7 q8 (by decide) (by decide)
  have q0 := hB G t1 58 rfl
  have q1 := hN G t1 59 rfl
  have q2 := hU G t2 0 rfl
  have q3 := hB G t2 1 rfl
  have q4 := hN G t2 2 rfl
  have q5 := hU G t2 3 rfl
  have q6 := hB G t2 4 rfl
  have q7 := hB G t2 5 rfl
  have q8 := hB G t2 6 rfl
  replace r := round_step 26 6 r q0 q1 q2 q3 q4 q5 q6 q7 q8 (by decide) (by decide)
  have q0 := hB G t2 7 rfl
  have q1 := hN G t2 8 rfl
  have q2 := hU G t2 9 rfl
  have q3 := hB G t2 10 rfl
  have q4 := hN G t2 11 rfl
  have q5 := hU G t2 12 rfl
  have q6 := hB G t2 13 rfl
  have q7 := hB G t2 14 rfl
  have q8 := hB G t2 15 rfl
  replace r := round_step 6 26 r q0 q1 q2 q3 q4 q5 q6 q7 q8 (by decide) (by decide)
  have q0 := hN G t2 16 rfl
  have q1 := hU G t2 17 rfl
  have q2 := hB G t2 18 rfl
  have q3 := hN G t2 19 rfl
  have q4 := hU G t2 20 rfl
  have q5 := hB G t2 21 rfl
  have q6 := hN G t2 22 rfl
  have q7 := hU G t2 23 rfl
  have q8 := hB G t2 24 rfl
  have ba := bc_const q0 q1
  have bb := bc_const q3 q4
  have bn := bc_const q6 q7
  replace r := inj_step r ba bb bn q2 q5 q8
  have q0 := hB G t2 25 rfl
  have q1 := hN G t2 26 rfl
  have q2 := hU G t2 27 rfl
  have q3 := hB G t2 28 rfl
  have q4 := hN G t2 29 rfl
  have q5 := hU G t2 30 rfl
  have q6 := hB G t2 31 rfl
  have q7 := hB G t2 32 rfl
  have q8 := hB G t2 33 rfl
  replace r := round_step 17 15 r q0 q1 q2 q3 q4 q5 q6 q7 q8 (by decide) (by decide)
  have q0 := hB G t2 34 rfl
  have q1 := hN G t2 35 rfl
  have q2 := hU G t2 36 rfl
  have q3 := hB G t2 37 rfl
  have q4 := hN G t2 38 rfl
  have q5 := hU G t2 39 rfl
  have q6 := hB G t2 40 rfl
  have q7 := hB G t2 41 rfl
  have q8 := hB G t2 42 rfl
  replace r := round_step 29 3 r q0 q1 q2 q3 q4 q5 q6 q7 q8 (by decide) (by decide)
  have q0 := hB G t2 43 rfl
  have q1 := hN G t2 44 rfl
  have q2 := hU G t2 45 rfl
  have q3 := hB G t2 46 rfl
  have q4 := hN G t2 47 rfl
  have q5 := hU G t2 48 rfl
  have q6 := hB G t2 49 rfl
  have q7 := hB G t2 50 rfl
  have q8 := hB G t2 51 rfl
  replace r := round_step 16 16 r q0 q1 q2 q3 q4 q5 q6 q7 q8 (by decide) (by decide)
  have q0 := hB G t2 52 rfl
  have q1 := hN G t2 53 rfl
  have q2 := hU G t2 54 rfl
  have q3 := hB G t2 55 rfl
  have q4 := hN G t2 56 rfl
  have q5 := hU G t2 57 rfl
  have q6 := hB G t2 58 rfl
  have q7 := hB G t2 59 rfl
  have q8 := hB G t3 0 rfl
  replace r := round_step 24 8 r q0 q1 q2 q3 q4 q5 q6 q7 q8 (by decide) (by decide)
  have q0 := hN G t3 1 rfl
  have q1 := hU G t3 2 rfl
  have q2 := hB G t3 3 rfl
  have q3 := hN G t3 4 rfl
  have q4 := hU G t3 5 rfl
  have q5 := hB G t3 6 rfl
  have q6 := hN G t3 7 rfl
  have q7 := hU G t3 8 rfl
  have q8 := hB G t3 9 rfl
  have ba := bc_const q0 q1
  have bb := bc_const q3 q4
  have bn := bc_const q6 q7
  replace r := inj_step r ba bb bn q2 q5 q8
  have q0 := hB G t3 10 rfl
  have q1 := hN G t3 11 rfl
  have q2 := hU G t3 12 rfl
  have q3 := hB G t3 13 rfl
  have q4 := hN G t3 14 rfl
  have q5 := hU G t3 15 rfl
  have q6 := hB G t3 16 rfl
  have q7 := hB G t3 17 rfl
  have q8 := hB G t3 18 rfl
  replace r := round_step 13 19 r q0 q1 q2 q3 q4 q5 q6 q7 q8 (by decide) (by decide)
  have q0 := hB G t3 19 rfl
  have q1 := hN G t3 20 rfl
  have q2 := hU G t3 21 rfl
  have q3 := hB G t3 22 rfl
  have q4 := hN G t3 23 rfl
  have q5 := hU G t3 24 rfl
  have q6 := hB G t3 25 rfl
  have q7 := hB G t3 26 rfl
  have q8 := hB G t3 27 rfl
  replace r := round_step 15 17 r q0 q1 q2 q3 q4 q5 q6 q7 q8 (by decide) (by decide)
  have q0 := hB G t3 28 rfl
  have q1 := hN G t3 29 rfl
  have q2 := hU G t3 30 rfl
  have q3 := hB G t3 31 rfl
  have q4 := hN G t3 32 rfl
  have q5 := hU G t3 33 rfl
  have q6 := hB G t3 34 rfl
  have q7 := hB G t3 35 rfl
  have q8 := hB G t3 36 rfl
  replace r := round_step 26 6 r q0 q1 q2 q3 q4 q5 q6 q7 q8 (by decide) (by decide)
  have q0 := hB G t3 37 rfl
  have q1 := hN G t3 38 rfl
  have q2 := hU G t3 39 rfl
  have q3 := hB G t3 40 rfl
  have q4 := hN G t3 41 rfl
  have q5 := hU G t3 42 rfl
  have q6 := hB G t3 43 rfl
  have q7 := hB G t3 44 rfl
  have q8 := hB G t3 45 rfl
  replace r := round_step 6 26 r q0 q1 q2 q3 q4 q5 q6 q7 q8 (by decide) (by decide)
  have q0 := hN G t3 46 rfl
  have q1 := hU G t3 47 rfl
  have q2 := hB G t3 48 rfl
  have q3 := hN G t3 49 rfl
  have q4 := hU G t3 50 rfl
  have q5 := hB G t3 51 rfl
  have q6 := hN G t3 52 rfl
  have q7 := hU G t3 53 rfl
  have q8 := hB G t3 54 rfl
  have ba := bc_const q0 q1
  have bb := bc_const q3 q4
  have bn := bc_const q6 q7
  replace r := inj_step r ba bb bn q2 q5 q8
  rw [show 1724713080#32 = key2 1832780943#32 270669613#32 by decide] at r
  exact r

end Words

variable (G : Valuation τ sig (Elt Ideal))

/-- The table of reciprocals at the ideal instance. -/
theorem host_e (i : S1048576.Idx) : hv G main_v193 i = eN (i 0).val := by
  have q235 := hB G t3 55 rfl
  have q236 := hN G t3 56 rfl
  have q237 := hU G t3 57 rfl
  have q238 := hB G t3 58 rfl
  have q239 := hN G t3 59 rfl
  have q240 := hU G t4 0 rfl
  have q241 := hB G t4 1 rfl
  have q242 := hU G t4 2 rfl
  have q243 := hN G t4 3 rfl
  have q244 := hU G t4 4 rfl
  have q245 := hB G t4 5 rfl
  have q246 := hN G t4 6 rfl
  have q247 := hN G t4 7 rfl
  have q248 := hB G t4 8 rfl
  have q249 := hU G t4 9 rfl
  have q250 := hB G t4 10 rfl
  have q251 := hN G t4 11 rfl
  have q252 := hU G t4 12 rfl
  have q253 := hB G t4 13 rfl
  have q254 := hN G t4 14 rfl
  have q255 := hU G t4 15 rfl
  have q256 := hB G t4 16 rfl
  have q257 := hU G t4 17 rfl
  have q258 := hN G t4 18 rfl
  have q259 := hU G t4 19 rfl
  have q260 := hB G t4 20 rfl
  have e0 := fl_step (words G) q235 q236 q237 q238 q239 q240 q241 q242 q243 q244 q245
  have k0 : ∀ i, hv G main_cst_60 i = Ideal.ofBits .f32 0x3F800000#32 := fun i => by rw [q246]; rfl
  have k1 : ∀ i, hv G main_cst_61 i = Ideal.ofBits .f32 0x00800000#32 := fun i => by rw [q247]; rfl
  have k2 : ∀ i, hv G main_cst_62 i = Ideal.ofBits .f32 0x00800000#32 := fun i => by rw [q251]; rfl
  have k3 : ∀ i, hv G main_cst_63 i = Ideal.ofBits .f32 0x00800000#32 := fun i => by rw [q254]; rfl
  have e1 := unif_step e0 k1 k2 k3 k0 q248 q249 q250 q252 q253 q255 q256
  have e2 := recip_step e1 q257 q258 q259 q260
  exact e2 i

theorem host_u : hv G main_cst = fun i => Ideal.ofBits .f32 (lit0 (S32x16.rowMajor i)) := hN G t0 0 rfl

end Cert.Proof.Sampler

end
-- ==== Proof.Table.lean ====
/-
  The table of offsets the kernel reads is the reference's uniform numbers.
-/
module

public import proofs.«01_k».proof.Proof.Numbers
public import proofs.«01_k».proof.Kernel
public import proofs.«01_k».proof.KernelIdeal

@[expose] public section

noncomputable section

namespace Cert.Proof.Rounds

open Idealize.ShloMosaic

def tableOk (k : ℕ) : Bool :=
  good (Cert.KernelIdeal.lit0 ⟨(16 * (k / 4) + k % 4) % 512, Nat.mod_lt _ (by decide)⟩) (bits 64467757#32 2916123636#32 k >>> 9#32).toNat

theorem table_ok : ((List.range 128).all tableOk) = true := by decide +kernel

end Cert.Proof.Rounds

end
-- ==== Proof.KernVal.lean ====
/-
  The kernel's result, row by row: the column that wins the row, and the row's offset.
-/
module

public import proofs.«01_k».proof.Proof.KernBest
public import proofs.«01_k».proof.Proof.Main
public import proofs.«01_k».proof.Proof.HostTf
public import proofs.«01_k».proof.Proof.Table

@[expose] public section

noncomputable section

namespace Cert.Proof.Sampler

open Cert.KernelIdeal Cert.KernelIdeal.Gen
open Idealize.ShloMosaic
open Cert.Proof.Best (Best)

/-! ## The pieces a task reads -/

section Reads

variable {F : FTy → Type}

theorem row_lt (L : grid0.Coords) (r : Fin 4) : 8 * (L 1).val + 4 * (L 0).val + r.val < 128 := by
  have h1 : (L 1).val < 16 := (L 1).isLt
  have h2 : (L 0).val < 2 := (L 0).isLt
  omega

theorem pKr_read (L : grid0.Coords) (r : Fin 4) (g : S128x8192.Idx → F .f32) (j : S8192.Idx) :
    (pKr L r).view.read (Elt F) g j = g (ix2 ⟨8 * (L 1).val + 4 * (L 0).val + r.val, row_lt L r⟩ (j 0)) := by
  show g _ = g _
  congr 1
  show (Rect.unit (s := S128x8192) (k0_off2 L (BitVec.ofNat 32 r.val)) S1x8192.size (k0_off2_inb L r)).emb
    (Shape.reshapeEquiv squeezes_S1x8192_S8192.numel_eq _) = _
  rw [show squeezes_S1x8192_S8192.numel_eq = squeezes_S1x8192_S8192.numel_eq from rfl, Shape.reshapeEquiv_cons_one]
  funext a
  apply Fin.ext
  rw [Rect.emb_apply]
  have h := congrFun (k0_off2_eq L r) a
  match a with
  | 0 => simp [Rect.unit]; exact h
  | 1 => simp [Rect.unit]; rw [h]; simp; rfl

theorem eKr_read (L : grid0.Coords) (r : Fin 4) (g : S1048576.Idx → F .f32) (j : S8192.Idx) :
    (eKr L r).view.read (Elt F) g j = g (ix1 ⟨8192 * (8 * (L 1).val + 4 * (L 0).val + r.val) + (j 0).val, by
      have := row_lt L r
      have : (j 0).val < 8192 := (j 0).isLt
      omega⟩) := by
  show g _ = g _
  congr 1
  show (Rect.unit (s := S1048576) (k0_off3 L (BitVec.ofNat 32 r.val)) S8192.size (k0_off3_inb L r)).emb _ = _
  funext a
  apply Fin.ext
  rw [Rect.emb_apply]
  have h := congrFun (k0_off3_eq L r) a
  match a with
  | 0 =>
    simp [Rect.unit]
    rw [h]
    simp
    omega

theorem uK_read (L : grid0.Coords) (g : S32x16.Idx → F .f32) (j : S16.Idx) :
    (uK L).view.read (Elt F) g j = g (ix2 ⟨2 * (L 1).val + (L 0).val, by have : (L 1).val < 16 := (L 1).isLt; have : (L 0).val < 2 := (L 0).isLt; omega⟩ (j 0)) := by
  show g _ = g _
  congr 1
  show (Rect.unit (s := S32x16) (k0_off1 L) S1x16.size (k0_off1_inb L)).emb (Shape.reshapeEquiv squeezes_S1x16_S16.numel_eq _) = _
  rw [show squeezes_S1x16_S16.numel_eq = squeezes_S1x16_S16.numel_eq from rfl, Shape.reshapeEquiv_cons_one]
  funext a
  apply Fin.ext
  rw [Rect.emb_apply]
  have h := congrFun (k0_off1_eq L) a
  match a with
  | 0 => simp [Rect.unit]; exact h
  | 1 => simp [Rect.unit]; rw [h]; simp; rfl

end Reads

/-! ## One lane of a task's row -/

theorem setLane_at (k : BitVec 32) (g y : IVec S16 32) (l : Fin 16) :
    setLane k g y (ix1 l) = if BitVec.ofNat 32 l.val = k then g (ix1 l) else y (ix1 l) := by
  show Scalar.select (BitVec.ofBool (lanes (ix1 l) == k)) _ _ = _
  rw [lanes_at]
  by_cases h : BitVec.ofNat 32 l.val = k
  · rw [if_pos h, show (BitVec.ofNat 32 ((ix1 l : S16.Idx) 0).val == k) = true from beq_iff_eq.2 h]
    rfl
  · rw [if_neg h, show (BitVec.ofNat 32 ((ix1 l : S16.Idx) 0).val == k) = false from beq_eq_false_iff_ne.2 h]
    rfl

/-- The first four lanes of a row of sixteen. -/
def ln (r : Fin 4) : Fin 16 := ⟨r.val, by omega⟩

theorem lanes4 (g : Fin 4 → IVec S16 32) (z : IVec S16 32) (r : Fin 4) :
    setLane 3#32 (g 3) (setLane 2#32 (g 2) (setLane 1#32 (g 1) (setLane 0#32 (g 0) z))) (ix1 (ln r)) = g r (ix1 (ln r)) := by
  rw [setLane_at, setLane_at, setLane_at, setLane_at]
  revert r
  intro r
  match r with
  | 0 => rfl
  | 1 => rfl
  | 2 => rfl
  | 3 => rfl

theorem outY_at (y : IVec S16 32) (u : FVec Ideal S16 .f32) (l : Fin 16) :
    outY (F := Ideal) y u (ix1 l) = (((y (ix1 l)).toInt : ℝ) : EReal) * Ideal.ofBits .f32 0x39800000#32 + (show EReal from u (ix1 l)) - Ideal.ofBits .f32 0x3F800000#32 := by
  unfold outY
  rw [shapeCast_self, shapeCast_self]
  rfl

/-- The row of columns of one of a task's four rows. -/
def rowJ (L : grid0.Coords) (fp : S128x8192.Idx → EReal) (fe : S1048576.Idx → EReal) (r : Fin 4) : IVec S16 32 :=
  rowG (accOf (F := Ideal) ((pKr L r).view.read (Elt Ideal) fp) ((eKr L r).view.read (Elt Ideal) fe))

theorem outV_at (L : grid0.Coords) (fp : S128x8192.Idx → EReal) (fe : S1048576.Idx → EReal) (fu : S32x16.Idx → EReal) (r : Fin 4) :
    outV (F := Ideal) L fp fe fu (ix1 (ln r)) = (((rowJ L fp fe r (ix1 (ln r))).toInt : ℝ) : EReal) * Ideal.ofBits .f32 0x39800000#32
      + (show EReal from (uK L).view.read (Elt Ideal) fu (ix1 (ln r))) - Ideal.ofBits .f32 0x3F800000#32 := by
  have e : outV (F := Ideal) L fp fe fu = outY (F := Ideal) (setLane 3#32 (rowJ L fp fe 3) (setLane 2#32 (rowJ L fp fe 2) (setLane 1#32 (rowJ L fp fe 1)
    (setLane 0#32 (rowJ L fp fe 0) (broadcast S16 0#32))))) ((uK L).view.read (Elt Ideal) fu) := rfl
  rw [e, outY_at, lanes4]

/-- The product at a row and a column, by the row's number among all. -/
def prodAt (p : S128x8192.Idx → EReal) (k : Fin 128) (n : ℕ) : EReal :=
  (p (ix2 k ⟨n % 8192, Nat.mod_lt _ (by decide)⟩) + Ideal.ofBits .f32 0x1E3CE508#32) * Rounds.eN (8192 * k.val + n % 8192)

theorem prodAt_pos {p : S128x8192.Idx → EReal} (hp : ∀ i, 0 ≤ p i) (k : Fin 128) (n : ℕ) : 0 < prodAt p k n := by
  refine Rounds.prod_pos _ _ ?_
  obtain ⟨r, hr, e⟩ := Rounds.eps_pos
  rw [e]
  exact lt_of_lt_of_le (by exact_mod_cast hr : (0 : EReal) < (r : EReal)) (le_add_of_nonneg_left (hp _))

theorem rowJ_best (L : grid0.Coords) {p : S128x8192.Idx → EReal} {fe : S1048576.Idx → EReal} (hp : ∀ i, 0 ≤ p i) (he : ∀ i, fe i = Rounds.eN (i 0).val)
    (r : Fin 4) (l : Fin 16) : ∃ x, Best (prodAt p ⟨8 * (L 1).val + 4 * (L 0).val + r.val, row_lt L r⟩) (fun n => n < 8192) x (rowJ L p fe r (ix1 l)) := by
  have e : prod ((pKr L r).view.read (Elt Ideal) p) ((eKr L r).view.read (Elt Ideal) fe) = prodAt p ⟨8 * (L 1).val + 4 * (L 0).val + r.val, row_lt L r⟩ := by
    funext n
    unfold prod
    rw [pKr_read, eKr_read, he]
    rfl
  have h := row_best ((pKr L r).view.read (Elt Ideal) p) ((eKr L r).view.read (Elt Ideal) fe) (fun n => by rw [e]; exact prodAt_pos hp _ _) l
  rw [e] at h
  exact h

/-! ## The program's result -/

variable (m : (ℓ : Loc nD τ sig) → Buf (Elt Ideal) ℓ) (d : Dev nD)

theorem hostT_ordered {F : FTy → Type} [FloatOps F] : Chain.Ordered (Val := Elt F) (Chain.num main_v195) (hostT (F := F)) :=
  Chain.ordered_unary rfl (by decide) <| Chain.ordered_reshape rfl (by decide) Chain.ordered_nil

theorem cast_rows (x : S32x4.Idx → EReal) (k : Fin 128) :
    shapeCast S128x1x1x1 x shapeCasts_S32x4_S128x1x1x1 (ix4 k 0 0 0) = x (ix2 ⟨k.val / 4, by omega⟩ ⟨k.val % 4, by omega⟩) := by
  pointwise

theorem cut_rows (x : S32x16.Idx → EReal) (t : Fin 32) (r : Fin 4) :
    extractStridedSlice S32x4 ![0, 0] x slices_S32x16_S32x4_0_0 (ix2 t r) = x (ix2 t (ln r)) := by
  pointwise
  rfl

theorem VE_at (k : Fin 128) :
    (VE m d rr : S128x1x1x1.Idx → EReal) (ix4 k 0 0 0) = outF (F := Ideal) (fp m d) (fe m d) (fu m d) (ix2 ⟨k.val / 4, by omega⟩ (ln ⟨k.val % 4, by omega⟩)) := by
  have h0 : VE m d ro = VC m d ro := Chain.after_low hostT_ordered (VC m d) (b := main_v194) (by decide)
  have h1 := Chain.eqU hostT_ordered (VC m d) (fun op h => h) 0 (l := hostT) rfl
  have h2 := Chain.eqR hostT_ordered (VC m d) (fun op h => h) 1 (l := hostT) rfl
  have h2 := congrFun h2 (ix4 k 0 0 0)
  refine h2.trans ((cast_rows _ k).trans ?_)
  rw [h1]
  refine (cut_rows _ _ _).trans ?_
  have h3 := h0.trans (VC_o m d)
  exact congrFun h3 _

theorem offs (k : Fin 128) : (fu m d : S32x16.Idx → EReal) (ix2 ⟨k.val / 4, by omega⟩ (ln ⟨k.val % 4, by omega⟩))
    = Rounds.unif (Ideal.ofBits .f32 0x00000000#32) (Ideal.ofBits .f32 0x39800000#32) (Rounds.bits 64467757#32 2916123636#32 k.val) := by
  have h := congrFun (host_u (V0 m d)) (ix2 ⟨k.val / 4, by omega⟩ (ln ⟨k.val % 4, by omega⟩))
  refine h.trans ?_
  have ht := List.all_eq_true.1 Rounds.table_ok k.val (List.mem_range.2 k.isLt)
  have hg := Rounds.good_eq _ _ ht
  refine Eq.trans ?_ hg
  congr 2
  apply Fin.ext
  have hr := Shape.rowMajor_val_two (d := ![32, 16]) (ix2 ⟨k.val / 4, by omega⟩ (ln ⟨k.val % 4, by omega⟩))
  refine hr.trans ?_
  show k.val / 4 * 16 + k.val % 4 = (16 * (k.val / 4) + k.val % 4) % 512
  omega

/-- Row `k` of the result: the first place of the greatest product, scaled, and the row's offset. -/
theorem kern_val (hp : ∀ i, 0 ≤ (fp m d : S128x8192.Idx → EReal) i) (k : Fin 128) : ∃ (x : EReal) (j : BitVec 32),
    Best (prodAt (fp m d) k) (fun n => n < 8192) x j ∧ (VE m d rr : S128x1x1x1.Idx → EReal) (ix4 k 0 0 0) =
      ((j.toInt : ℝ) : EReal) * Ideal.ofBits .f32 0x39800000#32
        + Rounds.unif (Ideal.ofBits .f32 0x00000000#32) (Ideal.ofBits .f32 0x39800000#32) (Rounds.bits 64467757#32 2916123636#32 k.val)
        - Ideal.ofBits .f32 0x3F800000#32 := by
  obtain ⟨L, hL, hLe⟩ : ∃ L : grid0.Coords, 2 * (L 1).val + (L 0).val = k.val / 4 ∧
      L = Lc ⟨(k.val / 4) % 2, by omega⟩ ⟨(k.val / 4) / 2, by omega⟩ :=
    ⟨Lc ⟨(k.val / 4) % 2, by omega⟩ ⟨(k.val / 4) / 2, by omega⟩, (by show 2 * (k.val / 4 / 2) + k.val / 4 % 2 = _; omega), rfl⟩
  have hk : (⟨8 * (L 1).val + 4 * (L 0).val + k.val % 4, row_lt L ⟨k.val % 4, by omega⟩⟩ : Fin 128) = k := by
    apply Fin.ext
    show 8 * (L 1).val + 4 * (L 0).val + k.val % 4 = k.val
    omega
  obtain ⟨x, hx⟩ := rowJ_best L hp (host_e (V0 m d)) ⟨k.val % 4, by omega⟩ (ln ⟨k.val % 4, by omega⟩)
  simp only [hk] at hx
  refine ⟨x, _, hx, ?_⟩
  rw [VE_at]
  have h := outV_at L (fp m d) (fe m d) (fu m d) ⟨k.val % 4, by omega⟩
  rw [uK_read] at h
  have hu := offs m d k
  have hi : (⟨2 * (L 1).val + (L 0).val, by omega⟩ : Fin 32) = ⟨k.val / 4, by omega⟩ := Fin.ext hL
  simp only [hi] at h
  refine (congrArg (fun L' => outV (F := Ideal) L' (fp m d) (fe m d) (fu m d) (ix1 (ln ⟨k.val % 4, by omega⟩))) hLe.symm).trans (h.trans ?_)
  rw [← hu]
  rfl

end Cert.Proof.Sampler

end
-- ==== Proof.RefTf.lean ====
/-
  The three threefry calls of the reference: what their results hold, as the generator's function at every index.
-/
module

public import proofs.«01_k».proof.Proof.RefOrd
public import proofs.«01_k».proof.Proof.Rounds

@[expose] public section

namespace Cert.Proof.Ref

open Cert.ReferenceIdeal Cert.ReferenceIdeal.Gen
open Cert.Proof.Rounds
open Idealize.ShloMosaic
open Idealize.SL.Sem

variable {F : FTy → Type} [FloatOps F]

variable (m : (ℓ : Loc nD τ sig) → Buf (Elt F) ℓ) (d : Dev nD)

/-- What the reference leaves in a buffer of device `d`. -/
noncomputable abbrev rv (b : Ref sig .tc) : b.ty.Contents (Elt F) := WR m d (Proc.devRef .tc b)

variable {l : List (HloOp τ sig (Elt F))} {a b c e x y : Ref sig .tc}

theorem eN {v : y.ty.Contents (Elt F)} {hy} (hl : ∀ op ∈ l, op ∈ refOps (F := F)) (n : ℕ)
    (h : l[n]? = some (StableHlo.nullary (τ := τ) y v hy)) : rv m d y = v := Chain.eqN ref_ordered _ hl n h
theorem eU {f : x.ty.Contents (Elt F) → y.ty.Contents (Elt F)} {hx hy} (hl : ∀ op ∈ l, op ∈ refOps (F := F)) (n : ℕ)
    (h : l[n]? = some (StableHlo.unary (τ := τ) x y f hx hy)) : rv m d y = f (rv m d x) := Chain.eqU ref_ordered _ hl n h
theorem eB {f : a.ty.Contents (Elt F) → b.ty.Contents (Elt F) → y.ty.Contents (Elt F)} {ha hb hy} (hl : ∀ op ∈ l, op ∈ refOps (F := F)) (n : ℕ)
    (h : l[n]? = some (StableHlo.binary (τ := τ) a b y f ha hb hy)) : rv m d y = f (rv m d a) (rv m d b) := Chain.eqB ref_ordered _ hl n h
theorem eQ {f : a.ty.Contents (Elt F) → b.ty.Contents (Elt F) → c.ty.Contents (Elt F) → e.ty.Contents (Elt F) → y.ty.Contents (Elt F)} {ha hb hc he hy}
    (hl : ∀ op ∈ l, op ∈ refOps (F := F)) (n : ℕ) (h : l[n]? = some (StableHlo.quaternary (τ := τ) a b c e y f ha hb hc he hy)) :
    rv m d y = f (rv m d a) (rv m d b) (rv m d c) (rv m d e) := Chain.eqQ ref_ordered _ hl n h
theorem eR {he hn hx hy} (hl : ∀ op ∈ l, op ∈ refOps (F := F)) (n : ℕ)
    (h : l[n]? = some (StableHlo.reshape (τ := τ) (Val := Elt F) x y he hn hx hy)) :
    rv m d y = fun i => he ▸ shapeCast y.ty.shape (rv m d x) hn i := Chain.eqR ref_ordered _ hl n h

theorem s0 : ∀ op ∈ seg0 (F := F), op ∈ refOps (F := F) := fun _ h => List.mem_append_left _ h
theorem s1 : ∀ op ∈ seg1 (F := F), op ∈ refOps (F := F) := fun _ h => List.mem_append_right _ (List.mem_append_left _ h)
theorem s2 : ∀ op ∈ seg2 (F := F), op ∈ refOps (F := F) := fun _ h => List.mem_append_right _ (List.mem_append_right _ (List.mem_append_left _ h))
theorem s3 : ∀ op ∈ seg3 (F := F), op ∈ refOps (F := F) := fun _ h => List.mem_append_right _ (List.mem_append_right _ (List.mem_append_right _ (List.mem_append_left _ h)))
theorem s4 : ∀ op ∈ seg4 (F := F), op ∈ refOps (F := F) := fun _ h => List.mem_append_right _ (List.mem_append_right _ (List.mem_append_right _ (List.mem_append_right _ (List.mem_append_left _ h))))
theorem s5 : ∀ op ∈ seg5 (F := F), op ∈ refOps (F := F) := fun _ h => List.mem_append_right _ (List.mem_append_right _ (List.mem_append_right _ (List.mem_append_right _ (List.mem_append_right _ (List.mem_append_left _ h)))))
theorem s6 : ∀ op ∈ seg6 (F := F), op ∈ refOps (F := F) := fun _ h => List.mem_append_right _ (List.mem_append_right _ (List.mem_append_right _ (List.mem_append_right _ (List.mem_append_right _ (List.mem_append_right _ (List.mem_append_left _ h))))))
theorem s7 : ∀ op ∈ seg7 (F := F), op ∈ refOps (F := F) := fun _ h => List.mem_append_right _ (List.mem_append_right _ (List.mem_append_right _ (List.mem_append_right _ (List.mem_append_right _ (List.mem_append_right _ (List.mem_append_right _ (List.mem_append_left _ h)))))))
theorem s8 : ∀ op ∈ seg8 (F := F), op ∈ refOps (F := F) := fun _ h => List.mem_append_right _ (List.mem_append_right _ (List.mem_append_right _ (List.mem_append_right _ (List.mem_append_right _ (List.mem_append_right _ (List.mem_append_right _ (List.mem_append_right _ (List.mem_append_left _ h))))))))
theorem s9 : ∀ op ∈ seg9 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_left _ h)))))))))
theorem s10 : ∀ op ∈ seg10 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))
theorem s11 : ∀ op ∈ seg11 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))
theorem s12 : ∀ op ∈ seg12 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))
theorem s13 : ∀ op ∈ seg13 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))
theorem s14 : ∀ op ∈ seg14 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))
theorem s15 : ∀ op ∈ seg15 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))
theorem s16 : ∀ op ∈ seg16 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))
theorem s17 : ∀ op ∈ seg17 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))
theorem s18 : ∀ op ∈ seg18 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))
theorem s19 : ∀ op ∈ seg19 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))
theorem s20 : ∀ op ∈ seg20 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))
theorem s21 : ∀ op ∈ seg21 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))
theorem s22 : ∀ op ∈ seg22 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))
theorem s23 : ∀ op ∈ seg23 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))))
theorem s24 : ∀ op ∈ seg24 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))))
theorem s25 : ∀ op ∈ seg25 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))))))
theorem s26 : ∀ op ∈ seg26 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))))))
theorem s27 : ∀ op ∈ seg27 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))))))))
theorem s28 : ∀ op ∈ seg28 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))))))))
theorem s29 : ∀ op ∈ seg29 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))))))))))
theorem s30 : ∀ op ∈ seg30 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))))))))))
theorem s31 : ∀ op ∈ seg31 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))))))))))))
theorem s32 : ∀ op ∈ seg32 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))))))))))))
theorem s33 : ∀ op ∈ seg33 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))))))))))))))
theorem s34 : ∀ op ∈ seg34 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))))))))))))))
theorem s35 : ∀ op ∈ seg35 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))))))))))))))))
theorem s36 : ∀ op ∈ seg36 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))))))))))))))))
theorem s37 : ∀ op ∈ seg37 (F := F), op ∈ refOps (F := F) := fun _ h => List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (h)))))))))))))))))))))))))))))))))))))

variable {m d}

set_option maxHeartbeats 4000000 in -- 222 operations
theorem tf_split {k0 k1 : W} {st : S2.Idx → W × W} (hk0 : ∀ i, rv m d main_call0_v1 i = k0) (hk1 : ∀ i, rv m d main_call0_v3 i = k1)
    (hx : ∀ i, ((rv m d main_call0_v10 i, rv m d main_call0_v9 i) : W × W) = st i) :
    ∀ i, ((rv m d main_call0_v11_0 i, rv m d main_call0_v11_1 i) : W × W) = tf k0 k1 (st i) := by
  have q0 := eB m d s2 0 rfl
  have q1 := eN m d s2 1 rfl
  have q2 := eB m d s2 2 rfl
  have hk2 := key2_all hk0 hk1 q0 q1 q2
  have b0 := bc_all hk0 (eU m d s2 3 rfl)
  have b1 := bc_all hk1 (eU m d s2 5 rfl)
  have q3 := eB m d s2 4 rfl
  have q4 := eB m d s2 6 rfl
  have r := start_step hx b0 b1 q3 q4
  have q0 := eB m d s2 7 rfl
  have q1 := eN m d s2 8 rfl
  have q2 := eU m d s2 9 rfl
  have q3 := eB m d s2 10 rfl
  have q4 := eN m d s2 11 rfl
  have q5 := eU m d s2 12 rfl
  have q6 := eB m d s2 13 rfl
  have q7 := eB m d s2 14 rfl
  have q8 := eB m d s2 15 rfl
  replace r := round_step 13 19 r q0 q1 q2 q3 q4 q5 q6 q7 q8 (by decide) (by decide)
  have q0 := eB m d s2 16 rfl
  have q1 := eN m d s2 17 rfl
  have q2 := eU m d s2 18 rfl
  have q3 := eB m d s2 19 rfl
  have q4 := eN m d s2 20 rfl
  have q5 := eU m d s2 21 rfl
  have q6 := eB m d s2 22 rfl
  have q7 := eB m d s2 23 rfl
  have q8 := eB m d s2 24 rfl
  replace r := round_step 15 17 r q0 q1 q2 q3 q4 q5 q6 q7 q8 (by decide) (by decide)
  have q0 := eB m d s2 25 rfl
  have q1 := eN m d s2 26 rfl
  have q2 := eU m d s2 27 rfl
  have q3 := eB m d s2 28 rfl
  have q4 := eN m d s2 29 rfl
  have q5 := eU m d s3 0 rfl
  have q6 := eB m d s3 1 rfl
  have q7 := eB m d s3 2 rfl
  have q8 := eB m d s3 3 rfl
  replace r := round_step 26 6 r q0 q1 q2 q3 q4 q5 q6 q7 q8 (by decide) (by decide)
  have q0 := eB m d s3 4 rfl
  have q1 := eN m d s3 5 rfl
  have q2 := eU m d s3 6 rfl
  have q3 := eB m d s3 7 rfl
  have q4 := eN m d s3 8 rfl
  have q5 := eU m d s3 9 rfl
  have q6 := eB m d s3 10 rfl
  have q7 := eB m d s3 11 rfl
  have q8 := eB m d s3 12 rfl
  replace r := round_step 6 26 r q0 q1 q2 q3 q4 q5 q6 q7 q8 (by decide) (by decide)
  have q0 := eU m d s3 13 rfl
  have q1 := eB m d s3 14 rfl
  have q2 := eU m d s3 15 rfl
  have q3 := eB m d s3 16 rfl
  have q4 := eN m d s3 17 rfl
  have q5 := eU m d s3 18 rfl
  have q6 := eB m d s3 19 rfl
  have ba := bc_all hk1 q0
  have bb := bc_all hk2 q2
  have bn := bc_const q4 q5
  replace r := inj_step r ba bb bn q1 q3 q6
  have q0 := eB m d s3 20 rfl
  have q1 := eN m d s3 21 rfl
  have q2 := eU m d s3 22 rfl
  have q3 := eB m d s3 23 rfl
  have q4 := eN m d s3 24 rfl
  have q5 := eU m d s3 25 rfl
  have q6 := eB m d s3 26 rfl
  have q7 := eB m d s3 27 rfl
  have q8 := eB m d s3 28 rfl
  replace r := round_step 17 15 r q0 q1 q2 q3 q4 q5 q6 q7 q8 (by decide) (by decide)
  have q0 := eB m d s3 29 rfl
  have q1 := eN m d s4 0 rfl
  have q2 := eU m d s4 1 rfl
  have q3 := eB m d s4 2 rfl
  have q4 := eN m d s4 3 rfl
  have q5 := eU m d s4 4 rfl
  have q6 := eB m d s4 5 rfl
  have q7 := eB m d s4 6 rfl
  have q8 := eB m d s4 7 rfl
  replace r := round_step 29 3 r q0 q1 q2 q3 q4 q5 q6 q7 q8 (by decide) (by decide)
  have q0 := eB m d s4 8 rfl
  have q1 := eN m d s4 9 rfl
  have q2 := eU m d s4 10 rfl
  have q3 := eB m d s4 11 rfl
  have q4 := eN m d s4 12 rfl
  have q5 := eU m d s4 13 rfl
  have q6 := eB m d s4 14 rfl
  have q7 := eB m d s4 15 rfl
  have q8 := eB m d s4 16 rfl
  replace r := round_step 16 16 r q0 q1 q2 q3 q4 q5 q6 q7 q8 (by decide) (by decide)
  have q0 := eB m d s4 17 rfl
  have q1 := eN m d s4 18 rfl
  have q2 := eU m d s4 19 rfl
  have q3 := eB m d s4 20 rfl
  have q4 := eN m d s4 21 rfl
  have q5 := eU m d s4 22 rfl
  have q6 := eB m d s4 23 rfl
  have q7 := eB m d s4 24 rfl
  have q8 := eB m d s4 25 rfl
  replace r := round_step 24 8 r q0 q1 q2 q3 q4 q5 q6 q7 q8 (by decide) (by decide)
  have q0 := eU m d s4 26 rfl
  have q1 := eB m d s4 27 rfl
  have q2 := eU m d s4 28 rfl
  have q3 := eB m d s4 29 rfl
  have q4 := eN m d s5 0 rfl
  have q5 := eU m d s5 1 rfl
  have q6 := eB m d s5 2 rfl
  have ba := bc_all hk2 q0
  have bb := bc_all hk0 q2
  have bn := bc_const q4 q5
  replace r := inj_step r ba bb bn q1 q3 q6
  have q0 := eB m d s5 3 rfl
  have q1 := eN m d s5 4 rfl
  have q2 := eU m d s5 5 rfl
  have q3 := eB m d s5 6 rfl
  have q4 := eN m d s5 7 rfl
  have q5 := eU m d s5 8 rfl
  have q6 := eB m d s5 9 rfl
  have q7 := eB m d s5 10 rfl
  have q8 := eB m d s5 11 rfl
  replace r := round_step 13 19 r q0 q1 q2 q3 q4 q5 q6 q7 q8 (by decide) (by decide)
  have q0 := eB m d s5 12 rfl
  have q1 := eN m d s5 13 rfl
  have q2 := eU m d s5 14 rfl
  have q3 := eB m d s5 15 rfl
  have q4 := eN m d s5 16 rfl
  have q5 := eU m d s5 17 rfl
  have q6 := eB m d s5 18 rfl
  have q7 := eB m d s5 19 rfl
  have q8 := eB m d s5 20 rfl
  replace r := round_step 15 17 r q0 q1 q2 q3 q4 q5 q6 q7 q8 (by decide) (by decide)
  have q0 := eB m d s5 21 rfl
  have q1 := eN m d s5 22 rfl
  have q2 := eU m d s5 23 rfl
  have q3 := eB m d s5 24 rfl
  have q4 := eN m d s5 25 rfl
  have q5 := eU m d s5 26 rfl
  have q6 := eB m d s5 27 rfl
  have q7 := eB m d s5 28 rfl
  have q8 := eB m d s5 29 rfl
  replace r := round_step 26 6 r q0 q1 q2 q3 q4 q5 q6 q7 q8 (by decide) (by decide)
  have q0 := eB m d s6 0 rfl
  have q1 := eN m d s6 1 rfl
  have q2 := eU m d s6 2 rfl
  have q3 := eB m d s6 3 rfl
  have q4 := eN m d s6 4 rfl
  have q5 := eU m d s6 5 rfl
  have q6 := eB m d s6 6 rfl
  have q7 := eB m d s6 7 rfl
  have q8 := eB m d s6 8 rfl
  replace r := round_step 6 26 r q0 q1 q2 q3 q4 q5 q6 q7 q8 (by decide) (by decide)
  have q0 := eU m d s6 9 rfl
  have q1 := eB m d s6 10 rfl
  have q2 := eU m d s6 11 rfl
  have q3 := eB m d s6 12 rfl
  have q4 := eN m d s6 13 rfl
  have q5 := eU m d s6 14 rfl
  have q6 := eB m d s6 15 rfl
  have ba := bc_all hk0 q0
  have bb := bc_all hk1 q2
  have bn := bc_const q4 q5
  replace r := inj_step r ba bb bn q1 q3 q6
  have q0 := eB m d s6 16 rfl
  have q1 := eN m d s6 17 rfl
  have q2 := eU m d s6 18 rfl
  have q3 := eB m d s6 19 rfl
  have q4 := eN m d s6 20 rfl
  have q5 := eU m d s6 21 rfl
  have q6 := eB m d s6 22 rfl
  have q7 := eB m d s6 23 rfl
  have q8 := eB m d s6 24 rfl
  replace r := round_step 17 15 r q0 q1 q2 q3 q4 q5 q6 q7 q8 (by decide) (by decide)
  have q0 := eB m d s6 25 rfl
  have q1 := eN m d s6 26 rfl
  have q2 := eU m d s6 27 rfl
  have q3 := eB m d s6 28 rfl
  have q4 := eN m d s6 29 rfl
  have q5 := eU m d s7 0 rfl
  have q6 := eB m d s7 1 rfl
  have q7 := eB m d s7 2 rfl
  have q8 := eB m d s7 3 rfl
  replace r := round_step 29 3 r q0 q1 q2 q3 q4 q5 q6 q7 q8 (by decide) (by decide)
  have q0 := eB m d s7 4 rfl
  have q1 := eN m d s7 5 rfl
  have q2 := eU m d s7 6 rfl
  have q3 := eB m d s7 7 rfl
  have q4 := eN m d s7 8 rfl
  have q5 := eU m d s7 9 rfl
  have q6 := eB m d s7 10 rfl
  have q7 := eB m d s7 11 rfl
  have q8 := eB m d s7 12 rfl
  replace r := round_step 16 16 r q0 q1 q2 q3 q4 q5 q6 q7 q8 (by decide) (by decide)
  have q0 := eB m d s7 13 rfl
  have q1 := eN m d s7 14 rfl
  have q2 := eU m d s7 15 rfl
  have q3 := eB m d s7 16 rfl
  have q4 := eN m d s7 17 rfl
  have q5 := eU m d s7 18 rfl
  have q6 := eB m d s7 19 rfl
  have q7 := eB m d s7 20 rfl
  have q8 := eB m d s7 21 rfl
  replace r := round_step 24 8 r q0 q1 q2 q3 q4 q5 q6 q7 q8 (by decide) (by decide)
  have q0 := eU m d s7 22 rfl
  have q1 := eB m d s7 23 rfl
  have q2 := eU m d s7 24 rfl
  have q3 := eB m d s7 25 rfl
  have q4 := eN m d s7 26 rfl
  have q5 := eU m d s7 27 rfl
  have q6 := eB m d s7 28 rfl
  have ba := bc_all hk1 q0
  have bb := bc_all hk2 q2
  have bn := bc_const q4 q5
  replace r := inj_step r ba bb bn q1 q3 q6
  have q0 := eB m d s7 29 rfl
  have q1 := eN m d s8 0 rfl
  have q2 := eU m d s8 1 rfl
  have q3 := eB m d s8 2 rfl
  have q4 := eN m d s8 3 rfl
  have q5 := eU m d s8 4 rfl
  have q6 := eB m d s8 5 rfl
  have q7 := eB m d s8 6 rfl
  have q8 := eB m d s8 7 rfl
  replace r := round_step 13 19 r q0 q1 q2 q3 q4 q5 q6 q7 q8 (by decide) (by decide)
  have q0 := eB m d s8 8 rfl
  have q1 := eN m d s8 9 rfl
  have q2 := eU m d s8 10 rfl
  have q3 := eB m d s8 11 rfl
  have q4 := eN m d s8 12 rfl
  have q5 := eU m d s8 13 rfl
  have q6 := eB m d s8 14 rfl
  have q7 := eB m d s8 15 rfl
  have q8 := eB m d s8 16 rfl
  replace r := round_step 15 17 r q0 q1 q2 q3 q4 q5 q6 q7 q8 (by decide) (by decide)
  have q0 := eB m d s8 17 rfl
  have q1 := eN m d s8 18 rfl
  have q2 := eU m d s8 19 rfl
  have q3 := eB m d s8 20 rfl
  have q4 := eN m d s8 21 rfl
  have q5 := eU m d s8 22 rfl
  have q6 := eB m d s8 23 rfl
  have q7 := eB m d s8 24 rfl
  have q8 := eB m d s8 25 rfl
  replace r := round_step 26 6 r q0 q1 q2 q3 q4 q5 q6 q7 q8 (by decide) (by decide)
  have q0 := eB m d s8 26 rfl
  have q1 := eN m d s8 27 rfl
  have q2 := eU m d s8 28 rfl
  have q3 := eB m d s8 29 rfl
  have q4 := eN m d s9 0 rfl
  have q5 := eU m d s9 1 rfl
  have q6 := eB m d s9 2 rfl
  have q7 := eB m d s9 3 rfl
  have q8 := eB m d s9 4 rfl
  replace r := round_step 6 26 r q0 q1 q2 q3 q4 q5 q6 q7 q8 (by decide) (by decide)
  have q0 := eU m d s9 5 rfl
  have q1 := eB m d s9 6 rfl
  have q2 := eU m d s9 7 rfl
  have q3 := eB m d s9 8 rfl
  have q4 := eN m d s9 9 rfl
  have q5 := eU m d s9 10 rfl
  have q6 := eB m d s9 11 rfl
  have ba := bc_all hk2 q0
  have bb := bc_all hk0 q2
  have bn := bc_const q4 q5
  replace r := inj_step r ba bb bn q1 q3 q6
  exact r

set_option maxHeartbeats 4000000 in -- 222 operations
theorem tf_bits {k0 k1 : W} {st : S128x8192.Idx → W × W} (hk0 : ∀ i, rv m d main_call1_call0_v4 i = k0) (hk1 : ∀ i, rv m d main_call1_call0_v6 i = k1)
    (hx : ∀ i, ((rv m d main_call1_call0_v17 i, rv m d main_call1_call0_v16 i) : W × W) = st i) :
    ∀ i, ((rv m d main_call1_call0_v18_0 i, rv m d main_call1_call0_v18_1 i) : W × W) = tf k0 k1 (st i) := by
  have q0 := eB m d s14 0 rfl
  have q1 := eN m d s14 1 rfl
  have q2 := eB m d s14 2 rfl
  have hk2 := key2_all hk0 hk1 q0 q1 q2
  have b0 := bc_all hk0 (eU m d s14 3 rfl)
  have b1 := bc_all hk1 (eU m d s14 5 rfl)
  have q3 := eB m d s14 4 rfl
  have q4 := eB m d s14 6 rfl
  have r := start_step hx b0 b1 q3 q4
  have q0 := eB m d s14 7 rfl
  have q1 := eN m d s14 8 rfl
  have q2 := eU m d s14 9 rfl
  have q3 := eB m d s14 10 rfl
  have q4 := eN m d s14 11 rfl
  have q5 := eU m d s14 12 rfl
  have q6 := eB m d s14 13 rfl
  have q7 := eB m d s14 14 rfl
  have q8 := eB m d s14 15 rfl
  replace r := round_step 13 19 r q0 q1 q2 q3 q4 q5 q6 q7 q8 (by decide) (by decide)
  have q0 := eB m d s14 16 rfl
  have q1 := eN m d s14 17 rfl
  have q2 := eU m d s14 18 rfl
  have q3 := eB m d s14 19 rfl
  have q4 := eN m d s14 20 rfl
  have q5 := eU m d s14 21 rfl
  have q6 := eB m d s14 22 rfl
  have q7 := eB m d s14 23 rfl
  have q8 := eB m d s14 24 rfl
  replace r := round_step 15 17 r q0 q1 q2 q3 q4 q5 q6 q7 q8 (by decide) (by decide)
  have q0 := eB m d s14 25 rfl
  have q1 := eN m d s14 26 rfl
  have q2 := eU m d s14 27 rfl
  have q3 := eB m d s14 28 rfl
  have q4 := eN m d s14 29 rfl
  have q5 := eU m d s15 0 rfl
  have q6 := eB m d s15 1 rfl
  have q7 := eB m d s15 2 rfl
  have q8 := eB m d s15 3 rfl
  replace r := round_step 26 6 r q0 q1 q2 q3 q4 q5 q6 q7 q8 (by decide) (by decide)
  have q0 := eB m d s15 4 rfl
  have q1 := eN m d s15 5 rfl
  have q2 := eU m d s15 6 rfl
  have q3 := eB m d s15 7 rfl
  have q4 := eN m d s15 8 rfl
  have q5 := eU m d s15 9 rfl
  have q6 := eB m d s15 10 rfl
  have q7 := eB m d s15 11 rfl
  have q8 := eB m d s15 12 rfl
  replace r := round_step 6 26 r q0 q1 q2 q3 q4 q5 q6 q7 q8 (by decide) (by decide)
  have q0 := eU m d s15 13 rfl
  have q1 := eB m d s15 14 rfl
  have q2 := eU m d s15 15 rfl
  have q3 := eB m d s15 16 rfl
  have q4 := eN m d s15 17 rfl
  have q5 := eU m d s15 18 rfl
  have q6 := eB m d s15 19 rfl
  have ba := bc_all hk1 q0
  have bb := bc_all hk2 q2
  have bn := bc_const q4 q5
  replace r := inj_step r ba bb bn q1 q3 q6
  have q0 := eB m d s15 20 rfl
  have q1 := eN m d s15 21 rfl
  have q2 := eU m d s15 22 rfl
  have q3 := eB m d s15 23 rfl
  have q4 := eN m d s15 24 rfl
  have q5 := eU m d s15 25 rfl
  have q6 := eB m d s15 26 rfl
  have q7 := eB m d s15 27 rfl
  have q8 := eB m d s15 28 rfl
  replace r := round_step 17 15 r q0 q1 q2 q3 q4 q5 q6 q7 q8 (by decide) (by decide)
  have q0 := eB m d s15 29 rfl
  have q1 := eN m d s16 0 rfl
  have q2 := eU m d s16 1 rfl
  have q3 := eB m d s16 2 rfl
  have q4 := eN m d s16 3 rfl
  have q5 := eU m d s16 4 rfl
  have q6 := eB m d s16 5 rfl
  have q7 := eB m d s16 6 rfl
  have q8 := eB m d s16 7 rfl
  replace r := round_step 29 3 r q0 q1 q2 q3 q4 q5 q6 q7 q8 (by decide) (by decide)
  have q0 := eB m d s16 8 rfl
  have q1 := eN m d s16 9 rfl
  have q2 := eU m d s16 10 rfl
  have q3 := eB m d s16 11 rfl
  have q4 := eN m d s16 12 rfl
  have q5 := eU m d s16 13 rfl
  have q6 := eB m d s16 14 rfl
  have q7 := eB m d s16 15 rfl
  have q8 := eB m d s16 16 rfl
  replace r := round_step 16 16 r q0 q1 q2 q3 q4 q5 q6 q7 q8 (by decide) (by decide)
  have q0 := eB m d s16 17 rfl
  have q1 := eN m d s16 18 rfl
  have q2 := eU m d s16 19 rfl
  have q3 := eB m d s16 20 rfl
  have q4 := eN m d s16 21 rfl
  have q5 := eU m d s16 22 rfl
  have q6 := eB m d s16 23 rfl
  have q7 := eB m d s16 24 rfl
  have q8 := eB m d s16 25 rfl
  replace r := round_step 24 8 r q0 q1 q2 q3 q4 q5 q6 q7 q8 (by decide) (by decide)
  have q0 := eU m d s16 26 rfl
  have q1 := eB m d s16 27 rfl
  have q2 := eU m d s16 28 rfl
  have q3 := eB m d s16 29 rfl
  have q4 := eN m d s17 0 rfl
  have q5 := eU m d s17 1 rfl
  have q6 := eB m d s17 2 rfl
  have ba := bc_all hk2 q0
  have bb := bc_all hk0 q2
  have bn := bc_const q4 q5
  replace r := inj_step r ba bb bn q1 q3 q6
  have q0 := eB m d s17 3 rfl
  have q1 := eN m d s17 4 rfl
  have q2 := eU m d s17 5 rfl
  have q3 := eB m d s17 6 rfl
  have q4 := eN m d s17 7 rfl
  have q5 := eU m d s17 8 rfl
  have q6 := eB m d s17 9 rfl
  have q7 := eB m d s17 10 rfl
  have q8 := eB m d s17 11 rfl
  replace r := round_step 13 19 r q0 q1 q2 q3 q4 q5 q6 q7 q8 (by decide) (by decide)
  have q0 := eB m d s17 12 rfl
  have q1 := eN m d s17 13 rfl
  have q2 := eU m d s17 14 rfl
  have q3 := eB m d s17 15 rfl
  have q4 := eN m d s17 16 rfl
  have q5 := eU m d s17 17 rfl
  have q6 := eB m d s17 18 rfl
  have q7 := eB m d s17 19 rfl
  have q8 := eB m d s17 20 rfl
  replace r := round_step 15 17 r q0 q1 q2 q3 q4 q5 q6 q7 q8 (by decide) (by decide)
  have q0 := eB m d s17 21 rfl
  have q1 := eN m d s17 22 rfl
  have q2 := eU m d s17 23 rfl
  have q3 := eB m d s17 24 rfl
  have q4 := eN m d s17 25 rfl
  have q5 := eU m d s17 26 rfl
  have q6 := eB m d s17 27 rfl
  have q7 := eB m d s17 28 rfl
  have q8 := eB m d s17 29 rfl
  replace r := round_step 26 6 r q0 q1 q2 q3 q4 q5 q6 q7 q8 (by decide) (by decide)
  have q0 := eB m d s18 0 rfl
  have q1 := eN m d s18 1 rfl
  have q2 := eU m d s18 2 rfl
  have q3 := eB m d s18 3 rfl
  have q4 := eN m d s18 4 rfl
  have q5 := eU m d s18 5 rfl
  have q6 := eB m d s18 6 rfl
  have q7 := eB m d s18 7 rfl
  have q8 := eB m d s18 8 rfl
  replace r := round_step 6 26 r q0 q1 q2 q3 q4 q5 q6 q7 q8 (by decide) (by decide)
  have q0 := eU m d s18 9 rfl
  have q1 := eB m d s18 10 rfl
  have q2 := eU m d s18 11 rfl
  have q3 := eB m d s18 12 rfl
  have q4 := eN m d s18 13 rfl
  have q5 := eU m d s18 14 rfl
  have q6 := eB m d s18 15 rfl
  have ba := bc_all hk0 q0
  have bb := bc_all hk1 q2
  have bn := bc_const q4 q5
  replace r := inj_step r ba bb bn q1 q3 q6
  have q0 := eB m d s18 16 rfl
  have q1 := eN m d s18 17 rfl
  have q2 := eU m d s18 18 rfl
  have q3 := eB m d s18 19 rfl
  have q4 := eN m d s18 20 rfl
  have q5 := eU m d s18 21 rfl
  have q6 := eB m d s18 22 rfl
  have q7 := eB m d s18 23 rfl
  have q8 := eB m d s18 24 rfl
  replace r := round_step 17 15 r q0 q1 q2 q3 q4 q5 q6 q7 q8 (by decide) (by decide)
  have q0 := eB m d s18 25 rfl
  have q1 := eN m d s18 26 rfl
  have q2 := eU m d s18 27 rfl
  have q3 := eB m d s18 28 rfl
  have q4 := eN m d s18 29 rfl
  have q5 := eU m d s19 0 rfl
  have q6 := eB m d s19 1 rfl
  have q7 := eB m d s19 2 rfl
  have q8 := eB m d s19 3 rfl
  replace r := round_step 29 3 r q0 q1 q2 q3 q4 q5 q6 q7 q8 (by decide) (by decide)
  have q0 := eB m d s19 4 rfl
  have q1 := eN m d s19 5 rfl
  have q2 := eU m d s19 6 rfl
  have q3 := eB m d s19 7 rfl
  have q4 := eN m d s19 8 rfl
  have q5 := eU m d s19 9 rfl
  have q6 := eB m d s19 10 rfl
  have q7 := eB m d s19 11 rfl
  have q8 := eB m d s19 12 rfl
  replace r := round_step 16 16 r q0 q1 q2 q3 q4 q5 q6 q7 q8 (by decide) (by decide)
  have q0 := eB m d s19 13 rfl
  have q1 := eN m d s19 14 rfl
  have q2 := eU m d s19 15 rfl
  have q3 := eB m d s19 16 rfl
  have q4 := eN m d s19 17 rfl
  have q5 := eU m d s19 18 rfl
  have q6 := eB m d s19 19 rfl
  have q7 := eB m d s19 20 rfl
  have q8 := eB m d s19 21 rfl
  replace r := round_step 24 8 r q0 q1 q2 q3 q4 q5 q6 q7 q8 (by decide) (by decide)
  have q0 := eU m d s19 22 rfl
  have q1 := eB m d s19 23 rfl
  have q2 := eU m d s19 24 rfl
  have q3 := eB m d s19 25 rfl
  have q4 := eN m d s19 26 rfl
  have q5 := eU m d s19 27 rfl
  have q6 := eB m d s19 28 rfl
  have ba := bc_all hk1 q0
  have bb := bc_all hk2 q2
  have bn := bc_const q4 q5
  replace r := inj_step r ba bb bn q1 q3 q6
  have q0 := eB m d s19 29 rfl
  have q1 := eN m d s20 0 rfl
  have q2 := eU m d s20 1 rfl
  have q3 := eB m d s20 2 rfl
  have q4 := eN m d s20 3 rfl
  have q5 := eU m d s20 4 rfl
  have q6 := eB m d s20 5 rfl
  have q7 := eB m d s20 6 rfl
  have q8 := eB m d s20 7 rfl
  replace r := round_step 13 19 r q0 q1 q2 q3 q4 q5 q6 q7 q8 (by decide) (by decide)
  have q0 := eB m d s20 8 rfl
  have q1 := eN m d s20 9 rfl
  have q2 := eU m d s20 10 rfl
  have q3 := eB m d s20 11 rfl
  have q4 := eN m d s20 12 rfl
  have q5 := eU m d s20 13 rfl
  have q6 := eB m d s20 14 rfl
  have q7 := eB m d s20 15 rfl
  have q8 := eB m d s20 16 rfl
  replace r := round_step 15 17 r q0 q1 q2 q3 q4 q5 q6 q7 q8 (by decide) (by decide)
  have q0 := eB m d s20 17 rfl
  have q1 := eN m d s20 18 rfl
  have q2 := eU m d s20 19 rfl
  have q3 := eB m d s20 20 rfl
  have q4 := eN m d s20 21 rfl
  have q5 := eU m d s20 22 rfl
  have q6 := eB m d s20 23 rfl
  have q7 := eB m d s20 24 rfl
  have q8 := eB m d s20 25 rfl
  replace r := round_step 26 6 r q0 q1 q2 q3 q4 q5 q6 q7 q8 (by decide) (by decide)
  have q0 := eB m d s20 26 rfl
  have q1 := eN m d s20 27 rfl
  have q2 := eU m d s20 28 rfl
  have q3 := eB m d s20 29 rfl
  have q4 := eN m d s21 0 rfl
  have q5 := eU m d s21 1 rfl
  have q6 := eB m d s21 2 rfl
  have q7 := eB m d s21 3 rfl
  have q8 := eB m d s21 4 rfl
  replace r := round_step 6 26 r q0 q1 q2 q3 q4 q5 q6 q7 q8 (by decide) (by decide)
  have q0 := eU m d s21 5 rfl
  have q1 := eB m d s21 6 rfl
  have q2 := eU m d s21 7 rfl
  have q3 := eB m d s21 8 rfl
  have q4 := eN m d s21 9 rfl
  have q5 := eU m d s21 10 rfl
  have q6 := eB m d s21 11 rfl
  have ba := bc_all hk2 q0
  have bb := bc_all hk0 q2
  have bn := bc_const q4 q5
  replace r := inj_step r ba bb bn q1 q3 q6
  exact r

set_option maxHeartbeats 4000000 in -- 222 operations
theorem tf_unif {k0 k1 : W} {st : S128.Idx → W × W} (hk0 : ∀ i, rv m d main_call3_v5 i = k0) (hk1 : ∀ i, rv m d main_call3_v7 i = k1)
    (hx : ∀ i, ((rv m d main_call3_v14 i, rv m d main_call3_v13 i) : W × W) = st i) :
    ∀ i, ((rv m d main_call3_v15_0 i, rv m d main_call3_v15_1 i) : W × W) = tf k0 k1 (st i) := by
  have q0 := eB m d s28 0 rfl
  have q1 := eN m d s28 1 rfl
  have q2 := eB m d s28 2 rfl
  have hk2 := key2_all hk0 hk1 q0 q1 q2
  have b0 := bc_all hk0 (eU m d s28 3 rfl)
  have b1 := bc_all hk1 (eU m d s28 5 rfl)
  have q3 := eB m d s28 4 rfl
  have q4 := eB m d s28 6 rfl
  have r := start_step hx b0 b1 q3 q4
  have q0 := eB m d s28 7 rfl
  have q1 := eN m d s28 8 rfl
  have q2 := eU m d s28 9 rfl
  have q3 := eB m d s28 10 rfl
  have q4 := eN m d s28 11 rfl
  have q5 := eU m d s28 12 rfl
  have q6 := eB m d s28 13 rfl
  have q7 := eB m d s28 14 rfl
  have q8 := eB m d s28 15 rfl
  replace r := round_step 13 19 r q0 q1 q2 q3 q4 q5 q6 q7 q8 (by decide) (by decide)
  have q0 := eB m d s28 16 rfl
  have q1 := eN m d s28 17 rfl
  have q2 := eU m d s28 18 rfl
  have q3 := eB m d s28 19 rfl
  have q4 := eN m d s28 20 rfl
  have q5 := eU m d s28 21 rfl
  have q6 := eB m d s28 22 rfl
  have q7 := eB m d s28 23 rfl
  have q8 := eB m d s28 24 rfl
  replace r := round_step 15 17 r q0 q1 q2 q3 q4 q5 q6 q7 q8 (by decide) (by decide)
  have q0 := eB m d s28 25 rfl
  have q1 := eN m d s28 26 rfl
  have q2 := eU m d s28 27 rfl
  have q3 := eB m d s28 28 rfl
  have q4 := eN m d s28 29 rfl
  have q5 := eU m d s29 0 rfl
  have q6 := eB m d s29 1 rfl
  have q7 := eB m d s29 2 rfl
  have q8 := eB m d s29 3 rfl
  replace r := round_step 26 6 r q0 q1 q2 q3 q4 q5 q6 q7 q8 (by decide) (by decide)
  have q0 := eB m d s29 4 rfl
  have q1 := eN m d s29 5 rfl
  have q2 := eU m d s29 6 rfl
  have q3 := eB m d s29 7 rfl
  have q4 := eN m d s29 8 rfl
  have q5 := eU m d s29 9 rfl
  have q6 := eB m d s29 10 rfl
  have q7 := eB m d s29 11 rfl
  have q8 := eB m d s29 12 rfl
  replace r := round_step 6 26 r q0 q1 q2 q3 q4 q5 q6 q7 q8 (by decide) (by decide)
  have q0 := eU m d s29 13 rfl
  have q1 := eB m d s29 14 rfl
  have q2 := eU m d s29 15 rfl
  have q3 := eB m d s29 16 rfl
  have q4 := eN m d s29 17 rfl
  have q5 := eU m d s29 18 rfl
  have q6 := eB m d s29 19 rfl
  have ba := bc_all hk1 q0
  have bb := bc_all hk2 q2
  have bn := bc_const q4 q5
  replace r := inj_step r ba bb bn q1 q3 q6
  have q0 := eB m d s29 20 rfl
  have q1 := eN m d s29 21 rfl
  have q2 := eU m d s29 22 rfl
  have q3 := eB m d s29 23 rfl
  have q4 := eN m d s29 24 rfl
  have q5 := eU m d s29 25 rfl
  have q6 := eB m d s29 26 rfl
  have q7 := eB m d s29 27 rfl
  have q8 := eB m d s29 28 rfl
  replace r := round_step 17 15 r q0 q1 q2 q3 q4 q5 q6 q7 q8 (by decide) (by decide)
  have q0 := eB m d s29 29 rfl
  have q1 := eN m d s30 0 rfl
  have q2 := eU m d s30 1 rfl
  have q3 := eB m d s30 2 rfl
  have q4 := eN m d s30 3 rfl
  have q5 := eU m d s30 4 rfl
  have q6 := eB m d s30 5 rfl
  have q7 := eB m d s30 6 rfl
  have q8 := eB m d s30 7 rfl
  replace r := round_step 29 3 r q0 q1 q2 q3 q4 q5 q6 q7 q8 (by decide) (by decide)
  have q0 := eB m d s30 8 rfl
  have q1 := eN m d s30 9 rfl
  have q2 := eU m d s30 10 rfl
  have q3 := eB m d s30 11 rfl
  have q4 := eN m d s30 12 rfl
  have q5 := eU m d s30 13 rfl
  have q6 := eB m d s30 14 rfl
  have q7 := eB m d s30 15 rfl
  have q8 := eB m d s30 16 rfl
  replace r := round_step 16 16 r q0 q1 q2 q3 q4 q5 q6 q7 q8 (by decide) (by decide)
  have q0 := eB m d s30 17 rfl
  have q1 := eN m d s30 18 rfl
  have q2 := eU m d s30 19 rfl
  have q3 := eB m d s30 20 rfl
  have q4 := eN m d s30 21 rfl
  have q5 := eU m d s30 22 rfl
  have q6 := eB m d s30 23 rfl
  have q7 := eB m d s30 24 rfl
  have q8 := eB m d s30 25 rfl
  replace r := round_step 24 8 r q0 q1 q2 q3 q4 q5 q6 q7 q8 (by decide) (by decide)
  have q0 := eU m d s30 26 rfl
  have q1 := eB m d s30 27 rfl
  have q2 := eU m d s30 28 rfl
  have q3 := eB m d s30 29 rfl
  have q4 := eN m d s31 0 rfl
  have q5 := eU m d s31 1 rfl
  have q6 := eB m d s31 2 rfl
  have ba := bc_all hk2 q0
  have bb := bc_all hk0 q2
  have bn := bc_const q4 q5
  replace r := inj_step r ba bb bn q1 q3 q6
  have q0 := eB m d s31 3 rfl
  have q1 := eN m d s31 4 rfl
  have q2 := eU m d s31 5 rfl
  have q3 := eB m d s31 6 rfl
  have q4 := eN m d s31 7 rfl
  have q5 := eU m d s31 8 rfl
  have q6 := eB m d s31 9 rfl
  have q7 := eB m d s31 10 rfl
  have q8 := eB m d s31 11 rfl
  replace r := round_step 13 19 r q0 q1 q2 q3 q4 q5 q6 q7 q8 (by decide) (by decide)
  have q0 := eB m d s31 12 rfl
  have q1 := eN m d s31 13 rfl
  have q2 := eU m d s31 14 rfl
  have q3 := eB m d s31 15 rfl
  have q4 := eN m d s31 16 rfl
  have q5 := eU m d s31 17 rfl
  have q6 := eB m d s31 18 rfl
  have q7 := eB m d s31 19 rfl
  have q8 := eB m d s31 20 rfl
  replace r := round_step 15 17 r q0 q1 q2 q3 q4 q5 q6 q7 q8 (by decide) (by decide)
  have q0 := eB m d s31 21 rfl
  have q1 := eN m d s31 22 rfl
  have q2 := eU m d s31 23 rfl
  have q3 := eB m d s31 24 rfl
  have q4 := eN m d s31 25 rfl
  have q5 := eU m d s31 26 rfl
  have q6 := eB m d s31 27 rfl
  have q7 := eB m d s31 28 rfl
  have q8 := eB m d s31 29 rfl
  replace r := round_step 26 6 r q0 q1 q2 q3 q4 q5 q6 q7 q8 (by decide) (by decide)
  have q0 := eB m d s32 0 rfl
  have q1 := eN m d s32 1 rfl
  have q2 := eU m d s32 2 rfl
  have q3 := eB m d s32 3 rfl
  have q4 := eN m d s32 4 rfl
  have q5 := eU m d s32 5 rfl
  have q6 := eB m d s32 6 rfl
  have q7 := eB m d s32 7 rfl
  have q8 := eB m d s32 8 rfl
  replace r := round_step 6 26 r q0 q1 q2 q3 q4 q5 q6 q7 q8 (by decide) (by decide)
  have q0 := eU m d s32 9 rfl
  have q1 := eB m d s32 10 rfl
  have q2 := eU m d s32 11 rfl
  have q3 := eB m d s32 12 rfl
  have q4 := eN m d s32 13 rfl
  have q5 := eU m d s32 14 rfl
  have q6 := eB m d s32 15 rfl
  have ba := bc_all hk0 q0
  have bb := bc_all hk1 q2
  have bn := bc_const q4 q5
  replace r := inj_step r ba bb bn q1 q3 q6
  have q0 := eB m d s32 16 rfl
  have q1 := eN m d s32 17 rfl
  have q2 := eU m d s32 18 rfl
  have q3 := eB m d s32 19 rfl
  have q4 := eN m d s32 20 rfl
  have q5 := eU m d s32 21 rfl
  have q6 := eB m d s32 22 rfl
  have q7 := eB m d s32 23 rfl
  have q8 := eB m d s32 24 rfl
  replace r := round_step 17 15 r q0 q1 q2 q3 q4 q5 q6 q7 q8 (by decide) (by decide)
  have q0 := eB m d s32 25 rfl
  have q1 := eN m d s32 26 rfl
  have q2 := eU m d s32 27 rfl
  have q3 := eB m d s32 28 rfl
  have q4 := eN m d s32 29 rfl
  have q5 := eU m d s33 0 rfl
  have q6 := eB m d s33 1 rfl
  have q7 := eB m d s33 2 rfl
  have q8 := eB m d s33 3 rfl
  replace r := round_step 29 3 r q0 q1 q2 q3 q4 q5 q6 q7 q8 (by decide) (by decide)
  have q0 := eB m d s33 4 rfl
  have q1 := eN m d s33 5 rfl
  have q2 := eU m d s33 6 rfl
  have q3 := eB m d s33 7 rfl
  have q4 := eN m d s33 8 rfl
  have q5 := eU m d s33 9 rfl
  have q6 := eB m d s33 10 rfl
  have q7 := eB m d s33 11 rfl
  have q8 := eB m d s33 12 rfl
  replace r := round_step 16 16 r q0 q1 q2 q3 q4 q5 q6 q7 q8 (by decide) (by decide)
  have q0 := eB m d s33 13 rfl
  have q1 := eN m d s33 14 rfl
  have q2 := eU m d s33 15 rfl
  have q3 := eB m d s33 16 rfl
  have q4 := eN m d s33 17 rfl
  have q5 := eU m d s33 18 rfl
  have q6 := eB m d s33 19 rfl
  have q7 := eB m d s33 20 rfl
  have q8 := eB m d s33 21 rfl
  replace r := round_step 24 8 r q0 q1 q2 q3 q4 q5 q6 q7 q8 (by decide) (by decide)
  have q0 := eU m d s33 22 rfl
  have q1 := eB m d s33 23 rfl
  have q2 := eU m d s33 24 rfl
  have q3 := eB m d s33 25 rfl
  have q4 := eN m d s33 26 rfl
  have q5 := eU m d s33 27 rfl
  have q6 := eB m d s33 28 rfl
  have ba := bc_all hk1 q0
  have bb := bc_all hk2 q2
  have bn := bc_const q4 q5
  replace r := inj_step r ba bb bn q1 q3 q6
  have q0 := eB m d s33 29 rfl
  have q1 := eN m d s34 0 rfl
  have q2 := eU m d s34 1 rfl
  have q3 := eB m d s34 2 rfl
  have q4 := eN m d s34 3 rfl
  have q5 := eU m d s34 4 rfl
  have q6 := eB m d s34 5 rfl
  have q7 := eB m d s34 6 rfl
  have q8 := eB m d s34 7 rfl
  replace r := round_step 13 19 r q0 q1 q2 q3 q4 q5 q6 q7 q8 (by decide) (by decide)
  have q0 := eB m d s34 8 rfl
  have q1 := eN m d s34 9 rfl
  have q2 := eU m d s34 10 rfl
  have q3 := eB m d s34 11 rfl
  have q4 := eN m d s34 12 rfl
  have q5 := eU m d s34 13 rfl
  have q6 := eB m d s34 14 rfl
  have q7 := eB m d s34 15 rfl
  have q8 := eB m d s34 16 rfl
  replace r := round_step 15 17 r q0 q1 q2 q3 q4 q5 q6 q7 q8 (by decide) (by decide)
  have q0 := eB m d s34 17 rfl
  have q1 := eN m d s34 18 rfl
  have q2 := eU m d s34 19 rfl
  have q3 := eB m d s34 20 rfl
  have q4 := eN m d s34 21 rfl
  have q5 := eU m d s34 22 rfl
  have q6 := eB m d s34 23 rfl
  have q7 := eB m d s34 24 rfl
  have q8 := eB m d s34 25 rfl
  replace r := round_step 26 6 r q0 q1 q2 q3 q4 q5 q6 q7 q8 (by decide) (by decide)
  have q0 := eB m d s34 26 rfl
  have q1 := eN m d s34 27 rfl
  have q2 := eU m d s34 28 rfl
  have q3 := eB m d s34 29 rfl
  have q4 := eN m d s35 0 rfl
  have q5 := eU m d s35 1 rfl
  have q6 := eB m d s35 2 rfl
  have q7 := eB m d s35 3 rfl
  have q8 := eB m d s35 4 rfl
  replace r := round_step 6 26 r q0 q1 q2 q3 q4 q5 q6 q7 q8 (by decide) (by decide)
  have q0 := eU m d s35 5 rfl
  have q1 := eB m d s35 6 rfl
  have q2 := eU m d s35 7 rfl
  have q3 := eB m d s35 8 rfl
  have q4 := eN m d s35 9 rfl
  have q5 := eU m d s35 10 rfl
  have q6 := eB m d s35 11 rfl
  have ba := bc_all hk2 q0
  have bb := bc_all hk0 q2
  have bn := bc_const q4 q5
  replace r := inj_step r ba bb bn q1 q3 q6
  exact r

end Cert.Proof.Ref

end
-- ==== Proof.RefVal.lean ====
/-
  What the reference computes, element by element, at the ideal instance: its two keys, its uniform numbers, the scores
  it takes the largest of.
-/
module

public import proofs.«01_k».proof.Proof.RefTf
public import proofs.«01_k».proof.Proof.Uniform
public import Idealize.ShloMosaic.Lib.Pointwise

@[expose] public section

namespace Cert.Proof.Ref

open Cert.ReferenceIdeal Cert.ReferenceIdeal.Gen
open Cert.Proof.Rounds
open Idealize.ShloMosaic
open Idealize.SL.Sem

section Keys

variable {F : FTy → Type} [FloatOps F]
variable (m : (ℓ : Loc nD τ sig) → Buf (Elt F) ℓ) (d : Dev nD)

theorem seed0 : ∀ i, rv m d main_call0_v1 i = 0#32 := by
  have q0 := eN m d s0 0 rfl
  have q1 := eN m d s0 1 rfl
  have q2 := eB m d s0 2 rfl
  have q3 := eU m d s0 3 rfl
  have q4 := eU m d s0 4 rfl
  have q9 := eB m d s0 9 rfl
  have p0 := eU m d s1 0 rfl
  have p1 := eR m d s1 1 rfl
  intro i
  rw [p1, p0, q9, q4, q3, q2, q1, q0]
  pointwise
  rfl

theorem seed1 : ∀ i, rv m d main_call0_v3 i = 42#32 := by
  have q0 := eN m d s0 0 rfl
  have q5 := eN m d s0 5 rfl
  have q6 := eB m d s0 6 rfl
  have q7 := eU m d s0 7 rfl
  have q8 := eU m d s0 8 rfl
  have q9 := eB m d s0 9 rfl
  have p0 := eU m d s1 2 rfl
  have p1 := eR m d s1 3 rfl
  intro i
  rw [p1, p0, q9, q8, q7, q6, q5, q0]
  pointwise
  rfl

/-- The four words of the two keys, by the split's results. -/
theorem split_words (r c : Fin 2) : rv m d main_v7 (ix2 r c) = if c = 0 then rv m d main_call0_v11_0 (ix1 r) else rv m d main_call0_v11_1 (ix1 r) := by
  have p0 := eU m d s10 0 rfl
  have p1 := eU m d s10 1 rfl
  have p2 := eB m d s10 2 rfl
  rw [p2, p1, p0]
  pointwise
  match c with
  | 0 => rfl
  | 1 => rfl

theorem keyA (i : S2.Idx) : rv m d main_v9 i = rv m d main_v7 (ix2 0 (i 0)) := by
  have p0 := eU m d s11 0 rfl
  have p1 := eR m d s11 1 rfl
  rw [p1, p0]
  pointwise
theorem keyB (i : S2.Idx) : rv m d main_v11 i = rv m d main_v7 (ix2 1 (i 0)) := by
  have p0 := eU m d s11 2 rfl
  have p1 := eR m d s11 3 rfl
  rw [p1, p0]
  pointwise

theorem keyA0 : ∀ i, rv m d main_call1_call0_v4 i = rv m d main_v9 (ix1 0) := by
  have p0 := eU m d s13 3 rfl
  have p1 := eR m d s13 4 rfl
  intro i
  rw [p1, p0]
  pointwise
theorem keyA1 : ∀ i, rv m d main_call1_call0_v6 i = rv m d main_v9 (ix1 1) := by
  have p0 := eU m d s13 5 rfl
  have p1 := eR m d s13 6 rfl
  intro i
  rw [p1, p0]
  pointwise
theorem keyB0 : ∀ i, rv m d main_call3_v5 i = rv m d main_v11 (ix1 0) := by
  have p0 := eU m d s27 4 rfl
  have p1 := eR m d s27 5 rfl
  intro i
  rw [p1, p0]
  pointwise
theorem keyB1 : ∀ i, rv m d main_call3_v7 i = rv m d main_v11 (ix1 1) := by
  have p0 := eU m d s27 6 rfl
  have p1 := eR m d s27 7 rfl
  intro i
  rw [p1, p0]
  pointwise

/-! ## The counters -/

/-- A counter below `2 ^ 32`, held in 64 bits: its upper half is zero and its lower half the counter. -/
theorem counter {x : BitVec 64} {n : ℕ} (hn : n < 2 ^ 32) (h : x = BitVec.ofNat 64 n) :
    ((x >>> 32#64).setWidth 32, x.setWidth 32) = ((0#32, BitVec.ofNat 32 n) : W × W) := by
  subst h
  refine Prod.ext (BitVec.eq_of_toNat_eq ?_) (BitVec.eq_of_toNat_eq ?_)
  · simp [Nat.shiftRight_eq_div_pow]
    omega
  · simp

theorem shr64 (x : BitVec 64) : IntOp.shrui .host x 32#64 = x >>> 32#64 := if_pos (by decide)

theorem counters_split (i : S2.Idx) : ((rv m d main_call0_v10 i, rv m d main_call0_v9 i) : W × W) = (0#32, BitVec.ofNat 32 (i 0).val) := by
  have p0 := eN m d s1 4 rfl
  have p1 := eN m d s1 5 rfl
  have p2 := eU m d s1 6 rfl
  have p3 := eB m d s1 7 rfl
  have p4 := eN m d s1 8 rfl
  have p5 := eU m d s1 9 rfl
  have p6 := eB m d s1 10 rfl
  have p7 := eU m d s1 11 rfl
  have p8 := eU m d s1 12 rfl
  rw [p8, p7, p6, p5, p4]
  have h : rv m d main_call0_v6 i = BitVec.ofNat 64 (i 0).val := by
    rw [p3, p2, p1, p0]
    exact BitVec.one_mul _
  have hn : (i 0).val < 2 := (i 0).isLt
  refine (Prod.ext ?_ rfl).trans (counter (by omega) h)
  exact congrArg (BitVec.setWidth 32) (shr64 _)

theorem counters_unif (i : S128.Idx) : ((rv m d main_call3_v14 i, rv m d main_call3_v13 i) : W × W) = (0#32, BitVec.ofNat 32 (i 0).val) := by
  have p0 := eN m d s27 8 rfl
  have p1 := eN m d s27 9 rfl
  have p2 := eU m d s27 10 rfl
  have p3 := eB m d s27 11 rfl
  have p4 := eN m d s27 12 rfl
  have p5 := eU m d s27 13 rfl
  have p6 := eB m d s27 14 rfl
  have p7 := eU m d s27 15 rfl
  have p8 := eU m d s27 16 rfl
  rw [p8, p7, p6, p5, p4]
  have h : rv m d main_call3_v10 i = BitVec.ofNat 64 (i 0).val := by
    rw [p3, p2, p1, p0]
    exact BitVec.one_mul _
  have hn : (i 0).val < 128 := (i 0).isLt
  refine (Prod.ext ?_ rfl).trans (counter (by omega) h)
  exact congrArg (BitVec.setWidth 32) (shr64 _)

theorem counters_bits (i : S128x8192.Idx) :
    ((rv m d main_call1_call0_v17 i, rv m d main_call1_call0_v16 i) : W × W) = (0#32, BitVec.ofNat 32 (8192 * (i 0).val + (i 1).val)) := by
  have p0 := eN m d s13 7 rfl
  have p1 := eN m d s13 8 rfl
  have p2 := eN m d s13 9 rfl
  have p3 := eU m d s13 10 rfl
  have p4 := eB m d s13 11 rfl
  have p5 := eN m d s13 12 rfl
  have p6 := eU m d s13 13 rfl
  have p7 := eB m d s13 14 rfl
  have p8 := eB m d s13 15 rfl
  have p9 := eN m d s13 16 rfl
  have p10 := eU m d s13 17 rfl
  have p11 := eB m d s13 18 rfl
  have p12 := eU m d s13 19 rfl
  have p13 := eU m d s13 20 rfl
  rw [p13, p12, p11, p10, p9]
  have h : rv m d main_call1_call0_v13 i = BitVec.ofNat 64 (8192 * (i 0).val + (i 1).val) := by
    rw [p8, p7, p6, p5, p4, p3, p2, p1, p0]
    show 8192#64 * BitVec.ofNat 64 (i 0).val + 1#64 * BitVec.ofNat 64 (i 1).val = _
    rw [BitVec.one_mul, BitVec.ofNat_add, BitVec.ofNat_mul]
  have hn : (i 0).val < 128 := (i 0).isLt
  have hk : (i 1).val < 8192 := (i 1).isLt
  refine (Prod.ext ?_ rfl).trans (counter (by omega) h)
  exact congrArg (BitVec.setWidth 32) (shr64 _)

/-! ## The two keys -/

/-- The key of the scores' stream and the key of the offsets' stream. -/
abbrev ku0 : W := 64467757#32
abbrev ku1 : W := 2916123636#32

theorem split_eq (i : S2.Idx) : ((rv m d main_call0_v11_0 i, rv m d main_call0_v11_1 i) : W × W) = tf 0#32 42#32 (0#32, BitVec.ofNat 32 (i 0).val) :=
  tf_split (seed0 m d) (seed1 m d) (counters_split m d) i

theorem split0 : tf 0#32 42#32 (0#32, BitVec.ofNat 32 0) = (1832780943#32, 270669613#32) := by decide +kernel

theorem split1 : tf 0#32 42#32 (0#32, BitVec.ofNat 32 1) = (ku0, ku1) := by decide +kernel

theorem split_fst {r : Fin 2} {x : W × W} (h : tf 0#32 42#32 (0#32, BitVec.ofNat 32 r.val) = x) : rv m d main_v7 (ix2 r 0) = x.1 := by
  have e := split_words m d r 0
  have e' := (split_eq m d (ix1 r)).trans h
  rw [if_pos rfl] at e
  rw [e, ← e']
theorem split_snd {r : Fin 2} {x : W × W} (h : tf 0#32 42#32 (0#32, BitVec.ofNat 32 r.val) = x) : rv m d main_v7 (ix2 r 1) = x.2 := by
  have e := split_words m d r 1
  have e' := (split_eq m d (ix1 r)).trans h
  rw [if_neg (by decide)] at e
  rw [e, ← e']

theorem key_y0 (i) : rv m d main_call1_call0_v4 i = 1832780943#32 := by
  rw [keyA0, keyA]
  exact split_fst m d (r := 0) split0
theorem key_y1 (i) : rv m d main_call1_call0_v6 i = 270669613#32 := by
  rw [keyA1, keyA]
  exact split_snd m d (r := 0) split0
theorem key_u0 (i) : rv m d main_call3_v5 i = ku0 := by
  rw [keyB0, keyB]
  exact split_fst m d (r := 1) split1
theorem key_u1 (i) : rv m d main_call3_v7 i = ku1 := by
  rw [keyB1, keyB]
  exact split_snd m d (r := 1) split1

theorem words_bits (i : S128x8192.Idx) : ((rv m d main_call1_call0_v18_0 i, rv m d main_call1_call0_v18_1 i) : W × W)
    = tf 1832780943#32 270669613#32 (0#32, BitVec.ofNat 32 (8192 * (i 0).val + (i 1).val)) :=
  tf_bits (key_y0 m d) (key_y1 m d) (counters_bits m d) i
theorem words_unif (i : S128.Idx) : ((rv m d main_call3_v15_0 i, rv m d main_call3_v15_1 i) : W × W)
    = tf ku0 ku1 (0#32, BitVec.ofNat 32 (i 0).val) :=
  tf_unif (key_u0 m d) (key_u1 m d) (counters_unif m d) i

end Keys

/-! ## The numbers -/

section Numbers

variable (m : (ℓ : Loc nD τ sig) → Buf (Elt Ideal) ℓ) (d : Dev nD)

/-- The score of a column: the logarithm of the weight and a Gumbel variate. -/
theorem score {p : S128x8192.Idx → EReal} (hp : rv m d main_arg0 = p) (i : S128x8192.Idx) : rv m d main_v16 i
    = -Ideal.log (-Ideal.log (uN (8192 * (i 0).val + (i 1).val))) + Ideal.log (p i + Ideal.ofBits .f32 0x1E3CE508#32) := by
  have p0 := eB m d s22 0 rfl
  have p1 := eN m d s22 1 rfl
  have p2 := eU m d s22 2 rfl
  have p3 := eB m d s22 3 rfl
  have p4 := eN m d s22 4 rfl
  have p5 := eU m d s22 5 rfl
  have p6 := eB m d s22 6 rfl
  have p7 := eU m d s22 7 rfl
  have p8 := eN m d s22 8 rfl
  have p9 := eU m d s22 9 rfl
  have p10 := eB m d s22 10 rfl
  have p11 := eB m d s22 11 rfl
  have p12 := eU m d s22 12 rfl
  have p13 := eB m d s22 13 rfl
  have p14 := eU m d s22 14 rfl
  have p15 := eB m d s22 15 rfl
  have p16 := eU m d s22 16 rfl
  have p17 := eB m d s22 17 rfl
  have l0 := eN m d s12 0 rfl
  have l1 := eN m d s12 1 rfl
  have l2 := eU m d s13 0 rfl
  have l3 := eU m d s13 1 rfl
  have l4 := eU m d s13 2 rfl
  have r0 := eU m d s23 0 rfl
  have r1 := eU m d s23 1 rfl
  have r2 := eU m d s23 2 rfl
  have r3 := eU m d s23 3 rfl
  have g0 := eN m d s11 4 rfl
  have g1 := eU m d s11 5 rfl
  have g2 := eB m d s11 6 rfl
  have g3 := eU m d s11 7 rfl
  have f := eB m d s24 0 rfl
  have e0 := fl_step (words_bits m d) p0 p1 p2 p3 p4 p5 p6 p7 p8 p9 p10
  have hl : ∀ i, rv m d main_call1_call0_v1 i = Ideal.ofBits .f32 0x00800000#32 := fun i => by rw [l3, l1]; rfl
  have hh : ∀ i, rv m d main_call1_call0_v2 i = Ideal.ofBits .f32 0x3F800000#32 := fun i => by rw [l4, l2, l0]; rfl
  subst hp
  exact score_step (fun i => unif_step e0 hl hl hl hh p11 p12 p13 p14 p15 p16 p17 i) r0 r1 r2 r3 g0 g1 g2 g3 f i

/-- The offset of a sample. -/
theorem offset (i : S128.Idx) : rv m d main_v18 i = unif (Ideal.ofBits .f32 0x00000000#32) (Ideal.ofBits .f32 0x39800000#32) (bits ku0 ku1 (i 0).val) := by
  have p0 := eB m d s36 0 rfl
  have p1 := eN m d s36 1 rfl
  have p2 := eU m d s36 2 rfl
  have p3 := eB m d s36 3 rfl
  have p4 := eN m d s36 4 rfl
  have p5 := eU m d s36 5 rfl
  have p6 := eB m d s36 6 rfl
  have p7 := eU m d s36 7 rfl
  have p8 := eN m d s36 8 rfl
  have p9 := eU m d s36 9 rfl
  have p10 := eB m d s36 10 rfl
  have p11 := eB m d s36 11 rfl
  have p12 := eU m d s36 12 rfl
  have p13 := eB m d s36 13 rfl
  have p14 := eU m d s36 14 rfl
  have p15 := eB m d s36 15 rfl
  have p16 := eU m d s36 16 rfl
  have p17 := eB m d s36 17 rfl
  have l0 := eN m d s26 0 rfl
  have l1 := eN m d s26 1 rfl
  have l2 := eU m d s27 0 rfl
  have l3 := eU m d s27 1 rfl
  have l4 := eU m d s27 2 rfl
  have l5 := eU m d s27 3 rfl
  have e0 := fl_step (words_unif m d) p0 p1 p2 p3 p4 p5 p6 p7 p8 p9 p10
  have hl : ∀ i, rv m d main_call3_v2 i = Ideal.ofBits .f32 0x00000000#32 := fun i => by rw [l4, l2, l0]; rfl
  have hh : ∀ i, rv m d main_call3_v3 i = Ideal.ofBits .f32 0x39800000#32 := fun i => by rw [l5, l3, l1]; rfl
  exact unif_step e0 hl hl hl hh p11 p12 p13 p14 p15 p16 p17 i

theorem cast128 (x : S128.Idx → EReal) (k : Fin 128) : shapeCast S128x1x1x1 x shapeCasts_S128_S128x1x1x1 (ix4 k 0 0 0) = x (ix1 k) := by
  pointwise

/-- The reference's result by its two last parts: the column it takes and the offset. -/
theorem result (k : Fin 128) : rv m d main_v25 (ix4 k 0 0 0)
    = (((rv m d main_v17 (ix1 k) : BitVec 32).toInt : ℝ) : EReal) * Ideal.ofBits .f32 0x39800000#32 + rv m d main_v18 (ix1 k) - Ideal.ofBits .f32 0x3F800000#32 := by
  have p0 := eU m d s37 0 rfl
  have p1 := eN m d s37 1 rfl
  have p2 := eU m d s37 2 rfl
  have p3 := eB m d s37 3 rfl
  have p4 := eB m d s37 4 rfl
  have p5 := eN m d s37 5 rfl
  have p6 := eU m d s37 6 rfl
  have p7 := eB m d s37 7 rfl
  have p8 := eR m d s37 8 rfl
  have h := sample_step p0 p1 p2 p3 p4 p5 p6 p7 (ix1 k)
  rw [← h, p8]
  exact cast128 _ k

end Numbers

end Cert.Proof.Ref

end
-- ==== Proof.RefBest.lean ====
/-
  One row in the reference: the column it takes is the first place of the row's greatest score.
-/
module

public import proofs.«01_k».proof.Proof.RefVal
public import proofs.«01_k».proof.Proof.Best
public import proofs.«01_k».proof.Proof.Numbers
public import Idealize.ShloMosaic.PureOps.Ideal.Laws

@[expose] public section

noncomputable section

namespace Cert.Proof.Ref

open Cert.ReferenceIdeal Cert.ReferenceIdeal.Gen
open Idealize.ShloMosaic
open Cert.Proof.Best (Best wins)

/-- One comparison of the reduction, as a merge. -/
theorem reducer_wins (a b : EReal × BitVec 32) : reducer_argmax_f32_i32 (F := Ideal) a b =
    (Scalar.select (wins a.1 b.1 a.2 b.2) a.1 b.1, Scalar.select (wins a.1 b.1 a.2 b.2) a.2 b.2) := by
  obtain ⟨a1, a2⟩ := a
  obtain ⟨b1, b2⟩ := b
  have hu : FloatOps.cmpf (F := Ideal) (φ := .f32) .une a1 a1 = 0#1 := by
    show BitVec.ofBool (decide (a1 ≠ a1)) = _
    rw [decide_eq_false (fun h => h rfl)]
    rfl
  have ho : ∀ x : BitVec 1, IntOp.ori x 0#1 = x := by decide
  show (Scalar.select (IntOp.ori (FloatOps.cmpf (F := Ideal) (φ := .f32) .ogt a1 b1) (FloatOps.cmpf (F := Ideal) (φ := .f32) .une a1 a1)) a1 b1,
    Scalar.select (IntOp.ori (IntOp.ori (FloatOps.cmpf (F := Ideal) (φ := .f32) .ogt a1 b1) (FloatOps.cmpf (F := Ideal) (φ := .f32) .une a1 a1))
      (IntOp.andi (FloatOps.cmpf (F := Ideal) (φ := .f32) .oeq a1 b1) (IntOp.cmpi .slt a2 b2))) a2 b2) = _
  rw [hu, ho]
  refine Prod.ext ?_ rfl
  by_cases h : a1 = b1
  · subst h
    simp [Scalar.select]
  · have e : FloatOps.cmpf (F := Ideal) (φ := .f32) .oeq a1 b1 = 0#1 := by
      show BitVec.ofBool (decide (a1 = b1)) = _
      rw [decide_eq_false h]
      rfl
    show Scalar.select _ a1 b1 = Scalar.select (IntOp.ori _ (IntOp.andi (FloatOps.cmpf (F := Ideal) (φ := .f32) .oeq a1 b1) _)) a1 b1
    rw [e, show ∀ x : BitVec 1, IntOp.andi 0#1 x = 0#1 by decide, ho]

/-- The row an index of the array lies in. -/
theorem drop_row (i : S128x8192.Idx) (h : S128x8192.ReducesTo [1] S128) : h.drop i = ix1 (i 0) := by
  funext b
  match b with
  | 0 => rfl

/-- An index reduction over the columns takes the first place of the row's greatest value. -/
theorem arg_best {x : S128x8192.Idx → EReal} {y : S128x8192.Idx → BitVec 32} {ix : S_.Idx → EReal} {iy : S_.Idx → BitVec 32}
    (hy : ∀ i, y i = BitVec.ofNat 32 (i 1).val) (hx : ∀ j, ix j = ⊥) (hi : ∀ j, iy j = 0#32) (h : S128x8192.ReducesTo [1] S128) (hu : 0 < S_.numel)
    (k : Fin 128) (hb : ∀ i, ⊥ < x i) {v : ℕ → EReal} (hv : ∀ n : Fin 8192, v n.val = x (ix2 k n)) :
    ∃ z, Best v (fun n => n < 8192) z ((Host.argReduce (F := Ideal) (φ := .f32) reducer_argmax_f32_i32 x y ix iy h hu (ix1 k)).2) := by
  rw [Ideal.argReduce_eq_reduce2, Host.reduce2_eq_foldl_fiber]
  obtain ⟨l, hl, hm⟩ : ∃ l : List ℕ, Host.argReduceFiber x y h (ix1 k) = l.map (fun n => (v n, BitVec.ofNat 32 n)) ∧ ∀ n, n ∈ l ↔ n < 8192 := by
    refine ⟨((List.finRange S128x8192.numel).filter fun n => h.drop (S128x8192.rowMajor.symm n) = ix1 k).map fun n => ((S128x8192.rowMajor.symm n) 1).val, ?_, ?_⟩
    · rw [List.map_map]
      refine List.map_congr_left fun n hn => ?_
      have hn := (List.mem_filter.1 hn).2
      have hn := of_decide_eq_true hn
      rw [drop_row] at hn
      have h0 : (S128x8192.rowMajor.symm n) 0 = k := congrFun hn 0
      show (x (S128x8192.rowMajor.symm n), y (S128x8192.rowMajor.symm n)) =
        (v ((S128x8192.rowMajor.symm n) 1).val, BitVec.ofNat 32 ((S128x8192.rowMajor.symm n) 1).val)
      generalize S128x8192.rowMajor.symm n = i at h0 ⊢
      have hi : i = ix2 k (i 1) := by
        funext a
        match a with
        | 0 => exact h0
        | 1 => rfl
      rw [hy i]
      refine congrArg (·, _) ?_
      rw [hi]
      exact (hv (i 1)).symm
    · intro n
      rw [List.mem_map]
      constructor
      · rintro ⟨i, -, rfl⟩
        exact ((S128x8192.rowMajor.symm i) 1).isLt
      · intro hn
        refine ⟨S128x8192.rowMajor (ix2 k ⟨n, hn⟩), List.mem_filter.2 ⟨List.mem_finRange _, ?_⟩, ?_⟩
        · rw [Equiv.symm_apply_apply, drop_row]
          simp
        · rw [Equiv.symm_apply_apply]
          rfl
  rw [hl, hx, hi]
  have hr : ∀ a b, (reducer_argmax_f32_i32 (F := Ideal)) a b =
    (Scalar.select (wins a.1 b.1 a.2 b.2) a.1 b.1, Scalar.select (wins a.1 b.1 a.2 b.2) a.2 b.2) := reducer_wins
  have hf := Best.fold_start (v := v) hr l (fun n hn => (hm n).1 hn) (fun e => by have := (hm 0).2 (by decide); rw [e] at this; simp at this)
    (fun n hn => by rw [hv ⟨n, (hm n).1 hn⟩]; exact hb _)
  exact ⟨_, Best.congr hf fun n => (hm n).symm⟩

variable (m : (ℓ : Loc nD τ sig) → Buf (Elt Ideal) ℓ) (d : Dev nD)

/-- The reference's column of a row. -/
theorem row_best (k : Fin 128) (hb : ∀ i : S128x8192.Idx, (⊥ : EReal) < rv m d main_v16 i) {v : ℕ → EReal} (hv : ∀ n : Fin 8192, v n.val = rv m d main_v16 (ix2 k n)) :
    ∃ z, Best v (fun n => n < 8192) z (rv m d main_v17 (ix1 k)) := by
  have q0 := eN m d s25 0 rfl
  have q1 := eN m d s25 1 rfl
  have q2 := eN m d s25 2 rfl
  have q4 := eQ m d s25 4 rfl
  have q4 := congrFun q4 (ix1 k)
  obtain ⟨z, hz⟩ := arg_best (x := rv m d main_v16) (y := rv m d main_call2_v0) (ix := rv m d main_call2_cst) (iy := rv m d main_call2_c)
    (fun i => by rw [q0]; rfl) (fun j => by rw [q1]; exact Rounds.bot_eq) (fun j => by rw [q2]; rfl) reducesTo_S128x8192_S128_d1 h_S_ k hb hv
  refine ⟨z, ?_⟩
  rw [q4]
  exact hz

end Cert.Proof.Ref

end
-- ==== Proof.Equal.lean ====
/-
  The kernel's result is the reference's, at weights of no negative number.
-/
module

public import proofs.«01_k».proof.Defs
public import proofs.«01_k».proof.Proof.KernVal
public import proofs.«01_k».proof.Proof.RefBest
public import Idealize.ShloMosaic.Lib.ReduceAll

@[expose] public section

noncomputable section

namespace Cert.Proof

open Idealize.ShloMosaic Idealize.SL.Sem
open Cert.Proof.Best (Best)

instance pre_facts : Cert.Pre_nonneg.Facts where
  bcast_S_S128x8192 := by decide
  reducesTo_S128x8192_S_d0_1 := by decide
  h_S_ := by decide

instance : Subsingleton Cert.Pre_nonneg.S_.Idx := ⟨fun _ _ => funext fun a => a.elim0⟩

/-- The precondition at one element. -/
theorem nonneg_of {p : Cert.Pre_nonneg.S128x8192.Idx → EReal} (h : Cert.Pre_nonneg.fn (F := Ideal) p = fun _ => 1#1) (i : Cert.Pre_nonneg.S128x8192.Idx) :
    0 ≤ p i := by
  have j : Cert.Pre_nonneg.S_.Idx := fun a => a.elim0
  have hj := congrFun h j
  unfold Cert.Pre_nonneg.fn at hj
  have h1 := Host.reduce_andi_all _ _ _ _ j hj i
  have h2 : BitVec.ofBool (decide (Ideal.ofBits .f32 0x00000000#32 ≤ p i)) = 1#1 := h1
  rw [Rounds.zero_eq] at h2
  by_contra hn
  rw [decide_eq_false hn] at h2
  exact absurd h2 (by decide)

/-- The reference's column of a row, by the kernel's products. -/
theorem ref_best (m : (ℓ : Loc Cert.ReferenceIdeal.nD Cert.ReferenceIdeal.τ Cert.ReferenceIdeal.sig) → Buf (Elt Ideal) ℓ) (d : Dev Cert.ReferenceIdeal.nD)
    {p : Cert.ReferenceIdeal.S128x8192.Idx → EReal} (he : Ref.rv m d Cert.ReferenceIdeal.main_arg0 = p) (hp : ∀ i, 0 ≤ p i) (k : Fin 128) :
    ∃ z, Best (fun n => Ideal.log (Sampler.prodAt p k n)) (fun n => n < 8192) z (Ref.rv m d Cert.ReferenceIdeal.main_v17 (ix1 k)) := by
  have ha : ∀ i, 0 < p i + Ideal.ofBits .f32 0x1E3CE508#32 := fun i => by
    obtain ⟨r, hr, e⟩ := Rounds.eps_pos
    rw [e]
    exact lt_of_lt_of_le (by exact_mod_cast hr : (0 : EReal) < (r : EReal)) (le_add_of_nonneg_left (hp _))
  have hs : ∀ i : Cert.ReferenceIdeal.S128x8192.Idx, Ref.rv m d Cert.ReferenceIdeal.main_v16 i
      = Ideal.log ((p i + Ideal.ofBits .f32 0x1E3CE508#32) * Rounds.eN (8192 * (i 0).val + (i 1).val)) := fun i =>
    (Ref.score m d he i).trans (Rounds.score_log _ _ (ha i))
  refine Ref.row_best m d k (fun i => ?_) (fun n => ?_)
  · rw [hs]
    exact Rounds.bot_lt_log _ (Rounds.prod_pos _ _ (ha i))
  · rw [hs]
    unfold Sampler.prodAt
    have h1 : n.val % 8192 = n.val := Nat.mod_eq_of_lt n.isLt
    have h2 : (⟨n.val % 8192, Nat.mod_lt _ (by decide)⟩ : Fin 8192) = n := Fin.ext h1
    rw [h2, h1]
    rfl

theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (d : Dev Cert.KernelIdeal.nD)
    {p : Cert.KernelIdeal.S128x8192.Idx → EReal} (he : Sampler.fp m d = p) (he' : Ref.rv m' d Cert.ReferenceIdeal.main_arg0 = p) (hp : ∀ i, 0 ≤ p i)
    (i : Cert.KernelIdeal.S128x1x1x1.Idx) :
    Ref.rv m' d Cert.ReferenceIdeal.main_v25 i = (Sampler.VE m d Sampler.rr : Cert.KernelIdeal.S128x1x1x1.Idx → EReal) i := by
  have hi : i = ix4 (i 0) 0 0 0 := by
    funext a
    match a with
    | 0 => rfl
    | 1 => exact Subsingleton.elim (α := Fin 1) _ _
    | 2 => exact Subsingleton.elim (α := Fin 1) _ _
    | 3 => exact Subsingleton.elim (α := Fin 1) _ _
  generalize i 0 = k at hi
  subst hi
  subst he
  obtain ⟨x, j, hb, hv⟩ := Sampler.kern_val m d hp k
  obtain ⟨z, hz⟩ := ref_best m' d he' hp k
  have hj := Best.unique hb hz fun a b _ _ => (Rounds.log_lt_iff (Sampler.prodAt_pos hp k a) (Sampler.prodAt_pos hp k b)).symm
  have ho := Ref.offset m' d (ix1 k)
  refine (Ref.result m' d k).trans (Eq.trans ?_ hv.symm)
  rw [ho, hj]
  rfl

/-- The value claim. -/
theorem algebraic : Cert.algebraic_KernelIdeal_ReferenceIdeal_pre_nonneg := by
  intro m g m' g' hpre hin
  refine ⟨fun c => Sampler.VE m c Sampler.rr, ?_, ?_⟩
  · exact (θ_run Cert.KernelIdeal.defs _ _).mono (fun _ h c => h.1 c) (Sampler.run_main (F := Ideal) m g)
  · refine (θ_run Cert.ReferenceIdeal.defs _ _).mono (fun r h c => ⟨(h.1 c Cert.ReferenceIdeal.main_v25).trans ?_,
      (h.1 c Cert.ReferenceIdeal.main_arg0).trans (Ref.WR_arg0 m' c)⟩) (Ref.run_main (F := Ideal) m' g')
    exact funext fun i => equal m m' c rfl ((Ref.WR_arg0 m' c).trans (hin c)) (nonneg_of (hpre c)) i

end Cert.Proof

end
-- ==== Proof.lean ====
/-
  The certificate's claim, put together from the parts proved in the modules under Proof.
-/
module

public import proofs.«01_k».proof.Defs
public import proofs.«01_k».proof.Proof.Main
public import proofs.«01_k».proof.Proof.RefOrd
public import proofs.«01_k».proof.Proof.Equal
public import proofs.«01_k».proof.Proof.Gen.Kernel
public import proofs.«01_k».proof.Proof.Gen.KernelIdeal
public import proofs.«01_k».proof.Proof.Gen.KernelIdeal.Skeleton
public import proofs.«01_k».proof.Proof.Gen.Kernel.Skeleton
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem frame_kernelIdeal : Cert.quiescent_KernelIdeal := fun m ρ _ =>
  (θ_run Cert.KernelIdeal.defs _ _).mono (fun _ h => ⟨fun c => (h.1 c).2, h.2⟩) (Sampler.run_main (F := Ideal) m ρ)
theorem frame_kernel : Cert.quiescent_Kernel := fun m ρ _ =>
  (θ_run Cert.KernelIdeal.defs _ _).mono (fun _ h => ⟨fun c => (h.1 c).2, h.2⟩) (Sampler.run_main (F := Bits) m ρ)
theorem frame_reference : Cert.quiescent_ReferenceIdeal := fun m ρ _ =>
  (θ_run Cert.ReferenceIdeal.defs _ _).mono (fun _ h => ⟨fun c => (h.1 c Cert.ReferenceIdeal.main_arg0).trans (Ref.WR_arg0 m c), h.2⟩)
    (Ref.run_main (F := Ideal) m ρ)

theorem frame_kernelIdeal_pre : Cert.quiescent_KernelIdeal_pre_nonneg := fun m ρ _ => frame_kernelIdeal m ρ trivial
theorem frame_reference_pre : Cert.quiescent_ReferenceIdeal_pre_nonneg := fun m ρ _ => frame_reference m ρ trivial

theorem claim : Cert.Claim :=
  ⟨inferInstance, inferInstance, inferInstance, inferInstance, frame_kernel, frame_kernelIdeal, frame_kernelIdeal_pre, frame_reference, frame_reference_pre,
    trivial, algebraic⟩

end Cert.Proof

end
